-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_KProjReferenceIdeal (m : (ℓ : Loc Cert.KProjReferenceIdeal.nD Cert.KProjReferenceIdeal.τ Cert.KProjReferenceIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_VProjReferenceIdeal (m : (ℓ : Loc Cert.VProjReferenceIdeal.nD Cert.VProjReferenceIdeal.τ Cert.VProjReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjReferenceIdeal (m : (ℓ : Loc Cert.GluProjReferenceIdeal.nD Cert.GluProjReferenceIdeal.τ Cert.GluProjReferenceIdeal.sig) → Buf (Elt Ideal) ℓ) : Prop :=
  True

def Pre_NormP (m : (ℓ : Loc Cert.NormP.nD Cert.NormP.τ Cert.NormP.sig) → Buf (Elt Bits) ℓ) : Prop :=
  True

def Pre_NormPIdeal (m : (ℓ : Loc Cert.NormPIdeal.nD Cert.NormPIdeal.τ Cert.NormPIdeal.sig) → Buf (Elt Ideal) ℓ) : Prop :=
  True

def Pre_NormPReferenceIdeal (m : (ℓ : Loc Cert.NormPReferenceIdeal.nD Cert.NormPReferenceIdeal.τ Cert.NormPReferenceIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSReferenceIdeal (m : (ℓ : Loc Cert.NormSReferenceIdeal.nD Cert.NormSReferenceIdeal.τ Cert.NormSReferenceIdeal.sig) → Buf (Elt Ideal) ℓ) : Prop :=
  True

def Pre_ResnormP (m : (ℓ : Loc Cert.ResnormP.nD Cert.ResnormP.τ Cert.ResnormP.sig) → Buf (Elt Bits) ℓ) : Prop :=
  True

def Pre_ResnormPIdeal (m : (ℓ : Loc Cert.ResnormPIdeal.nD Cert.ResnormPIdeal.τ Cert.ResnormPIdeal.sig) → Buf (Elt Ideal) ℓ) : Prop :=
  True

def Pre_ResnormPReferenceIdeal (m : (ℓ : Loc Cert.ResnormPReferenceIdeal.nD Cert.ResnormPReferenceIdeal.τ Cert.ResnormPReferenceIdeal.sig) → Buf (Elt Ideal) ℓ) : Prop :=
  True

def Pre_ResnormS (m : (ℓ : Loc Cert.ResnormS.nD Cert.ResnormS.τ Cert.ResnormS.sig) → Buf (Elt Bits) ℓ) : Prop :=
  True

def Pre_ResnormSIdeal (m : (ℓ : Loc Cert.ResnormSIdeal.nD Cert.ResnormSIdeal.τ Cert.ResnormSIdeal.sig) → Buf (Elt Ideal) ℓ) : Prop :=
  True

def Pre_ResnormSReferenceIdeal (m : (ℓ : Loc Cert.ResnormSReferenceIdeal.nD Cert.ResnormSReferenceIdeal.τ Cert.ResnormSReferenceIdeal.sig) → Buf (Elt Ideal) ℓ) : Prop :=
  True

def Pre_ResP (m : (ℓ : Loc Cert.ResP.nD Cert.ResP.τ Cert.ResP.sig) → Buf (Elt Bits) ℓ) : Prop :=
  True

def Pre_ResPIdeal (m : (ℓ : Loc Cert.ResPIdeal.nD Cert.ResPIdeal.τ Cert.ResPIdeal.sig) → Buf (Elt Ideal) ℓ) : Prop :=
  True

def Pre_ResPReferenceIdeal (m : (ℓ : Loc Cert.ResPReferenceIdeal.nD Cert.ResPReferenceIdeal.τ Cert.ResPReferenceIdeal.sig) → Buf (Elt Ideal) ℓ) : Prop :=
  True

def Pre_ResS (m : (ℓ : Loc Cert.ResS.nD Cert.ResS.τ Cert.ResS.sig) → Buf (Elt Bits) ℓ) : Prop :=
  True

def Pre_ResSIdeal (m : (ℓ : Loc Cert.ResSIdeal.nD Cert.ResSIdeal.τ Cert.ResSIdeal.sig) → Buf (Elt Ideal) ℓ) : Prop :=
  True

def Pre_ResSReferenceIdeal (m : (ℓ : Loc Cert.ResSReferenceIdeal.nD Cert.ResSReferenceIdeal.τ Cert.ResSReferenceIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSReferenceIdeal (m : (ℓ : Loc Cert.ConvSReferenceIdeal.nD Cert.ConvSReferenceIdeal.τ Cert.ConvSReferenceIdeal.sig) → Buf (Elt Ideal) ℓ) : Prop :=
  True

def Pre_GlaS (m : (ℓ : Loc Cert.GlaS.nD Cert.GlaS.τ Cert.GlaS.sig) → Buf (Elt Bits) ℓ) : Prop :=
  True

def Pre_GlaSIdeal (m : (ℓ : Loc Cert.GlaSIdeal.nD Cert.GlaSIdeal.τ Cert.GlaSIdeal.sig) → Buf (Elt Ideal) ℓ) : Prop :=
  True

def Pre_GlaSReferenceIdeal (m : (ℓ : Loc Cert.GlaSReferenceIdeal.nD Cert.GlaSReferenceIdeal.τ Cert.GlaSReferenceIdeal.sig) → Buf (Elt Ideal) ℓ) : Prop :=
  True

def Pre_ConvP (m : (ℓ : Loc Cert.ConvP.nD Cert.ConvP.τ Cert.ConvP.sig) → Buf (Elt Bits) ℓ) : Prop :=
  True

def Pre_ConvPIdeal (m : (ℓ : Loc Cert.ConvPIdeal.nD Cert.ConvPIdeal.τ Cert.ConvPIdeal.sig) → Buf (Elt Ideal) ℓ) : Prop :=
  True

def Pre_ConvPReferenceIdeal (m : (ℓ : Loc Cert.ConvPReferenceIdeal.nD Cert.ConvPReferenceIdeal.τ Cert.ConvPReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ r.2.sem = fun _ => 0)

def quiescent_KProjReferenceIdeal [hKProjReferenceIdeal : Cert.KProjReferenceIdeal.Facts] : Prop :=
  ∀ (m : (ℓ : Loc Cert.KProjReferenceIdeal.nD Cert.KProjReferenceIdeal.τ Cert.KProjReferenceIdeal.sig) → Buf (Elt Ideal) ℓ) (g : Dev Cert.KProjReferenceIdeal.nD → PrngReg), Pre_KProjReferenceIdeal m →
    θ_run (Cert.KProjReferenceIdeal.defs (F := Ideal)) (onTc (τ := Cert.KProjReferenceIdeal.τ) (Cert.KProjReferenceIdeal.main (F := Ideal))) ⟨m, fun _ => 0, g⟩ (fun r => (∀ c : Dev Cert.KProjReferenceIdeal.nD,
      r.2.mem ((c.tc : Thread Cert.KProjReferenceIdeal.nD Cert.KProjReferenceIdeal.τ).loc Cert.KProjReferenceIdeal.main_arg0) = m ((c.tc : Thread Cert.KProjReferenceIdeal.nD Cert.KProjReferenceIdeal.τ).loc Cert.KProjReferenceIdeal.main_arg0)
      ∧ r.2.mem ((c.tc : Thread Cert.KProjReferenceIdeal.nD Cert.KProjReferenceIdeal.τ).loc Cert.KProjReferenceIdeal.main_arg1) = m ((c.tc : Thread Cert.KProjReferenceIdeal.nD Cert.KProjReferenceIdeal.τ).loc Cert.KProjReferenceIdeal.main_arg1)
      ∧ r.2.mem ((c.tc : Thread Cert.KProjReferenceIdeal.nD Cert.KProjReferenceIdeal.τ).loc Cert.KProjReferenceIdeal.main_arg2) = m ((c.tc : Thread Cert.KProjReferenceIdeal.nD Cert.KProjReferenceIdeal.τ).loc Cert.KProjReferenceIdeal.main_arg2))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1)
      ∧ r.2.mem ((c.tc : Thread Cert.VProj.nD Cert.VProj.τ).loc Cert.VProj.main_arg2) = m ((c.tc : Thread Cert.VProj.nD Cert.VProj.τ).loc Cert.VProj.main_arg2))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
      ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2))
      ∧ r.2.sem = fun _ => 0)

def quiescent_VProjReferenceIdeal [hVProjReferenceIdeal : Cert.VProjReferenceIdeal.Facts] : Prop :=
  ∀ (m : (ℓ : Loc Cert.VProjReferenceIdeal.nD Cert.VProjReferenceIdeal.τ Cert.VProjReferenceIdeal.sig) → Buf (Elt Ideal) ℓ) (g : Dev Cert.VProjReferenceIdeal.nD → PrngReg), Pre_VProjReferenceIdeal m →
    θ_run (Cert.VProjReferenceIdeal.defs (F := Ideal)) (onTc (τ := Cert.VProjReferenceIdeal.τ) (Cert.VProjReferenceIdeal.main (F := Ideal))) ⟨m, fun _ => 0, g⟩ (fun r => (∀ c : Dev Cert.VProjReferenceIdeal.nD,
      r.2.mem ((c.tc : Thread Cert.VProjReferenceIdeal.nD Cert.VProjReferenceIdeal.τ).loc Cert.VProjReferenceIdeal.main_arg0) = m ((c.tc : Thread Cert.VProjReferenceIdeal.nD Cert.VProjReferenceIdeal.τ).loc Cert.VProjReferenceIdeal.main_arg0)
      ∧ r.2.mem ((c.tc : Thread Cert.VProjReferenceIdeal.nD Cert.VProjReferenceIdeal.τ).loc Cert.VProjReferenceIdeal.main_arg1) = m ((c.tc : Thread Cert.VProjReferenceIdeal.nD Cert.VProjReferenceIdeal.τ).loc Cert.VProjReferenceIdeal.main_arg1)
      ∧ r.2.mem ((c.tc : Thread Cert.VProjReferenceIdeal.nD Cert.VProjReferenceIdeal.τ).loc Cert.VProjReferenceIdeal.main_arg2) = m ((c.tc : Thread Cert.VProjReferenceIdeal.nD Cert.VProjReferenceIdeal.τ).loc Cert.VProjReferenceIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1)
      ∧ r.2.mem ((c.tc : Thread Cert.QProjReferenceIdeal.nD Cert.QProjReferenceIdeal.τ).loc Cert.QProjReferenceIdeal.main_arg2) = m ((c.tc : Thread Cert.QProjReferenceIdeal.nD Cert.QProjReferenceIdeal.τ).loc Cert.QProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1)
      ∧ r.2.mem ((c.tc : Thread Cert.GluProj.nD Cert.GluProj.τ).loc Cert.GluProj.main_arg2) = m ((c.tc : Thread Cert.GluProj.nD Cert.GluProj.τ).loc Cert.GluProj.main_arg2))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
      ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ r.2.sem = fun _ => 0)

def quiescent_GluProjReferenceIdeal [hGluProjReferenceIdeal : Cert.GluProjReferenceIdeal.Facts] : Prop :=
  ∀ (m : (ℓ : Loc Cert.GluProjReferenceIdeal.nD Cert.GluProjReferenceIdeal.τ Cert.GluProjReferenceIdeal.sig) → Buf (Elt Ideal) ℓ) (g : Dev Cert.GluProjReferenceIdeal.nD → PrngReg), Pre_GluProjReferenceIdeal m →
    θ_run (Cert.GluProjReferenceIdeal.defs (F := Ideal)) (onTc (τ := Cert.GluProjReferenceIdeal.τ) (Cert.GluProjReferenceIdeal.main (F := Ideal))) ⟨m, fun _ => 0, g⟩ (fun r => (∀ c : Dev Cert.GluProjReferenceIdeal.nD,
      r.2.mem ((c.tc : Thread Cert.GluProjReferenceIdeal.nD Cert.GluProjReferenceIdeal.τ).loc Cert.GluProjReferenceIdeal.main_arg0) = m ((c.tc : Thread Cert.GluProjReferenceIdeal.nD Cert.GluProjReferenceIdeal.τ).loc Cert.GluProjReferenceIdeal.main_arg0)
      ∧ r.2.mem ((c.tc : Thread Cert.GluProjReferenceIdeal.nD Cert.GluProjReferenceIdeal.τ).loc Cert.GluProjReferenceIdeal.main_arg1) = m ((c.tc : Thread Cert.GluProjReferenceIdeal.nD Cert.GluProjReferenceIdeal.τ).loc Cert.GluProjReferenceIdeal.main_arg1)
      ∧ r.2.mem ((c.tc : Thread Cert.GluProjReferenceIdeal.nD Cert.GluProjReferenceIdeal.τ).loc Cert.GluProjReferenceIdeal.main_arg2) = m ((c.tc : Thread Cert.GluProjReferenceIdeal.nD Cert.GluProjReferenceIdeal.τ).loc Cert.GluProjReferenceIdeal.main_arg2))
      ∧ r.2.sem = fun _ => 0)

def quiescent_NormP [hNormP : Cert.NormP.Facts] : Prop :=
  ∀ (m : (ℓ : Loc Cert.NormP.nD Cert.NormP.τ Cert.NormP.sig) → Buf (Elt Bits) ℓ) (g : Dev Cert.NormP.nD → PrngReg), Pre_NormP m →
    θ_run (Cert.NormP.defs (F := Bits)) (onTc (τ := Cert.NormP.τ) (Cert.NormP.main (F := Bits))) ⟨m, fun _ => 0, g⟩ (fun r => (∀ c : Dev Cert.NormP.nD,
      r.2.mem ((c.tc : Thread Cert.NormP.nD Cert.NormP.τ).loc Cert.NormP.main_arg0) = m ((c.tc : Thread Cert.NormP.nD Cert.NormP.τ).loc Cert.NormP.main_arg0)
      ∧ r.2.mem ((c.tc : Thread Cert.NormP.nD Cert.NormP.τ).loc Cert.NormP.main_arg1) = m ((c.tc : Thread Cert.NormP.nD Cert.NormP.τ).loc Cert.NormP.main_arg1))
      ∧ r.2.sem = fun _ => 0)

def quiescent_NormPIdeal [hNormPIdeal : Cert.NormPIdeal.Facts] : Prop :=
  ∀ (m : (ℓ : Loc Cert.NormPIdeal.nD Cert.NormPIdeal.τ Cert.NormPIdeal.sig) → Buf (Elt Ideal) ℓ) (g : Dev Cert.NormPIdeal.nD → PrngReg), Pre_NormPIdeal m →
    θ_run (Cert.NormPIdeal.defs (F := Ideal)) (onTc (τ := Cert.NormPIdeal.τ) (Cert.NormPIdeal.main (F := Ideal))) ⟨m, fun _ => 0, g⟩ (fun r => (∀ c : Dev Cert.NormPIdeal.nD,
      r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
      ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ r.2.sem = fun _ => 0)

def quiescent_NormPReferenceIdeal [hNormPReferenceIdeal : Cert.NormPReferenceIdeal.Facts] : Prop :=
  ∀ (m : (ℓ : Loc Cert.NormPReferenceIdeal.nD Cert.NormPReferenceIdeal.τ Cert.NormPReferenceIdeal.sig) → Buf (Elt Ideal) ℓ) (g : Dev Cert.NormPReferenceIdeal.nD → PrngReg), Pre_NormPReferenceIdeal m →
    θ_run (Cert.NormPReferenceIdeal.defs (F := Ideal)) (onTc (τ := Cert.NormPReferenceIdeal.τ) (Cert.NormPReferenceIdeal.main (F := Ideal))) ⟨m, fun _ => 0, g⟩ (fun r => (∀ c : Dev Cert.NormPReferenceIdeal.nD,
      r.2.mem ((c.tc : Thread Cert.NormPReferenceIdeal.nD Cert.NormPReferenceIdeal.τ).loc Cert.NormPReferenceIdeal.main_arg0) = m ((c.tc : Thread Cert.NormPReferenceIdeal.nD Cert.NormPReferenceIdeal.τ).loc Cert.NormPReferenceIdeal.main_arg0)
      ∧ r.2.mem ((c.tc : Thread Cert.NormPReferenceIdeal.nD Cert.NormPReferenceIdeal.τ).loc Cert.NormPReferenceIdeal.main_arg1) = m ((c.tc : Thread Cert.NormPReferenceIdeal.nD Cert.NormPReferenceIdeal.τ).loc Cert.NormPReferenceIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSReferenceIdeal [hNormSReferenceIdeal : Cert.NormSReferenceIdeal.Facts] : Prop :=
  ∀ (m : (ℓ : Loc Cert.NormSReferenceIdeal.nD Cert.NormSReferenceIdeal.τ Cert.NormSReferenceIdeal.sig) → Buf (Elt Ideal) ℓ) (g : Dev Cert.NormSReferenceIdeal.nD → PrngReg), Pre_NormSReferenceIdeal m →
    θ_run (Cert.NormSReferenceIdeal.defs (F := Ideal)) (onTc (τ := Cert.NormSReferenceIdeal.τ) (Cert.NormSReferenceIdeal.main (F := Ideal))) ⟨m, fun _ => 0, g⟩ (fun r => (∀ c : Dev Cert.NormSReferenceIdeal.nD,
      r.2.mem ((c.tc : Thread Cert.NormSReferenceIdeal.nD Cert.NormSReferenceIdeal.τ).loc Cert.NormSReferenceIdeal.main_arg0) = m ((c.tc : Thread Cert.NormSReferenceIdeal.nD Cert.NormSReferenceIdeal.τ).loc Cert.NormSReferenceIdeal.main_arg0)
      ∧ r.2.mem ((c.tc : Thread Cert.NormSReferenceIdeal.nD Cert.NormSReferenceIdeal.τ).loc Cert.NormSReferenceIdeal.main_arg1) = m ((c.tc : Thread Cert.NormSReferenceIdeal.nD Cert.NormSReferenceIdeal.τ).loc Cert.NormSReferenceIdeal.main_arg1))
      ∧ r.2.sem = fun _ => 0)

def quiescent_ResnormP [hResnormP : Cert.ResnormP.Facts] : Prop :=
  ∀ (m : (ℓ : Loc Cert.ResnormP.nD Cert.ResnormP.τ Cert.ResnormP.sig) → Buf (Elt Bits) ℓ) (g : Dev Cert.ResnormP.nD → PrngReg), Pre_ResnormP m →
    θ_run (Cert.ResnormP.defs (F := Bits)) (onTc (τ := Cert.ResnormP.τ) (Cert.ResnormP.main (F := Bits))) ⟨m, fun _ => 0, g⟩ (fun r => (∀ c : Dev Cert.ResnormP.nD,
      r.2.mem ((c.tc : Thread Cert.ResnormP.nD Cert.ResnormP.τ).loc Cert.ResnormP.main_arg0) = m ((c.tc : Thread Cert.ResnormP.nD Cert.ResnormP.τ).loc Cert.ResnormP.main_arg0)
      ∧ r.2.mem ((c.tc : Thread Cert.ResnormP.nD Cert.ResnormP.τ).loc Cert.ResnormP.main_arg1) = m ((c.tc : Thread Cert.ResnormP.nD Cert.ResnormP.τ).loc Cert.ResnormP.main_arg1)
      ∧ r.2.mem ((c.tc : Thread Cert.ResnormP.nD Cert.ResnormP.τ).loc Cert.ResnormP.main_arg2) = m ((c.tc : Thread Cert.ResnormP.nD Cert.ResnormP.τ).loc Cert.ResnormP.main_arg2)
      ∧ r.2.mem ((c.tc : Thread Cert.ResnormP.nD Cert.ResnormP.τ).loc Cert.ResnormP.main_arg3) = m ((c.tc : Thread Cert.ResnormP.nD Cert.ResnormP.τ).loc Cert.ResnormP.main_arg3))
      ∧ r.2.sem = fun _ => 0)

def quiescent_ResnormPIdeal [hResnormPIdeal : Cert.ResnormPIdeal.Facts] : Prop :=
  ∀ (m : (ℓ : Loc Cert.ResnormPIdeal.nD Cert.ResnormPIdeal.τ Cert.ResnormPIdeal.sig) → Buf (Elt Ideal) ℓ) (g : Dev Cert.ResnormPIdeal.nD → PrngReg), Pre_ResnormPIdeal m →
    θ_run (Cert.ResnormPIdeal.defs (F := Ideal)) (onTc (τ := Cert.ResnormPIdeal.τ) (Cert.ResnormPIdeal.main (F := Ideal))) ⟨m, fun _ => 0, g⟩ (fun r => (∀ c : Dev Cert.ResnormPIdeal.nD,
      r.2.mem ((c.tc : Thread Cert.ResnormPIdeal.nD Cert.ResnormPIdeal.τ).loc Cert.ResnormPIdeal.main_arg0) = m ((c.tc : Thread Cert.ResnormPIdeal.nD Cert.ResnormPIdeal.τ).loc Cert.ResnormPIdeal.main_arg0)
      ∧ r.2.mem ((c.tc : Thread Cert.ResnormPIdeal.nD Cert.ResnormPIdeal.τ).loc Cert.ResnormPIdeal.main_arg1) = m ((c.tc : Thread Cert.ResnormPIdeal.nD Cert.ResnormPIdeal.τ).loc Cert.ResnormPIdeal.main_arg1)
      ∧ r.2.mem ((c.tc : Thread Cert.ResnormPIdeal.nD Cert.ResnormPIdeal.τ).loc Cert.ResnormPIdeal.main_arg2) = m ((c.tc : Thread Cert.ResnormPIdeal.nD Cert.ResnormPIdeal.τ).loc Cert.ResnormPIdeal.main_arg2)
      ∧ r.2.mem ((c.tc : Thread Cert.ResnormPIdeal.nD Cert.ResnormPIdeal.τ).loc Cert.ResnormPIdeal.main_arg3) = m ((c.tc : Thread Cert.ResnormPIdeal.nD Cert.ResnormPIdeal.τ).loc Cert.ResnormPIdeal.main_arg3))
      ∧ r.2.sem = fun _ => 0)

def quiescent_ResnormPReferenceIdeal [hResnormPReferenceIdeal : Cert.ResnormPReferenceIdeal.Facts] : Prop :=
  ∀ (m : (ℓ : Loc Cert.ResnormPReferenceIdeal.nD Cert.ResnormPReferenceIdeal.τ Cert.ResnormPReferenceIdeal.sig) → Buf (Elt Ideal) ℓ) (g : Dev Cert.ResnormPReferenceIdeal.nD → PrngReg), Pre_ResnormPReferenceIdeal m →
    θ_run (Cert.ResnormPReferenceIdeal.defs (F := Ideal)) (onTc (τ := Cert.ResnormPReferenceIdeal.τ) (Cert.ResnormPReferenceIdeal.main (F := Ideal))) ⟨m, fun _ => 0, g⟩ (fun r => (∀ c : Dev Cert.ResnormPReferenceIdeal.nD,
      r.2.mem ((c.tc : Thread Cert.ResnormPReferenceIdeal.nD Cert.ResnormPReferenceIdeal.τ).loc Cert.ResnormPReferenceIdeal.main_arg0) = m ((c.tc : Thread Cert.ResnormPReferenceIdeal.nD Cert.ResnormPReferenceIdeal.τ).loc Cert.ResnormPReferenceIdeal.main_arg0)
      ∧ r.2.mem ((c.tc : Thread Cert.ResnormPReferenceIdeal.nD Cert.ResnormPReferenceIdeal.τ).loc Cert.ResnormPReferenceIdeal.main_arg1) = m ((c.tc : Thread Cert.ResnormPReferenceIdeal.nD Cert.ResnormPReferenceIdeal.τ).loc Cert.ResnormPReferenceIdeal.main_arg1)
      ∧ r.2.mem ((c.tc : Thread Cert.ResnormPReferenceIdeal.nD Cert.ResnormPReferenceIdeal.τ).loc Cert.ResnormPReferenceIdeal.main_arg2) = m ((c.tc : Thread Cert.ResnormPReferenceIdeal.nD Cert.ResnormPReferenceIdeal.τ).loc Cert.ResnormPReferenceIdeal.main_arg2)
      ∧ r.2.mem ((c.tc : Thread Cert.ResnormPReferenceIdeal.nD Cert.ResnormPReferenceIdeal.τ).loc Cert.ResnormPReferenceIdeal.main_arg3) = m ((c.tc : Thread Cert.ResnormPReferenceIdeal.nD Cert.ResnormPReferenceIdeal.τ).loc Cert.ResnormPReferenceIdeal.main_arg3))
      ∧ r.2.sem = fun _ => 0)

def quiescent_ResnormS [hResnormS : Cert.ResnormS.Facts] : Prop :=
  ∀ (m : (ℓ : Loc Cert.ResnormS.nD Cert.ResnormS.τ Cert.ResnormS.sig) → Buf (Elt Bits) ℓ) (g : Dev Cert.ResnormS.nD → PrngReg), Pre_ResnormS m →
    θ_run (Cert.ResnormS.defs (F := Bits)) (onTc (τ := Cert.ResnormS.τ) (Cert.ResnormS.main (F := Bits))) ⟨m, fun _ => 0, g⟩ (fun r => (∀ c : Dev Cert.ResnormS.nD,
      r.2.mem ((c.tc : Thread Cert.ResnormS.nD Cert.ResnormS.τ).loc Cert.ResnormS.main_arg0) = m ((c.tc : Thread Cert.ResnormS.nD Cert.ResnormS.τ).loc Cert.ResnormS.main_arg0)
      ∧ r.2.mem ((c.tc : Thread Cert.ResnormS.nD Cert.ResnormS.τ).loc Cert.ResnormS.main_arg1) = m ((c.tc : Thread Cert.ResnormS.nD Cert.ResnormS.τ).loc Cert.ResnormS.main_arg1)
      ∧ r.2.mem ((c.tc : Thread Cert.ResnormS.nD Cert.ResnormS.τ).loc Cert.ResnormS.main_arg2) = m ((c.tc : Thread Cert.ResnormS.nD Cert.ResnormS.τ).loc Cert.ResnormS.main_arg2)
      ∧ r.2.mem ((c.tc : Thread Cert.ResnormS.nD Cert.ResnormS.τ).loc Cert.ResnormS.main_arg3) = m ((c.tc : Thread Cert.ResnormS.nD Cert.ResnormS.τ).loc Cert.ResnormS.main_arg3))
      ∧ r.2.sem = fun _ => 0)

def quiescent_ResnormSIdeal [hResnormSIdeal : Cert.ResnormSIdeal.Facts] : Prop :=
  ∀ (m : (ℓ : Loc Cert.ResnormSIdeal.nD Cert.ResnormSIdeal.τ Cert.ResnormSIdeal.sig) → Buf (Elt Ideal) ℓ) (g : Dev Cert.ResnormSIdeal.nD → PrngReg), Pre_ResnormSIdeal m →
    θ_run (Cert.ResnormSIdeal.defs (F := Ideal)) (onTc (τ := Cert.ResnormSIdeal.τ) (Cert.ResnormSIdeal.main (F := Ideal))) ⟨m, fun _ => 0, g⟩ (fun r => (∀ c : Dev Cert.ResnormSIdeal.nD,
      r.2.mem ((c.tc : Thread Cert.ResnormSIdeal.nD Cert.ResnormSIdeal.τ).loc Cert.ResnormSIdeal.main_arg0) = m ((c.tc : Thread Cert.ResnormSIdeal.nD Cert.ResnormSIdeal.τ).loc Cert.ResnormSIdeal.main_arg0)
      ∧ r.2.mem ((c.tc : Thread Cert.ResnormSIdeal.nD Cert.ResnormSIdeal.τ).loc Cert.ResnormSIdeal.main_arg1) = m ((c.tc : Thread Cert.ResnormSIdeal.nD Cert.ResnormSIdeal.τ).loc Cert.ResnormSIdeal.main_arg1)
      ∧ r.2.mem ((c.tc : Thread Cert.ResnormSIdeal.nD Cert.ResnormSIdeal.τ).loc Cert.ResnormSIdeal.main_arg2) = m ((c.tc : Thread Cert.ResnormSIdeal.nD Cert.ResnormSIdeal.τ).loc Cert.ResnormSIdeal.main_arg2)
      ∧ r.2.mem ((c.tc : Thread Cert.ResnormSIdeal.nD Cert.ResnormSIdeal.τ).loc Cert.ResnormSIdeal.main_arg3) = m ((c.tc : Thread Cert.ResnormSIdeal.nD Cert.ResnormSIdeal.τ).loc Cert.ResnormSIdeal.main_arg3))
      ∧ r.2.sem = fun _ => 0)

def quiescent_ResnormSReferenceIdeal [hResnormSReferenceIdeal : Cert.ResnormSReferenceIdeal.Facts] : Prop :=
  ∀ (m : (ℓ : Loc Cert.ResnormSReferenceIdeal.nD Cert.ResnormSReferenceIdeal.τ Cert.ResnormSReferenceIdeal.sig) → Buf (Elt Ideal) ℓ) (g : Dev Cert.ResnormSReferenceIdeal.nD → PrngReg), Pre_ResnormSReferenceIdeal m →
    θ_run (Cert.ResnormSReferenceIdeal.defs (F := Ideal)) (onTc (τ := Cert.ResnormSReferenceIdeal.τ) (Cert.ResnormSReferenceIdeal.main (F := Ideal))) ⟨m, fun _ => 0, g⟩ (fun r => (∀ c : Dev Cert.ResnormSReferenceIdeal.nD,
      r.2.mem ((c.tc : Thread Cert.ResnormSReferenceIdeal.nD Cert.ResnormSReferenceIdeal.τ).loc Cert.ResnormSReferenceIdeal.main_arg0) = m ((c.tc : Thread Cert.ResnormSReferenceIdeal.nD Cert.ResnormSReferenceIdeal.τ).loc Cert.ResnormSReferenceIdeal.main_arg0)
      ∧ r.2.mem ((c.tc : Thread Cert.ResnormSReferenceIdeal.nD Cert.ResnormSReferenceIdeal.τ).loc Cert.ResnormSReferenceIdeal.main_arg1) = m ((c.tc : Thread Cert.ResnormSReferenceIdeal.nD Cert.ResnormSReferenceIdeal.τ).loc Cert.ResnormSReferenceIdeal.main_arg1)
      ∧ r.2.mem ((c.tc : Thread Cert.ResnormSReferenceIdeal.nD Cert.ResnormSReferenceIdeal.τ).loc Cert.ResnormSReferenceIdeal.main_arg2) = m ((c.tc : Thread Cert.ResnormSReferenceIdeal.nD Cert.ResnormSReferenceIdeal.τ).loc Cert.ResnormSReferenceIdeal.main_arg2)
      ∧ r.2.mem ((c.tc : Thread Cert.ResnormSReferenceIdeal.nD Cert.ResnormSReferenceIdeal.τ).loc Cert.ResnormSReferenceIdeal.main_arg3) = m ((c.tc : Thread Cert.ResnormSReferenceIdeal.nD Cert.ResnormSReferenceIdeal.τ).loc Cert.ResnormSReferenceIdeal.main_arg3))
      ∧ r.2.sem = fun _ => 0)

def quiescent_ResP [hResP : Cert.ResP.Facts] : Prop :=
  ∀ (m : (ℓ : Loc Cert.ResP.nD Cert.ResP.τ Cert.ResP.sig) → Buf (Elt Bits) ℓ) (g : Dev Cert.ResP.nD → PrngReg), Pre_ResP m →
    θ_run (Cert.ResP.defs (F := Bits)) (onTc (τ := Cert.ResP.τ) (Cert.ResP.main (F := Bits))) ⟨m, fun _ => 0, g⟩ (fun r => (∀ c : Dev Cert.ResP.nD,
      r.2.mem ((c.tc : Thread Cert.ResP.nD Cert.ResP.τ).loc Cert.ResP.main_arg0) = m ((c.tc : Thread Cert.ResP.nD Cert.ResP.τ).loc Cert.ResP.main_arg0)
      ∧ r.2.mem ((c.tc : Thread Cert.ResP.nD Cert.ResP.τ).loc Cert.ResP.main_arg1) = m ((c.tc : Thread Cert.ResP.nD Cert.ResP.τ).loc Cert.ResP.main_arg1)
      ∧ r.2.mem ((c.tc : Thread Cert.ResP.nD Cert.ResP.τ).loc Cert.ResP.main_arg2) = m ((c.tc : Thread Cert.ResP.nD Cert.ResP.τ).loc Cert.ResP.main_arg2))
      ∧ r.2.sem = fun _ => 0)

def quiescent_ResPIdeal [hResPIdeal : Cert.ResPIdeal.Facts] : Prop :=
  ∀ (m : (ℓ : Loc Cert.ResPIdeal.nD Cert.ResPIdeal.τ Cert.ResPIdeal.sig) → Buf (Elt Ideal) ℓ) (g : Dev Cert.ResPIdeal.nD → PrngReg), Pre_ResPIdeal m →
    θ_run (Cert.ResPIdeal.defs (F := Ideal)) (onTc (τ := Cert.ResPIdeal.τ) (Cert.ResPIdeal.main (F := Ideal))) ⟨m, fun _ => 0, g⟩ (fun r => (∀ c : Dev Cert.ResPIdeal.nD,
      r.2.mem ((c.tc : Thread Cert.ResPIdeal.nD Cert.ResPIdeal.τ).loc Cert.ResPIdeal.main_arg0) = m ((c.tc : Thread Cert.ResPIdeal.nD Cert.ResPIdeal.τ).loc Cert.ResPIdeal.main_arg0)
      ∧ r.2.mem ((c.tc : Thread Cert.ResPIdeal.nD Cert.ResPIdeal.τ).loc Cert.ResPIdeal.main_arg1) = m ((c.tc : Thread Cert.ResPIdeal.nD Cert.ResPIdeal.τ).loc Cert.ResPIdeal.main_arg1)
      ∧ r.2.mem ((c.tc : Thread Cert.ResPIdeal.nD Cert.ResPIdeal.τ).loc Cert.ResPIdeal.main_arg2) = m ((c.tc : Thread Cert.ResPIdeal.nD Cert.ResPIdeal.τ).loc Cert.ResPIdeal.main_arg2))
      ∧ r.2.sem = fun _ => 0)

def quiescent_ResPReferenceIdeal [hResPReferenceIdeal : Cert.ResPReferenceIdeal.Facts] : Prop :=
  ∀ (m : (ℓ : Loc Cert.ResPReferenceIdeal.nD Cert.ResPReferenceIdeal.τ Cert.ResPReferenceIdeal.sig) → Buf (Elt Ideal) ℓ) (g : Dev Cert.ResPReferenceIdeal.nD → PrngReg), Pre_ResPReferenceIdeal m →
    θ_run (Cert.ResPReferenceIdeal.defs (F := Ideal)) (onTc (τ := Cert.ResPReferenceIdeal.τ) (Cert.ResPReferenceIdeal.main (F := Ideal))) ⟨m, fun _ => 0, g⟩ (fun r => (∀ c : Dev Cert.ResPReferenceIdeal.nD,
      r.2.mem ((c.tc : Thread Cert.ResPReferenceIdeal.nD Cert.ResPReferenceIdeal.τ).loc Cert.ResPReferenceIdeal.main_arg0) = m ((c.tc : Thread Cert.ResPReferenceIdeal.nD Cert.ResPReferenceIdeal.τ).loc Cert.ResPReferenceIdeal.main_arg0)
      ∧ r.2.mem ((c.tc : Thread Cert.ResPReferenceIdeal.nD Cert.ResPReferenceIdeal.τ).loc Cert.ResPReferenceIdeal.main_arg1) = m ((c.tc : Thread Cert.ResPReferenceIdeal.nD Cert.ResPReferenceIdeal.τ).loc Cert.ResPReferenceIdeal.main_arg1)
      ∧ r.2.mem ((c.tc : Thread Cert.ResPReferenceIdeal.nD Cert.ResPReferenceIdeal.τ).loc Cert.ResPReferenceIdeal.main_arg2) = m ((c.tc : Thread Cert.ResPReferenceIdeal.nD Cert.ResPReferenceIdeal.τ).loc Cert.ResPReferenceIdeal.main_arg2))
      ∧ r.2.sem = fun _ => 0)

def quiescent_ResS [hResS : Cert.ResS.Facts] : Prop :=
  ∀ (m : (ℓ : Loc Cert.ResS.nD Cert.ResS.τ Cert.ResS.sig) → Buf (Elt Bits) ℓ) (g : Dev Cert.ResS.nD → PrngReg), Pre_ResS m →
    θ_run (Cert.ResS.defs (F := Bits)) (onTc (τ := Cert.ResS.τ) (Cert.ResS.main (F := Bits))) ⟨m, fun _ => 0, g⟩ (fun r => (∀ c : Dev Cert.ResS.nD,
      r.2.mem ((c.tc : Thread Cert.ResS.nD Cert.ResS.τ).loc Cert.ResS.main_arg0) = m ((c.tc : Thread Cert.ResS.nD Cert.ResS.τ).loc Cert.ResS.main_arg0)
      ∧ r.2.mem ((c.tc : Thread Cert.ResS.nD Cert.ResS.τ).loc Cert.ResS.main_arg1) = m ((c.tc : Thread Cert.ResS.nD Cert.ResS.τ).loc Cert.ResS.main_arg1)
      ∧ r.2.mem ((c.tc : Thread Cert.ResS.nD Cert.ResS.τ).loc Cert.ResS.main_arg2) = m ((c.tc : Thread Cert.ResS.nD Cert.ResS.τ).loc Cert.ResS.main_arg2))
      ∧ r.2.sem = fun _ => 0)

def quiescent_ResSIdeal [hResSIdeal : Cert.ResSIdeal.Facts] : Prop :=
  ∀ (m : (ℓ : Loc Cert.ResSIdeal.nD Cert.ResSIdeal.τ Cert.ResSIdeal.sig) → Buf (Elt Ideal) ℓ) (g : Dev Cert.ResSIdeal.nD → PrngReg), Pre_ResSIdeal m →
    θ_run (Cert.ResSIdeal.defs (F := Ideal)) (onTc (τ := Cert.ResSIdeal.τ) (Cert.ResSIdeal.main (F := Ideal))) ⟨m, fun _ => 0, g⟩ (fun r => (∀ c : Dev Cert.ResSIdeal.nD,
      r.2.mem ((c.tc : Thread Cert.ResSIdeal.nD Cert.ResSIdeal.τ).loc Cert.ResSIdeal.main_arg0) = m ((c.tc : Thread Cert.ResSIdeal.nD Cert.ResSIdeal.τ).loc Cert.ResSIdeal.main_arg0)
      ∧ r.2.mem ((c.tc : Thread Cert.ResSIdeal.nD Cert.ResSIdeal.τ).loc Cert.ResSIdeal.main_arg1) = m ((c.tc : Thread Cert.ResSIdeal.nD Cert.ResSIdeal.τ).loc Cert.ResSIdeal.main_arg1)
      ∧ r.2.mem ((c.tc : Thread Cert.ResSIdeal.nD Cert.ResSIdeal.τ).loc Cert.ResSIdeal.main_arg2) = m ((c.tc : Thread Cert.ResSIdeal.nD Cert.ResSIdeal.τ).loc Cert.ResSIdeal.main_arg2))
      ∧ r.2.sem = fun _ => 0)

def quiescent_ResSReferenceIdeal [hResSReferenceIdeal : Cert.ResSReferenceIdeal.Facts] : Prop :=
  ∀ (m : (ℓ : Loc Cert.ResSReferenceIdeal.nD Cert.ResSReferenceIdeal.τ Cert.ResSReferenceIdeal.sig) → Buf (Elt Ideal) ℓ) (g : Dev Cert.ResSReferenceIdeal.nD → PrngReg), Pre_ResSReferenceIdeal m →
    θ_run (Cert.ResSReferenceIdeal.defs (F := Ideal)) (onTc (τ := Cert.ResSReferenceIdeal.τ) (Cert.ResSReferenceIdeal.main (F := Ideal))) ⟨m, fun _ => 0, g⟩ (fun r => (∀ c : Dev Cert.ResSReferenceIdeal.nD,
      r.2.mem ((c.tc : Thread Cert.ResSReferenceIdeal.nD Cert.ResSReferenceIdeal.τ).loc Cert.ResSReferenceIdeal.main_arg0) = m ((c.tc : Thread Cert.ResSReferenceIdeal.nD Cert.ResSReferenceIdeal.τ).loc Cert.ResSReferenceIdeal.main_arg0)
      ∧ r.2.mem ((c.tc : Thread Cert.ResSReferenceIdeal.nD Cert.ResSReferenceIdeal.τ).loc Cert.ResSReferenceIdeal.main_arg1) = m ((c.tc : Thread Cert.ResSReferenceIdeal.nD Cert.ResSReferenceIdeal.τ).loc Cert.ResSReferenceIdeal.main_arg1)
      ∧ r.2.mem ((c.tc : Thread Cert.ResSReferenceIdeal.nD Cert.ResSReferenceIdeal.τ).loc Cert.ResSReferenceIdeal.main_arg2) = m ((c.tc : Thread Cert.ResSReferenceIdeal.nD Cert.ResSReferenceIdeal.τ).loc Cert.ResSReferenceIdeal.main_arg2))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ r.2.sem = fun _ => 0)

def quiescent_ConvSReferenceIdeal [hConvSReferenceIdeal : Cert.ConvSReferenceIdeal.Facts] : Prop :=
  ∀ (m : (ℓ : Loc Cert.ConvSReferenceIdeal.nD Cert.ConvSReferenceIdeal.τ Cert.ConvSReferenceIdeal.sig) → Buf (Elt Ideal) ℓ) (g : Dev Cert.ConvSReferenceIdeal.nD → PrngReg), Pre_ConvSReferenceIdeal m →
    θ_run (Cert.ConvSReferenceIdeal.defs (F := Ideal)) (onTc (τ := Cert.ConvSReferenceIdeal.τ) (Cert.ConvSReferenceIdeal.main (F := Ideal))) ⟨m, fun _ => 0, g⟩ (fun r => (∀ c : Dev Cert.ConvSReferenceIdeal.nD,
      r.2.mem ((c.tc : Thread Cert.ConvSReferenceIdeal.nD Cert.ConvSReferenceIdeal.τ).loc Cert.ConvSReferenceIdeal.main_arg0) = m ((c.tc : Thread Cert.ConvSReferenceIdeal.nD Cert.ConvSReferenceIdeal.τ).loc Cert.ConvSReferenceIdeal.main_arg0)
      ∧ r.2.mem ((c.tc : Thread Cert.ConvSReferenceIdeal.nD Cert.ConvSReferenceIdeal.τ).loc Cert.ConvSReferenceIdeal.main_arg1) = m ((c.tc : Thread Cert.ConvSReferenceIdeal.nD Cert.ConvSReferenceIdeal.τ).loc Cert.ConvSReferenceIdeal.main_arg1)
      ∧ r.2.mem ((c.tc : Thread Cert.ConvSReferenceIdeal.nD Cert.ConvSReferenceIdeal.τ).loc Cert.ConvSReferenceIdeal.main_arg2) = m ((c.tc : Thread Cert.ConvSReferenceIdeal.nD Cert.ConvSReferenceIdeal.τ).loc Cert.ConvSReferenceIdeal.main_arg2)
      ∧ r.2.mem ((c.tc : Thread Cert.ConvSReferenceIdeal.nD Cert.ConvSReferenceIdeal.τ).loc Cert.ConvSReferenceIdeal.main_arg3) = m ((c.tc : Thread Cert.ConvSReferenceIdeal.nD Cert.ConvSReferenceIdeal.τ).loc Cert.ConvSReferenceIdeal.main_arg3)
      ∧ r.2.mem ((c.tc : Thread Cert.ConvSReferenceIdeal.nD Cert.ConvSReferenceIdeal.τ).loc Cert.ConvSReferenceIdeal.main_arg4) = m ((c.tc : Thread Cert.ConvSReferenceIdeal.nD Cert.ConvSReferenceIdeal.τ).loc Cert.ConvSReferenceIdeal.main_arg4)
      ∧ r.2.mem ((c.tc : Thread Cert.ConvSReferenceIdeal.nD Cert.ConvSReferenceIdeal.τ).loc Cert.ConvSReferenceIdeal.main_arg5) = m ((c.tc : Thread Cert.ConvSReferenceIdeal.nD Cert.ConvSReferenceIdeal.τ).loc Cert.ConvSReferenceIdeal.main_arg5))
      ∧ r.2.sem = fun _ => 0)

def quiescent_GlaS [hGlaS : Cert.GlaS.Facts] : Prop :=
  ∀ (m : (ℓ : Loc Cert.GlaS.nD Cert.GlaS.τ Cert.GlaS.sig) → Buf (Elt Bits) ℓ) (g : Dev Cert.GlaS.nD → PrngReg), Pre_GlaS m →
    θ_run (Cert.GlaS.defs (F := Bits)) (onTc (τ := Cert.GlaS.τ) (Cert.GlaS.main (F := Bits))) ⟨m, fun _ => 0, g⟩ (fun r => (∀ c : Dev Cert.GlaS.nD,
      r.2.mem ((c.tc : Thread Cert.GlaS.nD Cert.GlaS.τ).loc Cert.GlaS.main_arg0) = m ((c.tc : Thread Cert.GlaS.nD Cert.GlaS.τ).loc Cert.GlaS.main_arg0)
      ∧ r.2.mem ((c.tc : Thread Cert.GlaS.nD Cert.GlaS.τ).loc Cert.GlaS.main_arg1) = m ((c.tc : Thread Cert.GlaS.nD Cert.GlaS.τ).loc Cert.GlaS.main_arg1)
      ∧ r.2.mem ((c.tc : Thread Cert.GlaS.nD Cert.GlaS.τ).loc Cert.GlaS.main_arg2) = m ((c.tc : Thread Cert.GlaS.nD Cert.GlaS.τ).loc Cert.GlaS.main_arg2)
      ∧ r.2.mem ((c.tc : Thread Cert.GlaS.nD Cert.GlaS.τ).loc Cert.GlaS.main_arg3) = m ((c.tc : Thread Cert.GlaS.nD Cert.GlaS.τ).loc Cert.GlaS.main_arg3))
      ∧ r.2.sem = fun _ => 0)

def quiescent_GlaSIdeal [hGlaSIdeal : Cert.GlaSIdeal.Facts] : Prop :=
  ∀ (m : (ℓ : Loc Cert.GlaSIdeal.nD Cert.GlaSIdeal.τ Cert.GlaSIdeal.sig) → Buf (Elt Ideal) ℓ) (g : Dev Cert.GlaSIdeal.nD → PrngReg), Pre_GlaSIdeal m →
    θ_run (Cert.GlaSIdeal.defs (F := Ideal)) (onTc (τ := Cert.GlaSIdeal.τ) (Cert.GlaSIdeal.main (F := Ideal))) ⟨m, fun _ => 0, g⟩ (fun r => (∀ c : Dev Cert.GlaSIdeal.nD,
      r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
      ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
      ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
      ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3))
      ∧ r.2.sem = fun _ => 0)

def quiescent_GlaSReferenceIdeal [hGlaSReferenceIdeal : Cert.GlaSReferenceIdeal.Facts] : Prop :=
  ∀ (m : (ℓ : Loc Cert.GlaSReferenceIdeal.nD Cert.GlaSReferenceIdeal.τ Cert.GlaSReferenceIdeal.sig) → Buf (Elt Ideal) ℓ) (g : Dev Cert.GlaSReferenceIdeal.nD → PrngReg), Pre_GlaSReferenceIdeal m →
    θ_run (Cert.GlaSReferenceIdeal.defs (F := Ideal)) (onTc (τ := Cert.GlaSReferenceIdeal.τ) (Cert.GlaSReferenceIdeal.main (F := Ideal))) ⟨m, fun _ => 0, g⟩ (fun r => (∀ c : Dev Cert.GlaSReferenceIdeal.nD,
      r.2.mem ((c.tc : Thread Cert.GlaSReferenceIdeal.nD Cert.GlaSReferenceIdeal.τ).loc Cert.GlaSReferenceIdeal.main_arg0) = m ((c.tc : Thread Cert.GlaSReferenceIdeal.nD Cert.GlaSReferenceIdeal.τ).loc Cert.GlaSReferenceIdeal.main_arg0)
      ∧ r.2.mem ((c.tc : Thread Cert.GlaSReferenceIdeal.nD Cert.GlaSReferenceIdeal.τ).loc Cert.GlaSReferenceIdeal.main_arg1) = m ((c.tc : Thread Cert.GlaSReferenceIdeal.nD Cert.GlaSReferenceIdeal.τ).loc Cert.GlaSReferenceIdeal.main_arg1)
      ∧ r.2.mem ((c.tc : Thread Cert.GlaSReferenceIdeal.nD Cert.GlaSReferenceIdeal.τ).loc Cert.GlaSReferenceIdeal.main_arg2) = m ((c.tc : Thread Cert.GlaSReferenceIdeal.nD Cert.GlaSReferenceIdeal.τ).loc Cert.GlaSReferenceIdeal.main_arg2)
      ∧ r.2.mem ((c.tc : Thread Cert.GlaSReferenceIdeal.nD Cert.GlaSReferenceIdeal.τ).loc Cert.GlaSReferenceIdeal.main_arg3) = m ((c.tc : Thread Cert.GlaSReferenceIdeal.nD Cert.GlaSReferenceIdeal.τ).loc Cert.GlaSReferenceIdeal.main_arg3))
      ∧ r.2.sem = fun _ => 0)

def quiescent_ConvP [hConvP : Cert.ConvP.Facts] : Prop :=
  ∀ (m : (ℓ : Loc Cert.ConvP.nD Cert.ConvP.τ Cert.ConvP.sig) → Buf (Elt Bits) ℓ) (g : Dev Cert.ConvP.nD → PrngReg), Pre_ConvP m →
    θ_run (Cert.ConvP.defs (F := Bits)) (onTc (τ := Cert.ConvP.τ) (Cert.ConvP.main (F := Bits))) ⟨m, fun _ => 0, g⟩ (fun r => (∀ c : Dev Cert.ConvP.nD,
      r.2.mem ((c.tc : Thread Cert.ConvP.nD Cert.ConvP.τ).loc Cert.ConvP.main_arg0) = m ((c.tc : Thread Cert.ConvP.nD Cert.ConvP.τ).loc Cert.ConvP.main_arg0)
      ∧ r.2.mem ((c.tc : Thread Cert.ConvP.nD Cert.ConvP.τ).loc Cert.ConvP.main_arg1) = m ((c.tc : Thread Cert.ConvP.nD Cert.ConvP.τ).loc Cert.ConvP.main_arg1)
      ∧ r.2.mem ((c.tc : Thread Cert.ConvP.nD Cert.ConvP.τ).loc Cert.ConvP.main_arg2) = m ((c.tc : Thread Cert.ConvP.nD Cert.ConvP.τ).loc Cert.ConvP.main_arg2)
      ∧ r.2.mem ((c.tc : Thread Cert.ConvP.nD Cert.ConvP.τ).loc Cert.ConvP.main_arg3) = m ((c.tc : Thread Cert.ConvP.nD Cert.ConvP.τ).loc Cert.ConvP.main_arg3)
      ∧ r.2.mem ((c.tc : Thread Cert.ConvP.nD Cert.ConvP.τ).loc Cert.ConvP.main_arg4) = m ((c.tc : Thread Cert.ConvP.nD Cert.ConvP.τ).loc Cert.ConvP.main_arg4)
      ∧ r.2.mem ((c.tc : Thread Cert.ConvP.nD Cert.ConvP.τ).loc Cert.ConvP.main_arg5) = m ((c.tc : Thread Cert.ConvP.nD Cert.ConvP.τ).loc Cert.ConvP.main_arg5))
      ∧ r.2.sem = fun _ => 0)

def quiescent_ConvPIdeal [hConvPIdeal : Cert.ConvPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg), Pre_ConvPIdeal m →
    θ_run (Cert.ConvPIdeal.defs (F := Ideal)) (onTc (τ := Cert.ConvPIdeal.τ) (Cert.ConvPIdeal.main (F := Ideal))) ⟨m, fun _ => 0, g⟩ (fun r => (∀ c : Dev Cert.ConvPIdeal.nD,
      r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
      ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
      ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
      ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
      ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4)
      ∧ r.2.mem ((c.tc : Thread Cert.ConvPIdeal.nD Cert.ConvPIdeal.τ).loc Cert.ConvPIdeal.main_arg5) = m ((c.tc : Thread Cert.ConvPIdeal.nD Cert.ConvPIdeal.τ).loc Cert.ConvPIdeal.main_arg5))
      ∧ r.2.sem = fun _ => 0)

def quiescent_ConvPReferenceIdeal [hConvPReferenceIdeal : Cert.ConvPReferenceIdeal.Facts] : Prop :=
  ∀ (m : (ℓ : Loc Cert.ConvPReferenceIdeal.nD Cert.ConvPReferenceIdeal.τ Cert.ConvPReferenceIdeal.sig) → Buf (Elt Ideal) ℓ) (g : Dev Cert.ConvPReferenceIdeal.nD → PrngReg), Pre_ConvPReferenceIdeal m →
    θ_run (Cert.ConvPReferenceIdeal.defs (F := Ideal)) (onTc (τ := Cert.ConvPReferenceIdeal.τ) (Cert.ConvPReferenceIdeal.main (F := Ideal))) ⟨m, fun _ => 0, g⟩ (fun r => (∀ c : Dev Cert.ConvPReferenceIdeal.nD,
      r.2.mem ((c.tc : Thread Cert.ConvPReferenceIdeal.nD Cert.ConvPReferenceIdeal.τ).loc Cert.ConvPReferenceIdeal.main_arg0) = m ((c.tc : Thread Cert.ConvPReferenceIdeal.nD Cert.ConvPReferenceIdeal.τ).loc Cert.ConvPReferenceIdeal.main_arg0)
      ∧ r.2.mem ((c.tc : Thread Cert.ConvPReferenceIdeal.nD Cert.ConvPReferenceIdeal.τ).loc Cert.ConvPReferenceIdeal.main_arg1) = m ((c.tc : Thread Cert.ConvPReferenceIdeal.nD Cert.ConvPReferenceIdeal.τ).loc Cert.ConvPReferenceIdeal.main_arg1)
      ∧ r.2.mem ((c.tc : Thread Cert.ConvPReferenceIdeal.nD Cert.ConvPReferenceIdeal.τ).loc Cert.ConvPReferenceIdeal.main_arg2) = m ((c.tc : Thread Cert.ConvPReferenceIdeal.nD Cert.ConvPReferenceIdeal.τ).loc Cert.ConvPReferenceIdeal.main_arg2)
      ∧ r.2.mem ((c.tc : Thread Cert.ConvPReferenceIdeal.nD Cert.ConvPReferenceIdeal.τ).loc Cert.ConvPReferenceIdeal.main_arg3) = m ((c.tc : Thread Cert.ConvPReferenceIdeal.nD Cert.ConvPReferenceIdeal.τ).loc Cert.ConvPReferenceIdeal.main_arg3)
      ∧ r.2.mem ((c.tc : Thread Cert.ConvPReferenceIdeal.nD Cert.ConvPReferenceIdeal.τ).loc Cert.ConvPReferenceIdeal.main_arg4) = m ((c.tc : Thread Cert.ConvPReferenceIdeal.nD Cert.ConvPReferenceIdeal.τ).loc Cert.ConvPReferenceIdeal.main_arg4)
      ∧ r.2.mem ((c.tc : Thread Cert.ConvPReferenceIdeal.nD Cert.ConvPReferenceIdeal.τ).loc Cert.ConvPReferenceIdeal.main_arg5) = m ((c.tc : Thread Cert.ConvPReferenceIdeal.nD Cert.ConvPReferenceIdeal.τ).loc Cert.ConvPReferenceIdeal.main_arg5))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_v13) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_v7) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_KProj_KProjIdeal : Prop :=
  True

def algebraic_KProjIdeal_KProjReferenceIdeal [hKProjIdeal : Cert.KProjIdeal.Facts] [hKProjReferenceIdeal : Cert.KProjReferenceIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.KProjReferenceIdeal.nD Cert.KProjReferenceIdeal.τ Cert.KProjReferenceIdeal.sig) → Buf (Elt Ideal) ℓ) (g' : Dev Cert.KProjReferenceIdeal.nD → PrngReg), Pre_KProjIdeal m →
    (∀ c : Dev Cert.KProjIdeal.nD,
      m' ((c.tc : Thread Cert.KProjReferenceIdeal.nD Cert.KProjReferenceIdeal.τ).loc Cert.KProjReferenceIdeal.main_arg0) = m ((c.tc : Thread Cert.KProjIdeal.nD Cert.KProjIdeal.τ).loc Cert.KProjIdeal.main_arg0)
      ∧ m' ((c.tc : Thread Cert.KProjReferenceIdeal.nD Cert.KProjReferenceIdeal.τ).loc Cert.KProjReferenceIdeal.main_arg1) = m ((c.tc : Thread Cert.KProjIdeal.nD Cert.KProjIdeal.τ).loc Cert.KProjIdeal.main_arg1)
      ∧ m' ((c.tc : Thread Cert.KProjReferenceIdeal.nD Cert.KProjReferenceIdeal.τ).loc Cert.KProjReferenceIdeal.main_arg2) = m ((c.tc : Thread Cert.KProjIdeal.nD Cert.KProjIdeal.τ).loc Cert.KProjIdeal.main_arg2)) →
    ∃ (v0 : (c : Dev Cert.KProjIdeal.nD) → Buf (Elt Ideal) ((c.tc : Thread Cert.KProjIdeal.nD Cert.KProjIdeal.τ).loc Cert.KProjIdeal.main_v0_0)) (v1 : (c : Dev Cert.KProjIdeal.nD) → Buf (Elt Ideal) ((c.tc : Thread Cert.KProjIdeal.nD Cert.KProjIdeal.τ).loc Cert.KProjIdeal.main_v0_1)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v0_0) = v0 c
          ∧ r.2.mem ((c.tc : Thread Cert.KProjIdeal.nD Cert.KProjIdeal.τ).loc Cert.KProjIdeal.main_v0_1) = v1 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ θ_run (Cert.KProjReferenceIdeal.defs (F := Ideal)) (onTc (τ := Cert.KProjReferenceIdeal.τ) (Cert.KProjReferenceIdeal.main (F := Ideal))) ⟨m', fun _ => 0, g'⟩ (fun r => ∀ c : Dev Cert.KProjReferenceIdeal.nD,
          r.2.mem ((c.tc : Thread Cert.KProjReferenceIdeal.nD Cert.KProjReferenceIdeal.τ).loc Cert.KProjReferenceIdeal.main_v4) = v0 c
          ∧ r.2.mem ((c.tc : Thread Cert.KProjReferenceIdeal.nD Cert.KProjReferenceIdeal.τ).loc Cert.KProjReferenceIdeal.main_v9) = v1 c
          ∧ r.2.mem ((c.tc : Thread Cert.KProjReferenceIdeal.nD Cert.KProjReferenceIdeal.τ).loc Cert.KProjReferenceIdeal.main_arg0) = m' ((c.tc : Thread Cert.KProjReferenceIdeal.nD Cert.KProjReferenceIdeal.τ).loc Cert.KProjReferenceIdeal.main_arg0)
          ∧ r.2.mem ((c.tc : Thread Cert.KProjReferenceIdeal.nD Cert.KProjReferenceIdeal.τ).loc Cert.KProjReferenceIdeal.main_arg1) = m' ((c.tc : Thread Cert.KProjReferenceIdeal.nD Cert.KProjReferenceIdeal.τ).loc Cert.KProjReferenceIdeal.main_arg1)
          ∧ r.2.mem ((c.tc : Thread Cert.KProjReferenceIdeal.nD Cert.KProjReferenceIdeal.τ).loc Cert.KProjReferenceIdeal.main_arg2) = m' ((c.tc : Thread Cert.KProjReferenceIdeal.nD Cert.KProjReferenceIdeal.τ).loc Cert.KProjReferenceIdeal.main_arg2))

def preserves_VProj_VProjIdeal : Prop :=
  True

def algebraic_VProjIdeal_VProjReferenceIdeal [hVProjIdeal : Cert.VProjIdeal.Facts] [hVProjReferenceIdeal : Cert.VProjReferenceIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VProjReferenceIdeal.nD Cert.VProjReferenceIdeal.τ Cert.VProjReferenceIdeal.sig) → Buf (Elt Ideal) ℓ) (g' : Dev Cert.VProjReferenceIdeal.nD → PrngReg), Pre_VProjIdeal m →
    (∀ c : Dev Cert.VProjIdeal.nD,
      m' ((c.tc : Thread Cert.VProjReferenceIdeal.nD Cert.VProjReferenceIdeal.τ).loc Cert.VProjReferenceIdeal.main_arg0) = m ((c.tc : Thread Cert.VProjIdeal.nD Cert.VProjIdeal.τ).loc Cert.VProjIdeal.main_arg0)
      ∧ m' ((c.tc : Thread Cert.VProjReferenceIdeal.nD Cert.VProjReferenceIdeal.τ).loc Cert.VProjReferenceIdeal.main_arg1) = m ((c.tc : Thread Cert.VProjIdeal.nD Cert.VProjIdeal.τ).loc Cert.VProjIdeal.main_arg1)
      ∧ m' ((c.tc : Thread Cert.VProjReferenceIdeal.nD Cert.VProjReferenceIdeal.τ).loc Cert.VProjReferenceIdeal.main_arg2) = m ((c.tc : Thread Cert.VProjIdeal.nD Cert.VProjIdeal.τ).loc Cert.VProjIdeal.main_arg2)) →
    ∃ (v0 : (c : Dev Cert.VProjIdeal.nD) → Buf (Elt Ideal) ((c.tc : Thread Cert.VProjIdeal.nD Cert.VProjIdeal.τ).loc Cert.VProjIdeal.main_v0_0)) (v1 : (c : Dev Cert.VProjIdeal.nD) → Buf (Elt Ideal) ((c.tc : Thread Cert.VProjIdeal.nD Cert.VProjIdeal.τ).loc Cert.VProjIdeal.main_v0_1)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v0_0) = v0 c
          ∧ r.2.mem ((c.tc : Thread Cert.VProjIdeal.nD Cert.VProjIdeal.τ).loc Cert.VProjIdeal.main_v0_1) = v1 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
          ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2))
      ∧ θ_run (Cert.VProjReferenceIdeal.defs (F := Ideal)) (onTc (τ := Cert.VProjReferenceIdeal.τ) (Cert.VProjReferenceIdeal.main (F := Ideal))) ⟨m', fun _ => 0, g'⟩ (fun r => ∀ c : Dev Cert.VProjReferenceIdeal.nD,
          r.2.mem ((c.tc : Thread Cert.VProjReferenceIdeal.nD Cert.VProjReferenceIdeal.τ).loc Cert.VProjReferenceIdeal.main_v4) = v0 c
          ∧ r.2.mem ((c.tc : Thread Cert.VProjReferenceIdeal.nD Cert.VProjReferenceIdeal.τ).loc Cert.VProjReferenceIdeal.main_v9) = v1 c
          ∧ r.2.mem ((c.tc : Thread Cert.VProjReferenceIdeal.nD Cert.VProjReferenceIdeal.τ).loc Cert.VProjReferenceIdeal.main_arg0) = m' ((c.tc : Thread Cert.VProjReferenceIdeal.nD Cert.VProjReferenceIdeal.τ).loc Cert.VProjReferenceIdeal.main_arg0)
          ∧ r.2.mem ((c.tc : Thread Cert.VProjReferenceIdeal.nD Cert.VProjReferenceIdeal.τ).loc Cert.VProjReferenceIdeal.main_arg1) = m' ((c.tc : Thread Cert.VProjReferenceIdeal.nD Cert.VProjReferenceIdeal.τ).loc Cert.VProjReferenceIdeal.main_arg1)
          ∧ r.2.mem ((c.tc : Thread Cert.VProjReferenceIdeal.nD Cert.VProjReferenceIdeal.τ).loc Cert.VProjReferenceIdeal.main_arg2) = m' ((c.tc : Thread Cert.VProjReferenceIdeal.nD Cert.VProjReferenceIdeal.τ).loc Cert.VProjReferenceIdeal.main_arg2))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)
      ∧ m' ((c.tc : Thread Cert.QProjReferenceIdeal.nD Cert.QProjReferenceIdeal.τ).loc Cert.QProjReferenceIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v0_0)) (v1 : (c : Dev Cert.QProjIdeal.nD) → Buf (Elt Ideal) ((c.tc : Thread Cert.QProjIdeal.nD Cert.QProjIdeal.τ).loc Cert.QProjIdeal.main_v0_1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0_0) = v0 c
          ∧ r.2.mem ((c.tc : Thread Cert.QProjIdeal.nD Cert.QProjIdeal.τ).loc Cert.QProjIdeal.main_v0_1) = v1 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v5) = v0 c
          ∧ r.2.mem ((c.tc : Thread Cert.QProjReferenceIdeal.nD Cert.QProjReferenceIdeal.τ).loc Cert.QProjReferenceIdeal.main_v10) = v1 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1)
          ∧ r.2.mem ((c.tc : Thread Cert.QProjReferenceIdeal.nD Cert.QProjReferenceIdeal.τ).loc Cert.QProjReferenceIdeal.main_arg2) = m' ((c.tc : Thread Cert.QProjReferenceIdeal.nD Cert.QProjReferenceIdeal.τ).loc Cert.QProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_v7) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4) = v0 c
          ∧ r.2.mem ((c.tc : Thread Cert.InProjReferenceIdeal.nD Cert.InProjReferenceIdeal.τ).loc Cert.InProjReferenceIdeal.main_v9) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_GluProj_GluProjIdeal : Prop :=
  True

def algebraic_GluProjIdeal_GluProjReferenceIdeal [hGluProjIdeal : Cert.GluProjIdeal.Facts] [hGluProjReferenceIdeal : Cert.GluProjReferenceIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjReferenceIdeal.nD Cert.GluProjReferenceIdeal.τ Cert.GluProjReferenceIdeal.sig) → Buf (Elt Ideal) ℓ) (g' : Dev Cert.GluProjReferenceIdeal.nD → PrngReg), Pre_GluProjIdeal m →
    (∀ c : Dev Cert.GluProjIdeal.nD,
      m' ((c.tc : Thread Cert.GluProjReferenceIdeal.nD Cert.GluProjReferenceIdeal.τ).loc Cert.GluProjReferenceIdeal.main_arg0) = m ((c.tc : Thread Cert.GluProjIdeal.nD Cert.GluProjIdeal.τ).loc Cert.GluProjIdeal.main_arg0)
      ∧ m' ((c.tc : Thread Cert.GluProjReferenceIdeal.nD Cert.GluProjReferenceIdeal.τ).loc Cert.GluProjReferenceIdeal.main_arg1) = m ((c.tc : Thread Cert.GluProjIdeal.nD Cert.GluProjIdeal.τ).loc Cert.GluProjIdeal.main_arg1)
      ∧ m' ((c.tc : Thread Cert.GluProjReferenceIdeal.nD Cert.GluProjReferenceIdeal.τ).loc Cert.GluProjReferenceIdeal.main_arg2) = m ((c.tc : Thread Cert.GluProjIdeal.nD Cert.GluProjIdeal.τ).loc Cert.GluProjIdeal.main_arg2)) →
    ∃ (v0 : (c : Dev Cert.GluProjIdeal.nD) → Buf (Elt Ideal) ((c.tc : Thread Cert.GluProjIdeal.nD Cert.GluProjIdeal.τ).loc Cert.GluProjIdeal.main_v1_0)) (v1 : (c : Dev Cert.GluProjIdeal.nD) → Buf (Elt Ideal) ((c.tc : Thread Cert.GluProjIdeal.nD Cert.GluProjIdeal.τ).loc Cert.GluProjIdeal.main_v1_1)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v1_0) = v0 c
          ∧ r.2.mem ((c.tc : Thread Cert.GluProjIdeal.nD Cert.GluProjIdeal.τ).loc Cert.GluProjIdeal.main_v1_1) = v1 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
          ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ θ_run (Cert.GluProjReferenceIdeal.defs (F := Ideal)) (onTc (τ := Cert.GluProjReferenceIdeal.τ) (Cert.GluProjReferenceIdeal.main (F := Ideal))) ⟨m', fun _ => 0, g'⟩ (fun r => ∀ c : Dev Cert.GluProjReferenceIdeal.nD,
          r.2.mem ((c.tc : Thread Cert.GluProjReferenceIdeal.nD Cert.GluProjReferenceIdeal.τ).loc Cert.GluProjReferenceIdeal.main_v4) = v0 c
          ∧ r.2.mem ((c.tc : Thread Cert.GluProjReferenceIdeal.nD Cert.GluProjReferenceIdeal.τ).loc Cert.GluProjReferenceIdeal.main_v9) = v1 c
          ∧ r.2.mem ((c.tc : Thread Cert.GluProjReferenceIdeal.nD Cert.GluProjReferenceIdeal.τ).loc Cert.GluProjReferenceIdeal.main_arg0) = m' ((c.tc : Thread Cert.GluProjReferenceIdeal.nD Cert.GluProjReferenceIdeal.τ).loc Cert.GluProjReferenceIdeal.main_arg0)
          ∧ r.2.mem ((c.tc : Thread Cert.GluProjReferenceIdeal.nD Cert.GluProjReferenceIdeal.τ).loc Cert.GluProjReferenceIdeal.main_arg1) = m' ((c.tc : Thread Cert.GluProjReferenceIdeal.nD Cert.GluProjReferenceIdeal.τ).loc Cert.GluProjReferenceIdeal.main_arg1)
          ∧ r.2.mem ((c.tc : Thread Cert.GluProjReferenceIdeal.nD Cert.GluProjReferenceIdeal.τ).loc Cert.GluProjReferenceIdeal.main_arg2) = m' ((c.tc : Thread Cert.GluProjReferenceIdeal.nD Cert.GluProjReferenceIdeal.τ).loc Cert.GluProjReferenceIdeal.main_arg2))

def preserves_NormP_NormPIdeal : Prop :=
  True

def algebraic_NormPIdeal_NormPReferenceIdeal [hNormPIdeal : Cert.NormPIdeal.Facts] [hNormPReferenceIdeal : Cert.NormPReferenceIdeal.Facts] : Prop :=
  ∀ (m : (ℓ : Loc Cert.NormPIdeal.nD Cert.NormPIdeal.τ Cert.NormPIdeal.sig) → Buf (Elt Ideal) ℓ) (g : Dev Cert.NormPIdeal.nD → PrngReg)
    (m' : (ℓ : Loc Cert.NormPReferenceIdeal.nD Cert.NormPReferenceIdeal.τ Cert.NormPReferenceIdeal.sig) → Buf (Elt Ideal) ℓ) (g' : Dev Cert.NormPReferenceIdeal.nD → PrngReg), Pre_NormPIdeal m →
    (∀ c : Dev Cert.NormPIdeal.nD,
      m' ((c.tc : Thread Cert.NormPReferenceIdeal.nD Cert.NormPReferenceIdeal.τ).loc Cert.NormPReferenceIdeal.main_arg0) = m ((c.tc : Thread Cert.NormPIdeal.nD Cert.NormPIdeal.τ).loc Cert.NormPIdeal.main_arg0)
      ∧ m' ((c.tc : Thread Cert.NormPReferenceIdeal.nD Cert.NormPReferenceIdeal.τ).loc Cert.NormPReferenceIdeal.main_arg1) = m ((c.tc : Thread Cert.NormPIdeal.nD Cert.NormPIdeal.τ).loc Cert.NormPIdeal.main_arg1)) →
    ∃ (v0 : (c : Dev Cert.NormPIdeal.nD) → Buf (Elt Ideal) ((c.tc : Thread Cert.NormPIdeal.nD Cert.NormPIdeal.τ).loc Cert.NormPIdeal.main_v1)),
      θ_run (Cert.NormPIdeal.defs (F := Ideal)) (onTc (τ := Cert.NormPIdeal.τ) (Cert.NormPIdeal.main (F := Ideal))) ⟨m, fun _ => 0, g⟩ (fun r => ∀ c : Dev Cert.NormPIdeal.nD,
          r.2.mem ((c.tc : Thread Cert.NormPIdeal.nD Cert.NormPIdeal.τ).loc Cert.NormPIdeal.main_v1) = v0 c
          ∧ r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
          ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ θ_run (Cert.NormPReferenceIdeal.defs (F := Ideal)) (onTc (τ := Cert.NormPReferenceIdeal.τ) (Cert.NormPReferenceIdeal.main (F := Ideal))) ⟨m', fun _ => 0, g'⟩ (fun r => ∀ c : Dev Cert.NormPReferenceIdeal.nD,
          r.2.mem ((c.tc : Thread Cert.NormPReferenceIdeal.nD Cert.NormPReferenceIdeal.τ).loc Cert.NormPReferenceIdeal.main_v13) = v0 c
          ∧ r.2.mem ((c.tc : Thread Cert.NormPReferenceIdeal.nD Cert.NormPReferenceIdeal.τ).loc Cert.NormPReferenceIdeal.main_arg0) = m' ((c.tc : Thread Cert.NormPReferenceIdeal.nD Cert.NormPReferenceIdeal.τ).loc Cert.NormPReferenceIdeal.main_arg0)
          ∧ r.2.mem ((c.tc : Thread Cert.NormPReferenceIdeal.nD Cert.NormPReferenceIdeal.τ).loc Cert.NormPReferenceIdeal.main_arg1) = m' ((c.tc : Thread Cert.NormPReferenceIdeal.nD Cert.NormPReferenceIdeal.τ).loc Cert.NormPReferenceIdeal.main_arg1))

def preserves_NormS_NormSIdeal : Prop :=
  True

def algebraic_NormSIdeal_NormSReferenceIdeal [hNormSIdeal : Cert.NormSIdeal.Facts] [hNormSReferenceIdeal : Cert.NormSReferenceIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSReferenceIdeal.nD Cert.NormSReferenceIdeal.τ Cert.NormSReferenceIdeal.sig) → Buf (Elt Ideal) ℓ) (g' : Dev Cert.NormSReferenceIdeal.nD → PrngReg), Pre_NormSIdeal m →
    (∀ c : Dev Cert.NormSIdeal.nD,
      m' ((c.tc : Thread Cert.NormSReferenceIdeal.nD Cert.NormSReferenceIdeal.τ).loc Cert.NormSReferenceIdeal.main_arg0) = m ((c.tc : Thread Cert.NormSIdeal.nD Cert.NormSIdeal.τ).loc Cert.NormSIdeal.main_arg0)
      ∧ m' ((c.tc : Thread Cert.NormSReferenceIdeal.nD Cert.NormSReferenceIdeal.τ).loc Cert.NormSReferenceIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSReferenceIdeal.defs (F := Ideal)) (onTc (τ := Cert.NormSReferenceIdeal.τ) (Cert.NormSReferenceIdeal.main (F := Ideal))) ⟨m', fun _ => 0, g'⟩ (fun r => ∀ c : Dev Cert.NormSReferenceIdeal.nD,
          r.2.mem ((c.tc : Thread Cert.NormSReferenceIdeal.nD Cert.NormSReferenceIdeal.τ).loc Cert.NormSReferenceIdeal.main_v13) = v0 c
          ∧ r.2.mem ((c.tc : Thread Cert.NormSReferenceIdeal.nD Cert.NormSReferenceIdeal.τ).loc Cert.NormSReferenceIdeal.main_arg0) = m' ((c.tc : Thread Cert.NormSReferenceIdeal.nD Cert.NormSReferenceIdeal.τ).loc Cert.NormSReferenceIdeal.main_arg0)
          ∧ r.2.mem ((c.tc : Thread Cert.NormSReferenceIdeal.nD Cert.NormSReferenceIdeal.τ).loc Cert.NormSReferenceIdeal.main_arg1) = m' ((c.tc : Thread Cert.NormSReferenceIdeal.nD Cert.NormSReferenceIdeal.τ).loc Cert.NormSReferenceIdeal.main_arg1))

def preserves_ResnormP_ResnormPIdeal : Prop :=
  True

def algebraic_ResnormPIdeal_ResnormPReferenceIdeal [hResnormPIdeal : Cert.ResnormPIdeal.Facts] [hResnormPReferenceIdeal : Cert.ResnormPReferenceIdeal.Facts] : Prop :=
  ∀ (m : (ℓ : Loc Cert.ResnormPIdeal.nD Cert.ResnormPIdeal.τ Cert.ResnormPIdeal.sig) → Buf (Elt Ideal) ℓ) (g : Dev Cert.ResnormPIdeal.nD → PrngReg)
    (m' : (ℓ : Loc Cert.ResnormPReferenceIdeal.nD Cert.ResnormPReferenceIdeal.τ Cert.ResnormPReferenceIdeal.sig) → Buf (Elt Ideal) ℓ) (g' : Dev Cert.ResnormPReferenceIdeal.nD → PrngReg), Pre_ResnormPIdeal m →
    (∀ c : Dev Cert.ResnormPIdeal.nD,
      m' ((c.tc : Thread Cert.ResnormPReferenceIdeal.nD Cert.ResnormPReferenceIdeal.τ).loc Cert.ResnormPReferenceIdeal.main_arg0) = m ((c.tc : Thread Cert.ResnormPIdeal.nD Cert.ResnormPIdeal.τ).loc Cert.ResnormPIdeal.main_arg0)
      ∧ m' ((c.tc : Thread Cert.ResnormPReferenceIdeal.nD Cert.ResnormPReferenceIdeal.τ).loc Cert.ResnormPReferenceIdeal.main_arg1) = m ((c.tc : Thread Cert.ResnormPIdeal.nD Cert.ResnormPIdeal.τ).loc Cert.ResnormPIdeal.main_arg1)
      ∧ m' ((c.tc : Thread Cert.ResnormPReferenceIdeal.nD Cert.ResnormPReferenceIdeal.τ).loc Cert.ResnormPReferenceIdeal.main_arg2) = m ((c.tc : Thread Cert.ResnormPIdeal.nD Cert.ResnormPIdeal.τ).loc Cert.ResnormPIdeal.main_arg2)
      ∧ m' ((c.tc : Thread Cert.ResnormPReferenceIdeal.nD Cert.ResnormPReferenceIdeal.τ).loc Cert.ResnormPReferenceIdeal.main_arg3) = m ((c.tc : Thread Cert.ResnormPIdeal.nD Cert.ResnormPIdeal.τ).loc Cert.ResnormPIdeal.main_arg3)) →
    ∃ (v0 : (c : Dev Cert.ResnormPIdeal.nD) → Buf (Elt Ideal) ((c.tc : Thread Cert.ResnormPIdeal.nD Cert.ResnormPIdeal.τ).loc Cert.ResnormPIdeal.main_v2_0)) (v1 : (c : Dev Cert.ResnormPIdeal.nD) → Buf (Elt Ideal) ((c.tc : Thread Cert.ResnormPIdeal.nD Cert.ResnormPIdeal.τ).loc Cert.ResnormPIdeal.main_v2_1)),
      θ_run (Cert.ResnormPIdeal.defs (F := Ideal)) (onTc (τ := Cert.ResnormPIdeal.τ) (Cert.ResnormPIdeal.main (F := Ideal))) ⟨m, fun _ => 0, g⟩ (fun r => ∀ c : Dev Cert.ResnormPIdeal.nD,
          r.2.mem ((c.tc : Thread Cert.ResnormPIdeal.nD Cert.ResnormPIdeal.τ).loc Cert.ResnormPIdeal.main_v2_0) = v0 c
          ∧ r.2.mem ((c.tc : Thread Cert.ResnormPIdeal.nD Cert.ResnormPIdeal.τ).loc Cert.ResnormPIdeal.main_v2_1) = v1 c
          ∧ r.2.mem ((c.tc : Thread Cert.ResnormPIdeal.nD Cert.ResnormPIdeal.τ).loc Cert.ResnormPIdeal.main_arg0) = m ((c.tc : Thread Cert.ResnormPIdeal.nD Cert.ResnormPIdeal.τ).loc Cert.ResnormPIdeal.main_arg0)
          ∧ r.2.mem ((c.tc : Thread Cert.ResnormPIdeal.nD Cert.ResnormPIdeal.τ).loc Cert.ResnormPIdeal.main_arg1) = m ((c.tc : Thread Cert.ResnormPIdeal.nD Cert.ResnormPIdeal.τ).loc Cert.ResnormPIdeal.main_arg1)
          ∧ r.2.mem ((c.tc : Thread Cert.ResnormPIdeal.nD Cert.ResnormPIdeal.τ).loc Cert.ResnormPIdeal.main_arg2) = m ((c.tc : Thread Cert.ResnormPIdeal.nD Cert.ResnormPIdeal.τ).loc Cert.ResnormPIdeal.main_arg2)
          ∧ r.2.mem ((c.tc : Thread Cert.ResnormPIdeal.nD Cert.ResnormPIdeal.τ).loc Cert.ResnormPIdeal.main_arg3) = m ((c.tc : Thread Cert.ResnormPIdeal.nD Cert.ResnormPIdeal.τ).loc Cert.ResnormPIdeal.main_arg3))
      ∧ θ_run (Cert.ResnormPReferenceIdeal.defs (F := Ideal)) (onTc (τ := Cert.ResnormPReferenceIdeal.τ) (Cert.ResnormPReferenceIdeal.main (F := Ideal))) ⟨m', fun _ => 0, g'⟩ (fun r => ∀ c : Dev Cert.ResnormPReferenceIdeal.nD,
          r.2.mem ((c.tc : Thread Cert.ResnormPReferenceIdeal.nD Cert.ResnormPReferenceIdeal.τ).loc Cert.ResnormPReferenceIdeal.main_v13) = v0 c
          ∧ r.2.mem ((c.tc : Thread Cert.ResnormPReferenceIdeal.nD Cert.ResnormPReferenceIdeal.τ).loc Cert.ResnormPReferenceIdeal.main_v27) = v1 c
          ∧ r.2.mem ((c.tc : Thread Cert.ResnormPReferenceIdeal.nD Cert.ResnormPReferenceIdeal.τ).loc Cert.ResnormPReferenceIdeal.main_arg0) = m' ((c.tc : Thread Cert.ResnormPReferenceIdeal.nD Cert.ResnormPReferenceIdeal.τ).loc Cert.ResnormPReferenceIdeal.main_arg0)
          ∧ r.2.mem ((c.tc : Thread Cert.ResnormPReferenceIdeal.nD Cert.ResnormPReferenceIdeal.τ).loc Cert.ResnormPReferenceIdeal.main_arg1) = m' ((c.tc : Thread Cert.ResnormPReferenceIdeal.nD Cert.ResnormPReferenceIdeal.τ).loc Cert.ResnormPReferenceIdeal.main_arg1)
          ∧ r.2.mem ((c.tc : Thread Cert.ResnormPReferenceIdeal.nD Cert.ResnormPReferenceIdeal.τ).loc Cert.ResnormPReferenceIdeal.main_arg2) = m' ((c.tc : Thread Cert.ResnormPReferenceIdeal.nD Cert.ResnormPReferenceIdeal.τ).loc Cert.ResnormPReferenceIdeal.main_arg2)
          ∧ r.2.mem ((c.tc : Thread Cert.ResnormPReferenceIdeal.nD Cert.ResnormPReferenceIdeal.τ).loc Cert.ResnormPReferenceIdeal.main_arg3) = m' ((c.tc : Thread Cert.ResnormPReferenceIdeal.nD Cert.ResnormPReferenceIdeal.τ).loc Cert.ResnormPReferenceIdeal.main_arg3))

def preserves_ResnormS_ResnormSIdeal : Prop :=
  True

def algebraic_ResnormSIdeal_ResnormSReferenceIdeal [hResnormSIdeal : Cert.ResnormSIdeal.Facts] [hResnormSReferenceIdeal : Cert.ResnormSReferenceIdeal.Facts] : Prop :=
  ∀ (m : (ℓ : Loc Cert.ResnormSIdeal.nD Cert.ResnormSIdeal.τ Cert.ResnormSIdeal.sig) → Buf (Elt Ideal) ℓ) (g : Dev Cert.ResnormSIdeal.nD → PrngReg)
    (m' : (ℓ : Loc Cert.ResnormSReferenceIdeal.nD Cert.ResnormSReferenceIdeal.τ Cert.ResnormSReferenceIdeal.sig) → Buf (Elt Ideal) ℓ) (g' : Dev Cert.ResnormSReferenceIdeal.nD → PrngReg), Pre_ResnormSIdeal m →
    (∀ c : Dev Cert.ResnormSIdeal.nD,
      m' ((c.tc : Thread Cert.ResnormSReferenceIdeal.nD Cert.ResnormSReferenceIdeal.τ).loc Cert.ResnormSReferenceIdeal.main_arg0) = m ((c.tc : Thread Cert.ResnormSIdeal.nD Cert.ResnormSIdeal.τ).loc Cert.ResnormSIdeal.main_arg0)
      ∧ m' ((c.tc : Thread Cert.ResnormSReferenceIdeal.nD Cert.ResnormSReferenceIdeal.τ).loc Cert.ResnormSReferenceIdeal.main_arg1) = m ((c.tc : Thread Cert.ResnormSIdeal.nD Cert.ResnormSIdeal.τ).loc Cert.ResnormSIdeal.main_arg1)
      ∧ m' ((c.tc : Thread Cert.ResnormSReferenceIdeal.nD Cert.ResnormSReferenceIdeal.τ).loc Cert.ResnormSReferenceIdeal.main_arg2) = m ((c.tc : Thread Cert.ResnormSIdeal.nD Cert.ResnormSIdeal.τ).loc Cert.ResnormSIdeal.main_arg2)
      ∧ m' ((c.tc : Thread Cert.ResnormSReferenceIdeal.nD Cert.ResnormSReferenceIdeal.τ).loc Cert.ResnormSReferenceIdeal.main_arg3) = m ((c.tc : Thread Cert.ResnormSIdeal.nD Cert.ResnormSIdeal.τ).loc Cert.ResnormSIdeal.main_arg3)) →
    ∃ (v0 : (c : Dev Cert.ResnormSIdeal.nD) → Buf (Elt Ideal) ((c.tc : Thread Cert.ResnormSIdeal.nD Cert.ResnormSIdeal.τ).loc Cert.ResnormSIdeal.main_v2_0)) (v1 : (c : Dev Cert.ResnormSIdeal.nD) → Buf (Elt Ideal) ((c.tc : Thread Cert.ResnormSIdeal.nD Cert.ResnormSIdeal.τ).loc Cert.ResnormSIdeal.main_v2_1)),
      θ_run (Cert.ResnormSIdeal.defs (F := Ideal)) (onTc (τ := Cert.ResnormSIdeal.τ) (Cert.ResnormSIdeal.main (F := Ideal))) ⟨m, fun _ => 0, g⟩ (fun r => ∀ c : Dev Cert.ResnormSIdeal.nD,
          r.2.mem ((c.tc : Thread Cert.ResnormSIdeal.nD Cert.ResnormSIdeal.τ).loc Cert.ResnormSIdeal.main_v2_0) = v0 c
          ∧ r.2.mem ((c.tc : Thread Cert.ResnormSIdeal.nD Cert.ResnormSIdeal.τ).loc Cert.ResnormSIdeal.main_v2_1) = v1 c
          ∧ r.2.mem ((c.tc : Thread Cert.ResnormSIdeal.nD Cert.ResnormSIdeal.τ).loc Cert.ResnormSIdeal.main_arg0) = m ((c.tc : Thread Cert.ResnormSIdeal.nD Cert.ResnormSIdeal.τ).loc Cert.ResnormSIdeal.main_arg0)
          ∧ r.2.mem ((c.tc : Thread Cert.ResnormSIdeal.nD Cert.ResnormSIdeal.τ).loc Cert.ResnormSIdeal.main_arg1) = m ((c.tc : Thread Cert.ResnormSIdeal.nD Cert.ResnormSIdeal.τ).loc Cert.ResnormSIdeal.main_arg1)
          ∧ r.2.mem ((c.tc : Thread Cert.ResnormSIdeal.nD Cert.ResnormSIdeal.τ).loc Cert.ResnormSIdeal.main_arg2) = m ((c.tc : Thread Cert.ResnormSIdeal.nD Cert.ResnormSIdeal.τ).loc Cert.ResnormSIdeal.main_arg2)
          ∧ r.2.mem ((c.tc : Thread Cert.ResnormSIdeal.nD Cert.ResnormSIdeal.τ).loc Cert.ResnormSIdeal.main_arg3) = m ((c.tc : Thread Cert.ResnormSIdeal.nD Cert.ResnormSIdeal.τ).loc Cert.ResnormSIdeal.main_arg3))
      ∧ θ_run (Cert.ResnormSReferenceIdeal.defs (F := Ideal)) (onTc (τ := Cert.ResnormSReferenceIdeal.τ) (Cert.ResnormSReferenceIdeal.main (F := Ideal))) ⟨m', fun _ => 0, g'⟩ (fun r => ∀ c : Dev Cert.ResnormSReferenceIdeal.nD,
          r.2.mem ((c.tc : Thread Cert.ResnormSReferenceIdeal.nD Cert.ResnormSReferenceIdeal.τ).loc Cert.ResnormSReferenceIdeal.main_v13) = v0 c
          ∧ r.2.mem ((c.tc : Thread Cert.ResnormSReferenceIdeal.nD Cert.ResnormSReferenceIdeal.τ).loc Cert.ResnormSReferenceIdeal.main_v27) = v1 c
          ∧ r.2.mem ((c.tc : Thread Cert.ResnormSReferenceIdeal.nD Cert.ResnormSReferenceIdeal.τ).loc Cert.ResnormSReferenceIdeal.main_arg0) = m' ((c.tc : Thread Cert.ResnormSReferenceIdeal.nD Cert.ResnormSReferenceIdeal.τ).loc Cert.ResnormSReferenceIdeal.main_arg0)
          ∧ r.2.mem ((c.tc : Thread Cert.ResnormSReferenceIdeal.nD Cert.ResnormSReferenceIdeal.τ).loc Cert.ResnormSReferenceIdeal.main_arg1) = m' ((c.tc : Thread Cert.ResnormSReferenceIdeal.nD Cert.ResnormSReferenceIdeal.τ).loc Cert.ResnormSReferenceIdeal.main_arg1)
          ∧ r.2.mem ((c.tc : Thread Cert.ResnormSReferenceIdeal.nD Cert.ResnormSReferenceIdeal.τ).loc Cert.ResnormSReferenceIdeal.main_arg2) = m' ((c.tc : Thread Cert.ResnormSReferenceIdeal.nD Cert.ResnormSReferenceIdeal.τ).loc Cert.ResnormSReferenceIdeal.main_arg2)
          ∧ r.2.mem ((c.tc : Thread Cert.ResnormSReferenceIdeal.nD Cert.ResnormSReferenceIdeal.τ).loc Cert.ResnormSReferenceIdeal.main_arg3) = m' ((c.tc : Thread Cert.ResnormSReferenceIdeal.nD Cert.ResnormSReferenceIdeal.τ).loc Cert.ResnormSReferenceIdeal.main_arg3))

def preserves_ResP_ResPIdeal : Prop :=
  True

def algebraic_ResPIdeal_ResPReferenceIdeal [hResPIdeal : Cert.ResPIdeal.Facts] [hResPReferenceIdeal : Cert.ResPReferenceIdeal.Facts] : Prop :=
  ∀ (m : (ℓ : Loc Cert.ResPIdeal.nD Cert.ResPIdeal.τ Cert.ResPIdeal.sig) → Buf (Elt Ideal) ℓ) (g : Dev Cert.ResPIdeal.nD → PrngReg)
    (m' : (ℓ : Loc Cert.ResPReferenceIdeal.nD Cert.ResPReferenceIdeal.τ Cert.ResPReferenceIdeal.sig) → Buf (Elt Ideal) ℓ) (g' : Dev Cert.ResPReferenceIdeal.nD → PrngReg), Pre_ResPIdeal m →
    (∀ c : Dev Cert.ResPIdeal.nD,
      m' ((c.tc : Thread Cert.ResPReferenceIdeal.nD Cert.ResPReferenceIdeal.τ).loc Cert.ResPReferenceIdeal.main_arg0) = m ((c.tc : Thread Cert.ResPIdeal.nD Cert.ResPIdeal.τ).loc Cert.ResPIdeal.main_arg0)
      ∧ m' ((c.tc : Thread Cert.ResPReferenceIdeal.nD Cert.ResPReferenceIdeal.τ).loc Cert.ResPReferenceIdeal.main_arg1) = m ((c.tc : Thread Cert.ResPIdeal.nD Cert.ResPIdeal.τ).loc Cert.ResPIdeal.main_arg1)
      ∧ m' ((c.tc : Thread Cert.ResPReferenceIdeal.nD Cert.ResPReferenceIdeal.τ).loc Cert.ResPReferenceIdeal.main_arg2) = m ((c.tc : Thread Cert.ResPIdeal.nD Cert.ResPIdeal.τ).loc Cert.ResPIdeal.main_arg2)) →
    ∃ (v0 : (c : Dev Cert.ResPIdeal.nD) → Buf (Elt Ideal) ((c.tc : Thread Cert.ResPIdeal.nD Cert.ResPIdeal.τ).loc Cert.ResPIdeal.main_v1)),
      θ_run (Cert.ResPIdeal.defs (F := Ideal)) (onTc (τ := Cert.ResPIdeal.τ) (Cert.ResPIdeal.main (F := Ideal))) ⟨m, fun _ => 0, g⟩ (fun r => ∀ c : Dev Cert.ResPIdeal.nD,
          r.2.mem ((c.tc : Thread Cert.ResPIdeal.nD Cert.ResPIdeal.τ).loc Cert.ResPIdeal.main_v1) = v0 c
          ∧ r.2.mem ((c.tc : Thread Cert.ResPIdeal.nD Cert.ResPIdeal.τ).loc Cert.ResPIdeal.main_arg0) = m ((c.tc : Thread Cert.ResPIdeal.nD Cert.ResPIdeal.τ).loc Cert.ResPIdeal.main_arg0)
          ∧ r.2.mem ((c.tc : Thread Cert.ResPIdeal.nD Cert.ResPIdeal.τ).loc Cert.ResPIdeal.main_arg1) = m ((c.tc : Thread Cert.ResPIdeal.nD Cert.ResPIdeal.τ).loc Cert.ResPIdeal.main_arg1)
          ∧ r.2.mem ((c.tc : Thread Cert.ResPIdeal.nD Cert.ResPIdeal.τ).loc Cert.ResPIdeal.main_arg2) = m ((c.tc : Thread Cert.ResPIdeal.nD Cert.ResPIdeal.τ).loc Cert.ResPIdeal.main_arg2))
      ∧ θ_run (Cert.ResPReferenceIdeal.defs (F := Ideal)) (onTc (τ := Cert.ResPReferenceIdeal.τ) (Cert.ResPReferenceIdeal.main (F := Ideal))) ⟨m', fun _ => 0, g'⟩ (fun r => ∀ c : Dev Cert.ResPReferenceIdeal.nD,
          r.2.mem ((c.tc : Thread Cert.ResPReferenceIdeal.nD Cert.ResPReferenceIdeal.τ).loc Cert.ResPReferenceIdeal.main_v13) = v0 c
          ∧ r.2.mem ((c.tc : Thread Cert.ResPReferenceIdeal.nD Cert.ResPReferenceIdeal.τ).loc Cert.ResPReferenceIdeal.main_arg0) = m' ((c.tc : Thread Cert.ResPReferenceIdeal.nD Cert.ResPReferenceIdeal.τ).loc Cert.ResPReferenceIdeal.main_arg0)
          ∧ r.2.mem ((c.tc : Thread Cert.ResPReferenceIdeal.nD Cert.ResPReferenceIdeal.τ).loc Cert.ResPReferenceIdeal.main_arg1) = m' ((c.tc : Thread Cert.ResPReferenceIdeal.nD Cert.ResPReferenceIdeal.τ).loc Cert.ResPReferenceIdeal.main_arg1)
          ∧ r.2.mem ((c.tc : Thread Cert.ResPReferenceIdeal.nD Cert.ResPReferenceIdeal.τ).loc Cert.ResPReferenceIdeal.main_arg2) = m' ((c.tc : Thread Cert.ResPReferenceIdeal.nD Cert.ResPReferenceIdeal.τ).loc Cert.ResPReferenceIdeal.main_arg2))

def preserves_ResS_ResSIdeal : Prop :=
  True

def algebraic_ResSIdeal_ResSReferenceIdeal [hResSIdeal : Cert.ResSIdeal.Facts] [hResSReferenceIdeal : Cert.ResSReferenceIdeal.Facts] : Prop :=
  ∀ (m : (ℓ : Loc Cert.ResSIdeal.nD Cert.ResSIdeal.τ Cert.ResSIdeal.sig) → Buf (Elt Ideal) ℓ) (g : Dev Cert.ResSIdeal.nD → PrngReg)
    (m' : (ℓ : Loc Cert.ResSReferenceIdeal.nD Cert.ResSReferenceIdeal.τ Cert.ResSReferenceIdeal.sig) → Buf (Elt Ideal) ℓ) (g' : Dev Cert.ResSReferenceIdeal.nD → PrngReg), Pre_ResSIdeal m →
    (∀ c : Dev Cert.ResSIdeal.nD,
      m' ((c.tc : Thread Cert.ResSReferenceIdeal.nD Cert.ResSReferenceIdeal.τ).loc Cert.ResSReferenceIdeal.main_arg0) = m ((c.tc : Thread Cert.ResSIdeal.nD Cert.ResSIdeal.τ).loc Cert.ResSIdeal.main_arg0)
      ∧ m' ((c.tc : Thread Cert.ResSReferenceIdeal.nD Cert.ResSReferenceIdeal.τ).loc Cert.ResSReferenceIdeal.main_arg1) = m ((c.tc : Thread Cert.ResSIdeal.nD Cert.ResSIdeal.τ).loc Cert.ResSIdeal.main_arg1)
      ∧ m' ((c.tc : Thread Cert.ResSReferenceIdeal.nD Cert.ResSReferenceIdeal.τ).loc Cert.ResSReferenceIdeal.main_arg2) = m ((c.tc : Thread Cert.ResSIdeal.nD Cert.ResSIdeal.τ).loc Cert.ResSIdeal.main_arg2)) →
    ∃ (v0 : (c : Dev Cert.ResSIdeal.nD) → Buf (Elt Ideal) ((c.tc : Thread Cert.ResSIdeal.nD Cert.ResSIdeal.τ).loc Cert.ResSIdeal.main_v1)),
      θ_run (Cert.ResSIdeal.defs (F := Ideal)) (onTc (τ := Cert.ResSIdeal.τ) (Cert.ResSIdeal.main (F := Ideal))) ⟨m, fun _ => 0, g⟩ (fun r => ∀ c : Dev Cert.ResSIdeal.nD,
          r.2.mem ((c.tc : Thread Cert.ResSIdeal.nD Cert.ResSIdeal.τ).loc Cert.ResSIdeal.main_v1) = v0 c
          ∧ r.2.mem ((c.tc : Thread Cert.ResSIdeal.nD Cert.ResSIdeal.τ).loc Cert.ResSIdeal.main_arg0) = m ((c.tc : Thread Cert.ResSIdeal.nD Cert.ResSIdeal.τ).loc Cert.ResSIdeal.main_arg0)
          ∧ r.2.mem ((c.tc : Thread Cert.ResSIdeal.nD Cert.ResSIdeal.τ).loc Cert.ResSIdeal.main_arg1) = m ((c.tc : Thread Cert.ResSIdeal.nD Cert.ResSIdeal.τ).loc Cert.ResSIdeal.main_arg1)
          ∧ r.2.mem ((c.tc : Thread Cert.ResSIdeal.nD Cert.ResSIdeal.τ).loc Cert.ResSIdeal.main_arg2) = m ((c.tc : Thread Cert.ResSIdeal.nD Cert.ResSIdeal.τ).loc Cert.ResSIdeal.main_arg2))
      ∧ θ_run (Cert.ResSReferenceIdeal.defs (F := Ideal)) (onTc (τ := Cert.ResSReferenceIdeal.τ) (Cert.ResSReferenceIdeal.main (F := Ideal))) ⟨m', fun _ => 0, g'⟩ (fun r => ∀ c : Dev Cert.ResSReferenceIdeal.nD,
          r.2.mem ((c.tc : Thread Cert.ResSReferenceIdeal.nD Cert.ResSReferenceIdeal.τ).loc Cert.ResSReferenceIdeal.main_v13) = v0 c
          ∧ r.2.mem ((c.tc : Thread Cert.ResSReferenceIdeal.nD Cert.ResSReferenceIdeal.τ).loc Cert.ResSReferenceIdeal.main_arg0) = m' ((c.tc : Thread Cert.ResSReferenceIdeal.nD Cert.ResSReferenceIdeal.τ).loc Cert.ResSReferenceIdeal.main_arg0)
          ∧ r.2.mem ((c.tc : Thread Cert.ResSReferenceIdeal.nD Cert.ResSReferenceIdeal.τ).loc Cert.ResSReferenceIdeal.main_arg1) = m' ((c.tc : Thread Cert.ResSReferenceIdeal.nD Cert.ResSReferenceIdeal.τ).loc Cert.ResSReferenceIdeal.main_arg1)
          ∧ r.2.mem ((c.tc : Thread Cert.ResSReferenceIdeal.nD Cert.ResSReferenceIdeal.τ).loc Cert.ResSReferenceIdeal.main_arg2) = m' ((c.tc : Thread Cert.ResSReferenceIdeal.nD Cert.ResSReferenceIdeal.τ).loc Cert.ResSReferenceIdeal.main_arg2))

def preserves_ConvS_ConvSIdeal : Prop :=
  True

def algebraic_ConvSIdeal_ConvSReferenceIdeal [hConvSIdeal : Cert.ConvSIdeal.Facts] [hConvSReferenceIdeal : Cert.ConvSReferenceIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSReferenceIdeal.nD Cert.ConvSReferenceIdeal.τ Cert.ConvSReferenceIdeal.sig) → Buf (Elt Ideal) ℓ) (g' : Dev Cert.ConvSReferenceIdeal.nD → PrngReg), Pre_ConvSIdeal m →
    (∀ c : Dev Cert.ConvSIdeal.nD,
      m' ((c.tc : Thread Cert.ConvSReferenceIdeal.nD Cert.ConvSReferenceIdeal.τ).loc Cert.ConvSReferenceIdeal.main_arg0) = m ((c.tc : Thread Cert.ConvSIdeal.nD Cert.ConvSIdeal.τ).loc Cert.ConvSIdeal.main_arg0)
      ∧ m' ((c.tc : Thread Cert.ConvSReferenceIdeal.nD Cert.ConvSReferenceIdeal.τ).loc Cert.ConvSReferenceIdeal.main_arg1) = m ((c.tc : Thread Cert.ConvSIdeal.nD Cert.ConvSIdeal.τ).loc Cert.ConvSIdeal.main_arg1)
      ∧ m' ((c.tc : Thread Cert.ConvSReferenceIdeal.nD Cert.ConvSReferenceIdeal.τ).loc Cert.ConvSReferenceIdeal.main_arg2) = m ((c.tc : Thread Cert.ConvSIdeal.nD Cert.ConvSIdeal.τ).loc Cert.ConvSIdeal.main_arg2)
      ∧ m' ((c.tc : Thread Cert.ConvSReferenceIdeal.nD Cert.ConvSReferenceIdeal.τ).loc Cert.ConvSReferenceIdeal.main_arg3) = m ((c.tc : Thread Cert.ConvSIdeal.nD Cert.ConvSIdeal.τ).loc Cert.ConvSIdeal.main_arg3)
      ∧ m' ((c.tc : Thread Cert.ConvSReferenceIdeal.nD Cert.ConvSReferenceIdeal.τ).loc Cert.ConvSReferenceIdeal.main_arg4) = m ((c.tc : Thread Cert.ConvSIdeal.nD Cert.ConvSIdeal.τ).loc Cert.ConvSIdeal.main_arg4)
      ∧ m' ((c.tc : Thread Cert.ConvSReferenceIdeal.nD Cert.ConvSReferenceIdeal.τ).loc Cert.ConvSReferenceIdeal.main_arg5) = m ((c.tc : Thread Cert.ConvSIdeal.nD Cert.ConvSIdeal.τ).loc Cert.ConvSIdeal.main_arg5)) →
    ∃ (v0 : (c : Dev Cert.ConvSIdeal.nD) → Buf (Elt Ideal) ((c.tc : Thread Cert.ConvSIdeal.nD Cert.ConvSIdeal.τ).loc Cert.ConvSIdeal.main_v3_0)) (v1 : (c : Dev Cert.ConvSIdeal.nD) → Buf (Elt Ideal) ((c.tc : Thread Cert.ConvSIdeal.nD Cert.ConvSIdeal.τ).loc Cert.ConvSIdeal.main_v3_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v3_0) = v0 c
          ∧ r.2.mem ((c.tc : Thread Cert.ConvSIdeal.nD Cert.ConvSIdeal.τ).loc Cert.ConvSIdeal.main_v3_1) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ θ_run (Cert.ConvSReferenceIdeal.defs (F := Ideal)) (onTc (τ := Cert.ConvSReferenceIdeal.τ) (Cert.ConvSReferenceIdeal.main (F := Ideal))) ⟨m', fun _ => 0, g'⟩ (fun r => ∀ c : Dev Cert.ConvSReferenceIdeal.nD,
          r.2.mem ((c.tc : Thread Cert.ConvSReferenceIdeal.nD Cert.ConvSReferenceIdeal.τ).loc Cert.ConvSReferenceIdeal.main_v255) = v0 c
          ∧ r.2.mem ((c.tc : Thread Cert.ConvSReferenceIdeal.nD Cert.ConvSReferenceIdeal.τ).loc Cert.ConvSReferenceIdeal.main_v256) = v1 c
          ∧ r.2.mem ((c.tc : Thread Cert.ConvSReferenceIdeal.nD Cert.ConvSReferenceIdeal.τ).loc Cert.ConvSReferenceIdeal.main_arg0) = m' ((c.tc : Thread Cert.ConvSReferenceIdeal.nD Cert.ConvSReferenceIdeal.τ).loc Cert.ConvSReferenceIdeal.main_arg0)
          ∧ r.2.mem ((c.tc : Thread Cert.ConvSReferenceIdeal.nD Cert.ConvSReferenceIdeal.τ).loc Cert.ConvSReferenceIdeal.main_arg1) = m' ((c.tc : Thread Cert.ConvSReferenceIdeal.nD Cert.ConvSReferenceIdeal.τ).loc Cert.ConvSReferenceIdeal.main_arg1)
          ∧ r.2.mem ((c.tc : Thread Cert.ConvSReferenceIdeal.nD Cert.ConvSReferenceIdeal.τ).loc Cert.ConvSReferenceIdeal.main_arg2) = m' ((c.tc : Thread Cert.ConvSReferenceIdeal.nD Cert.ConvSReferenceIdeal.τ).loc Cert.ConvSReferenceIdeal.main_arg2)
          ∧ r.2.mem ((c.tc : Thread Cert.ConvSReferenceIdeal.nD Cert.ConvSReferenceIdeal.τ).loc Cert.ConvSReferenceIdeal.main_arg3) = m' ((c.tc : Thread Cert.ConvSReferenceIdeal.nD Cert.ConvSReferenceIdeal.τ).loc Cert.ConvSReferenceIdeal.main_arg3)
          ∧ r.2.mem ((c.tc : Thread Cert.ConvSReferenceIdeal.nD Cert.ConvSReferenceIdeal.τ).loc Cert.ConvSReferenceIdeal.main_arg4) = m' ((c.tc : Thread Cert.ConvSReferenceIdeal.nD Cert.ConvSReferenceIdeal.τ).loc Cert.ConvSReferenceIdeal.main_arg4)
          ∧ r.2.mem ((c.tc : Thread Cert.ConvSReferenceIdeal.nD Cert.ConvSReferenceIdeal.τ).loc Cert.ConvSReferenceIdeal.main_arg5) = m' ((c.tc : Thread Cert.ConvSReferenceIdeal.nD Cert.ConvSReferenceIdeal.τ).loc Cert.ConvSReferenceIdeal.main_arg5))

def preserves_GlaS_GlaSIdeal : Prop :=
  True

def algebraic_GlaSIdeal_GlaSReferenceIdeal [hGlaSIdeal : Cert.GlaSIdeal.Facts] [hGlaSReferenceIdeal : Cert.GlaSReferenceIdeal.Facts] : Prop :=
  ∀ (m : (ℓ : Loc Cert.GlaSIdeal.nD Cert.GlaSIdeal.τ Cert.GlaSIdeal.sig) → Buf (Elt Ideal) ℓ) (g : Dev Cert.GlaSIdeal.nD → PrngReg)
    (m' : (ℓ : Loc Cert.GlaSReferenceIdeal.nD Cert.GlaSReferenceIdeal.τ Cert.GlaSReferenceIdeal.sig) → Buf (Elt Ideal) ℓ) (g' : Dev Cert.GlaSReferenceIdeal.nD → PrngReg), Pre_GlaSIdeal m →
    (∀ c : Dev Cert.GlaSIdeal.nD,
      m' ((c.tc : Thread Cert.GlaSReferenceIdeal.nD Cert.GlaSReferenceIdeal.τ).loc Cert.GlaSReferenceIdeal.main_arg0) = m ((c.tc : Thread Cert.GlaSIdeal.nD Cert.GlaSIdeal.τ).loc Cert.GlaSIdeal.main_arg0)
      ∧ m' ((c.tc : Thread Cert.GlaSReferenceIdeal.nD Cert.GlaSReferenceIdeal.τ).loc Cert.GlaSReferenceIdeal.main_arg1) = m ((c.tc : Thread Cert.GlaSIdeal.nD Cert.GlaSIdeal.τ).loc Cert.GlaSIdeal.main_arg1)
      ∧ m' ((c.tc : Thread Cert.GlaSReferenceIdeal.nD Cert.GlaSReferenceIdeal.τ).loc Cert.GlaSReferenceIdeal.main_arg2) = m ((c.tc : Thread Cert.GlaSIdeal.nD Cert.GlaSIdeal.τ).loc Cert.GlaSIdeal.main_arg2)
      ∧ m' ((c.tc : Thread Cert.GlaSReferenceIdeal.nD Cert.GlaSReferenceIdeal.τ).loc Cert.GlaSReferenceIdeal.main_arg3) = m ((c.tc : Thread Cert.GlaSIdeal.nD Cert.GlaSIdeal.τ).loc Cert.GlaSIdeal.main_arg3)) →
    ∃ (v0 : (c : Dev Cert.GlaSIdeal.nD) → Buf (Elt Ideal) ((c.tc : Thread Cert.GlaSIdeal.nD Cert.GlaSIdeal.τ).loc Cert.GlaSIdeal.main_v1_0)) (v1 : (c : Dev Cert.GlaSIdeal.nD) → Buf (Elt Ideal) ((c.tc : Thread Cert.GlaSIdeal.nD Cert.GlaSIdeal.τ).loc Cert.GlaSIdeal.main_v1_1)),
      θ_run (Cert.GlaSIdeal.defs (F := Ideal)) (onTc (τ := Cert.GlaSIdeal.τ) (Cert.GlaSIdeal.main (F := Ideal))) ⟨m, fun _ => 0, g⟩ (fun r => ∀ c : Dev Cert.GlaSIdeal.nD,
          r.2.mem ((c.tc : Thread Cert.GlaSIdeal.nD Cert.GlaSIdeal.τ).loc Cert.GlaSIdeal.main_v1_0) = v0 c
          ∧ r.2.mem ((c.tc : Thread Cert.GlaSIdeal.nD Cert.GlaSIdeal.τ).loc Cert.GlaSIdeal.main_v1_1) = v1 c
          ∧ r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
          ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
          ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
          ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3))
      ∧ θ_run (Cert.GlaSReferenceIdeal.defs (F := Ideal)) (onTc (τ := Cert.GlaSReferenceIdeal.τ) (Cert.GlaSReferenceIdeal.main (F := Ideal))) ⟨m', fun _ => 0, g'⟩ (fun r => ∀ c : Dev Cert.GlaSReferenceIdeal.nD,
          r.2.mem ((c.tc : Thread Cert.GlaSReferenceIdeal.nD Cert.GlaSReferenceIdeal.τ).loc Cert.GlaSReferenceIdeal.main_v64) = v0 c
          ∧ r.2.mem ((c.tc : Thread Cert.GlaSReferenceIdeal.nD Cert.GlaSReferenceIdeal.τ).loc Cert.GlaSReferenceIdeal.main_v46) = v1 c
          ∧ r.2.mem ((c.tc : Thread Cert.GlaSReferenceIdeal.nD Cert.GlaSReferenceIdeal.τ).loc Cert.GlaSReferenceIdeal.main_arg0) = m' ((c.tc : Thread Cert.GlaSReferenceIdeal.nD Cert.GlaSReferenceIdeal.τ).loc Cert.GlaSReferenceIdeal.main_arg0)
          ∧ r.2.mem ((c.tc : Thread Cert.GlaSReferenceIdeal.nD Cert.GlaSReferenceIdeal.τ).loc Cert.GlaSReferenceIdeal.main_arg1) = m' ((c.tc : Thread Cert.GlaSReferenceIdeal.nD Cert.GlaSReferenceIdeal.τ).loc Cert.GlaSReferenceIdeal.main_arg1)
          ∧ r.2.mem ((c.tc : Thread Cert.GlaSReferenceIdeal.nD Cert.GlaSReferenceIdeal.τ).loc Cert.GlaSReferenceIdeal.main_arg2) = m' ((c.tc : Thread Cert.GlaSReferenceIdeal.nD Cert.GlaSReferenceIdeal.τ).loc Cert.GlaSReferenceIdeal.main_arg2)
          ∧ r.2.mem ((c.tc : Thread Cert.GlaSReferenceIdeal.nD Cert.GlaSReferenceIdeal.τ).loc Cert.GlaSReferenceIdeal.main_arg3) = m' ((c.tc : Thread Cert.GlaSReferenceIdeal.nD Cert.GlaSReferenceIdeal.τ).loc Cert.GlaSReferenceIdeal.main_arg3))

def preserves_ConvP_ConvPIdeal : Prop :=
  True

def algebraic_ConvPIdeal_ConvPReferenceIdeal [hConvPIdeal : Cert.ConvPIdeal.Facts] [hConvPReferenceIdeal : Cert.ConvPReferenceIdeal.Facts] : Prop :=
  ∀ (m : (ℓ : Loc Cert.ConvPIdeal.nD Cert.ConvPIdeal.τ Cert.ConvPIdeal.sig) → Buf (Elt Ideal) ℓ) (g : Dev Cert.ConvPIdeal.nD → PrngReg)
    (m' : (ℓ : Loc Cert.ConvPReferenceIdeal.nD Cert.ConvPReferenceIdeal.τ Cert.ConvPReferenceIdeal.sig) → Buf (Elt Ideal) ℓ) (g' : Dev Cert.ConvPReferenceIdeal.nD → PrngReg), Pre_ConvPIdeal m →
    (∀ c : Dev Cert.ConvPIdeal.nD,
      m' ((c.tc : Thread Cert.ConvPReferenceIdeal.nD Cert.ConvPReferenceIdeal.τ).loc Cert.ConvPReferenceIdeal.main_arg0) = m ((c.tc : Thread Cert.ConvPIdeal.nD Cert.ConvPIdeal.τ).loc Cert.ConvPIdeal.main_arg0)
      ∧ m' ((c.tc : Thread Cert.ConvPReferenceIdeal.nD Cert.ConvPReferenceIdeal.τ).loc Cert.ConvPReferenceIdeal.main_arg1) = m ((c.tc : Thread Cert.ConvPIdeal.nD Cert.ConvPIdeal.τ).loc Cert.ConvPIdeal.main_arg1)
      ∧ m' ((c.tc : Thread Cert.ConvPReferenceIdeal.nD Cert.ConvPReferenceIdeal.τ).loc Cert.ConvPReferenceIdeal.main_arg2) = m ((c.tc : Thread Cert.ConvPIdeal.nD Cert.ConvPIdeal.τ).loc Cert.ConvPIdeal.main_arg2)
      ∧ m' ((c.tc : Thread Cert.ConvPReferenceIdeal.nD Cert.ConvPReferenceIdeal.τ).loc Cert.ConvPReferenceIdeal.main_arg3) = m ((c.tc : Thread Cert.ConvPIdeal.nD Cert.ConvPIdeal.τ).loc Cert.ConvPIdeal.main_arg3)
      ∧ m' ((c.tc : Thread Cert.ConvPReferenceIdeal.nD Cert.ConvPReferenceIdeal.τ).loc Cert.ConvPReferenceIdeal.main_arg4) = m ((c.tc : Thread Cert.ConvPIdeal.nD Cert.ConvPIdeal.τ).loc Cert.ConvPIdeal.main_arg4)
      ∧ m' ((c.tc : Thread Cert.ConvPReferenceIdeal.nD Cert.ConvPReferenceIdeal.τ).loc Cert.ConvPReferenceIdeal.main_arg5) = m ((c.tc : Thread Cert.ConvPIdeal.nD Cert.ConvPIdeal.τ).loc Cert.ConvPIdeal.main_arg5)) →
    ∃ (v0 : (c : Dev Cert.ConvPIdeal.nD) → Buf (Elt Ideal) ((c.tc : Thread Cert.ConvPIdeal.nD Cert.ConvPIdeal.τ).loc Cert.ConvPIdeal.main_v3_0)) (v1 : (c : Dev Cert.ConvPIdeal.nD) → Buf (Elt Ideal) ((c.tc : Thread Cert.ConvPIdeal.nD Cert.ConvPIdeal.τ).loc Cert.ConvPIdeal.main_v3_1)),
      θ_run (Cert.ConvPIdeal.defs (F := Ideal)) (onTc (τ := Cert.ConvPIdeal.τ) (Cert.ConvPIdeal.main (F := Ideal))) ⟨m, fun _ => 0, g⟩ (fun r => ∀ c : Dev Cert.ConvPIdeal.nD,
          r.2.mem ((c.tc : Thread Cert.ConvPIdeal.nD Cert.ConvPIdeal.τ).loc Cert.ConvPIdeal.main_v3_0) = v0 c
          ∧ r.2.mem ((c.tc : Thread Cert.ConvPIdeal.nD Cert.ConvPIdeal.τ).loc Cert.ConvPIdeal.main_v3_1) = v1 c
          ∧ r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
          ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
          ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
          ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
          ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4)
          ∧ r.2.mem ((c.tc : Thread Cert.ConvPIdeal.nD Cert.ConvPIdeal.τ).loc Cert.ConvPIdeal.main_arg5) = m ((c.tc : Thread Cert.ConvPIdeal.nD Cert.ConvPIdeal.τ).loc Cert.ConvPIdeal.main_arg5))
      ∧ θ_run (Cert.ConvPReferenceIdeal.defs (F := Ideal)) (onTc (τ := Cert.ConvPReferenceIdeal.τ) (Cert.ConvPReferenceIdeal.main (F := Ideal))) ⟨m', fun _ => 0, g'⟩ (fun r => ∀ c : Dev Cert.ConvPReferenceIdeal.nD,
          r.2.mem ((c.tc : Thread Cert.ConvPReferenceIdeal.nD Cert.ConvPReferenceIdeal.τ).loc Cert.ConvPReferenceIdeal.main_v256) = v0 c
          ∧ r.2.mem ((c.tc : Thread Cert.ConvPReferenceIdeal.nD Cert.ConvPReferenceIdeal.τ).loc Cert.ConvPReferenceIdeal.main_v257) = v1 c
          ∧ r.2.mem ((c.tc : Thread Cert.ConvPReferenceIdeal.nD Cert.ConvPReferenceIdeal.τ).loc Cert.ConvPReferenceIdeal.main_arg0) = m' ((c.tc : Thread Cert.ConvPReferenceIdeal.nD Cert.ConvPReferenceIdeal.τ).loc Cert.ConvPReferenceIdeal.main_arg0)
          ∧ r.2.mem ((c.tc : Thread Cert.ConvPReferenceIdeal.nD Cert.ConvPReferenceIdeal.τ).loc Cert.ConvPReferenceIdeal.main_arg1) = m' ((c.tc : Thread Cert.ConvPReferenceIdeal.nD Cert.ConvPReferenceIdeal.τ).loc Cert.ConvPReferenceIdeal.main_arg1)
          ∧ r.2.mem ((c.tc : Thread Cert.ConvPReferenceIdeal.nD Cert.ConvPReferenceIdeal.τ).loc Cert.ConvPReferenceIdeal.main_arg2) = m' ((c.tc : Thread Cert.ConvPReferenceIdeal.nD Cert.ConvPReferenceIdeal.τ).loc Cert.ConvPReferenceIdeal.main_arg2)
          ∧ r.2.mem ((c.tc : Thread Cert.ConvPReferenceIdeal.nD Cert.ConvPReferenceIdeal.τ).loc Cert.ConvPReferenceIdeal.main_arg3) = m' ((c.tc : Thread Cert.ConvPReferenceIdeal.nD Cert.ConvPReferenceIdeal.τ).loc Cert.ConvPReferenceIdeal.main_arg3)
          ∧ r.2.mem ((c.tc : Thread Cert.ConvPReferenceIdeal.nD Cert.ConvPReferenceIdeal.τ).loc Cert.ConvPReferenceIdeal.main_arg4) = m' ((c.tc : Thread Cert.ConvPReferenceIdeal.nD Cert.ConvPReferenceIdeal.τ).loc Cert.ConvPReferenceIdeal.main_arg4)
          ∧ r.2.mem ((c.tc : Thread Cert.ConvPReferenceIdeal.nD Cert.ConvPReferenceIdeal.τ).loc Cert.ConvPReferenceIdeal.main_arg5) = m' ((c.tc : Thread Cert.ConvPReferenceIdeal.nD Cert.ConvPReferenceIdeal.τ).loc Cert.ConvPReferenceIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hKProj : Cert.KProj.Facts) (hKProjIdeal : Cert.KProjIdeal.Facts) (hKProjReferenceIdeal : Cert.KProjReferenceIdeal.Facts) (hVProj : Cert.VProj.Facts) (hVProjIdeal : Cert.VProjIdeal.Facts) (hVProjReferenceIdeal : Cert.VProjReferenceIdeal.Facts) (hQProj : Cert.QProj.Facts) (hQProjIdeal : Cert.QProjIdeal.Facts) (hQProjReferenceIdeal : Cert.QProjReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hGluProj : Cert.GluProj.Facts) (hGluProjIdeal : Cert.GluProjIdeal.Facts) (hGluProjReferenceIdeal : Cert.GluProjReferenceIdeal.Facts) (hNormP : Cert.NormP.Facts) (hNormPIdeal : Cert.NormPIdeal.Facts) (hNormPReferenceIdeal : Cert.NormPReferenceIdeal.Facts) (hNormS : Cert.NormS.Facts) (hNormSIdeal : Cert.NormSIdeal.Facts) (hNormSReferenceIdeal : Cert.NormSReferenceIdeal.Facts) (hResnormP : Cert.ResnormP.Facts) (hResnormPIdeal : Cert.ResnormPIdeal.Facts) (hResnormPReferenceIdeal : Cert.ResnormPReferenceIdeal.Facts) (hResnormS : Cert.ResnormS.Facts) (hResnormSIdeal : Cert.ResnormSIdeal.Facts) (hResnormSReferenceIdeal : Cert.ResnormSReferenceIdeal.Facts) (hResP : Cert.ResP.Facts) (hResPIdeal : Cert.ResPIdeal.Facts) (hResPReferenceIdeal : Cert.ResPReferenceIdeal.Facts) (hResS : Cert.ResS.Facts) (hResSIdeal : Cert.ResSIdeal.Facts) (hResSReferenceIdeal : Cert.ResSReferenceIdeal.Facts) (hConvS : Cert.ConvS.Facts) (hConvSIdeal : Cert.ConvSIdeal.Facts) (hConvSReferenceIdeal : Cert.ConvSReferenceIdeal.Facts) (hGlaS : Cert.GlaS.Facts) (hGlaSIdeal : Cert.GlaSIdeal.Facts) (hGlaSReferenceIdeal : Cert.GlaSReferenceIdeal.Facts) (hConvP : Cert.ConvP.Facts) (hConvPIdeal : Cert.ConvPIdeal.Facts) (hConvPReferenceIdeal : Cert.ConvPReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_KProj (hKProj := hKProj)
    ∧ quiescent_KProjIdeal (hKProjIdeal := hKProjIdeal)
    ∧ quiescent_KProjReferenceIdeal (hKProjReferenceIdeal := hKProjReferenceIdeal)
    ∧ quiescent_VProj (hVProj := hVProj)
    ∧ quiescent_VProjIdeal (hVProjIdeal := hVProjIdeal)
    ∧ quiescent_VProjReferenceIdeal (hVProjReferenceIdeal := hVProjReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_GluProj (hGluProj := hGluProj)
    ∧ quiescent_GluProjIdeal (hGluProjIdeal := hGluProjIdeal)
    ∧ quiescent_GluProjReferenceIdeal (hGluProjReferenceIdeal := hGluProjReferenceIdeal)
    ∧ quiescent_NormP (hNormP := hNormP)
    ∧ quiescent_NormPIdeal (hNormPIdeal := hNormPIdeal)
    ∧ quiescent_NormPReferenceIdeal (hNormPReferenceIdeal := hNormPReferenceIdeal)
    ∧ quiescent_NormS (hNormS := hNormS)
    ∧ quiescent_NormSIdeal (hNormSIdeal := hNormSIdeal)
    ∧ quiescent_NormSReferenceIdeal (hNormSReferenceIdeal := hNormSReferenceIdeal)
    ∧ quiescent_ResnormP (hResnormP := hResnormP)
    ∧ quiescent_ResnormPIdeal (hResnormPIdeal := hResnormPIdeal)
    ∧ quiescent_ResnormPReferenceIdeal (hResnormPReferenceIdeal := hResnormPReferenceIdeal)
    ∧ quiescent_ResnormS (hResnormS := hResnormS)
    ∧ quiescent_ResnormSIdeal (hResnormSIdeal := hResnormSIdeal)
    ∧ quiescent_ResnormSReferenceIdeal (hResnormSReferenceIdeal := hResnormSReferenceIdeal)
    ∧ quiescent_ResP (hResP := hResP)
    ∧ quiescent_ResPIdeal (hResPIdeal := hResPIdeal)
    ∧ quiescent_ResPReferenceIdeal (hResPReferenceIdeal := hResPReferenceIdeal)
    ∧ quiescent_ResS (hResS := hResS)
    ∧ quiescent_ResSIdeal (hResSIdeal := hResSIdeal)
    ∧ quiescent_ResSReferenceIdeal (hResSReferenceIdeal := hResSReferenceIdeal)
    ∧ quiescent_ConvS (hConvS := hConvS)
    ∧ quiescent_ConvSIdeal (hConvSIdeal := hConvSIdeal)
    ∧ quiescent_ConvSReferenceIdeal (hConvSReferenceIdeal := hConvSReferenceIdeal)
    ∧ quiescent_GlaS (hGlaS := hGlaS)
    ∧ quiescent_GlaSIdeal (hGlaSIdeal := hGlaSIdeal)
    ∧ quiescent_GlaSReferenceIdeal (hGlaSReferenceIdeal := hGlaSReferenceIdeal)
    ∧ quiescent_ConvP (hConvP := hConvP)
    ∧ quiescent_ConvPIdeal (hConvPIdeal := hConvPIdeal)
    ∧ quiescent_ConvPReferenceIdeal (hConvPReferenceIdeal := hConvPReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_KProj_KProjIdeal
    ∧ algebraic_KProjIdeal_KProjReferenceIdeal (hKProjIdeal := hKProjIdeal) (hKProjReferenceIdeal := hKProjReferenceIdeal)
    ∧ preserves_VProj_VProjIdeal
    ∧ algebraic_VProjIdeal_VProjReferenceIdeal (hVProjIdeal := hVProjIdeal) (hVProjReferenceIdeal := hVProjReferenceIdeal)
    ∧ preserves_QProj_QProjIdeal
    ∧ algebraic_QProjIdeal_QProjReferenceIdeal (hQProjIdeal := hQProjIdeal) (hQProjReferenceIdeal := hQProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_InProj_InProjIdeal
    ∧ algebraic_InProjIdeal_InProjReferenceIdeal (hInProjIdeal := hInProjIdeal) (hInProjReferenceIdeal := hInProjReferenceIdeal)
    ∧ preserves_GluProj_GluProjIdeal
    ∧ algebraic_GluProjIdeal_GluProjReferenceIdeal (hGluProjIdeal := hGluProjIdeal) (hGluProjReferenceIdeal := hGluProjReferenceIdeal)
    ∧ preserves_NormP_NormPIdeal
    ∧ algebraic_NormPIdeal_NormPReferenceIdeal (hNormPIdeal := hNormPIdeal) (hNormPReferenceIdeal := hNormPReferenceIdeal)
    ∧ preserves_NormS_NormSIdeal
    ∧ algebraic_NormSIdeal_NormSReferenceIdeal (hNormSIdeal := hNormSIdeal) (hNormSReferenceIdeal := hNormSReferenceIdeal)
    ∧ preserves_ResnormP_ResnormPIdeal
    ∧ algebraic_ResnormPIdeal_ResnormPReferenceIdeal (hResnormPIdeal := hResnormPIdeal) (hResnormPReferenceIdeal := hResnormPReferenceIdeal)
    ∧ preserves_ResnormS_ResnormSIdeal
    ∧ algebraic_ResnormSIdeal_ResnormSReferenceIdeal (hResnormSIdeal := hResnormSIdeal) (hResnormSReferenceIdeal := hResnormSReferenceIdeal)
    ∧ preserves_ResP_ResPIdeal
    ∧ algebraic_ResPIdeal_ResPReferenceIdeal (hResPIdeal := hResPIdeal) (hResPReferenceIdeal := hResPReferenceIdeal)
    ∧ preserves_ResS_ResSIdeal
    ∧ algebraic_ResSIdeal_ResSReferenceIdeal (hResSIdeal := hResSIdeal) (hResSReferenceIdeal := hResSReferenceIdeal)
    ∧ preserves_ConvS_ConvSIdeal
    ∧ algebraic_ConvSIdeal_ConvSReferenceIdeal (hConvSIdeal := hConvSIdeal) (hConvSReferenceIdeal := hConvSReferenceIdeal)
    ∧ preserves_GlaS_GlaSIdeal
    ∧ algebraic_GlaSIdeal_GlaSReferenceIdeal (hGlaSIdeal := hGlaSIdeal) (hGlaSReferenceIdeal := hGlaSReferenceIdeal)
    ∧ preserves_ConvP_ConvPIdeal
    ∧ algebraic_ConvPIdeal_ConvPReferenceIdeal (hConvPIdeal := hConvPIdeal) (hConvPReferenceIdeal := hConvPReferenceIdeal)
-- ==== Pre_finite_logits.lean ====
abbrev S8256x4096 : Shape := ⟨2, ![8256, 4096]⟩
abbrev S32 : Shape := ⟨1, ![32]⟩
abbrev S_ : Shape := ⟨0, ![]⟩

class Facts : Prop where
  bitsLt_bf16_f32 : FTy.bits .bf16 < FTy.bits .f32
  bcast_S_S8256x4096 : S_.BroadcastsInDim S8256x4096 (![] : Fin 0 → Fin S8256x4096.rank)
  bcast_S_S32 : S_.BroadcastsInDim S32 (![] : Fin 0 → Fin S32.rank)

variable [Facts]

def fn {F : FTy → Type} [FloatOps F] (main_arg0 : FVec F S8256x4096 .bf16) (main_arg1 : FVec F S8256x4096 .f32) (main_arg2 : FVec F S8256x4096 .f32) (main_arg3 : FVec F S32 .f32) : IVec S8256x4096 1 × IVec S8256x4096 1 × IVec S32 1 :=
  let main_v0 : FVec F S8256x4096 .f32 := (extf .f32 · bitsLt_bf16_f32) main_arg0
  let main_v1 : FVec F S8256x4096 .f32 := Host.absf main_v0
  let main_cst : FVec F S_ .f32 := constant S_ .f32 0x7F800000#32
  let main_v2 : FVec F S8256x4096 .f32 := broadcastInDim S8256x4096 ![] bcast_S_S8256x4096 main_cst
  let main_v3 : IVec S8256x4096 1 := cmpf .olt main_v1 main_v2
  let main_v4 : FVec F S8256x4096 .f32 := Host.absf main_arg1
  let main_cst_0 : FVec F S_ .f32 := constant S_ .f32 0x7F800000#32
  let main_v5 : FVec F S8256x4096 .f32 := broadcastInDim S8256x4096 ![] bcast_S_S8256x4096 main_cst_0
  let main_v6 : IVec S8256x4096 1 := cmpf .olt main_v4 main_v5
  let main_v7 : FVec F S32 .f32 := Host.absf main_arg3
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  (main_v3, main_v6, main_v9)
-- ==== Kernel.lean ====
abbrev S8256x4096 : Shape := ⟨2, ![8256, 4096]⟩
abbrev S32 : Shape := ⟨1, ![32]⟩
abbrev S2064x128 : Shape := ⟨2, ![2064, 128]⟩
abbrev S2304x128 : Shape := ⟨2, ![2304, 128]⟩
abbrev S1 : Shape := ⟨1, ![1]⟩
abbrev S240x128 : Shape := ⟨2, ![240, 128]⟩
abbrev S256x256 : Shape := ⟨2, ![256, 256]⟩
abbrev S256x128 : Shape := ⟨2, ![256, 128]⟩
abbrev S16x128 : Shape := ⟨2, ![16, 128]⟩
abbrev S16x256 : Shape := ⟨2, ![16, 256]⟩

abbrev nBuf : Space → Nat
  | .hbm => 5
  | .vmem => 10
  | .smem => 1
  | _ => 0

abbrev bufTy : (tb : Table) → Fin (tcTables nBuf tb) → BufTy
  | .hbm, ⟨0, _⟩ => ⟨S8256x4096, .bf16⟩
  | .hbm, ⟨1, _⟩ => ⟨S8256x4096, .f32⟩
  | .hbm, ⟨2, _⟩ => ⟨S8256x4096, .f32⟩
  | .hbm, ⟨3, _⟩ => ⟨S32, .f32⟩
  | .hbm, ⟨4, _⟩ => ⟨S8256x4096, .bf16⟩
  | .local _ .vmem, ⟨0, _⟩ => ⟨S2064x128, .bf16⟩
  | .local _ .vmem, ⟨1, _⟩ => ⟨S2064x128, .bf16⟩
  | .local _ .vmem, ⟨2, _⟩ => ⟨S2064x128, .f32⟩
  | .local _ .vmem, ⟨3, _⟩ => ⟨S2064x128, .f32⟩
  | .local _ .vmem, ⟨4, _⟩ => ⟨S2064x128, .f32⟩
  | .local _ .vmem, ⟨5, _⟩ => ⟨S2064x128, .f32⟩
  | .local _ .vmem, ⟨6, _⟩ => ⟨S2064x128, .bf16⟩
  | .local _ .vmem, ⟨7, _⟩ => ⟨S2064x128, .bf16⟩
  | .local _ .vmem, ⟨8, _⟩ => ⟨S2304x128, .bf16⟩
  | .local _ .vmem, ⟨9, _⟩ => ⟨S2304x128, .bf16⟩
  | .local _ .smem, ⟨0, _⟩ => ⟨S32, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32 : BitVec 32 := 0#32
  let c8_i32 : BitVec 32 := 8#32
  let v28 : BitVec 32 := Scalar.addi c0_i32 c8_i32
  let c1_i32 : BitVec 32 := 1#32
  ⟨c0_i32, v28, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v40 : BitVec 32 := Scalar.muli arg9 c256_i32
  v40
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v40 : BitVec 32 := Scalar.muli arg9 c256_i32
  let v41 : BitVec 32 := v40
  let v42 : Index := Scalar.indexCast v41
  let c0_23 : Index := 0#32
  ![v42.toNat, 0]
@[reducible] def k0_t2_loop (k0_t1 : Fin k0_t1_loop.trips) : Scf.Loop 32 :=
  let c0_i32_28 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v44 : BitVec 32 := Scalar.addi arg9 c1_i32_24
  let c1_i32_25 : BitVec 32 := 1#32
  let v45 : BitVec 32 := Scalar.muli v44 c1_i32_25
  let v52 : BitVec 32 := Scalar.subi v45 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_30 : BitVec 32 := 1#32
  ⟨c0_i32_28, v56, c1_i32_30⟩
def k0_mult2 (k0_t1 : Fin k0_t1_loop.trips) (k0_t2 : Fin (k0_t2_loop k0_t1).trips) : BitVec 32 :=
  let c0_i32 : BitVec 32 := 0#32
  let c1_i32 : BitVec 32 := 1#32
  let arg9 : BitVec 32 := Scf.iv c0_i32 c1_i32 k0_t1
  let c1_i32_24 : BitVec 32 := 1#32
  let v44 : BitVec 32 := Scalar.addi arg9 c1_i32_24
  let c1_i32_25 : BitVec 32 := 1#32
  let v45 : BitVec 32 := Scalar.muli v44 c1_i32_25
  let c1_i32_33 : BitVec 32 := 1#32
  let v62 : BitVec 32 := Scalar.subi v45 c1_i32_33
  let c0_i32_28 : BitVec 32 := 0#32
  let c1_i32_30 : BitVec 32 := 1#32
  let arg10 : BitVec 32 := Scf.iv c0_i32_28 c1_i32_30 k0_t2
  let v63 : BitVec 32 := Scalar.subi v62 arg10
  let c256_i32_34 : BitVec 32 := 256#32
  let v64 : BitVec 32 := Scalar.muli v63 c256_i32_34
  v64
def k0_off3 (k0_t1 : Fin k0_t1_loop.trips) (k0_t2 : Fin (k0_t2_loop k0_t1).trips) : Fin 2 → Nat :=
  let c0_i32 : BitVec 32 := 0#32
  let c1_i32 : BitVec 32 := 1#32
  let arg9 : BitVec 32 := Scf.iv c0_i32 c1_i32 k0_t1
  let c1_i32_24 : BitVec 32 := 1#32
  let v44 : BitVec 32 := Scalar.addi arg9 c1_i32_24
  let c1_i32_25 : BitVec 32 := 1#32
  let v45 : BitVec 32 := Scalar.muli v44 c1_i32_25
  let c1_i32_33 : BitVec 32 := 1#32
  let v62 : BitVec 32 := Scalar.subi v45 c1_i32_33
  let c0_i32_28 : BitVec 32 := 0#32
  let c1_i32_30 : BitVec 32 := 1#32
  let arg10 : BitVec 32 := Scf.iv c0_i32_28 c1_i32_30 k0_t2
  let v63 : BitVec 32 := Scalar.subi v62 arg10
  let c256_i32_34 : BitVec 32 := 256#32
  let v64 : BitVec 32 := Scalar.muli v63 c256_i32_34
  let v65 : BitVec 32 := v64
  let v66 : Index := Scalar.indexCast v65
  let c0_35 : Index := 0#32
  ![v66.toNat, 0]
@[reducible] def k0_t3_loop (k0_t1 : Fin k0_t1_loop.trips) : Scf.Loop 32 :=
  let c0_i32_28 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v44 : BitVec 32 := Scalar.addi arg9 c1_i32_24
  let c1_i32_25 : BitVec 32 := 1#32
  let v45 : BitVec 32 := Scalar.muli v44 c1_i32_25
  let v52 : BitVec 32 := Scalar.subi v45 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let v53 : BitVec 32 := Scalar.addi c0_i32_28 v52
  let c1_i32_31 : BitVec 32 := 1#32
  ⟨v56, v53, c1_i32_31⟩
def k0_mult3 (k0_t1 : Fin k0_t1_loop.trips) (k0_t3 : Fin (k0_t3_loop k0_t1).trips) : BitVec 32 :=
  let c0_i32 : BitVec 32 := 0#32
  let c1_i32 : BitVec 32 := 1#32
  let arg9 : BitVec 32 := Scf.iv c0_i32 c1_i32 k0_t1
  let c1_i32_24 : BitVec 32 := 1#32
  let v44 : BitVec 32 := Scalar.addi arg9 c1_i32_24
  let c1_i32_25 : BitVec 32 := 1#32
  let v45 : BitVec 32 := Scalar.muli v44 c1_i32_25
  let c1_i32_33 : BitVec 32 := 1#32
  let v62 : BitVec 32 := Scalar.subi v45 c1_i32_33
  let c0_i32_28 : BitVec 32 := 0#32
  let v52 : BitVec 32 := Scalar.subi v45 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_31 : BitVec 32 := 1#32
  let arg10 : BitVec 32 := Scf.iv v56 c1_i32_31 k0_t3
  let v63 : BitVec 32 := Scalar.subi v62 arg10
  let c256_i32_34 : BitVec 32 := 256#32
  let v64 : BitVec 32 := Scalar.muli v63 c256_i32_34
  v64
def k0_off4 (k0_t1 : Fin k0_t1_loop.trips) (k0_t3 : Fin (k0_t3_loop k0_t1).trips) : Fin 2 → Nat :=
  let c0_i32 : BitVec 32 := 0#32
  let c1_i32 : BitVec 32 := 1#32
  let arg9 : BitVec 32 := Scf.iv c0_i32 c1_i32 k0_t1
  let c1_i32_24 : BitVec 32 := 1#32
  let v44 : BitVec 32 := Scalar.addi arg9 c1_i32_24
  let c1_i32_25 : BitVec 32 := 1#32
  let v45 : BitVec 32 := Scalar.muli v44 c1_i32_25
  let c1_i32_33 : BitVec 32 := 1#32
  let v62 : BitVec 32 := Scalar.subi v45 c1_i32_33
  let c0_i32_28 : BitVec 32 := 0#32
  let v52 : BitVec 32 := Scalar.subi v45 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_31 : BitVec 32 := 1#32
  let arg10 : BitVec 32 := Scf.iv v56 c1_i32_31 k0_t3
  let v63 : BitVec 32 := Scalar.subi v62 arg10
  let c256_i32_34 : BitVec 32 := 256#32
  let v64 : BitVec 32 := Scalar.muli v63 c256_i32_34
  let v65 : BitVec 32 := v64
  let v66 : Index := Scalar.indexCast v65
  let c0_35 : Index := 0#32
  ![v66.toNat, 0]
@[reducible] def k0_t4_loop : Scf.Loop 32 :=
  let c0_i32_18 : BitVec 32 := 0#32
  let c9_i32 : BitVec 32 := 9#32
  let v36 : BitVec 32 := Scalar.addi c0_i32_18 c9_i32
  let c1_i32_19 : BitVec 32 := 1#32
  ⟨c0_i32_18, v36, c1_i32_19⟩
def k0_mult4 (k0_t4 : Fin k0_t4_loop.trips) : BitVec 32 :=
  let c8_i32_23 : BitVec 32 := 8#32
  let c0_i32_18 : BitVec 32 := 0#32
  let c1_i32_19 : BitVec 32 := 1#32
  let arg9 : BitVec 32 := Scf.iv c0_i32_18 c1_i32_19 k0_t4
  let v40 : BitVec 32 := Scalar.subi c8_i32_23 arg9
  let c256_i32 : BitVec 32 := 256#32
  let v41 : BitVec 32 := Scalar.muli v40 c256_i32
  v41
def k0_off5 (k0_t4 : Fin k0_t4_loop.trips) : Fin 2 → Nat :=
  let c8_i32_23 : BitVec 32 := 8#32
  let c0_i32_18 : BitVec 32 := 0#32
  let c1_i32_19 : BitVec 32 := 1#32
  let arg9 : BitVec 32 := Scf.iv c0_i32_18 c1_i32_19 k0_t4
  let v40 : BitVec 32 := Scalar.subi c8_i32_23 arg9
  let c256_i32 : BitVec 32 := 256#32
  let v41 : BitVec 32 := Scalar.muli v40 c256_i32
  let v42 : BitVec 32 := v41
  let v43 : Index := Scalar.indexCast v42
  let c0_24 : Index := 0#32
  ![v43.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2064x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8256x4096 : Shape := ⟨2, ![8256, 4096]⟩
abbrev S32 : Shape := ⟨1, ![32]⟩
abbrev S4x2064x32x128 : Shape := ⟨4, ![4, 2064, 32, 128]⟩
abbrev S1x32x1x1 : Shape := ⟨4, ![1, 32, 1, 1]⟩
abbrev S4x32x2064x2064 : Shape := ⟨4, ![4, 32, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x32x128x2064 : Shape := ⟨4, ![4, 32, 128, 2064]⟩

abbrev nBuf : Space → Nat
  | .hbm => 72
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S8256x4096, .f32⟩
  | .hbm, ⟨2, _⟩ => ⟨S8256x4096, .f32⟩
  | .hbm, ⟨3, _⟩ => ⟨S32, .f32⟩
  | .hbm, ⟨4, _⟩ => ⟨S4x2064x32x128, .bf16⟩
  | .hbm, ⟨5, _⟩ => ⟨S4x2064x32x128, .f32⟩
  | .hbm, ⟨6, _⟩ => ⟨S4x2064x32x128, .f32⟩
  | .hbm, ⟨7, _⟩ => ⟨S4x2064x32x128, .f32⟩
  | .hbm, ⟨8, _⟩ => ⟨S1x32x1x1, .f32⟩
  | .hbm, ⟨9, _⟩ => ⟨S4x32x2064x2064, .f32⟩
  | .hbm, ⟨10, _⟩ => ⟨S_, .f32⟩
  | .hbm, ⟨11, _⟩ => ⟨S4x32x2064x2064, .f32⟩
  | .hbm, ⟨12, _⟩ => ⟨S4x32x2064x2064, .f32⟩
  | .hbm, ⟨13, _⟩ => ⟨S4x32x2064x2064, .f32⟩
  | .hbm, ⟨14, _⟩ => ⟨S4x32x2064x2064, .f32⟩
  | .hbm, ⟨15, _⟩ => ⟨S2064, .i32⟩
  | .hbm, ⟨16, _⟩ => ⟨S2064, .i32⟩
  | .hbm, ⟨17, _⟩ => ⟨S1x2064, .i32⟩
  | .hbm, ⟨18, _⟩ => ⟨S2064x1, .i32⟩
  | .hbm, ⟨19, _⟩ => ⟨S2064x2064, .i32⟩
  | .hbm, ⟨20, _⟩ => ⟨S2064x2064, .i32⟩
  | .hbm, ⟨21, _⟩ => ⟨S2064x2064, .i1⟩
  | .hbm, ⟨22, _⟩ => ⟨S_, .f32⟩
  | .hbm, ⟨23, _⟩ => ⟨S4x32x2064x2064, .f32⟩
  | .hbm, ⟨24, _⟩ => ⟨S4x32x2064x2064, .f32⟩
  | .hbm, ⟨25, _⟩ => ⟨S4x32x2064x2064, .f32⟩
  | .hbm, ⟨26, _⟩ => ⟨S4x32x2064x2064, .f32⟩
  | .hbm, ⟨27, _⟩ => ⟨S4x32x2064x2064, .i1⟩
  | .hbm, ⟨28, _⟩ => ⟨S4x32x2064x2064, .f32⟩
  | .hbm, ⟨29, _⟩ => ⟨S4x32x2064x2064, .f32⟩
  | .hbm, ⟨30, _⟩ => ⟨S4x32x2064x2064, .f32⟩
  | .hbm, ⟨31, _⟩ => ⟨S4x32x2064x2064, .f32⟩
  | .hbm, ⟨32, _⟩ => ⟨S4x32x2064x2064, .f32⟩
  | .hbm, ⟨33, _⟩ => ⟨S4x32x2064x2064, .f32⟩
  | .hbm, ⟨34, _⟩ => ⟨S4x32x2064x2064, .f32⟩
  | .hbm, ⟨35, _⟩ => ⟨S4x32x2064x2064, .f32⟩
  | .hbm, ⟨36, _⟩ => ⟨S_, .f32⟩
  | .hbm, ⟨37, _⟩ => ⟨S_, .f32⟩
  | .hbm, ⟨38, _⟩ => ⟨S4x32x2064x2064, .i1⟩
  | .hbm, ⟨39, _⟩ => ⟨S4x32x2064x2064, .f32⟩
  | .hbm, ⟨40, _⟩ => ⟨S4x32x2064x2064, .f32⟩
  | .hbm, ⟨41, _⟩ => ⟨S4x32x2064x2064, .f32⟩
  | .hbm, ⟨42, _⟩ => ⟨S_, .f32⟩
  | .hbm, ⟨43, _⟩ => ⟨S4x32x2064x2064, .f32⟩
  | .hbm, ⟨44, _⟩ => ⟨S4x32x2064x2064, .f32⟩
  | .hbm, ⟨45, _⟩ => ⟨S4x32x2064x2064, .f32⟩
  | .hbm, ⟨46, _⟩ => ⟨S4x32x2064x2064, .f32⟩
  | .hbm, ⟨47, _⟩ => ⟨S4x32x2064x2064, .i1⟩
  | .hbm, ⟨48, _⟩ => ⟨S4x32x2064x2064, .f32⟩
  | .hbm, ⟨49, _⟩ => ⟨S4x32x2064x2064, .f32⟩
  | .hbm, ⟨50, _⟩ => ⟨S4x32x2064x2064, .f32⟩
  | .hbm, ⟨51, _⟩ => ⟨S4x32x2064x2064, .f32⟩
  | .hbm, ⟨52, _⟩ => ⟨S4x32x2064x2064, .f32⟩
  | .hbm, ⟨53, _⟩ => ⟨S4x32x2064x2064, .f32⟩
  | .hbm, ⟨54, _⟩ => ⟨S4x32x2064x2064, .f32⟩
  | .hbm, ⟨55, _⟩ => ⟨S4x32x2064x2064, .f32⟩
  | .hbm, ⟨56, _⟩ => ⟨S4x32x2064x2064, .f32⟩
  | .hbm, ⟨57, _⟩ => ⟨S_, .f32⟩
  | .hbm, ⟨58, _⟩ => ⟨S_, .f32⟩
  | .hbm, ⟨59, _⟩ => ⟨S4x32x2064x2064, .f32⟩
  | .hbm, ⟨60, _⟩ => ⟨S4x32x2064x2064, .f32⟩
  | .hbm, ⟨61, _⟩ => ⟨S4x32x2064x2064, .f32⟩
  | .hbm, ⟨62, _⟩ => ⟨S4x32x2064x2064, .f32⟩
  | .hbm, ⟨63, _⟩ => ⟨S_, .f32⟩
  | .hbm, ⟨64, _⟩ => ⟨S_, .f32⟩
  | .hbm, ⟨65, _⟩ => ⟨S4x32x2064x2064, .i1⟩
  | .hbm, ⟨66, _⟩ => ⟨S4x32x2064x2064, .f32⟩
  | .hbm, ⟨67, _⟩ => ⟨S4x32x2064x2064, .f32⟩
  | .hbm, ⟨68, _⟩ => ⟨S4x32x128x2064, .f32⟩
  | .hbm, ⟨69, _⟩ => ⟨S4x2064x32x128, .f32⟩
  | .hbm, ⟨70, _⟩ => ⟨S4x2064x32x128, .bf16⟩
  | .hbm, ⟨71, _⟩ => ⟨S8256x4096, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_v0 : Ref sig .tc := ⟨.hbm, 41, rfl⟩
abbrev main_call2_call0_cst : Ref sig .tc := ⟨.hbm, 42, rfl⟩
abbrev main_call2_call0_v0 : Ref sig .tc := ⟨.hbm, 43, rfl⟩
abbrev main_call2_call0_v1 : Ref sig .tc := ⟨.hbm, 44, rfl⟩
abbrev main_call2_call0_v2 : Ref sig .tc := ⟨.hbm, 45, rfl⟩
abbrev main_call2_call0_v3 : Ref sig .tc := ⟨.hbm, 46, rfl⟩
abbrev main_call2_call0_v4 : Ref sig .tc := ⟨.hbm, 47, rfl⟩
abbrev main_call2_call0_v5 : Ref sig .tc := ⟨.hbm, 48, rfl⟩
abbrev main_call2_call0_v6 : Ref sig .tc := ⟨.hbm, 49, rfl⟩
abbrev main_call2_call0_v7 : Ref sig .tc := ⟨.hbm, 50, rfl⟩
abbrev main_call2_call0_v8 : Ref sig .tc := ⟨.hbm, 51, rfl⟩
abbrev main_call2_call0_v9 : Ref sig .tc := ⟨.hbm, 52, rfl⟩
abbrev main_call2_call0_v10 : Ref sig .tc := ⟨.hbm, 53, rfl⟩
abbrev main_call2_call0_v11 : Ref sig .tc := ⟨.hbm, 54, rfl⟩
abbrev main_call2_v1 : Ref sig .tc := ⟨.hbm, 55, rfl⟩
abbrev main_v19 : Ref sig .tc := ⟨.hbm, 56, rfl⟩
abbrev main_call3_cst : Ref sig .tc := ⟨.hbm, 57, rfl⟩
abbrev main_call3_v0 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩

abbrev nD : Nat := 1
abbrev τ : Topo := Topo.v7x

variable {F : FTy → Type} [FloatOps F]
-- ==== Up.lean ====
abbrev S8256x4096 : Shape := ⟨2, ![8256, 4096]⟩
abbrev S64x4096 : Shape := ⟨2, ![64, 4096]⟩
abbrev S4x4096x16384 : Shape := ⟨3, ![4, 4096, 16384]⟩
abbrev S8256x16384 : Shape := ⟨2, ![8256, 16384]⟩
abbrev S64x16384 : Shape := ⟨2, ![64, 16384]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S4x4096x16384, .f32⟩
  | .hbm, ⟨3, _⟩ => ⟨S8256x16384, .bf16⟩
  | .hbm, ⟨4, _⟩ => ⟨S64x16384, .bf16⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .bf16⟩
  | .local _ .vmem, ⟨7, _⟩ => ⟨S2064x1024, .bf16⟩
  | .local _ .vmem, ⟨8, _⟩ => ⟨S64x1024, .bf16⟩
  | .local _ .vmem, ⟨9, _⟩ => ⟨S64x1024, .bf16⟩
  | .local _ .vmem, ⟨10, _⟩ => ⟨S2064x1024, .f32⟩
  | .local _ .vmem, ⟨11, _⟩ => ⟨S64x1024, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c7_i32_19 : BitVec 32 := 7#32
  let v29 : BitVec 1 := Scalar.cmpi .eq arg2 c7_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== UpReferenceIdeal.lean ====
abbrev S8256x4096 : Shape := ⟨2, ![8256, 4096]⟩
abbrev S64x4096 : Shape := ⟨2, ![64, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S8256x16384 : Shape := ⟨2, ![8256, 16384]⟩
abbrev S_ : Shape := ⟨0, ![]⟩
abbrev S64x16384 : Shape := ⟨2, ![64, 16384]⟩

abbrev nBuf : Space → Nat
  | .hbm => 21
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S4x4096x16384, .f32⟩
  | .hbm, ⟨3, _⟩ => ⟨S8256x4096, .f32⟩
  | .hbm, ⟨4, _⟩ => ⟨S1x4096x16384, .f32⟩
  | .hbm, ⟨5, _⟩ => ⟨S4096x16384, .f32⟩
  | .hbm, ⟨6, _⟩ => ⟨S8256x16384, .f32⟩
  | .hbm, ⟨7, _⟩ => ⟨S_, .f32⟩
  | .hbm, ⟨8, _⟩ => ⟨S8256x16384, .f32⟩
  | .hbm, ⟨9, _⟩ => ⟨S8256x16384, .f32⟩
  | .hbm, ⟨10, _⟩ => ⟨S8256x16384, .f32⟩
  | .hbm, ⟨11, _⟩ => ⟨S8256x16384, .bf16⟩
  | .hbm, ⟨12, _⟩ => ⟨S64x4096, .f32⟩
  | .hbm, ⟨13, _⟩ => ⟨S1x4096x16384, .f32⟩
  | .hbm, ⟨14, _⟩ => ⟨S4096x16384, .f32⟩
  | .hbm, ⟨15, _⟩ => ⟨S64x16384, .f32⟩
  | .hbm, ⟨16, _⟩ => ⟨S_, .f32⟩
  | .hbm, ⟨17, _⟩ => ⟨S64x16384, .f32⟩
  | .hbm, ⟨18, _⟩ => ⟨S64x16384, .f32⟩
  | .hbm, ⟨19, _⟩ => ⟨S64x16384, .f32⟩
  | .hbm, ⟨20, _⟩ => ⟨S64x16384, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call1_cst : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Down.lean ====
abbrev S8256x16384 : Shape := ⟨2, ![8256, 16384]⟩
abbrev S64x16384 : Shape := ⟨2, ![64, 16384]⟩
abbrev S4x16384x4096 : Shape := ⟨3, ![4, 16384, 4096]⟩
abbrev S8256x4096 : Shape := ⟨2, ![8256, 4096]⟩
abbrev S64x4096 : Shape := ⟨2, ![64, 4096]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8256x16384, .bf16⟩
  | .hbm, ⟨1, _⟩ => ⟨S64x16384, .bf16⟩
  | .hbm, ⟨2, _⟩ => ⟨S4x16384x4096, .f32⟩
  | .hbm, ⟨3, _⟩ => ⟨S8256x4096, .f32⟩
  | .hbm, ⟨4, _⟩ => ⟨S64x4096, .f32⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .f32⟩
  | .local _ .vmem, ⟨7, _⟩ => ⟨S2064x1024, .f32⟩
  | .local _ .vmem, ⟨8, _⟩ => ⟨S64x1024, .f32⟩
  | .local _ .vmem, ⟨9, _⟩ => ⟨S64x1024, .f32⟩
  | .local _ .vmem, ⟨10, _⟩ => ⟨S2064x1024, .f32⟩
  | .local _ .vmem, ⟨11, _⟩ => ⟨S64x1024, .f32⟩
  | _, _ => ⟨S8256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 32], ![false, false, false]⟩

def k0_cond3 (i : grid0.Coords) : BitVec 1 :=
  let arg2 : BitVec 32 := BitVec.ofNat 32 (i 2).val
  let c31_i32_7 : BitVec 32 := 31#32
  let v13 : BitVec 1 := Scalar.cmpi .eq arg2 c31_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c31_i32_19 : BitVec 32 := 31#32
  let v29 : BitVec 1 := Scalar.cmpi .eq arg2 c31_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== DownReferenceIdeal.lean ====
abbrev S8256x16384 : Shape := ⟨2, ![8256, 16384]⟩
abbrev S64x16384 : Shape := ⟨2, ![64, 16384]⟩
abbrev S4x16384x4096 : Shape := ⟨3, ![4, 16384, 4096]⟩
abbrev S1x16384x4096 : Shape := ⟨3, ![1, 16384, 4096]⟩
abbrev S16384x4096 : Shape := ⟨2, ![16384, 4096]⟩
abbrev S8256x4096 : Shape := ⟨2, ![8256, 4096]⟩
abbrev S64x4096 : Shape := ⟨2, ![64, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8256x16384, .bf16⟩
  | .hbm, ⟨1, _⟩ => ⟨S64x16384, .bf16⟩
  | .hbm, ⟨2, _⟩ => ⟨S4x16384x4096, .f32⟩
  | .hbm, ⟨3, _⟩ => ⟨S8256x16384, .f32⟩
  | .hbm, ⟨4, _⟩ => ⟨S1x16384x4096, .f32⟩
  | .hbm, ⟨5, _⟩ => ⟨S16384x4096, .f32⟩
  | .hbm, ⟨6, _⟩ => ⟨S8256x4096, .f32⟩
  | .hbm, ⟨7, _⟩ => ⟨S64x16384, .f32⟩
  | .hbm, ⟨8, _⟩ => ⟨S1x16384x4096, .f32⟩
  | .hbm, ⟨9, _⟩ => ⟨S16384x4096, .f32⟩
  | .hbm, ⟨10, _⟩ => ⟨S64x4096, .f32⟩
  | _, _ => ⟨S8256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KProj.lean ====
abbrev S8256x4096 : Shape := ⟨2, ![8256, 4096]⟩
abbrev S64x4096 : Shape := ⟨2, ![64, 4096]⟩
abbrev S2x4096x12288 : Shape := ⟨3, ![2, 4096, 12288]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x12288, .f32⟩
  | .hbm, ⟨3, _⟩ => ⟨S8256x4096, .f32⟩
  | .hbm, ⟨4, _⟩ => ⟨S64x4096, .f32⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .f32⟩
  | .local _ .vmem, ⟨7, _⟩ => ⟨S2064x1024, .f32⟩
  | .local _ .vmem, ⟨8, _⟩ => ⟨S64x1024, .f32⟩
  | .local _ .vmem, ⟨9, _⟩ => ⟨S64x1024, .f32⟩
  | .local _ .vmem, ⟨10, _⟩ => ⟨S2064x1024, .f32⟩
  | .local _ .vmem, ⟨11, _⟩ => ⟨S64x1024, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c7_i32_19 : BitVec 32 := 7#32
  let v29 : BitVec 1 := Scalar.cmpi .eq arg2 c7_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![c0_i32.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== KProjReferenceIdeal.lean ====
abbrev S8256x4096 : Shape := ⟨2, ![8256, 4096]⟩
abbrev S64x4096 : Shape := ⟨2, ![64, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x12288, .f32⟩
  | .hbm, ⟨3, _⟩ => ⟨S8256x4096, .f32⟩
  | .hbm, ⟨4, _⟩ => ⟨S1x4096x12288, .f32⟩
  | .hbm, ⟨5, _⟩ => ⟨S4096x12288, .f32⟩
  | .hbm, ⟨6, _⟩ => ⟨S4096x4096, .f32⟩
  | .hbm, ⟨7, _⟩ => ⟨S8256x4096, .f32⟩
  | .hbm, ⟨8, _⟩ => ⟨S64x4096, .f32⟩
  | .hbm, ⟨9, _⟩ => ⟨S1x4096x12288, .f32⟩
  | .hbm, ⟨10, _⟩ => ⟨S4096x12288, .f32⟩
  | .hbm, ⟨11, _⟩ => ⟨S4096x4096, .f32⟩
  | .hbm, ⟨12, _⟩ => ⟨S64x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== VProj.lean ====
abbrev S8256x4096 : Shape := ⟨2, ![8256, 4096]⟩
abbrev S64x4096 : Shape := ⟨2, ![64, 4096]⟩
abbrev S2x4096x12288 : Shape := ⟨3, ![2, 4096, 12288]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x12288, .f32⟩
  | .hbm, ⟨3, _⟩ => ⟨S8256x4096, .f32⟩
  | .hbm, ⟨4, _⟩ => ⟨S64x4096, .f32⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .f32⟩
  | .local _ .vmem, ⟨7, _⟩ => ⟨S2064x1024, .f32⟩
  | .local _ .vmem, ⟨8, _⟩ => ⟨S64x1024, .f32⟩
  | .local _ .vmem, ⟨9, _⟩ => ⟨S64x1024, .f32⟩
  | .local _ .vmem, ⟨10, _⟩ => ⟨S2064x1024, .f32⟩
  | .local _ .vmem, ⟨11, _⟩ => ⟨S64x1024, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c7_i32_19 : BitVec 32 := 7#32
  let v29 : BitVec 1 := Scalar.cmpi .eq arg2 c7_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  let c0_i32_0 : BitVec 32 := 0#32
  ![c0_i32.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== VProjReferenceIdeal.lean ====
abbrev S8256x4096 : Shape := ⟨2, ![8256, 4096]⟩
abbrev S64x4096 : Shape := ⟨2, ![64, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x12288, .f32⟩
  | .hbm, ⟨3, _⟩ => ⟨S8256x4096, .f32⟩
  | .hbm, ⟨4, _⟩ => ⟨S1x4096x12288, .f32⟩
  | .hbm, ⟨5, _⟩ => ⟨S4096x12288, .f32⟩
  | .hbm, ⟨6, _⟩ => ⟨S4096x4096, .f32⟩
  | .hbm, ⟨7, _⟩ => ⟨S8256x4096, .f32⟩
  | .hbm, ⟨8, _⟩ => ⟨S64x4096, .f32⟩
  | .hbm, ⟨9, _⟩ => ⟨S1x4096x12288, .f32⟩
  | .hbm, ⟨10, _⟩ => ⟨S4096x12288, .f32⟩
  | .hbm, ⟨11, _⟩ => ⟨S4096x4096, .f32⟩
  | .hbm, ⟨12, _⟩ => ⟨S64x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== QProj.lean ====
abbrev S8256x4096 : Shape := ⟨2, ![8256, 4096]⟩
abbrev S64x4096 : Shape := ⟨2, ![64, 4096]⟩
abbrev S2x4096x12288 : Shape := ⟨3, ![2, 4096, 12288]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x12288, .f32⟩
  | .hbm, ⟨3, _⟩ => ⟨S8256x4096, .bf16⟩
  | .hbm, ⟨4, _⟩ => ⟨S64x4096, .f32⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .bf16⟩
  | .local _ .vmem, ⟨7, _⟩ => ⟨S2064x1024, .bf16⟩
  | .local _ .vmem, ⟨8, _⟩ => ⟨S64x1024, .f32⟩
  | .local _ .vmem, ⟨9, _⟩ => ⟨S64x1024, .f32⟩
  | .local _ .vmem, ⟨10, _⟩ => ⟨S2064x1024, .f32⟩
  | .local _ .vmem, ⟨11, _⟩ => ⟨S64x1024, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c7_i32_19 : BitVec 32 := 7#32
  let v29 : BitVec 1 := Scalar.cmpi .eq arg2 c7_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== QProjReferenceIdeal.lean ====
abbrev S8256x4096 : Shape := ⟨2, ![8256, 4096]⟩
abbrev S64x4096 : Shape := ⟨2, ![64, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x12288, .f32⟩
  | .hbm, ⟨3, _⟩ => ⟨S8256x4096, .f32⟩
  | .hbm, ⟨4, _⟩ => ⟨S1x4096x12288, .f32⟩
  | .hbm, ⟨5, _⟩ => ⟨S4096x12288, .f32⟩
  | .hbm, ⟨6, _⟩ => ⟨S4096x4096, .f32⟩
  | .hbm, ⟨7, _⟩ => ⟨S8256x4096, .f32⟩
  | .hbm, ⟨8, _⟩ => ⟨S8256x4096, .bf16⟩
  | .hbm, ⟨9, _⟩ => ⟨S64x4096, .f32⟩
  | .hbm, ⟨10, _⟩ => ⟨S1x4096x12288, .f32⟩
  | .hbm, ⟨11, _⟩ => ⟨S4096x12288, .f32⟩
  | .hbm, ⟨12, _⟩ => ⟨S4096x4096, .f32⟩
  | .hbm, ⟨13, _⟩ => ⟨S64x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OutProj.lean ====
abbrev S8256x4096 : Shape := ⟨2, ![8256, 4096]⟩
abbrev S64x4096 : Shape := ⟨2, ![64, 4096]⟩
abbrev S2x4096x4096 : Shape := ⟨3, ![2, 4096, 4096]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x4096, .f32⟩
  | .hbm, ⟨3, _⟩ => ⟨S8256x4096, .f32⟩
  | .hbm, ⟨4, _⟩ => ⟨S64x4096, .f32⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .f32⟩
  | .local _ .vmem, ⟨7, _⟩ => ⟨S2064x1024, .f32⟩
  | .local _ .vmem, ⟨8, _⟩ => ⟨S64x1024, .f32⟩
  | .local _ .vmem, ⟨9, _⟩ => ⟨S64x1024, .f32⟩
  | .local _ .vmem, ⟨10, _⟩ => ⟨S2064x1024, .f32⟩
  | .local _ .vmem, ⟨11, _⟩ => ⟨S64x1024, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c7_i32_19 : BitVec 32 := 7#32
  let v29 : BitVec 1 := Scalar.cmpi .eq arg2 c7_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== OutProjReferenceIdeal.lean ====
abbrev S8256x4096 : Shape := ⟨2, ![8256, 4096]⟩
abbrev S64x4096 : Shape := ⟨2, ![64, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x4096, .f32⟩
  | .hbm, ⟨3, _⟩ => ⟨S8256x4096, .f32⟩
  | .hbm, ⟨4, _⟩ => ⟨S1x4096x4096, .f32⟩
  | .hbm, ⟨5, _⟩ => ⟨S4096x4096, .f32⟩
  | .hbm, ⟨6, _⟩ => ⟨S8256x4096, .f32⟩
  | .hbm, ⟨7, _⟩ => ⟨S64x4096, .f32⟩
  | .hbm, ⟨8, _⟩ => ⟨S1x4096x4096, .f32⟩
  | .hbm, ⟨9, _⟩ => ⟨S4096x4096, .f32⟩
  | .hbm, ⟨10, _⟩ => ⟨S64x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProj.lean ====
abbrev S8256x4096 : Shape := ⟨2, ![8256, 4096]⟩
abbrev S64x4096 : Shape := ⟨2, ![64, 4096]⟩
abbrev S2x4096x10256 : Shape := ⟨3, ![2, 4096, 10256]⟩
abbrev S8256x6144 : Shape := ⟨2, ![8256, 6144]⟩
abbrev S64x6144 : Shape := ⟨2, ![64, 6144]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x10256, .f32⟩
  | .hbm, ⟨3, _⟩ => ⟨S8256x6144, .f32⟩
  | .hbm, ⟨4, _⟩ => ⟨S64x6144, .f32⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .f32⟩
  | .local _ .vmem, ⟨7, _⟩ => ⟨S2064x1024, .f32⟩
  | .local _ .vmem, ⟨8, _⟩ => ⟨S64x1024, .f32⟩
  | .local _ .vmem, ⟨9, _⟩ => ⟨S64x1024, .f32⟩
  | .local _ .vmem, ⟨10, _⟩ => ⟨S2064x1024, .f32⟩
  | .local _ .vmem, ⟨11, _⟩ => ⟨S64x1024, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 4, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c7_i32_19 : BitVec 32 := 7#32
  let v29 : BitVec 1 := Scalar.cmpi .eq arg2 c7_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== InProjReferenceIdeal.lean ====
abbrev S8256x4096 : Shape := ⟨2, ![8256, 4096]⟩
abbrev S64x4096 : Shape := ⟨2, ![64, 4096]⟩
abbrev S2x4096x10256 : Shape := ⟨3, ![2, 4096, 10256]⟩
abbrev S1x4096x10256 : Shape := ⟨3, ![1, 4096, 10256]⟩
abbrev S4096x10256 : Shape := ⟨2, ![4096, 10256]⟩
abbrev S4096x6144 : Shape := ⟨2, ![4096, 6144]⟩
abbrev S8256x6144 : Shape := ⟨2, ![8256, 6144]⟩
abbrev S64x6144 : Shape := ⟨2, ![64, 6144]⟩

abbrev nBuf : Space → Nat
  | .hbm => 13
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x10256, .f32⟩
  | .hbm, ⟨3, _⟩ => ⟨S8256x4096, .f32⟩
  | .hbm, ⟨4, _⟩ => ⟨S1x4096x10256, .f32⟩
  | .hbm, ⟨5, _⟩ => ⟨S4096x10256, .f32⟩
  | .hbm, ⟨6, _⟩ => ⟨S4096x6144, .f32⟩
  | .hbm, ⟨7, _⟩ => ⟨S8256x6144, .f32⟩
  | .hbm, ⟨8, _⟩ => ⟨S64x4096, .f32⟩
  | .hbm, ⟨9, _⟩ => ⟨S1x4096x10256, .f32⟩
  | .hbm, ⟨10, _⟩ => ⟨S4096x10256, .f32⟩
  | .hbm, ⟨11, _⟩ => ⟨S4096x6144, .f32⟩
  | .hbm, ⟨12, _⟩ => ⟨S64x6144, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GluProj.lean ====
abbrev S8256x4096 : Shape := ⟨2, ![8256, 4096]⟩
abbrev S64x4096 : Shape := ⟨2, ![64, 4096]⟩
abbrev S2x4096x10256 : Shape := ⟨3, ![2, 4096, 10256]⟩
abbrev S1x4096x4096 : Shape := ⟨3, ![1, 4096, 4096]⟩
abbrev S2064x512 : Shape := ⟨2, ![2064, 512]⟩
abbrev S64x512 : Shape := ⟨2, ![64, 512]⟩
abbrev S1x512x1024 : Shape := ⟨3, ![1, 512, 1024]⟩
abbrev S2064x1024 : Shape := ⟨2, ![2064, 1024]⟩
abbrev S64x1024 : Shape := ⟨2, ![64, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x10256, .f32⟩
  | .hbm, ⟨3, _⟩ => ⟨S1x4096x4096, .f32⟩
  | .hbm, ⟨4, _⟩ => ⟨S8256x4096, .f32⟩
  | .hbm, ⟨5, _⟩ => ⟨S64x4096, .f32⟩
  | .local _ .vmem, ⟨0, _⟩ => ⟨S2064x512, .bf16⟩
  | .local _ .vmem, ⟨1, _⟩ => ⟨S2064x512, .bf16⟩
  | .local _ .vmem, ⟨2, _⟩ => ⟨S64x512, .bf16⟩
  | .local _ .vmem, ⟨3, _⟩ => ⟨S64x512, .bf16⟩
  | .local _ .vmem, ⟨4, _⟩ => ⟨S1x512x1024, .f32⟩
  | .local _ .vmem, ⟨5, _⟩ => ⟨S1x512x1024, .f32⟩
  | .local _ .vmem, ⟨6, _⟩ => ⟨S2064x1024, .f32⟩
  | .local _ .vmem, ⟨7, _⟩ => ⟨S2064x1024, .f32⟩
  | .local _ .vmem, ⟨8, _⟩ => ⟨S64x1024, .f32⟩
  | .local _ .vmem, ⟨9, _⟩ => ⟨S64x1024, .f32⟩
  | .local _ .vmem, ⟨10, _⟩ => ⟨S2064x1024, .f32⟩
  | .local _ .vmem, ⟨11, _⟩ => ⟨S64x1024, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg2 : BitVec 32 := BitVec.ofNat 32 (i 2).val
  let c7_i32_19 : BitVec 32 := 7#32
  let v29 : BitVec 1 := Scalar.cmpi .eq arg2 c7_i32_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2064x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== GluProjReferenceIdeal.lean ====
abbrev S8256x4096 : Shape := ⟨2, ![8256, 4096]⟩
abbrev S64x4096 : Shape := ⟨2, ![64, 4096]⟩
abbrev S2x4096x10256 : Shape := ⟨3, ![2, 4096, 10256]⟩
abbrev S1x4096x10256 : Shape := ⟨3, ![1, 4096, 10256]⟩
abbrev S4096x10256 : Shape := ⟨2, ![4096, 10256]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S64x4096, .bf16⟩
  | .hbm, ⟨2, _⟩ => ⟨S2x4096x10256, .f32⟩
  | .hbm, ⟨3, _⟩ => ⟨S8256x4096, .f32⟩
  | .hbm, ⟨4, _⟩ => ⟨S1x4096x10256, .f32⟩
  | .hbm, ⟨5, _⟩ => ⟨S4096x10256, .f32⟩
  | .hbm, ⟨6, _⟩ => ⟨S4096x4096, .f32⟩
  | .hbm, ⟨7, _⟩ => ⟨S8256x4096, .f32⟩
  | .hbm, ⟨8, _⟩ => ⟨S64x4096, .f32⟩
  | .hbm, ⟨9, _⟩ => ⟨S1x4096x10256, .f32⟩
  | .hbm, ⟨10, _⟩ => ⟨S4096x10256, .f32⟩
  | .hbm, ⟨11, _⟩ => ⟨S4096x4096, .f32⟩
  | .hbm, ⟨12, _⟩ => ⟨S64x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== NormP.lean ====
abbrev S8256x4096 : Shape := ⟨2, ![8256, 4096]⟩
abbrev S4096 : Shape := ⟨1, ![4096]⟩
abbrev S1x4096 : Shape := ⟨2, ![1, 4096]⟩
abbrev S192x4096 : Shape := ⟨2, ![192, 4096]⟩
abbrev S192 : Shape := ⟨1, ![192]⟩
abbrev S192x1 : Shape := ⟨2, ![192, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S1x4096, .f32⟩
  | .hbm, ⟨3, _⟩ => ⟨S8256x4096, .bf16⟩
  | .local _ .vmem, ⟨0, _⟩ => ⟨S192x4096, .f32⟩
  | .local _ .vmem, ⟨1, _⟩ => ⟨S192x4096, .f32⟩
  | .local _ .vmem, ⟨2, _⟩ => ⟨S1x4096, .f32⟩
  | .local _ .vmem, ⟨3, _⟩ => ⟨S192x4096, .bf16⟩
  | .local _ .vmem, ⟨4, _⟩ => ⟨S192x4096, .bf16⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPReferenceIdeal.lean ====
abbrev S8256x4096 : Shape := ⟨2, ![8256, 4096]⟩
abbrev S4096 : Shape := ⟨1, ![4096]⟩
abbrev S_ : Shape := ⟨0, ![]⟩
abbrev S8256 : Shape := ⟨1, ![8256]⟩
abbrev S8256x1 : Shape := ⟨2, ![8256, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S8256x4096, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x4096, .f32⟩
  | .hbm, ⟨14, _⟩ => ⟨S8256x4096, .f32⟩
  | .hbm, ⟨15, _⟩ => ⟨S1x4096, .f32⟩
  | .hbm, ⟨16, _⟩ => ⟨S8256x4096, .f32⟩
  | .hbm, ⟨17, _⟩ => ⟨S8256x4096, .f32⟩
  | .hbm, ⟨18, _⟩ => ⟨S8256x4096, .bf16⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormS.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S1x4096, .f32⟩
  | .hbm, ⟨3, _⟩ => ⟨S64x4096, .bf16⟩
  | .local _ .vmem, ⟨0, _⟩ => ⟨S64x4096, .f32⟩
  | .local _ .vmem, ⟨1, _⟩ => ⟨S1x4096, .f32⟩
  | .local _ .vmem, ⟨2, _⟩ => ⟨S64x4096, .bf16⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSReferenceIdeal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S64x4096, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x4096, .f32⟩
  | .hbm, ⟨14, _⟩ => ⟨S64x4096, .f32⟩
  | .hbm, ⟨15, _⟩ => ⟨S1x4096, .f32⟩
  | .hbm, ⟨16, _⟩ => ⟨S64x4096, .f32⟩
  | .hbm, ⟨17, _⟩ => ⟨S64x4096, .f32⟩
  | .hbm, ⟨18, _⟩ => ⟨S64x4096, .bf16⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResnormP.lean ====
abbrev S8256x4096 : Shape := ⟨2, ![8256, 4096]⟩
abbrev S4096 : Shape := ⟨1, ![4096]⟩
abbrev S1x4096 : Shape := ⟨2, ![1, 4096]⟩
abbrev S192x4096 : Shape := ⟨2, ![192, 4096]⟩
abbrev S192 : Shape := ⟨1, ![192]⟩
abbrev S192x1 : Shape := ⟨2, ![192, 1]⟩

abbrev nBuf : Space → Nat
  | .hbm => 8
  | .vmem => 10
  | .smem => 0
  | _ => 0

abbrev bufTy : (tb : Table) → Fin (tcTables nBuf tb) → BufTy
  | .hbm, ⟨0, _⟩ => ⟨S8256x4096, .f32⟩
  | .hbm, ⟨1, _⟩ => ⟨S8256x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8256x4096, .f32⟩
  | .hbm, ⟨7, _⟩ => ⟨S8256x4096, .bf16⟩
  | .local _ .vmem, ⟨0, _⟩ => ⟨S192x4096, .f32⟩
  | .local _ .vmem, ⟨1, _⟩ => ⟨S192x4096, .f32⟩
  | .local _ .vmem, ⟨2, _⟩ => ⟨S192x4096, .f32⟩
  | .local _ .vmem, ⟨3, _⟩ => ⟨S192x4096, .f32⟩
  | .local _ .vmem, ⟨4, _⟩ => ⟨S1x4096, .f32⟩
  | .local _ .vmem, ⟨5, _⟩ => ⟨S1x4096, .f32⟩
  | .local _ .vmem, ⟨6, _⟩ => ⟨S192x4096, .f32⟩
  | .local _ .vmem, ⟨7, _⟩ => ⟨S192x4096, .f32⟩
  | .local _ .vmem, ⟨8, _⟩ => ⟨S192x4096, .bf16⟩
  | .local _ .vmem, ⟨9, _⟩ => ⟨S192x4096, .bf16⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResnormPReferenceIdeal.lean ====
abbrev S8256x4096 : Shape := ⟨2, ![8256, 4096]⟩
abbrev S4096 : Shape := ⟨1, ![4096]⟩
abbrev S_ : Shape := ⟨0, ![]⟩
abbrev S8256 : Shape := ⟨1, ![8256]⟩
abbrev S8256x1 : Shape := ⟨2, ![8256, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S8256x4096, .f32⟩
  | .hbm, ⟨2, _⟩ => ⟨S4096, .f32⟩
  | .hbm, ⟨3, _⟩ => ⟨S4096, .f32⟩
  | .hbm, ⟨4, _⟩ => ⟨S8256x4096, .f32⟩
  | .hbm, ⟨5, _⟩ => ⟨S_, .f32⟩
  | .hbm, ⟨6, _⟩ => ⟨S8256, .f32⟩
  | .hbm, ⟨7, _⟩ => ⟨S8256x1, .f32⟩
  | .hbm, ⟨8, _⟩ => ⟨S_, .f32⟩
  | .hbm, ⟨9, _⟩ => ⟨S8256x1, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S8256x4096, .f32⟩
  | .hbm, ⟨16, _⟩ => ⟨S8256x4096, .f32⟩
  | .hbm, ⟨17, _⟩ => ⟨S1x4096, .f32⟩
  | .hbm, ⟨18, _⟩ => ⟨S8256x4096, .f32⟩
  | .hbm, ⟨19, _⟩ => ⟨S8256x4096, .f32⟩
  | .hbm, ⟨20, _⟩ => ⟨S8256x4096, .f32⟩
  | .hbm, ⟨21, _⟩ => ⟨S8256x4096, .f32⟩
  | .hbm, ⟨22, _⟩ => ⟨S_, .f32⟩
  | .hbm, ⟨23, _⟩ => ⟨S8256, .f32⟩
  | .hbm, ⟨24, _⟩ => ⟨S8256x1, .f32⟩
  | .hbm, ⟨25, _⟩ => ⟨S_, .f32⟩
  | .hbm, ⟨26, _⟩ => ⟨S8256x1, .f32⟩
  | .hbm, ⟨27, _⟩ => ⟨S8256x1, .f32⟩
  | .hbm, ⟨28, _⟩ => ⟨S_, .f32⟩
  | .hbm, ⟨29, _⟩ => ⟨S8256x1, .f32⟩
  | .hbm, ⟨30, _⟩ => ⟨S8256x1, .f32⟩
  | .hbm, ⟨31, _⟩ => ⟨S8256x1, .f32⟩
  | .hbm, ⟨32, _⟩ => ⟨S8256x4096, .f32⟩
  | .hbm, ⟨33, _⟩ => ⟨S8256x4096, .f32⟩
  | .hbm, ⟨34, _⟩ => ⟨S1x4096, .f32⟩
  | .hbm, ⟨35, _⟩ => ⟨S8256x4096, .f32⟩
  | .hbm, ⟨36, _⟩ => ⟨S8256x4096, .f32⟩
  | .hbm, ⟨37, _⟩ => ⟨S8256x4096, .bf16⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ResnormS.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S64x4096, .f32⟩
  | .hbm, ⟨7, _⟩ => ⟨S64x4096, .bf16⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S1x4096, .f32⟩
  | .local _ .vmem, ⟨4, _⟩ => ⟨S64x4096, .f32⟩
  | .local _ .vmem, ⟨5, _⟩ => ⟨S64x4096, .bf16⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== ResnormSReferenceIdeal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S4096, .f32⟩
  | .hbm, ⟨4, _⟩ => ⟨S64x4096, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1, .f32⟩
  | .hbm, ⟨15, _⟩ => ⟨S64x4096, .f32⟩
  | .hbm, ⟨16, _⟩ => ⟨S64x4096, .f32⟩
  | .hbm, ⟨17, _⟩ => ⟨S1x4096, .f32⟩
  | .hbm, ⟨18, _⟩ => ⟨S64x4096, .f32⟩
  | .hbm, ⟨19, _⟩ => ⟨S64x4096, .f32⟩
  | .hbm, ⟨20, _⟩ => ⟨S64x4096, .f32⟩
  | .hbm, ⟨21, _⟩ => ⟨S64x4096, .f32⟩
  | .hbm, ⟨22, _⟩ => ⟨S_, .f32⟩
  | .hbm, ⟨23, _⟩ => ⟨S64, .f32⟩
  | .hbm, ⟨24, _⟩ => ⟨S64x1, .f32⟩
  | .hbm, ⟨25, _⟩ => ⟨S_, .f32⟩
  | .hbm, ⟨26, _⟩ => ⟨S64x1, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x1, .f32⟩
  | .hbm, ⟨32, _⟩ => ⟨S64x4096, .f32⟩
  | .hbm, ⟨33, _⟩ => ⟨S64x4096, .f32⟩
  | .hbm, ⟨34, _⟩ => ⟨S1x4096, .f32⟩
  | .hbm, ⟨35, _⟩ => ⟨S64x4096, .f32⟩
  | .hbm, ⟨36, _⟩ => ⟨S64x4096, .f32⟩
  | .hbm, ⟨37, _⟩ => ⟨S64x4096, .bf16⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ResP.lean ====
abbrev S8256x4096 : Shape := ⟨2, ![8256, 4096]⟩
abbrev S4096 : Shape := ⟨1, ![4096]⟩
abbrev S1x4096 : Shape := ⟨2, ![1, 4096]⟩
abbrev S192x4096 : Shape := ⟨2, ![192, 4096]⟩
abbrev S192 : Shape := ⟨1, ![192]⟩
abbrev S192x1 : Shape := ⟨2, ![192, 1]⟩

abbrev nBuf : Space → Nat
  | .hbm => 5
  | .vmem => 7
  | .smem => 0
  | _ => 0

abbrev bufTy : (tb : Table) → Fin (tcTables nBuf tb) → BufTy
  | .hbm, ⟨0, _⟩ => ⟨S8256x4096, .f32⟩
  | .hbm, ⟨1, _⟩ => ⟨S8256x4096, .f32⟩
  | .hbm, ⟨2, _⟩ => ⟨S4096, .f32⟩
  | .hbm, ⟨3, _⟩ => ⟨S1x4096, .f32⟩
  | .hbm, ⟨4, _⟩ => ⟨S8256x4096, .f32⟩
  | .local _ .vmem, ⟨0, _⟩ => ⟨S192x4096, .f32⟩
  | .local _ .vmem, ⟨1, _⟩ => ⟨S192x4096, .f32⟩
  | .local _ .vmem, ⟨2, _⟩ => ⟨S192x4096, .f32⟩
  | .local _ .vmem, ⟨3, _⟩ => ⟨S192x4096, .f32⟩
  | .local _ .vmem, ⟨4, _⟩ => ⟨S1x4096, .f32⟩
  | .local _ .vmem, ⟨5, _⟩ => ⟨S192x4096, .f32⟩
  | .local _ .vmem, ⟨6, _⟩ => ⟨S192x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResPReferenceIdeal.lean ====
abbrev S8256x4096 : Shape := ⟨2, ![8256, 4096]⟩
abbrev S4096 : Shape := ⟨1, ![4096]⟩
abbrev S_ : Shape := ⟨0, ![]⟩
abbrev S8256 : Shape := ⟨1, ![8256]⟩
abbrev S8256x1 : Shape := ⟨2, ![8256, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S8256x4096, .f32⟩
  | .hbm, ⟨2, _⟩ => ⟨S4096, .f32⟩
  | .hbm, ⟨3, _⟩ => ⟨S8256x4096, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x4096, .f32⟩
  | .hbm, ⟨15, _⟩ => ⟨S8256x4096, .f32⟩
  | .hbm, ⟨16, _⟩ => ⟨S1x4096, .f32⟩
  | .hbm, ⟨17, _⟩ => ⟨S8256x4096, .f32⟩
  | .hbm, ⟨18, _⟩ => ⟨S8256x4096, .f32⟩
  | .hbm, ⟨19, _⟩ => ⟨S8256x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ResS.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 5
  | .vmem => 4
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S1x4096, .f32⟩
  | .hbm, ⟨4, _⟩ => ⟨S64x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ResSReferenceIdeal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x4096, .f32⟩
  | .hbm, ⟨15, _⟩ => ⟨S64x4096, .f32⟩
  | .hbm, ⟨16, _⟩ => ⟨S1x4096, .f32⟩
  | .hbm, ⟨17, _⟩ => ⟨S64x4096, .f32⟩
  | .hbm, ⟨18, _⟩ => ⟨S64x4096, .f32⟩
  | .hbm, ⟨19, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ConvS.lean ====
abbrev S64x4096 : Shape := ⟨2, ![64, 4096]⟩
abbrev S8x30x2048 : Shape := ⟨3, ![8, 30, 2048]⟩
abbrev S31x2048 : Shape := ⟨2, ![31, 2048]⟩
abbrev S2048 : Shape := ⟨1, ![2048]⟩
abbrev S1x2048 : Shape := ⟨2, ![1, 2048]⟩
abbrev S64x2048 : Shape := ⟨2, ![64, 2048]⟩
abbrev S8x2048 : Shape := ⟨2, ![8, 2048]⟩
abbrev S1x30x2048 : Shape := ⟨3, ![1, 30, 2048]⟩
abbrev S40x2048 : Shape := ⟨2, ![40, 2048]⟩
abbrev S32x2048 : Shape := ⟨2, ![32, 2048]⟩
abbrev S30x2048 : Shape := ⟨2, ![30, 2048]⟩
abbrev S40x512 : Shape := ⟨2, ![40, 512]⟩
abbrev S8x512 : Shape := ⟨2, ![8, 512]⟩
abbrev S1x512 : Shape := ⟨2, ![1, 512]⟩
abbrev S8 : Shape := ⟨1, ![8]⟩
abbrev S8x1 : Shape := ⟨2, ![8, 1]⟩

abbrev nBuf : Space → Nat
  | .hbm => 11
  | .vmem => 15
  | .smem => 0
  | _ => 0

abbrev bufTy : (tb : Table) → Fin (tcTables nBuf tb) → BufTy
  | .hbm, ⟨0, _⟩ => ⟨S64x4096, .f32⟩
  | .hbm, ⟨1, _⟩ => ⟨S8x30x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S64x2048, .f32⟩
  | .hbm, ⟨10, _⟩ => ⟨S8x30x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S1x30x2048, .f32⟩
  | .local _ .vmem, ⟨5, _⟩ => ⟨S1x30x2048, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S8x2048, .f32⟩
  | .local _ .vmem, ⟨11, _⟩ => ⟨S8x2048, .f32⟩
  | .local _ .vmem, ⟨12, _⟩ => ⟨S1x30x2048, .f32⟩
  | .local _ .vmem, ⟨13, _⟩ => ⟨S1x30x2048, .f32⟩
  | .local _ .vmem, ⟨14, _⟩ => ⟨S40x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def k0_mult1 : BitVec 32 :=
  let c0_i32_9 : BitVec 32 := 0#32
  let c8_i32 : BitVec 32 := 8#32
  let v19 : BitVec 32 := Scalar.muli c0_i32_9 c8_i32
  v19
def k0_off1 : Fin 2 → Nat :=
  let c0_i32_9 : BitVec 32 := 0#32
  let c8_i32 : BitVec 32 := 8#32
  let v19 : BitVec 32 := Scalar.muli c0_i32_9 c8_i32
  let v20 : BitVec 32 := v19
  let v21 : Index := Scalar.indexCast v20
  let c0_10 : Index := 0#32
  ![v21.toNat, 0]
def k0_off2 : Fin 2 → Nat :=
  let c0_i32_9 : BitVec 32 := 0#32
  let c8_i32 : BitVec 32 := 8#32
  let v19 : BitVec 32 := Scalar.muli c0_i32_9 c8_i32
  let v20 : BitVec 32 := v19
  let v183 : Index := Scalar.indexCast v20
  let c512 : Index := 512#32
  ![v183.toNat, 512]
def k0_off3 : Fin 2 → Nat :=
  let c0_i32_9 : BitVec 32 := 0#32
  let c8_i32 : BitVec 32 := 8#32
  let v19 : BitVec 32 := Scalar.muli c0_i32_9 c8_i32
  let v20 : BitVec 32 := v19
  let v345 : Index := Scalar.indexCast v20
  let c1024 : Index := 1024#32
  ![v345.toNat, 1024]
def k0_off4 : Fin 2 → Nat :=
  let c0_i32_9 : BitVec 32 := 0#32
  let c8_i32 : BitVec 32 := 8#32
  let v19 : BitVec 32 := Scalar.muli c0_i32_9 c8_i32
  let v20 : BitVec 32 := v19
  let v507 : Index := Scalar.indexCast v20
  let c1536 : Index := 1536#32
  ![v507.toNat, 1536]
def k0_off5 : Fin 2 → Nat :=
  let c0_i32_9 : BitVec 32 := 0#32
  let c8_i32 : BitVec 32 := 8#32
  let v19 : BitVec 32 := Scalar.muli c0_i32_9 c8_i32
  let v20 : BitVec 32 := v19
  let v702 : Index := Scalar.indexCast v20
  let c0_253 : Index := 0#32
  ![v702.toNat, 0]
def k0_cond3 (i : grid0.Coords) : BitVec 1 :=
  let arg1 : BitVec 32 := BitVec.ofNat 32 (i 1).val
  let c0_i32_254 : BitVec 32 := 0#32
  let v704 : BitVec 1 := Scalar.cmpi .eq arg1 c0_i32_254
  let v705 : BitVec 32 := Scalar.extui v704
  let c0_i32_255 : BitVec 32 := 0#32
  let v706 : BitVec 1 := Scalar.cmpi .ne v705 c0_i32_255
  v706

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x30x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x30x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvSReferenceIdeal.lean ====
abbrev S64x4096 : Shape := ⟨2, ![64, 4096]⟩
abbrev S8x30x2048 : Shape := ⟨3, ![8, 30, 2048]⟩
abbrev S31x2048 : Shape := ⟨2, ![31, 2048]⟩
abbrev S2048 : Shape := ⟨1, ![2048]⟩
abbrev S8x8x4096 : Shape := ⟨3, ![8, 8, 4096]⟩
abbrev S8x8x2048 : Shape := ⟨3, ![8, 8, 2048]⟩
abbrev S_ : Shape := ⟨0, ![]⟩
abbrev S8x38x2048 : Shape := ⟨3, ![8, 38, 2048]⟩
abbrev S1x2048 : Shape := ⟨2, ![1, 2048]⟩
abbrev S1x1x2048 : Shape := ⟨3, ![1, 1, 2048]⟩
abbrev S8x8 : Shape := ⟨2, ![8, 8]⟩
abbrev S8x8x1 : Shape := ⟨3, ![8, 8, 1]⟩
abbrev S64x2048 : Shape := ⟨2, ![64, 2048]⟩

abbrev nBuf : Space → Nat
  | .hbm => 279
  | .vmem => 0
  | .smem => 0
  | _ => 0

abbrev hbmTy0_0 (i : Nat) : BufTy := match i % 128 with
  | 0 => ⟨S64x4096, .f32⟩
  | 1 => ⟨S8x30x2048, .f32⟩
  | 2 => ⟨S31x2048, .f32⟩
  | 3 => ⟨S2048, .f32⟩
  | 4 => ⟨S2048, .f32⟩
  | 5 => ⟨S2048, .f32⟩
  | 6 => ⟨S8x8x4096, .f32⟩
  | 7 => ⟨S8x8x2048, .f32⟩
  | 8 => ⟨S8x8x2048, .f32⟩
  | 9 => ⟨S8x8x2048, .f32⟩
  | 10 => ⟨S8x8x2048, .f32⟩
  | 11 => ⟨S_, .f32⟩
  | 12 => ⟨S8x8x2048, .f32⟩
  | 13 => ⟨S8x8x2048, .f32⟩
  | 14 => ⟨S_, .f32⟩
  | 15 => ⟨S8x8x2048, .f32⟩
  | 16 => ⟨S8x8x2048, .f32⟩
  | 17 => ⟨S8x8x2048, .f32⟩
  | 18 => ⟨S8x38x2048, .f32⟩
  | 19 => ⟨S8x8x2048, .f32⟩
  | 20 => ⟨S1x2048, .f32⟩
  | 21 => ⟨S2048, .f32⟩
  | 22 => ⟨S1x1x2048, .f32⟩
  | 23 => ⟨S8x8x2048, .f32⟩
  | 24 => ⟨S8x8x2048, .f32⟩
  | 25 => ⟨S_, .f32⟩
  | 26 => ⟨S8x8x2048, .f32⟩
  | 27 => ⟨S8x8x2048, .f32⟩
  | 28 => ⟨S8x8x2048, .f32⟩
  | 29 => ⟨S1x2048, .f32⟩
  | 30 => ⟨S2048, .f32⟩
  | 31 => ⟨S1x1x2048, .f32⟩
  | 32 => ⟨S8x8x2048, .f32⟩
  | 33 => ⟨S8x8x2048, .f32⟩
  | 34 => ⟨S8x8x2048, .f32⟩
  | 35 => ⟨S8x8x2048, .f32⟩
  | 36 => ⟨S1x2048, .f32⟩
  | 37 => ⟨S2048, .f32⟩
  | 38 => ⟨S1x1x2048, .f32⟩
  | 39 => ⟨S8x8x2048, .f32⟩
  | 40 => ⟨S8x8x2048, .f32⟩
  | 41 => ⟨S8x8x2048, .f32⟩
  | 42 => ⟨S8x8x2048, .f32⟩
  | 43 => ⟨S1x2048, .f32⟩
  | 44 => ⟨S2048, .f32⟩
  | 45 => ⟨S1x1x2048, .f32⟩
  | 46 => ⟨S8x8x2048, .f32⟩
  | 47 => ⟨S8x8x2048, .f32⟩
  | 48 => ⟨S8x8x2048, .f32⟩
  | 49 => ⟨S8x8x2048, .f32⟩
  | 50 => ⟨S1x2048, .f32⟩
  | 51 => ⟨S2048, .f32⟩
  | 52 => ⟨S1x1x2048, .f32⟩
  | 53 => ⟨S8x8x2048, .f32⟩
  | 54 => ⟨S8x8x2048, .f32⟩
  | 55 => ⟨S8x8x2048, .f32⟩
  | 56 => ⟨S8x8x2048, .f32⟩
  | 57 => ⟨S1x2048, .f32⟩
  | 58 => ⟨S2048, .f32⟩
  | 59 => ⟨S1x1x2048, .f32⟩
  | 60 => ⟨S8x8x2048, .f32⟩
  | 61 => ⟨S8x8x2048, .f32⟩
  | 62 => ⟨S8x8x2048, .f32⟩
  | 63 => ⟨S8x8x2048, .f32⟩
  | 64 => ⟨S1x2048, .f32⟩
  | 65 => ⟨S2048, .f32⟩
  | 66 => ⟨S1x1x2048, .f32⟩
  | 67 => ⟨S8x8x2048, .f32⟩
  | 68 => ⟨S8x8x2048, .f32⟩
  | 69 => ⟨S8x8x2048, .f32⟩
  | 70 => ⟨S8x8x2048, .f32⟩
  | 71 => ⟨S1x2048, .f32⟩
  | 72 => ⟨S2048, .f32⟩
  | 73 => ⟨S1x1x2048, .f32⟩
  | 74 => ⟨S8x8x2048, .f32⟩
  | 75 => ⟨S8x8x2048, .f32⟩
  | 76 => ⟨S8x8x2048, .f32⟩
  | 77 => ⟨S8x8x2048, .f32⟩
  | 78 => ⟨S1x2048, .f32⟩
  | 79 => ⟨S2048, .f32⟩
  | 80 => ⟨S1x1x2048, .f32⟩
  | 81 => ⟨S8x8x2048, .f32⟩
  | 82 => ⟨S8x8x2048, .f32⟩
  | 83 => ⟨S8x8x2048, .f32⟩
  | 84 => ⟨S8x8x2048, .f32⟩
  | 85 => ⟨S1x2048, .f32⟩
  | 86 => ⟨S2048, .f32⟩
  | 87 => ⟨S1x1x2048, .f32⟩
  | 88 => ⟨S8x8x2048, .f32⟩
  | 89 => ⟨S8x8x2048, .f32⟩
  | 90 => ⟨S8x8x2048, .f32⟩
  | 91 => ⟨S8x8x2048, .f32⟩
  | 92 => ⟨S1x2048, .f32⟩
  | 93 => ⟨S2048, .f32⟩
  | 94 => ⟨S1x1x2048, .f32⟩
  | 95 => ⟨S8x8x2048, .f32⟩
  | 96 => ⟨S8x8x2048, .f32⟩
  | 97 => ⟨S8x8x2048, .f32⟩
  | 98 => ⟨S8x8x2048, .f32⟩
  | 99 => ⟨S1x2048, .f32⟩
  | 100 => ⟨S2048, .f32⟩
  | 101 => ⟨S1x1x2048, .f32⟩
  | 102 => ⟨S8x8x2048, .f32⟩
  | 103 => ⟨S8x8x2048, .f32⟩
  | 104 => ⟨S8x8x2048, .f32⟩
  | 105 => ⟨S8x8x2048, .f32⟩
  | 106 => ⟨S1x2048, .f32⟩
  | 107 => ⟨S2048, .f32⟩
  | 108 => ⟨S1x1x2048, .f32⟩
  | 109 => ⟨S8x8x2048, .f32⟩
  | 110 => ⟨S8x8x2048, .f32⟩
  | 111 => ⟨S8x8x2048, .f32⟩
  | 112 => ⟨S8x8x2048, .f32⟩
  | 113 => ⟨S1x2048, .f32⟩
  | 114 => ⟨S2048, .f32⟩
  | 115 => ⟨S1x1x2048, .f32⟩
  | 116 => ⟨S8x8x2048, .f32⟩
  | 117 => ⟨S8x8x2048, .f32⟩
  | 118 => ⟨S8x8x2048, .f32⟩
  | 119 => ⟨S8x8x2048, .f32⟩
  | 120 => ⟨S1x2048, .f32⟩
  | 121 => ⟨S2048, .f32⟩
  | 122 => ⟨S1x1x2048, .f32⟩
  | 123 => ⟨S8x8x2048, .f32⟩
  | 124 => ⟨S8x8x2048, .f32⟩
  | 125 => ⟨S8x8x2048, .f32⟩
  | 126 => ⟨S8x8x2048, .f32⟩
  | 127 => ⟨S1x2048, .f32⟩
  | _ => ⟨S64x4096, .f32⟩

abbrev hbmTy0_1 (i : Nat) : BufTy := match i % 128 with
  | 0 => ⟨S2048, .f32⟩
  | 1 => ⟨S1x1x2048, .f32⟩
  | 2 => ⟨S8x8x2048, .f32⟩
  | 3 => ⟨S8x8x2048, .f32⟩
  | 4 => ⟨S8x8x2048, .f32⟩
  | 5 => ⟨S8x8x2048, .f32⟩
  | 6 => ⟨S1x2048, .f32⟩
  | 7 => ⟨S2048, .f32⟩
  | 8 => ⟨S1x1x2048, .f32⟩
  | 9 => ⟨S8x8x2048, .f32⟩
  | 10 => ⟨S8x8x2048, .f32⟩
  | 11 => ⟨S8x8x2048, .f32⟩
  | 12 => ⟨S8x8x2048, .f32⟩
  | 13 => ⟨S1x2048, .f32⟩
  | 14 => ⟨S2048, .f32⟩
  | 15 => ⟨S1x1x2048, .f32⟩
  | 16 => ⟨S8x8x2048, .f32⟩
  | 17 => ⟨S8x8x2048, .f32⟩
  | 18 => ⟨S8x8x2048, .f32⟩
  | 19 => ⟨S8x8x2048, .f32⟩
  | 20 => ⟨S1x2048, .f32⟩
  | 21 => ⟨S2048, .f32⟩
  | 22 => ⟨S1x1x2048, .f32⟩
  | 23 => ⟨S8x8x2048, .f32⟩
  | 24 => ⟨S8x8x2048, .f32⟩
  | 25 => ⟨S8x8x2048, .f32⟩
  | 26 => ⟨S8x8x2048, .f32⟩
  | 27 => ⟨S1x2048, .f32⟩
  | 28 => ⟨S2048, .f32⟩
  | 29 => ⟨S1x1x2048, .f32⟩
  | 30 => ⟨S8x8x2048, .f32⟩
  | 31 => ⟨S8x8x2048, .f32⟩
  | 32 => ⟨S8x8x2048, .f32⟩
  | 33 => ⟨S8x8x2048, .f32⟩
  | 34 => ⟨S1x2048, .f32⟩
  | 35 => ⟨S2048, .f32⟩
  | 36 => ⟨S1x1x2048, .f32⟩
  | 37 => ⟨S8x8x2048, .f32⟩
  | 38 => ⟨S8x8x2048, .f32⟩
  | 39 => ⟨S8x8x2048, .f32⟩
  | 40 => ⟨S8x8x2048, .f32⟩
  | 41 => ⟨S1x2048, .f32⟩
  | 42 => ⟨S2048, .f32⟩
  | 43 => ⟨S1x1x2048, .f32⟩
  | 44 => ⟨S8x8x2048, .f32⟩
  | 45 => ⟨S8x8x2048, .f32⟩
  | 46 => ⟨S8x8x2048, .f32⟩
  | 47 => ⟨S8x8x2048, .f32⟩
  | 48 => ⟨S1x2048, .f32⟩
  | 49 => ⟨S2048, .f32⟩
  | 50 => ⟨S1x1x2048, .f32⟩
  | 51 => ⟨S8x8x2048, .f32⟩
  | 52 => ⟨S8x8x2048, .f32⟩
  | 53 => ⟨S8x8x2048, .f32⟩
  | 54 => ⟨S8x8x2048, .f32⟩
  | 55 => ⟨S1x2048, .f32⟩
  | 56 => ⟨S2048, .f32⟩
  | 57 => ⟨S1x1x2048, .f32⟩
  | 58 => ⟨S8x8x2048, .f32⟩
  | 59 => ⟨S8x8x2048, .f32⟩
  | 60 => ⟨S8x8x2048, .f32⟩
  | 61 => ⟨S8x8x2048, .f32⟩
  | 62 => ⟨S1x2048, .f32⟩
  | 63 => ⟨S2048, .f32⟩
  | 64 => ⟨S1x1x2048, .f32⟩
  | 65 => ⟨S8x8x2048, .f32⟩
  | 66 => ⟨S8x8x2048, .f32⟩
  | 67 => ⟨S8x8x2048, .f32⟩
  | 68 => ⟨S8x8x2048, .f32⟩
  | 69 => ⟨S1x2048, .f32⟩
  | 70 => ⟨S2048, .f32⟩
  | 71 => ⟨S1x1x2048, .f32⟩
  | 72 => ⟨S8x8x2048, .f32⟩
  | 73 => ⟨S8x8x2048, .f32⟩
  | 74 => ⟨S8x8x2048, .f32⟩
  | 75 => ⟨S8x8x2048, .f32⟩
  | 76 => ⟨S1x2048, .f32⟩
  | 77 => ⟨S2048, .f32⟩
  | 78 => ⟨S1x1x2048, .f32⟩
  | 79 => ⟨S8x8x2048, .f32⟩
  | 80 => ⟨S8x8x2048, .f32⟩
  | 81 => ⟨S8x8x2048, .f32⟩
  | 82 => ⟨S8x8x2048, .f32⟩
  | 83 => ⟨S1x2048, .f32⟩
  | 84 => ⟨S2048, .f32⟩
  | 85 => ⟨S1x1x2048, .f32⟩
  | 86 => ⟨S8x8x2048, .f32⟩
  | 87 => ⟨S8x8x2048, .f32⟩
  | 88 => ⟨S8x8x2048, .f32⟩
  | 89 => ⟨S8x8x2048, .f32⟩
  | 90 => ⟨S1x2048, .f32⟩
  | 91 => ⟨S2048, .f32⟩
  | 92 => ⟨S1x1x2048, .f32⟩
  | 93 => ⟨S8x8x2048, .f32⟩
  | 94 => ⟨S8x8x2048, .f32⟩
  | 95 => ⟨S8x8x2048, .f32⟩
  | 96 => ⟨S8x8x2048, .f32⟩
  | 97 => ⟨S1x2048, .f32⟩
  | 98 => ⟨S2048, .f32⟩
  | 99 => ⟨S1x1x2048, .f32⟩
  | 100 => ⟨S8x8x2048, .f32⟩
  | 101 => ⟨S8x8x2048, .f32⟩
  | 102 => ⟨S8x8x2048, .f32⟩
  | 103 => ⟨S8x8x2048, .f32⟩
  | 104 => ⟨S1x2048, .f32⟩
  | 105 => ⟨S2048, .f32⟩
  | 106 => ⟨S1x1x2048, .f32⟩
  | 107 => ⟨S8x8x2048, .f32⟩
  | 108 => ⟨S8x8x2048, .f32⟩
  | 109 => ⟨S8x8x2048, .f32⟩
  | 110 => ⟨S1x1x2048, .f32⟩
  | 111 => ⟨S8x8x2048, .f32⟩
  | 112 => ⟨S8x8x2048, .f32⟩
  | 113 => ⟨S_, .f32⟩
  | 114 => ⟨S8x8, .f32⟩
  | 115 => ⟨S8x8x1, .f32⟩
  | 116 => ⟨S_, .f32⟩
  | 117 => ⟨S8x8x1, .f32⟩
  | 118 => ⟨S8x8x1, .f32⟩
  | 119 => ⟨S8x8x2048, .f32⟩
  | 120 => ⟨S8x8x2048, .f32⟩
  | 121 => ⟨S8x8x2048, .f32⟩
  | 122 => ⟨S_, .f32⟩
  | 123 => ⟨S8x8, .f32⟩
  | 124 => ⟨S8x8x1, .f32⟩
  | 125 => ⟨S_, .f32⟩
  | 126 => ⟨S8x8x1, .f32⟩
  | 127 => ⟨S8x8x1, .f32⟩
  | _ => ⟨S64x4096, .f32⟩

abbrev hbmTy0_2 (i : Nat) : BufTy := match i % 128 with
  | 0 => ⟨S_, .f32⟩
  | 1 => ⟨S8x8x1, .f32⟩
  | 2 => ⟨S8x8x1, .f32⟩
  | 3 => ⟨S8x8x1, .f32⟩
  | 4 => ⟨S8x8x2048, .f32⟩
  | 5 => ⟨S8x8x2048, .f32⟩
  | 6 => ⟨S1x1x2048, .f32⟩
  | 7 => ⟨S8x8x2048, .f32⟩
  | 8 => ⟨S8x8x2048, .f32⟩
  | 9 => ⟨S1x1x2048, .f32⟩
  | 10 => ⟨S8x8x2048, .f32⟩
  | 11 => ⟨S8x8x2048, .f32⟩
  | 12 => ⟨S8x8x2048, .f32⟩
  | 13 => ⟨S8x8x2048, .f32⟩
  | 14 => ⟨S_, .f32⟩
  | 15 => ⟨S8x8x2048, .f32⟩
  | 16 => ⟨S8x8x2048, .f32⟩
  | 17 => ⟨S_, .f32⟩
  | 18 => ⟨S8x8x2048, .f32⟩
  | 19 => ⟨S8x8x2048, .f32⟩
  | 20 => ⟨S8x8x2048, .f32⟩
  | 21 => ⟨S64x2048, .f32⟩
  | 22 => ⟨S8x30x2048, .f32⟩
  | _ => ⟨S64x4096, .f32⟩

abbrev hbmTy (i : Nat) : BufTy := match i / 128 with
  | 0 => hbmTy0_0 i
  | 1 => hbmTy0_1 i
  | 2 => hbmTy0_2 i
  | _ => ⟨S64x4096, .f32⟩

abbrev bufTy : (tb : Table) → Fin (tcTables nBuf tb) → BufTy
  | .hbm, ⟨i, _⟩ => hbmTy i
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_2 : Ref sig .tc := ⟨.hbm, 241, rfl⟩
abbrev main_v232 : Ref sig .tc := ⟨.hbm, 242, rfl⟩
abbrev main_v233 : Ref sig .tc := ⟨.hbm, 243, rfl⟩
abbrev main_cst_3 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_4 : Ref sig .tc := ⟨.hbm, 250, rfl⟩
abbrev main_v239 : Ref sig .tc := ⟨.hbm, 251, rfl⟩
abbrev main_v240 : Ref sig .tc := ⟨.hbm, 252, rfl⟩
abbrev main_cst_5 : Ref sig .tc := ⟨.hbm, 253, rfl⟩
abbrev main_v241 : Ref sig .tc := ⟨.hbm, 254, rfl⟩
abbrev main_v242 : Ref sig .tc := ⟨.hbm, 255, rfl⟩
abbrev main_cst_6 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== GlaS.lean ====
abbrev S64x6144 : Shape := ⟨2, ![64, 6144]⟩
abbrev S64x1024 : Shape := ⟨2, ![64, 1024]⟩
abbrev S8x8x128x256 : Shape := ⟨4, ![8, 8, 128, 256]⟩
abbrev S256 : Shape := ⟨1, ![256]⟩
abbrev S1x256 : Shape := ⟨2, ![1, 256]⟩
abbrev S64x2048 : Shape := ⟨2, ![64, 2048]⟩
abbrev S8x512 : Shape := ⟨2, ![8, 512]⟩
abbrev S8x1024 : Shape := ⟨2, ![8, 1024]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S8x8x128 : Shape := ⟨3, ![8, 8, 128]⟩
abbrev S8x128 : Shape := ⟨2, ![8, 128]⟩
abbrev S8x256 : Shape := ⟨2, ![8, 256]⟩
abbrev S8x1x128 : Shape := ⟨3, ![8, 1, 128]⟩
abbrev S1x8x128 : Shape := ⟨3, ![1, 8, 128]⟩
abbrev S8x8 : Shape := ⟨2, ![8, 8]⟩
abbrev S1x128 : Shape := ⟨2, ![1, 128]⟩
abbrev S8 : Shape := ⟨1, ![8]⟩
abbrev S8x1 : Shape := ⟨2, ![8, 1]⟩

abbrev nBuf : Space → Nat
  | .hbm => 7
  | .vmem => 18
  | .smem => 0
  | _ => 0

abbrev bufTy : (tb : Table) → Fin (tcTables nBuf tb) → BufTy
  | .hbm, ⟨0, _⟩ => ⟨S64x6144, .f32⟩
  | .hbm, ⟨1, _⟩ => ⟨S64x1024, .f32⟩
  | .hbm, ⟨2, _⟩ => ⟨S8x8x128x256, .f32⟩
  | .hbm, ⟨3, _⟩ => ⟨S256, .f32⟩
  | .hbm, ⟨4, _⟩ => ⟨S1x256, .f32⟩
  | .hbm, ⟨5, _⟩ => ⟨S64x2048, .f32⟩
  | .hbm, ⟨6, _⟩ => ⟨S8x8x128x256, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x512, .f32⟩
  | .local _ .vmem, ⟨9, _⟩ => ⟨S8x512, .f32⟩
  | .local _ .vmem, ⟨10, _⟩ => ⟨S1x4x128x256, .f32⟩
  | .local _ .vmem, ⟨11, _⟩ => ⟨S1x4x128x256, .f32⟩
  | .local _ .vmem, ⟨12, _⟩ => ⟨S1x256, .f32⟩
  | .local _ .vmem, ⟨13, _⟩ => ⟨S8x1024, .f32⟩
  | .local _ .vmem, ⟨14, _⟩ => ⟨S8x1024, .f32⟩
  | .local _ .vmem, ⟨15, _⟩ => ⟨S1x4x128x256, .f32⟩
  | .local _ .vmem, ⟨16, _⟩ => ⟨S1x4x128x256, .f32⟩
  | .local _ .vmem, ⟨17, _⟩ => ⟨S4x256x128, .f32⟩
  | _, _ => ⟨S64x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 2, 1], ![false, false, false]⟩

def k0_mult1 : BitVec 32 :=
  let c0_i32_2 : BitVec 32 := 0#32
  let c8_i32 : BitVec 32 := 8#32
  let v8 : BitVec 32 := Scalar.muli c0_i32_2 c8_i32
  v8
def k0_off1 : Fin 2 → Nat :=
  let c0_i32_2 : BitVec 32 := 0#32
  let c8_i32 : BitVec 32 := 8#32
  let v8 : BitVec 32 := Scalar.muli c0_i32_2 c8_i32
  let v9 : BitVec 32 := v8
  let v10 : Index := Scalar.indexCast v9
  let c0_3 : Index := 0#32
  ![v10.toNat, 0]
def k0_off2 : Fin 2 → Nat :=
  let c0_i32_2 : BitVec 32 := 0#32
  let c8_i32 : BitVec 32 := 8#32
  let v8 : BitVec 32 := Scalar.muli c0_i32_2 c8_i32
  let v9 : BitVec 32 := v8
  let v16 : Index := Scalar.indexCast v9
  let c0_5 : Index := 0#32
  ![v16.toNat, 0]
def k0_off3 : Fin 2 → Nat :=
  let c0_i32_2 : BitVec 32 := 0#32
  let c8_i32 : BitVec 32 := 8#32
  let v8 : BitVec 32 := Scalar.muli c0_i32_2 c8_i32
  let v9 : BitVec 32 := v8
  let v86 : Index := Scalar.indexCast v9
  let c128 : Index := 128#32
  ![v86.toNat, 128]
def k0_off4 : Fin 2 → Nat :=
  let c0_i32_2 : BitVec 32 := 0#32
  let c8_i32 : BitVec 32 := 8#32
  let v8 : BitVec 32 := Scalar.muli c0_i32_2 c8_i32
  let v9 : BitVec 32 := v8
  let v92 : Index := Scalar.indexCast v9
  let c256 : Index := 256#32
  ![v92.toNat, 256]
def k0_off5 : Fin 2 → Nat :=
  let c0_i32_2 : BitVec 32 := 0#32
  let c8_i32 : BitVec 32 := 8#32
  let v8 : BitVec 32 := Scalar.muli c0_i32_2 c8_i32
  let v9 : BitVec 32 := v8
  let v162 : Index := Scalar.indexCast v9
  let c256_47 : Index := 256#32
  ![v162.toNat, 256]
def k0_off6 : Fin 2 → Nat :=
  let c0_i32_2 : BitVec 32 := 0#32
  let c8_i32 : BitVec 32 := 8#32
  let v8 : BitVec 32 := Scalar.muli c0_i32_2 c8_i32
  let v9 : BitVec 32 := v8
  let v168 : Index := Scalar.indexCast v9
  let c512 : Index := 512#32
  ![v168.toNat, 512]
def k0_off7 : Fin 2 → Nat :=
  let c0_i32_2 : BitVec 32 := 0#32
  let c8_i32 : BitVec 32 := 8#32
  let v8 : BitVec 32 := Scalar.muli c0_i32_2 c8_i32
  let v9 : BitVec 32 := v8
  let v238 : Index := Scalar.indexCast v9
  let c384 : Index := 384#32
  ![v238.toNat, 384]
def k0_off8 : Fin 2 → Nat :=
  let c0_i32_2 : BitVec 32 := 0#32
  let c8_i32 : BitVec 32 := 8#32
  let v8 : BitVec 32 := Scalar.muli c0_i32_2 c8_i32
  let v9 : BitVec 32 := v8
  let v244 : Index := Scalar.indexCast v9
  let c768 : Index := 768#32
  ![v244.toNat, 768]
def k0_cond2 (i : grid0.Coords) : BitVec 1 :=
  let arg2 : BitVec 32 := BitVec.ofNat 32 (i 2).val
  let c0_i32_90 : BitVec 32 := 0#32
  let v314 : BitVec 1 := Scalar.cmpi .eq arg2 c0_i32_90
  let v315 : BitVec 32 := Scalar.extui v314
  let c0_i32_91 : BitVec 32 := 0#32
  let v316 : BitVec 1 := Scalar.cmpi .ne v315 c0_i32_91
  v316

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== GlaSReferenceIdeal.lean ====
abbrev S64x6144 : Shape := ⟨2, ![64, 6144]⟩
abbrev S64x1024 : Shape := ⟨2, ![64, 1024]⟩
abbrev S8x8x128x256 : Shape := ⟨4, ![8, 8, 128, 256]⟩
abbrev S256 : Shape := ⟨1, ![256]⟩
abbrev S8x8x6144 : Shape := ⟨3, ![8, 8, 6144]⟩
abbrev S8x8x1024 : Shape := ⟨3, ![8, 8, 1024]⟩
abbrev S8x8x2048 : Shape := ⟨3, ![8, 8, 2048]⟩
abbrev S8x8x8x128 : Shape := ⟨4, ![8, 8, 8, 128]⟩
abbrev S_ : Shape := ⟨0, ![]⟩
abbrev S8x8x8x256 : Shape := ⟨4, ![8, 8, 8, 256]⟩
abbrev S8x8 : Shape := ⟨2, ![8, 8]⟩
abbrev S8x8x256x8 : Shape := ⟨4, ![8, 8, 256, 8]⟩
abbrev S1x8x8x1x1 : Shape := ⟨5, ![1, 8, 8, 1, 1]⟩
abbrev S8x8x1x8x128 : Shape := ⟨5, ![8, 8, 1, 8, 128]⟩
abbrev S8x1x8x8x128 : Shape := ⟨5, ![8, 1, 8, 8, 128]⟩
abbrev S8x8x8x8x128 : Shape := ⟨5, ![8, 8, 8, 8, 128]⟩
abbrev S8x8x8x8 : Shape := ⟨4, ![8, 8, 8, 8]⟩
abbrev S8x1x8x128 : Shape := ⟨4, ![8, 1, 8, 128]⟩
abbrev S8x8x128 : Shape := ⟨3, ![8, 8, 128]⟩
abbrev S8x8x128x1 : Shape := ⟨4, ![8, 8, 128, 1]⟩
abbrev S8x8x8 : Shape := ⟨3, ![8, 8, 8]⟩
abbrev S8x8x8x1 : Shape := ⟨4, ![8, 8, 8, 1]⟩
abbrev S1x1x1x256 : Shape := ⟨4, ![1, 1, 1, 256]⟩
abbrev S64x2048 : Shape := ⟨2, ![64, 2048]⟩

abbrev nBuf : Space → Nat
  | .hbm => 95
  | .vmem => 0
  | .smem => 0
  | _ => 0

abbrev bufTy : (tb : Table) → Fin (tcTables nBuf tb) → BufTy
  | .hbm, ⟨0, _⟩ => ⟨S64x6144, .f32⟩
  | .hbm, ⟨1, _⟩ => ⟨S64x1024, .f32⟩
  | .hbm, ⟨2, _⟩ => ⟨S8x8x128x256, .f32⟩
  | .hbm, ⟨3, _⟩ => ⟨S256, .f32⟩
  | .hbm, ⟨4, _⟩ => ⟨S8x8x6144, .f32⟩
  | .hbm, ⟨5, _⟩ => ⟨S8x8x1024, .f32⟩
  | .hbm, ⟨6, _⟩ => ⟨S8x8x1024, .f32⟩
  | .hbm, ⟨7, _⟩ => ⟨S8x8x2048, .f32⟩
  | .hbm, ⟨8, _⟩ => ⟨S8x8x2048, .f32⟩
  | .hbm, ⟨9, _⟩ => ⟨S8x8x8x128, .f32⟩
  | .hbm, ⟨10, _⟩ => ⟨S_, .f32⟩
  | .hbm, ⟨11, _⟩ => ⟨S8x8x8x128, .f32⟩
  | .hbm, ⟨12, _⟩ => ⟨S8x8x8x128, .f32⟩
  | .hbm, ⟨13, _⟩ => ⟨S8x8x8x128, .f32⟩
  | .hbm, ⟨14, _⟩ => ⟨S8x8x8x256, .f32⟩
  | .hbm, ⟨15, _⟩ => ⟨S8x8x8x128, .f32⟩
  | .hbm, ⟨16, _⟩ => ⟨S_, .i1⟩
  | .hbm, ⟨17, _⟩ => ⟨S8x8, .i1⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S_, .i1⟩
  | .hbm, ⟨25, _⟩ => ⟨S8x8, .i1⟩
  | .hbm, ⟨26, _⟩ => ⟨S8x8, .i1⟩
  | .hbm, ⟨27, _⟩ => ⟨S8x8x8x128, .f32⟩
  | .hbm, ⟨28, _⟩ => ⟨S8x8x8x128, .f32⟩
  | .hbm, ⟨29, _⟩ => ⟨S8x8x256x8, .f32⟩
  | .hbm, ⟨30, _⟩ => ⟨S8x8x8x256, .f32⟩
  | .hbm, ⟨31, _⟩ => ⟨S1x8x8x1x1, .i1⟩
  | .hbm, ⟨32, _⟩ => ⟨S8x8x1x8x128, .f32⟩
  | .hbm, ⟨33, _⟩ => ⟨S8x1x8x8x128, .f32⟩
  | .hbm, ⟨34, _⟩ => ⟨S8x8x8x8x128, .f32⟩
  | .hbm, ⟨35, _⟩ => ⟨S8x8x8x8x128, .f32⟩
  | .hbm, ⟨36, _⟩ => ⟨S8x8x8x8x128, .f32⟩
  | .hbm, ⟨37, _⟩ => ⟨S_, .f32⟩
  | .hbm, ⟨38, _⟩ => ⟨S_, .f32⟩
  | .hbm, ⟨39, _⟩ => ⟨S8x8x8x8x128, .i1⟩
  | .hbm, ⟨40, _⟩ => ⟨S8x8x8x8x128, .f32⟩
  | .hbm, ⟨41, _⟩ => ⟨S8x8x8x8x128, .f32⟩
  | .hbm, ⟨42, _⟩ => ⟨S8x8x1x8x128, .f32⟩
  | .hbm, ⟨43, _⟩ => ⟨S8x8x8x8x128, .f32⟩
  | .hbm, ⟨44, _⟩ => ⟨S8x8x8x8x128, .f32⟩
  | .hbm, ⟨45, _⟩ => ⟨S8x8x8x8x128, .f32⟩
  | .hbm, ⟨46, _⟩ => ⟨S8x1x8x8x128, .f32⟩
  | .hbm, ⟨47, _⟩ => ⟨S8x8x8x8x128, .f32⟩
  | .hbm, ⟨48, _⟩ => ⟨S8x8x8x8x128, .f32⟩
  | .hbm, ⟨49, _⟩ => ⟨S_, .f32⟩
  | .hbm, ⟨50, _⟩ => ⟨S8x8x8x8, .f32⟩
  | .hbm, ⟨51, _⟩ => ⟨S8x8x256x8, .f32⟩
  | .hbm, ⟨52, _⟩ => ⟨S8x8x8x256, .f32⟩
  | .hbm, ⟨53, _⟩ => ⟨S8x1x8x128, .f32⟩
  | .hbm, ⟨54, _⟩ => ⟨S8x8x128, .f32⟩
  | .hbm, ⟨55, _⟩ => ⟨S8x8x128, .f32⟩
  | .hbm, ⟨56, _⟩ => ⟨S8x8x128x1, .f32⟩
  | .hbm, ⟨57, _⟩ => ⟨S8x8x128x256, .f32⟩
  | .hbm, ⟨58, _⟩ => ⟨S8x8x128x256, .f32⟩
  | .hbm, ⟨59, _⟩ => ⟨S8x1x8x128, .f32⟩
  | .hbm, ⟨60, _⟩ => ⟨S8x8x8x128, .f32⟩
  | .hbm, ⟨61, _⟩ => ⟨S8x8x8x128, .f32⟩
  | .hbm, ⟨62, _⟩ => ⟨S8x8x8x128, .f32⟩
  | .hbm, ⟨63, _⟩ => ⟨S8x8x8x128, .f32⟩
  | .hbm, ⟨64, _⟩ => ⟨S8x8x128x256, .f32⟩
  | .hbm, ⟨65, _⟩ => ⟨S8x8x128x256, .f32⟩
  | .hbm, ⟨66, _⟩ => ⟨S8x8x8x256, .f32⟩
  | .hbm, ⟨67, _⟩ => ⟨S8x8x8x256, .f32⟩
  | .hbm, ⟨68, _⟩ => ⟨S_, .f32⟩
  | .hbm, ⟨69, _⟩ => ⟨S8x8x8, .f32⟩
  | .hbm, ⟨70, _⟩ => ⟨S8x8x8x1, .f32⟩
  | .hbm, ⟨71, _⟩ => ⟨S_, .f32⟩
  | .hbm, ⟨72, _⟩ => ⟨S8x8x8x1, .f32⟩
  | .hbm, ⟨73, _⟩ => ⟨S8x8x8x1, .f32⟩
  | .hbm, ⟨74, _⟩ => ⟨S_, .f32⟩
  | .hbm, ⟨75, _⟩ => ⟨S8x8x8x1, .f32⟩
  | .hbm, ⟨76, _⟩ => ⟨S8x8x8x1, .f32⟩
  | .hbm, ⟨77, _⟩ => ⟨S8x8x8x1, .f32⟩
  | .hbm, ⟨78, _⟩ => ⟨S8x8x8x256, .f32⟩
  | .hbm, ⟨79, _⟩ => ⟨S8x8x8x256, .f32⟩
  | .hbm, ⟨80, _⟩ => ⟨S1x1x1x256, .f32⟩
  | .hbm, ⟨81, _⟩ => ⟨S8x8x8x256, .f32⟩
  | .hbm, ⟨82, _⟩ => ⟨S8x8x8x256, .f32⟩
  | .hbm, ⟨83, _⟩ => ⟨S64x2048, .f32⟩
  | .hbm, ⟨84, _⟩ => ⟨S64x2048, .f32⟩
  | .hbm, ⟨85, _⟩ => ⟨S64x2048, .f32⟩
  | .hbm, ⟨86, _⟩ => ⟨S64x2048, .f32⟩
  | .hbm, ⟨87, _⟩ => ⟨S_, .f32⟩
  | .hbm, ⟨88, _⟩ => ⟨S64x2048, .f32⟩
  | .hbm, ⟨89, _⟩ => ⟨S64x2048, .f32⟩
  | .hbm, ⟨90, _⟩ => ⟨S_, .f32⟩
  | .hbm, ⟨91, _⟩ => ⟨S64x2048, .f32⟩
  | .hbm, ⟨92, _⟩ => ⟨S64x2048, .f32⟩
  | .hbm, ⟨93, _⟩ => ⟨S64x2048, .f32⟩
  | .hbm, ⟨94, _⟩ => ⟨S64x2048, .f32⟩
  | _, _ => ⟨S64x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_2 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== ConvP.lean ====
abbrev S8256x4096 : Shape := ⟨2, ![8256, 4096]⟩
abbrev S4x30x2048 : Shape := ⟨3, ![4, 30, 2048]⟩
abbrev S31x2048 : Shape := ⟨2, ![31, 2048]⟩
abbrev S2048 : Shape := ⟨1, ![2048]⟩
abbrev S1x2048 : Shape := ⟨2, ![1, 2048]⟩
abbrev S8256x2048 : Shape := ⟨2, ![8256, 2048]⟩
abbrev S688x2048 : Shape := ⟨2, ![688, 2048]⟩
abbrev S1x30x2048 : Shape := ⟨3, ![1, 30, 2048]⟩
abbrev S720x2048 : Shape := ⟨2, ![720, 2048]⟩
abbrev S32x2048 : Shape := ⟨2, ![32, 2048]⟩
abbrev S30x2048 : Shape := ⟨2, ![30, 2048]⟩
abbrev S48x512 : Shape := ⟨2, ![48, 512]⟩
abbrev S16x512 : Shape := ⟨2, ![16, 512]⟩
abbrev S1x512 : Shape := ⟨2, ![1, 512]⟩
abbrev S16x2048 : Shape := ⟨2, ![16, 2048]⟩
abbrev S16 : Shape := ⟨1, ![16]⟩
abbrev S16x1 : Shape := ⟨2, ![16, 1]⟩

abbrev nBuf : Space → Nat
  | .hbm => 11
  | .vmem => 15
  | .smem => 0
  | _ => 0

abbrev bufTy : (tb : Table) → Fin (tcTables nBuf tb) → BufTy
  | .hbm, ⟨0, _⟩ => ⟨S8256x4096, .f32⟩
  | .hbm, ⟨1, _⟩ => ⟨S4x30x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8256x2048, .bf16⟩
  | .hbm, ⟨10, _⟩ => ⟨S4x30x2048, .f32⟩
  | .local _ .vmem, ⟨0, _⟩ => ⟨S688x2048, .f32⟩
  | .local _ .vmem, ⟨1, _⟩ => ⟨S688x2048, .f32⟩
  | .local _ .vmem, ⟨2, _⟩ => ⟨S688x2048, .f32⟩
  | .local _ .vmem, ⟨3, _⟩ => ⟨S688x2048, .f32⟩
  | .local _ .vmem, ⟨4, _⟩ => ⟨S1x30x2048, .f32⟩
  | .local _ .vmem, ⟨5, _⟩ => ⟨S1x30x2048, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S688x2048, .bf16⟩
  | .local _ .vmem, ⟨11, _⟩ => ⟨S688x2048, .bf16⟩
  | .local _ .vmem, ⟨12, _⟩ => ⟨S1x30x2048, .f32⟩
  | .local _ .vmem, ⟨13, _⟩ => ⟨S1x30x2048, .f32⟩
  | .local _ .vmem, ⟨14, _⟩ => ⟨S720x2048, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 3], ![false, false]⟩

@[reducible] def k0_t1_loop : Scf.Loop 32 :=
  let c0_i32_9 : BitVec 32 := 0#32
  let c43_i32 : BitVec 32 := 43#32
  let v19 : BitVec 32 := Scalar.addi c0_i32_9 c43_i32
  let c1_i32 : BitVec 32 := 1#32
  ⟨c0_i32_9, v19, c1_i32⟩
def k0_mult1 (k0_t1 : Fin k0_t1_loop.trips) : BitVec 32 :=
  let c0_i32_9 : BitVec 32 := 0#32
  let c1_i32 : BitVec 32 := 1#32
  let arg12 : BitVec 32 := Scf.iv c0_i32_9 c1_i32 k0_t1
  let c16_i32 : BitVec 32 := 16#32
  let v23 : BitVec 32 := Scalar.muli arg12 c16_i32
  v23
def k0_off1 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c16_i32 : BitVec 32 := 16#32
  let v23 : BitVec 32 := Scalar.muli arg12 c16_i32
  let v24 : BitVec 32 := v23
  let v25 : Index := Scalar.indexCast v24
  let c0_12 : Index := 0#32
  ![v25.toNat, 0]
def k0_off2 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c16_i32 : BitVec 32 := 16#32
  let v23 : BitVec 32 := Scalar.muli arg12 c16_i32
  let v24 : BitVec 32 := v23
  let v187 : Index := Scalar.indexCast v24
  let c512 : Index := 512#32
  ![v187.toNat, 512]
def k0_off3 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c16_i32 : BitVec 32 := 16#32
  let v23 : BitVec 32 := Scalar.muli arg12 c16_i32
  let v24 : BitVec 32 := v23
  let v349 : Index := Scalar.indexCast v24
  let c1024 : Index := 1024#32
  ![v349.toNat, 1024]
def k0_off4 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c16_i32 : BitVec 32 := 16#32
  let v23 : BitVec 32 := Scalar.muli arg12 c16_i32
  let v24 : BitVec 32 := v23
  let v511 : Index := Scalar.indexCast v24
  let c1536 : Index := 1536#32
  ![v511.toNat, 1536]
def k0_off5 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c16_i32 : BitVec 32 := 16#32
  let v23 : BitVec 32 := Scalar.muli arg12 c16_i32
  let v24 : BitVec 32 := v23
  let v707 : Index := Scalar.indexCast v24
  let c0_255 : Index := 0#32
  ![v707.toNat, 0]
def k0_cond3 (i : grid0.Coords) : BitVec 1 :=
  let arg1 : BitVec 32 := BitVec.ofNat 32 (i 1).val
  let c2_i32 : BitVec 32 := 2#32
  let v20 : BitVec 1 := Scalar.cmpi .eq arg1 c2_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x30x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S688x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x30x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvPReferenceIdeal.lean ====
abbrev S8256x4096 : Shape := ⟨2, ![8256, 4096]⟩
abbrev S4x30x2048 : Shape := ⟨3, ![4, 30, 2048]⟩
abbrev S31x2048 : Shape := ⟨2, ![31, 2048]⟩
abbrev S2048 : Shape := ⟨1, ![2048]⟩
abbrev S4x2064x4096 : Shape := ⟨3, ![4, 2064, 4096]⟩
abbrev S4x2064x2048 : Shape := ⟨3, ![4, 2064, 2048]⟩
abbrev S_ : Shape := ⟨0, ![]⟩
abbrev S4x2094x2048 : Shape := ⟨3, ![4, 2094, 2048]⟩
abbrev S1x2048 : Shape := ⟨2, ![1, 2048]⟩
abbrev S1x1x2048 : Shape := ⟨3, ![1, 1, 2048]⟩
abbrev S4x2064 : Shape := ⟨2, ![4, 2064]⟩
abbrev S4x2064x1 : Shape := ⟨3, ![4, 2064, 1]⟩
abbrev S8256x2048 : Shape := ⟨2, ![8256, 2048]⟩

abbrev nBuf : Space → Nat
  | .hbm => 280
  | .vmem => 0
  | .smem => 0
  | _ => 0

abbrev hbmTy0_0 (i : Nat) : BufTy := match i % 128 with
  | 0 => ⟨S8256x4096, .f32⟩
  | 1 => ⟨S4x30x2048, .f32⟩
  | 2 => ⟨S31x2048, .f32⟩
  | 3 => ⟨S2048, .f32⟩
  | 4 => ⟨S2048, .f32⟩
  | 5 => ⟨S2048, .f32⟩
  | 6 => ⟨S4x2064x4096, .f32⟩
  | 7 => ⟨S4x2064x2048, .f32⟩
  | 8 => ⟨S4x2064x2048, .f32⟩
  | 9 => ⟨S4x2064x2048, .f32⟩
  | 10 => ⟨S4x2064x2048, .f32⟩
  | 11 => ⟨S_, .f32⟩
  | 12 => ⟨S4x2064x2048, .f32⟩
  | 13 => ⟨S4x2064x2048, .f32⟩
  | 14 => ⟨S_, .f32⟩
  | 15 => ⟨S4x2064x2048, .f32⟩
  | 16 => ⟨S4x2064x2048, .f32⟩
  | 17 => ⟨S4x2064x2048, .f32⟩
  | 18 => ⟨S4x2094x2048, .f32⟩
  | 19 => ⟨S4x2064x2048, .f32⟩
  | 20 => ⟨S1x2048, .f32⟩
  | 21 => ⟨S2048, .f32⟩
  | 22 => ⟨S1x1x2048, .f32⟩
  | 23 => ⟨S4x2064x2048, .f32⟩
  | 24 => ⟨S4x2064x2048, .f32⟩
  | 25 => ⟨S_, .f32⟩
  | 26 => ⟨S4x2064x2048, .f32⟩
  | 27 => ⟨S4x2064x2048, .f32⟩
  | 28 => ⟨S4x2064x2048, .f32⟩
  | 29 => ⟨S1x2048, .f32⟩
  | 30 => ⟨S2048, .f32⟩
  | 31 => ⟨S1x1x2048, .f32⟩
  | 32 => ⟨S4x2064x2048, .f32⟩
  | 33 => ⟨S4x2064x2048, .f32⟩
  | 34 => ⟨S4x2064x2048, .f32⟩
  | 35 => ⟨S4x2064x2048, .f32⟩
  | 36 => ⟨S1x2048, .f32⟩
  | 37 => ⟨S2048, .f32⟩
  | 38 => ⟨S1x1x2048, .f32⟩
  | 39 => ⟨S4x2064x2048, .f32⟩
  | 40 => ⟨S4x2064x2048, .f32⟩
  | 41 => ⟨S4x2064x2048, .f32⟩
  | 42 => ⟨S4x2064x2048, .f32⟩
  | 43 => ⟨S1x2048, .f32⟩
  | 44 => ⟨S2048, .f32⟩
  | 45 => ⟨S1x1x2048, .f32⟩
  | 46 => ⟨S4x2064x2048, .f32⟩
  | 47 => ⟨S4x2064x2048, .f32⟩
  | 48 => ⟨S4x2064x2048, .f32⟩
  | 49 => ⟨S4x2064x2048, .f32⟩
  | 50 => ⟨S1x2048, .f32⟩
  | 51 => ⟨S2048, .f32⟩
  | 52 => ⟨S1x1x2048, .f32⟩
  | 53 => ⟨S4x2064x2048, .f32⟩
  | 54 => ⟨S4x2064x2048, .f32⟩
  | 55 => ⟨S4x2064x2048, .f32⟩
  | 56 => ⟨S4x2064x2048, .f32⟩
  | 57 => ⟨S1x2048, .f32⟩
  | 58 => ⟨S2048, .f32⟩
  | 59 => ⟨S1x1x2048, .f32⟩
  | 60 => ⟨S4x2064x2048, .f32⟩
  | 61 => ⟨S4x2064x2048, .f32⟩
  | 62 => ⟨S4x2064x2048, .f32⟩
  | 63 => ⟨S4x2064x2048, .f32⟩
  | 64 => ⟨S1x2048, .f32⟩
  | 65 => ⟨S2048, .f32⟩
  | 66 => ⟨S1x1x2048, .f32⟩
  | 67 => ⟨S4x2064x2048, .f32⟩
  | 68 => ⟨S4x2064x2048, .f32⟩
  | 69 => ⟨S4x2064x2048, .f32⟩
  | 70 => ⟨S4x2064x2048, .f32⟩
  | 71 => ⟨S1x2048, .f32⟩
  | 72 => ⟨S2048, .f32⟩
  | 73 => ⟨S1x1x2048, .f32⟩
  | 74 => ⟨S4x2064x2048, .f32⟩
  | 75 => ⟨S4x2064x2048, .f32⟩
  | 76 => ⟨S4x2064x2048, .f32⟩
  | 77 => ⟨S4x2064x2048, .f32⟩
  | 78 => ⟨S1x2048, .f32⟩
  | 79 => ⟨S2048, .f32⟩
  | 80 => ⟨S1x1x2048, .f32⟩
  | 81 => ⟨S4x2064x2048, .f32⟩
  | 82 => ⟨S4x2064x2048, .f32⟩
  | 83 => ⟨S4x2064x2048, .f32⟩
  | 84 => ⟨S4x2064x2048, .f32⟩
  | 85 => ⟨S1x2048, .f32⟩
  | 86 => ⟨S2048, .f32⟩
  | 87 => ⟨S1x1x2048, .f32⟩
  | 88 => ⟨S4x2064x2048, .f32⟩
  | 89 => ⟨S4x2064x2048, .f32⟩
  | 90 => ⟨S4x2064x2048, .f32⟩
  | 91 => ⟨S4x2064x2048, .f32⟩
  | 92 => ⟨S1x2048, .f32⟩
  | 93 => ⟨S2048, .f32⟩
  | 94 => ⟨S1x1x2048, .f32⟩
  | 95 => ⟨S4x2064x2048, .f32⟩
  | 96 => ⟨S4x2064x2048, .f32⟩
  | 97 => ⟨S4x2064x2048, .f32⟩
  | 98 => ⟨S4x2064x2048, .f32⟩
  | 99 => ⟨S1x2048, .f32⟩
  | 100 => ⟨S2048, .f32⟩
  | 101 => ⟨S1x1x2048, .f32⟩
  | 102 => ⟨S4x2064x2048, .f32⟩
  | 103 => ⟨S4x2064x2048, .f32⟩
  | 104 => ⟨S4x2064x2048, .f32⟩
  | 105 => ⟨S4x2064x2048, .f32⟩
  | 106 => ⟨S1x2048, .f32⟩
  | 107 => ⟨S2048, .f32⟩
  | 108 => ⟨S1x1x2048, .f32⟩
  | 109 => ⟨S4x2064x2048, .f32⟩
  | 110 => ⟨S4x2064x2048, .f32⟩
  | 111 => ⟨S4x2064x2048, .f32⟩
  | 112 => ⟨S4x2064x2048, .f32⟩
  | 113 => ⟨S1x2048, .f32⟩
  | 114 => ⟨S2048, .f32⟩
  | 115 => ⟨S1x1x2048, .f32⟩
  | 116 => ⟨S4x2064x2048, .f32⟩
  | 117 => ⟨S4x2064x2048, .f32⟩
  | 118 => ⟨S4x2064x2048, .f32⟩
  | 119 => ⟨S4x2064x2048, .f32⟩
  | 120 => ⟨S1x2048, .f32⟩
  | 121 => ⟨S2048, .f32⟩
  | 122 => ⟨S1x1x2048, .f32⟩
  | 123 => ⟨S4x2064x2048, .f32⟩
  | 124 => ⟨S4x2064x2048, .f32⟩
  | 125 => ⟨S4x2064x2048, .f32⟩
  | 126 => ⟨S4x2064x2048, .f32⟩
  | 127 => ⟨S1x2048, .f32⟩
  | _ => ⟨S8256x4096, .f32⟩

abbrev hbmTy0_1 (i : Nat) : BufTy := match i % 128 with
  | 0 => ⟨S2048, .f32⟩
  | 1 => ⟨S1x1x2048, .f32⟩
  | 2 => ⟨S4x2064x2048, .f32⟩
  | 3 => ⟨S4x2064x2048, .f32⟩
  | 4 => ⟨S4x2064x2048, .f32⟩
  | 5 => ⟨S4x2064x2048, .f32⟩
  | 6 => ⟨S1x2048, .f32⟩
  | 7 => ⟨S2048, .f32⟩
  | 8 => ⟨S1x1x2048, .f32⟩
  | 9 => ⟨S4x2064x2048, .f32⟩
  | 10 => ⟨S4x2064x2048, .f32⟩
  | 11 => ⟨S4x2064x2048, .f32⟩
  | 12 => ⟨S4x2064x2048, .f32⟩
  | 13 => ⟨S1x2048, .f32⟩
  | 14 => ⟨S2048, .f32⟩
  | 15 => ⟨S1x1x2048, .f32⟩
  | 16 => ⟨S4x2064x2048, .f32⟩
  | 17 => ⟨S4x2064x2048, .f32⟩
  | 18 => ⟨S4x2064x2048, .f32⟩
  | 19 => ⟨S4x2064x2048, .f32⟩
  | 20 => ⟨S1x2048, .f32⟩
  | 21 => ⟨S2048, .f32⟩
  | 22 => ⟨S1x1x2048, .f32⟩
  | 23 => ⟨S4x2064x2048, .f32⟩
  | 24 => ⟨S4x2064x2048, .f32⟩
  | 25 => ⟨S4x2064x2048, .f32⟩
  | 26 => ⟨S4x2064x2048, .f32⟩
  | 27 => ⟨S1x2048, .f32⟩
  | 28 => ⟨S2048, .f32⟩
  | 29 => ⟨S1x1x2048, .f32⟩
  | 30 => ⟨S4x2064x2048, .f32⟩
  | 31 => ⟨S4x2064x2048, .f32⟩
  | 32 => ⟨S4x2064x2048, .f32⟩
  | 33 => ⟨S4x2064x2048, .f32⟩
  | 34 => ⟨S1x2048, .f32⟩
  | 35 => ⟨S2048, .f32⟩
  | 36 => ⟨S1x1x2048, .f32⟩
  | 37 => ⟨S4x2064x2048, .f32⟩
  | 38 => ⟨S4x2064x2048, .f32⟩
  | 39 => ⟨S4x2064x2048, .f32⟩
  | 40 => ⟨S4x2064x2048, .f32⟩
  | 41 => ⟨S1x2048, .f32⟩
  | 42 => ⟨S2048, .f32⟩
  | 43 => ⟨S1x1x2048, .f32⟩
  | 44 => ⟨S4x2064x2048, .f32⟩
  | 45 => ⟨S4x2064x2048, .f32⟩
  | 46 => ⟨S4x2064x2048, .f32⟩
  | 47 => ⟨S4x2064x2048, .f32⟩
  | 48 => ⟨S1x2048, .f32⟩
  | 49 => ⟨S2048, .f32⟩
  | 50 => ⟨S1x1x2048, .f32⟩
  | 51 => ⟨S4x2064x2048, .f32⟩
  | 52 => ⟨S4x2064x2048, .f32⟩
  | 53 => ⟨S4x2064x2048, .f32⟩
  | 54 => ⟨S4x2064x2048, .f32⟩
  | 55 => ⟨S1x2048, .f32⟩
  | 56 => ⟨S2048, .f32⟩
  | 57 => ⟨S1x1x2048, .f32⟩
  | 58 => ⟨S4x2064x2048, .f32⟩
  | 59 => ⟨S4x2064x2048, .f32⟩
  | 60 => ⟨S4x2064x2048, .f32⟩
  | 61 => ⟨S4x2064x2048, .f32⟩
  | 62 => ⟨S1x2048, .f32⟩
  | 63 => ⟨S2048, .f32⟩
  | 64 => ⟨S1x1x2048, .f32⟩
  | 65 => ⟨S4x2064x2048, .f32⟩
  | 66 => ⟨S4x2064x2048, .f32⟩
  | 67 => ⟨S4x2064x2048, .f32⟩
  | 68 => ⟨S4x2064x2048, .f32⟩
  | 69 => ⟨S1x2048, .f32⟩
  | 70 => ⟨S2048, .f32⟩
  | 71 => ⟨S1x1x2048, .f32⟩
  | 72 => ⟨S4x2064x2048, .f32⟩
  | 73 => ⟨S4x2064x2048, .f32⟩
  | 74 => ⟨S4x2064x2048, .f32⟩
  | 75 => ⟨S4x2064x2048, .f32⟩
  | 76 => ⟨S1x2048, .f32⟩
  | 77 => ⟨S2048, .f32⟩
  | 78 => ⟨S1x1x2048, .f32⟩
  | 79 => ⟨S4x2064x2048, .f32⟩
  | 80 => ⟨S4x2064x2048, .f32⟩
  | 81 => ⟨S4x2064x2048, .f32⟩
  | 82 => ⟨S4x2064x2048, .f32⟩
  | 83 => ⟨S1x2048, .f32⟩
  | 84 => ⟨S2048, .f32⟩
  | 85 => ⟨S1x1x2048, .f32⟩
  | 86 => ⟨S4x2064x2048, .f32⟩
  | 87 => ⟨S4x2064x2048, .f32⟩
  | 88 => ⟨S4x2064x2048, .f32⟩
  | 89 => ⟨S4x2064x2048, .f32⟩
  | 90 => ⟨S1x2048, .f32⟩
  | 91 => ⟨S2048, .f32⟩
  | 92 => ⟨S1x1x2048, .f32⟩
  | 93 => ⟨S4x2064x2048, .f32⟩
  | 94 => ⟨S4x2064x2048, .f32⟩
  | 95 => ⟨S4x2064x2048, .f32⟩
  | 96 => ⟨S4x2064x2048, .f32⟩
  | 97 => ⟨S1x2048, .f32⟩
  | 98 => ⟨S2048, .f32⟩
  | 99 => ⟨S1x1x2048, .f32⟩
  | 100 => ⟨S4x2064x2048, .f32⟩
  | 101 => ⟨S4x2064x2048, .f32⟩
  | 102 => ⟨S4x2064x2048, .f32⟩
  | 103 => ⟨S4x2064x2048, .f32⟩
  | 104 => ⟨S1x2048, .f32⟩
  | 105 => ⟨S2048, .f32⟩
  | 106 => ⟨S1x1x2048, .f32⟩
  | 107 => ⟨S4x2064x2048, .f32⟩
  | 108 => ⟨S4x2064x2048, .f32⟩
  | 109 => ⟨S4x2064x2048, .f32⟩
  | 110 => ⟨S1x1x2048, .f32⟩
  | 111 => ⟨S4x2064x2048, .f32⟩
  | 112 => ⟨S4x2064x2048, .f32⟩
  | 113 => ⟨S_, .f32⟩
  | 114 => ⟨S4x2064, .f32⟩
  | 115 => ⟨S4x2064x1, .f32⟩
  | 116 => ⟨S_, .f32⟩
  | 117 => ⟨S4x2064x1, .f32⟩
  | 118 => ⟨S4x2064x1, .f32⟩
  | 119 => ⟨S4x2064x2048, .f32⟩
  | 120 => ⟨S4x2064x2048, .f32⟩
  | 121 => ⟨S4x2064x2048, .f32⟩
  | 122 => ⟨S_, .f32⟩
  | 123 => ⟨S4x2064, .f32⟩
  | 124 => ⟨S4x2064x1, .f32⟩
  | 125 => ⟨S_, .f32⟩
  | 126 => ⟨S4x2064x1, .f32⟩
  | 127 => ⟨S4x2064x1, .f32⟩
  | _ => ⟨S8256x4096, .f32⟩

abbrev hbmTy0_2 (i : Nat) : BufTy := match i % 128 with
  | 0 => ⟨S_, .f32⟩
  | 1 => ⟨S4x2064x1, .f32⟩
  | 2 => ⟨S4x2064x1, .f32⟩
  | 3 => ⟨S4x2064x1, .f32⟩
  | 4 => ⟨S4x2064x2048, .f32⟩
  | 5 => ⟨S4x2064x2048, .f32⟩
  | 6 => ⟨S1x1x2048, .f32⟩
  | 7 => ⟨S4x2064x2048, .f32⟩
  | 8 => ⟨S4x2064x2048, .f32⟩
  | 9 => ⟨S1x1x2048, .f32⟩
  | 10 => ⟨S4x2064x2048, .f32⟩
  | 11 => ⟨S4x2064x2048, .f32⟩
  | 12 => ⟨S4x2064x2048, .f32⟩
  | 13 => ⟨S4x2064x2048, .f32⟩
  | 14 => ⟨S_, .f32⟩
  | 15 => ⟨S4x2064x2048, .f32⟩
  | 16 => ⟨S4x2064x2048, .f32⟩
  | 17 => ⟨S_, .f32⟩
  | 18 => ⟨S4x2064x2048, .f32⟩
  | 19 => ⟨S4x2064x2048, .f32⟩
  | 20 => ⟨S4x2064x2048, .f32⟩
  | 21 => ⟨S8256x2048, .f32⟩
  | 22 => ⟨S8256x2048, .bf16⟩
  | 23 => ⟨S4x30x2048, .f32⟩
  | _ => ⟨S8256x4096, .f32⟩

abbrev hbmTy (i : Nat) : BufTy := match i / 128 with
  | 0 => hbmTy0_0 i
  | 1 => hbmTy0_1 i
  | 2 => hbmTy0_2 i
  | _ => ⟨S8256x4096, .f32⟩

abbrev bufTy : (tb : Table) → Fin (tcTables nBuf tb) → BufTy
  | .hbm, ⟨i, _⟩ => hbmTy i
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_2 : Ref sig .tc := ⟨.hbm, 241, rfl⟩
abbrev main_v232 : Ref sig .tc := ⟨.hbm, 242, rfl⟩
abbrev main_v233 : Ref sig .tc := ⟨.hbm, 243, rfl⟩
abbrev main_cst_3 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_4 : Ref sig .tc := ⟨.hbm, 250, rfl⟩
abbrev main_v239 : Ref sig .tc := ⟨.hbm, 251, rfl⟩
abbrev main_v240 : Ref sig .tc := ⟨.hbm, 252, rfl⟩
abbrev main_cst_5 : Ref sig .tc := ⟨.hbm, 253, rfl⟩
abbrev main_v241 : Ref sig .tc := ⟨.hbm, 254, rfl⟩
abbrev main_v242 : Ref sig .tc := ⟨.hbm, 255, rfl⟩
abbrev main_cst_6 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== Proof.MmBase.lean ====
/-
  What every blocked matrix product's run uses: a load or a store of a whole buffer, and a value carried from grid point
  to grid point.
-/
module

public import Idealize.ShloMosaic.Lib.Claim
public import Idealize.ShloMosaic.Lib.Exec.Geometry
public import Idealize.ShloMosaic.Lib.Pipeline.ValueKit.Basic

@[expose] public section

noncomputable section

namespace Cert.Proof.Mm

open Idealize.ShloMosaic

section Whole

variable {Val : EltTy → Type} {sig : RefSig} {κ : Kind} {sp : Space} {S : Shape} {e : EltTy}

/-- A load of a whole buffer reads what the buffer holds. -/
theorem load_whole (v : View sig κ sp S e) (f : v.ty.Contents Val) {off : Fin S.rank → ℕ} (inb : ∀ a, off a + S.size a ≤ S.size a)
    (h : ∀ a, off a = 0) : v.readAt Val (Rect.unit off (no_index S.size) inb).toLoadRect f = v.read Val f := by
  rw [View.readAt_eq_ld]
  exact View.ld_unit_lit inb _ h

/-- A store over a whole buffer leaves what was stored. -/
theorem read_stored [∀ e, Nonempty (Val e)] (v : View sig κ sp S e) (f : v.ty.Contents Val) {off : Fin S.rank → ℕ} (inb : ∀ a, off a + S.size a ≤ S.size a)
    (x : S.Idx → Val e) (h : ∀ a, off a = 0) : v.read Val (v.writes Val f [⟨Rect.unit off (no_index S.size) inb, x⟩]) = x := by
  funext y
  have hy : (Rect.unit off S.size inb).emb y = y := by
    refine funext fun a => Fin.ext ?_
    show off a + 1 * (y a).val = (y a).val
    rw [h a]; omega
  have := View.read_writes_cons_emb v f (Rect.unit off S.size inb) x [] y
  rwa [hy] at this

end Whole

/-- The value carried after point `n`: each point's step from the one before, from `z`. -/
def carried {α : Type} {N : ℕ} (step : Fin N → α → α) (z : α) : (n : ℕ) → n < N → α
  | 0, h => step ⟨0, h⟩ z
  | n + 1, h => step ⟨n + 1, h⟩ (carried step z n (Nat.lt_of_succ_lt h))

/-- A point's step from what was carried so far, where the first point's step does not look at it. -/
theorem carried_step {α : Type} {N : ℕ} (step : Fin N → α → α) (z X : α) (t : Fin N) (h0 : t.val = 0 → ∀ x y, step t x = step t y)
    (h : ∀ n (hn : n < N), t.val = n + 1 → X = carried step z n hn) : step t X = carried step z t.val t.isLt := by
  obtain ⟨n, hn⟩ := t
  cases n with
  | zero => exact h0 rfl X z
  | succ n => rw [h n (Nat.lt_of_succ_lt hn) rfl]; rfl

end Cert.Proof.Mm

end
-- ==== Proof.MmBody.lean ====
/-
  The blocked matrix product's body, once for every call: what it stores at a point of the grid, and its run on owned
  buffers. The calls differ in the number of chunks of the summed axis, in what the last chunk's point makes of the sums
  and in the element types of the two results.
-/
module

public import proofs.«01_k».proof.Proof.MmBase
public import Idealize.ShloMosaic.Lib.Tactic

@[expose] public section

set_option maxRecDepth 16384

noncomputable section

namespace Cert.Proof.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

/-- The tiles: the prompt rows' and the sample rows' operand, the weights, and the two results'. -/
abbrev TileP : Shape := ⟨2, ![2064, 512]⟩
abbrev TileS : Shape := ⟨2, ![64, 512]⟩
abbrev TileW : Shape := ⟨3, ![1, 512, 1024]⟩
abbrev TileM : Shape := ⟨2, ![512, 1024]⟩
abbrev ResP : Shape := ⟨2, ![2064, 1024]⟩
abbrev ResS : Shape := ⟨2, ![64, 1024]⟩

/-! ## What the body computes -/

/-- The axes of the two products: rows by the summed axis, the summed axis by columns. -/
def dotP : DotDims TileP TileM ResP where
  lhsContracting := [1]
  rhsContracting := [0]
  lhsNonContracting := [0]
  rhsNonContracting := [1]
  lhsBatch := []
  rhsBatch := []
  wf := by decide
def dotS : DotDims TileS TileM ResS where
  lhsContracting := [1]
  rhsContracting := [0]
  lhsNonContracting := [0]
  rhsNonContracting := [1]
  lhsBatch := []
  rhsBatch := []
  wf := by decide

section Values

variable {F : FTy → Type} [FloatOps F] (w : FVec F TileW .f32) (a : FVec F TileP .bf16) (s : FVec F TileS .bf16)

/-- The weights' block, rounded. -/
def weights : FVec F TileM .bf16 := truncf .bf16 (shapeCast TileM w (by decide)) (by decide)

/-- A chunk's partial products. -/
def partP : FVec F ResP .f32 := matmul dotP none a (weights w) (constant ResP .f32 0x00000000#32)
def partS : FVec F ResS .f32 := matmul dotS none s (weights w) (constant ResS .f32 0x00000000#32)

/-- The first chunk is stored. -/
def firstP : FVec F ResP .f32 := shapeCast ResP (partP w a) rfl
def firstS : FVec F ResS .f32 := shapeCast ResS (partS w s) rfl

/-- A later one is added. -/
def addP (X : FVec F ResP .f32) : FVec F ResP .f32 := shapeCast ResP (addf X (partP w a)) rfl
def addS (Y : FVec F ResS .f32) : FVec F ResS .f32 := shapeCast ResS (addf Y (partS w s)) rfl

/-- The last chunk's sum, unrounded. -/
def sumP (X : FVec F ResP .f32) : FVec F ResP .f32 := addf X (partP w a)
def sumS (Y : FVec F ResS .f32) : FVec F ResS .f32 := addf Y (partS w s)

/-- The last chunk's sum, rounded. -/
def roundP (X : FVec F ResP .f32) : FVec F ResP .bf16 := truncf .bf16 (sumP w a X) (by decide)

/-- The last chunk's sum, its positive part squared and rounded. -/
def reluP (X : FVec F ResP .f32) : FVec F ResP .bf16 :=
  truncf .bf16 (mulf (maximumf (sumP w a X) (broadcast ResP (Scalar.ofBits .f32 0x00000000#32))) (maximumf (sumP w a X) (broadcast ResP (Scalar.ofBits .f32 0x00000000#32)))) (by decide)
def reluS (Y : FVec F ResS .f32) : FVec F ResS .bf16 :=
  truncf .bf16 (mulf (maximumf (sumS w s Y) (broadcast ResS (Scalar.ofBits .f32 0x00000000#32))) (maximumf (sumS w s Y) (broadcast ResS (Scalar.ofBits .f32 0x00000000#32)))) (by decide)

end Values

/-! ## What a point leaves -/

/-- An accumulator after the point of block row `r` and chunk `k`: only block row 0 works on it, the first chunk is
    stored, the later ones but the last are added. -/
def step {α : Type} (r k last : ℕ) (first : α) (add : α → α) (X : α) : α :=
  if r = 0 then (if k = 0 then first else if k = last then X else add X) else X

/-- A result buffer after that point: stored at the last chunk. -/
def left {α : Type} (r k last : ℕ) (x O : α) : α := if r = 0 then (if k = last then x else O) else O

/-! ## The conditions of the body -/

/-- The test for a first one, as the body computes it, -/
abbrev isFirst (k : BitVec 32) : BitVec 1 := Scalar.cmpi .ne (Scalar.extui (Scalar.cmpi .eq k 0#32) : BitVec 32) 0#32
/-- for a last one, -/
abbrev isLast (k last : BitVec 32) : BitVec 1 := Scalar.cmpi .ne (Scalar.extui (Scalar.cmpi .eq k last) : BitVec 32) 0#32
/-- and for one neither first nor last. -/
abbrev isMid (k last : BitVec 32) : BitVec 1 :=
  Scalar.cmpi .ne (Scalar.extui (Scalar.andi (Scalar.cmpi .sgt k 0#32) (Scalar.cmpi .slt k last)) : BitVec 32) 0#32

/-- Which points the tests select, of 8 and of 32 chunks. -/
def Selects (last : ℕ) (k : ℕ) : Prop :=
  (isFirst (BitVec.ofNat 32 k) = 1#1 ↔ k = 0) ∧ (isMid (BitVec.ofNat 32 k) (BitVec.ofNat 32 last) = 1#1 ↔ k ≠ 0 ∧ k ≠ last)
    ∧ (isLast (BitVec.ofNat 32 k) (BitVec.ofNat 32 last) = 1#1 ↔ k = last)

theorem selects7 (k : Fin 8) : Selects 7 k.val := by unfold Selects; revert k; decide
theorem selects31 (k : Fin 32) : Selects 31 k.val := by unfold Selects; revert k; decide
theorem first4 (i : Fin 4) : isFirst (BitVec.ofNat 32 i.val) = 1#1 ↔ i.val = 0 := by revert i; decide

/-! ## The body -/

section Body

variable {nD : ℕ} {τ : Topo} {sig : RefSig} {Λ₀ : Labels} {F : FTy → Type} [FloatOps F] {eP eS : EltTy}

/-- The body's memory operations, over the values it stores. -/
def body (i k last : BitVec 32) (outP : FVec F TileW .f32 → FVec F TileP .bf16 → FVec F ResP .f32 → Vec F ResP eP)
    (outS : FVec F TileW .f32 → FVec F TileS .bf16 → FVec F ResS .f32 → Vec F ResS eS)
    (arg3 : Memref sig .tc .vmem TileP .bf16) (arg4 : Memref sig .tc .vmem TileS .bf16) (arg5 : Memref sig .tc .vmem TileW .f32)
    (arg6 : Memref sig .tc .vmem ResP eP) (arg7 : Memref sig .tc .vmem ResS eS)
    (arg8 : Memref sig .tc .vmem ResP .f32) (arg9 : Memref sig .tc .vmem ResS .f32)
    (h6 : (arg6.access (Rect.unit (s := ResP) ![0, 0] ResP.size (by decide))).Stores Finset.univ)
    (h7 : (arg7.access (Rect.unit (s := ResS) ![0, 0] ResS.size (by decide))).Stores Finset.univ) :
    Prog (TpuEff nD τ sig (Elt F) Λ₀ .tc) PUnit := do
  let w : Vec F TileW .f32 ← Prog.lift (.load arg5 (Rect.unit (s := TileW) ![0, 0, 0] TileW.size (by decide)).toLoadRect (View.loadsAt_vmem (by decide)))
  let a : Vec F TileP .bf16 ← Prog.lift (.load arg3 (Rect.unit (s := TileP) ![0, 0] TileP.size (by decide)).toLoadRect (View.loadsAt_vmem (by decide)))
  if _h1 : isFirst k = 1#1 then do
    let _x : Vec F ResP .f32 ← Prog.lift (.load arg8 (Rect.unit (s := ResP) ![0, 0] ResP.size (by decide)).toLoadRect (View.loadsAt_vmem (by decide)))
    Prog.lift (.store arg8 (Rect.unit (s := ResP) ![0, 0] ResP.size (by decide)) (firstP w a) Finset.univ (View.stores_vmem_bits_univ (by decide) rfl) (.inl rfl))
    pure ⟨⟩
  else do
    pure ⟨⟩
  if _h2 : isMid k last = 1#1 then do
    let x : Vec F ResP .f32 ← Prog.lift (.load arg8 (Rect.unit (s := ResP) ![0, 0] ResP.size (by decide)).toLoadRect (View.loadsAt_vmem (by decide)))
    let _y : Vec F ResP .f32 ← Prog.lift (.load arg8 (Rect.unit (s := ResP) ![0, 0] ResP.size (by decide)).toLoadRect (View.loadsAt_vmem (by decide)))
    Prog.lift (.store arg8 (Rect.unit (s := ResP) ![0, 0] ResP.size (by decide)) (addP w a x) Finset.univ (View.stores_vmem_bits_univ (by decide) rfl) (.inl rfl))
    pure ⟨⟩
  else do
    pure ⟨⟩
  if _h3 : isLast k last = 1#1 then do
    let x : Vec F ResP .f32 ← Prog.lift (.load arg8 (Rect.unit (s := ResP) ![0, 0] ResP.size (by decide)).toLoadRect (View.loadsAt_vmem (by decide)))
    let _o : Vec F ResP eP ← Prog.lift (.load arg6 (Rect.unit (s := ResP) ![0, 0] ResP.size (by decide)).toLoadRect (View.loadsAt_vmem (by decide)))
    Prog.lift (.store arg6 (Rect.unit (s := ResP) ![0, 0] ResP.size (by decide)) (outP w a x) Finset.univ h6 (.inl rfl))
    pure ⟨⟩
  else do
    pure ⟨⟩
  if _h4 : isFirst i = 1#1 then do
    let s : Vec F TileS .bf16 ← Prog.lift (.load arg4 (Rect.unit (s := TileS) ![0, 0] TileS.size (by decide)).toLoadRect (View.loadsAt_vmem (by decide)))
    if _h5 : isFirst k = 1#1 then do
      let _x : Vec F ResS .f32 ← Prog.lift (.load arg9 (Rect.unit (s := ResS) ![0, 0] ResS.size (by decide)).toLoadRect (View.loadsAt_vmem (by decide)))
      Prog.lift (.store arg9 (Rect.unit (s := ResS) ![0, 0] ResS.size (by decide)) (firstS w s) Finset.univ (View.stores_vmem_bits_univ (by decide) rfl) (.inl rfl))
      pure ⟨⟩
    else do
      pure ⟨⟩
    if _h6 : isMid k last = 1#1 then do
      let x : Vec F ResS .f32 ← Prog.lift (.load arg9 (Rect.unit (s := ResS) ![0, 0] ResS.size (by decide)).toLoadRect (View.loadsAt_vmem (by decide)))
      let _y : Vec F ResS .f32 ← Prog.lift (.load arg9 (Rect.unit (s := ResS) ![0, 0] ResS.size (by decide)).toLoadRect (View.loadsAt_vmem (by decide)))
      Prog.lift (.store arg9 (Rect.unit (s := ResS) ![0, 0] ResS.size (by decide)) (addS w s x) Finset.univ (View.stores_vmem_bits_univ (by decide) rfl) (.inl rfl))
      pure ⟨⟩
    else do
      pure ⟨⟩
    if _h7 : isLast k last = 1#1 then do
      let x : Vec F ResS .f32 ← Prog.lift (.load arg9 (Rect.unit (s := ResS) ![0, 0] ResS.size (by decide)).toLoadRect (View.loadsAt_vmem (by decide)))
      let _o : Vec F ResS eS ← Prog.lift (.load arg7 (Rect.unit (s := ResS) ![0, 0] ResS.size (by decide)).toLoadRect (View.loadsAt_vmem (by decide)))
      Prog.lift (.store arg7 (Rect.unit (s := ResS) ![0, 0] ResS.size (by decide)) (outS w s x) Finset.univ h7 (.inl rfl))
      pure ⟨⟩
    else do
      pure ⟨⟩
    pure ⟨⟩
  else do
    pure ⟨⟩
  pure ⟨⟩

local notation "𝕄" => MT nD τ sig Unit (Elt F) ℕ (UR sig nD τ) ℕ

set_option maxHeartbeats 1600000 in
/-- The body on owned buffers. -/
theorem body_wp (defs₀ : Defs nD τ sig (Elt F) Λ₀) (c : Dev nD) (i k last : ℕ) (hi : isFirst (BitVec.ofNat 32 i) = 1#1 ↔ i = 0) (hk : Selects last k) (hl : 0 < last)
    (outP : FVec F TileW .f32 → FVec F TileP .bf16 → FVec F ResP .f32 → Vec F ResP eP)
    (outS : FVec F TileW .f32 → FVec F TileS .bf16 → FVec F ResS .f32 → Vec F ResS eS)
    (arg3 : Memref sig .tc .vmem TileP .bf16) (arg4 : Memref sig .tc .vmem TileS .bf16) (arg5 : Memref sig .tc .vmem TileW .f32)
    (arg6 : Memref sig .tc .vmem ResP eP) (arg7 : Memref sig .tc .vmem ResS eS)
    (arg8 : Memref sig .tc .vmem ResP .f32) (arg9 : Memref sig .tc .vmem ResS .f32) (h6 h7)
    (a : FVec F TileP .bf16) (s : FVec F TileS .bf16) (w : FVec F TileW .f32) (O : Vec F ResP eP) (Q : Vec F ResS eS)
    (X : FVec F ResP .f32) (Y : FVec F ResS .f32) (E : Set ℕ) (K : PUnit → sProp 𝕄) :
    iprop(owns (c : Thread nD τ) arg3 fullShare a ∗ owns (c : Thread nD τ) arg4 fullShare s ∗ owns (c : Thread nD τ) arg5 fullShare w
        ∗ owns (c : Thread nD τ) arg6 fullShare O ∗ owns (c : Thread nD τ) arg7 fullShare Q
        ∗ owns (c : Thread nD τ) arg8 fullShare X ∗ owns (c : Thread nD τ) arg9 fullShare Y
        ∗ (iprop(owns (c : Thread nD τ) arg3 fullShare a ∗ owns (c : Thread nD τ) arg4 fullShare s ∗ owns (c : Thread nD τ) arg5 fullShare w
          ∗ owns (c : Thread nD τ) arg6 fullShare (left 0 k last (outP w a X) O) ∗ owns (c : Thread nD τ) arg7 fullShare (left i k last (outS w s Y) Q)
          ∗ owns (c : Thread nD τ) arg8 fullShare (step 0 k last (firstP w a) (addP w a) X)
          ∗ owns (c : Thread nD τ) arg9 fullShare (step i k last (firstS w s) (addS w s) Y)) -∗ K ⟨⟩))
      ⊢ wp frame (wpE defs₀ Variants.none (c : Thread nD τ) none) E
          (body (BitVec.ofNat 32 i) (BitVec.ofNat 32 k) (BitVec.ofNat 32 last) outP outS arg3 arg4 arg5 arg6 arg7 arg8 arg9 h6 h7) K := by
  obtain ⟨e1, e2, e3⟩ := hk
  have z1 : ¬ (0 = last) := by omega
  have z2 : ¬ (last = 0) := by omega
  unfold body
  unfold owns
  iintro ⟨⟨%f3, %h3, H3⟩, ⟨%f4, %h4, H4⟩, ⟨%f5, %h5, H5⟩, ⟨%f6, %h6', H6⟩, ⟨%f7, %h7', H7⟩, ⟨%f8, %h8, H8⟩, ⟨%f9, %h9, H9⟩, Hk⟩
  by_cases c1 : isFirst (BitVec.ofNat 32 k) = 1#1 <;> by_cases c2 : isMid (BitVec.ofNat 32 k) (BitVec.ofNat 32 last) = 1#1 <;>
    by_cases c3 : isLast (BitVec.ofNat 32 k) (BitVec.ofNat 32 last) = 1#1 <;> by_cases c4 : isFirst (BitVec.ofNat 32 i) = 1#1 <;> first
    | (exfalso; rw [e1] at c1; rw [e2] at c2; rw [e3] at c3; omega)
    | (sl_exec (disch := first | sl_exact c1 | sl_exact c2 | sl_exact c3 | sl_exact c4)
       sl_step
       rw [e1] at c1; rw [e3] at c3; rw [hi] at c4
       subst h3 h4 h5 h6' h7' h8 h9
       iapply Hk
       isplitl [H3]; · iexists _; isplitr; swap; · iexact H3
                       ipureintro; rfl
       isplitl [H4]; · iexists _; isplitr; swap; · iexact H4
                       ipureintro; rfl
       isplitl [H5]; · iexists _; isplitr; swap; · iexact H5
                       ipureintro; rfl
       isplitl [H6]; · iexists _; isplitr; swap; · iexact H6
                       ipureintro; simp (disch := decide) only [left, c1, c3, c4, z1, z2, reduceIte, Mm.read_stored, Mm.load_whole]
       isplitl [H7]; · iexists _; isplitr; swap; · iexact H7
                       ipureintro; simp (disch := decide) only [left, c1, c3, c4, z1, z2, reduceIte, Mm.read_stored, Mm.load_whole]
       isplitl [H8]; · iexists _; isplitr; swap; · iexact H8
                       ipureintro; simp (disch := decide) only [step, c1, c3, c4, z1, z2, reduceIte, Mm.read_stored, Mm.load_whole]
       iexists _; isplitr; swap; · iexact H9
       ipureintro; simp (disch := decide) only [step, c1, c3, c4, z1, z2, reduceIte, Mm.read_stored, Mm.load_whole])

/-! ## What is carried from point to point -/

/-- The prompt accumulator after point `n`, from the points' blocks. -/
def accP {N : ℕ} (k : Fin N → ℕ) (last : ℕ) (W : Fin N → FVec F TileW .f32) (A : Fin N → FVec F TileP .bf16) (n : ℕ) (hn : n < N) : FVec F ResP .f32 :=
  carried (fun t X => step 0 (k t) last (firstP (W t) (A t)) (addP (W t) (A t)) X) (constant ResP .f32 0x00000000#32) n hn

/-- The sample accumulator after point `n`. -/
def accS {N : ℕ} (i k : Fin N → ℕ) (last : ℕ) (W : Fin N → FVec F TileW .f32) (S : Fin N → FVec F TileS .bf16) (n : ℕ) (hn : n < N) : FVec F ResS .f32 :=
  carried (fun t Y => step (i t) (k t) last (firstS (W t) (S t)) (addS (W t) (S t)) Y) (constant ResS .f32 0x00000000#32) n hn

/-- What the accumulators hold before point `n`: anything at first, then what the point before left. -/
def Inv (c : Dev nD) (arg8 : Memref sig .tc .vmem ResP .f32) (arg9 : Memref sig .tc .vmem ResS .f32) {N : ℕ}
    (P : (n : ℕ) → n < N → FVec F ResP .f32) (S : (n : ℕ) → n < N → FVec F ResS .f32) (n : ℕ) : sProp 𝕄 :=
  iprop(∃ X, ∃ Y, ⌜∀ n' (hn : n' < N), n = n' + 1 → X = P n' hn ∧ Y = S n' hn⌝
    ∗ owns (c : Thread nD τ) arg8 fullShare X ∗ owns (c : Thread nD τ) arg9 fullShare Y ∗ ∃ r, prngReg c r)

/-- Before the first point the accumulators hold anything. -/
theorem inv_in (c : Dev nD) (arg8 : Memref sig .tc .vmem ResP .f32) (arg9 : Memref sig .tc .vmem ResS .f32) {N : ℕ}
    (P : (n : ℕ) → n < N → FVec F ResP .f32) (S : (n : ℕ) → n < N → FVec F ResS .f32) :
    (iprop(iprop((∃ d, owns (c : Thread nD τ) arg8 fullShare d) ∗ (∃ d, owns (c : Thread nD τ) arg9 fullShare d)) ∗ (∃ r, prngReg c r)) : sProp 𝕄) ⊢ Inv c arg8 arg9 P S 0 := by
  unfold Inv
  iintro ⟨⟨⟨%X, HX⟩, ⟨%Y, HY⟩⟩, Hg⟩
  iexists X; iexists Y
  isplitr; · ipureintro; exact fun n' _ h => absurd h (Nat.succ_ne_zero n').symm
  isplitl [HX]; · iexact HX
  isplitl [HY]; · iexact HY
  iexact Hg

/-- After the last they are forgotten. -/
theorem inv_out (c : Dev nD) (arg8 : Memref sig .tc .vmem ResP .f32) (arg9 : Memref sig .tc .vmem ResS .f32) {N : ℕ}
    (P : (n : ℕ) → n < N → FVec F ResP .f32) (S : (n : ℕ) → n < N → FVec F ResS .f32) (n : ℕ) :
    Inv c arg8 arg9 P S n ⊢ (iprop(iprop((∃ d, owns (c : Thread nD τ) arg8 fullShare d) ∗ (∃ d, owns (c : Thread nD τ) arg9 fullShare d)) ∗ (∃ r, prngReg c r)) : sProp 𝕄) := by
  unfold Inv
  iintro ⟨%X, %Y, -, HX, HY, Hg⟩
  isplitr [Hg]
  · isplitl [HX]; · iexists X; iexact HX
    iexists Y; iexact HY
  iexact Hg

/-- What the last chunk's point stores is computed from what that point leaves in the accumulator. -/
theorem left_of_step {α β : Type} {r k last : ℕ} (hl : 0 < last) {first : α} {add : α → α} {X X' : α} (h : step r k last first add X = X') (f : α → β) (O : β) :
    left r k last (f X) O = left r k last (f X') O := by
  subst h
  unfold left step
  split
  · split
    · rename_i hk; rw [if_neg (by omega)]
    · rfl
  · rfl

/-- The body at point `t`, with what is carried. -/
theorem body_inv (defs₀ : Defs nD τ sig (Elt F) Λ₀) (c : Dev nD) {N : ℕ} (t : Fin N) (i k : Fin N → ℕ) (last : ℕ)
    (hi : isFirst (BitVec.ofNat 32 (i t)) = 1#1 ↔ i t = 0) (hk : Selects last (k t)) (hl : 0 < last) (h0 : t.val = 0 → i t = 0 ∧ k t = 0)
    (outP : FVec F TileW .f32 → FVec F TileP .bf16 → FVec F ResP .f32 → Vec F ResP eP)
    (outS : FVec F TileW .f32 → FVec F TileS .bf16 → FVec F ResS .f32 → Vec F ResS eS)
    (arg3 : Memref sig .tc .vmem TileP .bf16) (arg4 : Memref sig .tc .vmem TileS .bf16) (arg5 : Memref sig .tc .vmem TileW .f32)
    (arg6 : Memref sig .tc .vmem ResP eP) (arg7 : Memref sig .tc .vmem ResS eS)
    (arg8 : Memref sig .tc .vmem ResP .f32) (arg9 : Memref sig .tc .vmem ResS .f32) (h6 h7)
    (W : Fin N → FVec F TileW .f32) (A : Fin N → FVec F TileP .bf16) (S : Fin N → FVec F TileS .bf16) (O : Vec F ResP eP) (Q : Vec F ResS eS)
    (E : Set ℕ) (K : PUnit → sProp 𝕄) :
    iprop(Inv c arg8 arg9 (accP k last W A) (accS i k last W S) t.val
        ∗ owns (c : Thread nD τ) arg3 fullShare (A t) ∗ owns (c : Thread nD τ) arg4 fullShare (S t) ∗ owns (c : Thread nD τ) arg5 fullShare (W t)
        ∗ owns (c : Thread nD τ) arg6 fullShare O ∗ owns (c : Thread nD τ) arg7 fullShare Q
        ∗ (iprop(Inv c arg8 arg9 (accP k last W A) (accS i k last W S) (t.val + 1)
          ∗ owns (c : Thread nD τ) arg3 fullShare (A t) ∗ owns (c : Thread nD τ) arg4 fullShare (S t) ∗ owns (c : Thread nD τ) arg5 fullShare (W t)
          ∗ owns (c : Thread nD τ) arg6 fullShare (left 0 (k t) last (outP (W t) (A t) (accP k last W A t.val t.isLt)) O)
          ∗ owns (c : Thread nD τ) arg7 fullShare (left (i t) (k t) last (outS (W t) (S t) (accS i k last W S t.val t.isLt)) Q)) -∗ K ⟨⟩))
      ⊢ wp frame (wpE defs₀ Variants.none (c : Thread nD τ) none) E
          (body (BitVec.ofNat 32 (i t)) (BitVec.ofNat 32 (k t)) (BitVec.ofNat 32 last) outP outS arg3 arg4 arg5 arg6 arg7 arg8 arg9 h6 h7) K := by
  iintro ⟨HI, H3, H4, H5, H6, H7, Hk⟩
  unfold Inv
  icases HI with ⟨%X, %Y, %hXY, HX, HY, Hg⟩
  have hX : step 0 (k t) last (firstP (W t) (A t)) (addP (W t) (A t)) X = accP k last W A t.val t.isLt :=
    carried_step _ _ X t (fun h x y => by unfold step; rw [if_pos rfl, if_pos rfl, if_pos (h0 h).2, if_pos (h0 h).2]) fun n' hn h => (hXY n' hn h).1
  have hY : step (i t) (k t) last (firstS (W t) (S t)) (addS (W t) (S t)) Y = accS i k last W S t.val t.isLt :=
    carried_step _ _ Y t (fun h x y => by unfold step; rw [if_pos (h0 h).1, if_pos (h0 h).1, if_pos (h0 h).2, if_pos (h0 h).2]) fun n' hn h => (hXY n' hn h).2
  iapply (body_wp defs₀ c (i t) (k t) last hi hk hl outP outS arg3 arg4 arg5 arg6 arg7 arg8 arg9 h6 h7 (A t) (S t) (W t) O Q X Y E K)
  rw [left_of_step hl hX (outP (W t) (A t)), left_of_step hl hY (outS (W t) (S t)), hX, hY]
  isplitl [H3]; · iexact H3
  isplitl [H4]; · iexact H4
  isplitl [H5]; · iexact H5
  isplitl [H6]; · iexact H6
  isplitl [H7]; · iexact H7
  isplitl [HX]; · iexact HX
  isplitl [HY]; · iexact HY
  iintro ⟨H3, H4, H5, H6, H7, HX, HY⟩
  iapply Hk
  isplitl [HX HY Hg]
  · iexists _; iexists _
    isplitr; swap
    · isplitl [HX]; · iexact HX
      isplitl [HY]; · iexact HY
      iexact Hg
    ipureintro
    intro n' hn h
    obtain rfl : t.val = n' := by omega
    exact ⟨rfl, rfl⟩
  isplitl [H3]; · iexact H3
  isplitl [H4]; · iexact H4
  isplitl [H5]; · iexact H5
  isplitl [H6]; · iexact H6
  iexact H7

end Body

/-! ## A result buffer between its store and its write-back -/

section Kept

variable {nD : ℕ} {τ : Topo} {sig : RefSig} {Λ₀ : Labels} {F : FTy → Type} [FloatOps F]
variable {cfg : Cfg sig Λ₀} {c : Dev nD} (dat : Dat τ (Elt F) Unit ℕ (UR sig nD τ) ℕ cfg c) (w : Fin cfg.W)

/-- Stored at place `last` of every `B` points and written back at the end of them, the block stays in its buffer. -/
theorem before_kept (B last : ℕ) (hB : 0 < B) (hf : ∀ t, (cfg.win w).fetch t = false) (hfl : ∀ t, (cfg.win w).flush t = true ↔ t.val % B = B - 1)
    (hid : ∀ t, cfg.idle w (cfg.grid.coords t) = false ↔ t.val % B = last) (hkept : ∀ t d, dat.kept w t d = dat.after w t)
    (hafter : ∀ t t' : Fin cfg.N, t.val / B = t'.val / B → dat.after w t = dat.after w t') (n : ℕ) :
    ∀ (hn : n < cfg.N) (_ : last < n % B) (d), dat.before w ⟨n, hn⟩ d = dat.after w ⟨n, hn⟩ := by
  induction n with
  | zero => intro _ h; rw [Nat.zero_mod] at h; omega
  | succ n ih =>
    intro hn h d
    have hn' : n < cfg.N := Nat.lt_of_succ_lt hn
    obtain ⟨h1, h2⟩ : (n + 1) % B = n % B + 1 ∧ (n + 1) / B = n / B := by
      have e := Nat.div_add_mod (n + 1) B
      have hr := Nat.mod_lt (n + 1) hB
      have en : n = B * ((n + 1) / B) + ((n + 1) % B - 1) := by omega
      have em : n % B = (n + 1) % B - 1 := by
        conv_lhs => rw [en]
        rw [Nat.mul_add_mod, Nat.mod_eq_of_lt (by omega)]
      have ed : n / B = (n + 1) / B := by
        conv_lhs => rw [en]
        rw [Nat.mul_add_div hB, Nat.div_eq_of_lt (show (n + 1) % B - 1 < B by omega), Nat.add_zero]
      omega
    have hfl' : (cfg.win w).flush ⟨n, hn'⟩ = false := by
      rw [Bool.eq_false_iff]; intro hf
      have := (hfl ⟨n, hn'⟩).1 hf; have := Nat.mod_lt (n + 1) hB; dsimp only at *; omega
    rw [dat.before_of_pos w ⟨n + 1, hn⟩ (Nat.succ_ne_zero n) (hf _), ← hafter ⟨n, hn'⟩ ⟨n + 1, hn⟩ h2.symm]
    show (if (cfg.win w).flush ⟨n, hn'⟩ = true then d else dat.left w ⟨n, hn'⟩ d) = _
    rw [hfl', if_neg Bool.false_ne_true]
    unfold Dat.left
    by_cases h7 : n % B = last
    · rw [(hid ⟨n, hn'⟩).2 h7]
      exact hkept _ _
    · rw [show cfg.idle w (cfg.grid.coords ⟨n, hn'⟩) = true from by
        rw [← Bool.not_eq_false]; exact fun hf => h7 ((hid ⟨n, hn'⟩).1 hf)]
      exact ih hn' (by omega) d

/-- A result buffer ends a point as its window's obligation says: stored into with the block, or as it was found. -/
theorem leaves_of (t : Fin cfg.N) (x d : (cfg.win w).block.Idx → Elt F (cfg.win w).elt)
    (hnow : cfg.idle w (cfg.grid.coords t) = false → x = dat.after w t) (hidle : cfg.idle w (cfg.grid.coords t) = true → x = dat.before w t d)
    (hkept : cfg.idle w (cfg.grid.coords t) = true → (cfg.win w).flush t = true → dat.before w t d = dat.after w t) :
    (owns (c : Thread nD τ) ((cfg.win w).stage (cfg.slots t w)) fullShare x : sProp (MT nD τ sig Unit (Elt F) ℕ (UR sig nD τ) ℕ)) ⊢ dat.leavesExact w t := by
  cases hi : cfg.idle w (cfg.grid.coords t) with
  | false => unfold Dat.leavesExact; rw [hi, hnow hi]
  | true =>
    cases hf : (cfg.win w).flush t with
    | true => unfold Dat.leavesExact; rw [hi, hf, hidle hi, hkept hi hf]
    | false =>
      rw [dat.leavesExact_idle w t hi hf, hidle hi]
      iintro H; iexists d; iexact H

end Kept

end Cert.Proof.Mm

end
-- ==== Proof.MmMath.lean ====
/-
  A matrix product by chunks of the summed axis: the accumulator's sums, and their sum over the whole axis. Addition of
  extended reals is commutative and associative, so nothing here needs a finite operand.
-/
module

public import proofs.«01_k».proof.Proof.MmBody
public import Idealize.ShloMosaic.Lib.Pointwise
public import Idealize.ShloMosaic.Lib.IdealHost
public import Mathlib.Algebra.BigOperators.Intervals

@[expose] public section

noncomputable section

namespace Cert.Proof.Mm

open Finset

/-- What is carried after a point is its step from something. -/
theorem carried_eq_step {α : Type} {N : ℕ} (step : Fin N → α → α) (z : α) (n : ℕ) (h : n < N) : ∃ X, carried step z n h = step ⟨n, h⟩ X := by
  cases n with
  | zero => exact ⟨z, rfl⟩
  | succ n => exact ⟨carried step z n (Nat.lt_of_succ_lt h), rfl⟩

section Sum

variable {β : Type} [AddCommMonoid β] {N : ℕ} (step : Fin N → β → β) (z : β) (p : ℕ → β) (b L : ℕ)
  (h0 : ∀ (h : b < N) X, step ⟨b, h⟩ X = p 0)
  (hs : ∀ q (h : b + q < N), 0 < q → q < L → ∀ X, step ⟨b + q, h⟩ X = X + p q)

include h0 hs in
/-- Reset at `b` and added to at each point since, the accumulator holds the sum. -/
theorem carried_sum : ∀ q (h : b + q < N), q < L → carried step z (b + q) h = ∑ j ∈ range (q + 1), p j := by
  intro q
  induction q with
  | zero =>
    intro h _
    obtain ⟨X, hX⟩ := carried_eq_step step z (b + 0) h
    rw [hX, sum_range_one]
    exact h0 h X
  | succ q ih =>
    intro h hq
    rw [sum_range_succ, ← ih (by omega) (by omega)]
    exact hs (q + 1) h (Nat.succ_pos q) hq _

include h0 hs in
/-- The last chunk's point leaves the accumulator. -/
theorem carried_last (hL : 0 < L) (h : b + L < N) (hl : ∀ X, step ⟨b + L, h⟩ X = X) : carried step z (b + L) h = ∑ j ∈ range L, p j := by
  obtain ⟨l, rfl⟩ : ∃ l, L = l + 1 := ⟨L - 1, by omega⟩
  exact (hl _).trans (carried_sum step z p b (l + 1) h0 hs l (by omega) (by omega))

end Sum

/-- One product of the sum at row `R` and column `C`, over natural numbers. -/
def term {M K N : ℕ} (A : Fin M → Fin K → EReal) (W : Fin K → Fin N → EReal) (R C k : ℕ) : EReal :=
  if h : R < M ∧ C < N ∧ k < K then A ⟨R, h.1⟩ ⟨k, h.2.2⟩ * W ⟨k, h.2.2⟩ ⟨C, h.2.1⟩ else 0

/-- The matrix product at row `R` and column `C`. -/
def dotAt {M K N : ℕ} (A : Fin M → Fin K → EReal) (W : Fin K → Fin N → EReal) (R C : ℕ) : EReal := ∑ k ∈ range K, term A W R C k

/-- The plain sum over the whole axis. -/
theorem sum_eq_dotAt {M K N : ℕ} (A : Fin M → Fin K → EReal) (W : Fin K → Fin N → EReal) (R : Fin M) (C : Fin N) :
    ∑ k : Fin K, A R k * W k C = dotAt A W R.val C.val := by
  unfold dotAt
  rw [sum_range]
  refine sum_congr rfl fun k _ => ?_
  unfold term
  rw [dif_pos (⟨R.isLt, C.isLt, k.isLt⟩ : R.val < M ∧ C.val < N ∧ k.val < K)]

/-- The chunk `q` of the sum. -/
def chunk {M K N : ℕ} (A : Fin M → Fin K → EReal) (W : Fin K → Fin N → EReal) (R C q : ℕ) : EReal := ∑ x : Fin 512, term A W R C (512 * q + x.val)

/-- The chunks together are the whole. -/
theorem sum_chunks {M K N : ℕ} (A : Fin M → Fin K → EReal) (W : Fin K → Fin N → EReal) (R C nk : ℕ) (hK : K = 512 * nk) :
    ∑ q ∈ range nk, chunk A W R C q = dotAt A W R C := by
  have h : ∀ n, ∑ q ∈ range n, chunk A W R C q = ∑ k ∈ range (512 * n), term A W R C k := by
    intro n
    induction n with
    | zero => simp
    | succ n ih => rw [sum_range_succ, ih, Nat.mul_succ, sum_range_add]; unfold chunk; rw [sum_range (n := 512)]
  rw [h nk, ← hK]; rfl

/-- A block's chunk: the block's products are the array's. -/
theorem sum_block {M K N : ℕ} (A : Fin M → Fin K → EReal) (W : Fin K → Fin N → EReal) {R C q : ℕ} (hR : R < M) (hC : C < N) (hq : 512 * q + 512 ≤ K)
    (f : Fin 512 → EReal) (hf : ∀ x : Fin 512, f x = A ⟨R, hR⟩ ⟨512 * q + x.val, by omega⟩ * W ⟨512 * q + x.val, by omega⟩ ⟨C, hC⟩) :
    ∑ x : Fin 512, f x = chunk A W R C q :=
  sum_congr rfl fun x _ => by
    rw [hf x]
    unfold term
    rw [dif_pos (⟨hR, hC, by omega⟩ : R < M ∧ C < N ∧ 512 * q + x.val < K)]

/-! ## The accumulators and the results, element by element -/

section Ideal

open Idealize.ShloMosaic

variable (w : FVec Ideal TileW .f32) (a : FVec Ideal TileP .bf16) (s : FVec Ideal TileS .bf16)

/-- A chunk's partial product. -/
theorem partP_at (r : Fin 2064) (n : Fin 1024) : (partP (F := Ideal) w a (ix2 r n) : EReal) = ∑ x : Fin 512, (a (ix2 r x) : EReal) * (w (ix3 0 x n) : EReal) := by
  pointwise [partP, weights, dotP]
theorem partS_at (r : Fin 64) (n : Fin 1024) : (partS (F := Ideal) w s (ix2 r n) : EReal) = ∑ x : Fin 512, (s (ix2 r x) : EReal) * (w (ix3 0 x n) : EReal) := by
  pointwise [partS, weights, dotS]

/-- The first chunk is stored, the later ones are added. -/
theorem firstP_at (r : Fin 2064) (n : Fin 1024) : (firstP (F := Ideal) w a (ix2 r n) : EReal) = (partP (F := Ideal) w a (ix2 r n) : EReal) := by
  pointwise [firstP]
theorem addP_at (X : FVec Ideal ResP .f32) (r : Fin 2064) (n : Fin 1024) : (addP (F := Ideal) w a X (ix2 r n) : EReal) = (X (ix2 r n) : EReal) + (partP (F := Ideal) w a (ix2 r n) : EReal) := by
  pointwise [addP]
theorem firstS_at (r : Fin 64) (n : Fin 1024) : (firstS (F := Ideal) w s (ix2 r n) : EReal) = (partS (F := Ideal) w s (ix2 r n) : EReal) := by
  pointwise [firstS]
theorem addS_at (Y : FVec Ideal ResS .f32) (r : Fin 64) (n : Fin 1024) : (addS (F := Ideal) w s Y (ix2 r n) : EReal) = (Y (ix2 r n) : EReal) + (partS (F := Ideal) w s (ix2 r n) : EReal) := by
  pointwise [addS]

/-- The squared positive part. -/
def relu2 (x : EReal) : EReal := max x 0 * max x 0

/-- What the last chunk's point stores. -/
theorem sumP_at (X : FVec Ideal ResP .f32) (r : Fin 2064) (n : Fin 1024) : (sumP (F := Ideal) w a X (ix2 r n) : EReal) = (X (ix2 r n) : EReal) + (partP (F := Ideal) w a (ix2 r n) : EReal) := by
  pointwise [sumP]
theorem sumS_at (Y : FVec Ideal ResS .f32) (r : Fin 64) (n : Fin 1024) : (sumS (F := Ideal) w s Y (ix2 r n) : EReal) = (Y (ix2 r n) : EReal) + (partS (F := Ideal) w s (ix2 r n) : EReal) := by
  pointwise [sumS]
theorem roundP_at (X : FVec Ideal ResP .f32) (r : Fin 2064) (n : Fin 1024) : (roundP (F := Ideal) w a X (ix2 r n) : EReal) = (X (ix2 r n) : EReal) + (partP (F := Ideal) w a (ix2 r n) : EReal) := by
  pointwise [roundP, sumP]
theorem reluP_at (X : FVec Ideal ResP .f32) (r : Fin 2064) (n : Fin 1024) : (reluP (F := Ideal) w a X (ix2 r n) : EReal) = relu2 ((X (ix2 r n) : EReal) + (partP (F := Ideal) w a (ix2 r n) : EReal)) := by
  pointwise [reluP, sumP, relu2]
theorem reluS_at (Y : FVec Ideal ResS .f32) (r : Fin 64) (n : Fin 1024) : (reluS (F := Ideal) w s Y (ix2 r n) : EReal) = relu2 ((Y (ix2 r n) : EReal) + (partS (F := Ideal) w s (ix2 r n) : EReal)) := by
  pointwise [reluS, sumS, relu2]

end Ideal

/-- Stored at the first chunk and added to at the later ones but the last, an accumulator and the last chunk's product
    together are the whole product. -/
theorem total {γ : Type} {N last : ℕ} (i k : Fin N → ℕ) (first : Fin N → γ → EReal) (add : Fin N → (γ → EReal) → γ → EReal) (part : Fin N → γ → EReal) (z : γ → EReal)
    (hf : ∀ t y, first t y = part t y) (ha : ∀ t X y, add t X y = X y + part t y) (b : ℕ) (hl : 0 < last) (h : b + last < N)
    (hi : ∀ q (h : b + q < N), q ≤ last → i ⟨b + q, h⟩ = 0) (hk : ∀ q (h : b + q < N), q ≤ last → k ⟨b + q, h⟩ = q)
    (y : γ) {M K C : ℕ} (A : Fin M → Fin K → EReal) (W : Fin K → Fin C → EReal) (R Q : ℕ) (hK : K = 512 * (last + 1))
    (hp : ∀ q (h : b + q < N), q ≤ last → part ⟨b + q, h⟩ y = chunk A W R Q q) :
    carried (fun t X => step (i t) (k t) last (first t) (add t) X) z (b + last) h y + part ⟨b + last, h⟩ y = dotAt A W R Q := by
  have e := carried_last (β := γ → EReal) (fun t X => step (i t) (k t) last (first t) (add t) X) z
    (fun q => if h : b + q < N then part ⟨b + q, h⟩ else 0) b last ?_ ?_ hl h ?_
  · rw [e, Finset.sum_apply, hp last h le_rfl, ← sum_chunks A W R Q (last + 1) hK, sum_range_succ]
    refine congrArg (· + _) (sum_congr rfl fun q hq => ?_)
    have hq := mem_range.1 hq
    rw [dif_pos (show b + q < N by omega)]
    exact hp q _ (by omega)
  · intro hb X
    have h1 : i ⟨b, hb⟩ = 0 := hi 0 hb (Nat.zero_le _)
    have h2 : k ⟨b, hb⟩ = 0 := hk 0 hb (Nat.zero_le _)
    funext y
    unfold step
    rw [if_pos h1, if_pos h2, dif_pos (show b + 0 < N from hb)]
    exact hf _ y
  · intro q hq h0 h1 X
    funext y
    unfold step
    rw [if_pos (hi q hq (by omega)), hk q hq (by omega), if_neg (by omega), if_neg (by omega), dif_pos hq]
    exact ha _ X y
  · intro X
    unfold step
    rw [if_pos (hi last h le_rfl), hk last h le_rfl, if_neg (by omega), if_pos rfl]

section Totals

open Idealize.ShloMosaic

variable {N last : ℕ} (i k : Fin N → ℕ) (V : Fin N → FVec Ideal TileW .f32) (B : Fin N → FVec Ideal TileP .bf16) (S : Fin N → FVec Ideal TileS .bf16)
  (b : ℕ) (hl : 0 < last) (h : b + last < N) (hi : ∀ q (h : b + q < N), q ≤ last → i ⟨b + q, h⟩ = 0) (hk : ∀ q (h : b + q < N), q ≤ last → k ⟨b + q, h⟩ = q)
  {M K C : ℕ} (A : Fin M → Fin K → EReal) (W : Fin K → Fin C → EReal) (R Q : ℕ) (hK : K = 512 * (last + 1))

include hl hk hK in
/-- The prompt accumulator and the last chunk's product. -/
theorem accP_total (r : Fin 2064) (n : Fin 1024)
    (hp : ∀ q (h : b + q < N), q ≤ last → ∑ x : Fin 512, (B ⟨b + q, h⟩ (ix2 r x) : EReal) * (V ⟨b + q, h⟩ (ix3 0 x n) : EReal) = chunk A W R Q q) :
    (accP (F := Ideal) k last V B (b + last) h (ix2 r n) : EReal) + (partP (F := Ideal) (V ⟨b + last, h⟩) (B ⟨b + last, h⟩) (ix2 r n) : EReal) = dotAt A W R Q :=
  total (fun _ => 0) k (fun t => firstP (F := Ideal) (V t) (B t)) (fun t => addP (F := Ideal) (V t) (B t)) (fun t => partP (F := Ideal) (V t) (B t)) (constant (F := Ideal) ResP .f32 0x00000000#32)
    (fun t y => by idx_vars y; exact firstP_at _ _ y0 y1) (fun t X y => by idx_vars y; exact addP_at _ _ X y0 y1) b hl h (fun _ _ _ => rfl) hk (ix2 r n) A W R Q hK
    fun q h hq => (partP_at _ _ r n).trans (hp q h hq)

include hl hi hk hK in
/-- The sample accumulator and the last chunk's product. -/
theorem accS_total (r : Fin 64) (n : Fin 1024)
    (hp : ∀ q (h : b + q < N), q ≤ last → ∑ x : Fin 512, (S ⟨b + q, h⟩ (ix2 r x) : EReal) * (V ⟨b + q, h⟩ (ix3 0 x n) : EReal) = chunk A W R Q q) :
    (accS (F := Ideal) i k last V S (b + last) h (ix2 r n) : EReal) + (partS (F := Ideal) (V ⟨b + last, h⟩) (S ⟨b + last, h⟩) (ix2 r n) : EReal) = dotAt A W R Q :=
  total i k (fun t => firstS (F := Ideal) (V t) (S t)) (fun t => addS (F := Ideal) (V t) (S t)) (fun t => partS (F := Ideal) (V t) (S t)) (constant (F := Ideal) ResS .f32 0x00000000#32)
    (fun t y => by idx_vars y; exact firstS_at _ _ y0 y1) (fun t X y => by idx_vars y; exact addS_at _ _ X y0 y1) b hl h hi hk (ix2 r n) A W R Q hK
    fun q h hq => (partS_at _ _ r n).trans (hp q h hq)

end Totals

end Cert.Proof.Mm

end
-- ==== Proof.MmPoint.lean ====
/-
  The blocked matrix product at a point of its grid, once for every call: which chunk and which row of blocks a point
  is, its run from the pipeline's buffers to what the windows' obligations ask of them, and the value of a result block.
-/
module

public import proofs.«01_k».proof.Proof.MmMath

@[expose] public section

set_option maxRecDepth 16384

noncomputable section

namespace Cert.Proof.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

/-! ## The grid -/

/-- The grids: `nk` chunks, the last of them `last`, in four rows of blocks, `P` points for a column of blocks. -/
def Counts (nk last P : ℕ) : Prop := (nk = 8 ∧ last = 7 ∧ P = 32) ∨ (nk = 32 ∧ last = 31 ∧ P = 128)

theorem counts8 : Counts 8 7 32 := .inl ⟨rfl, rfl, rfl⟩
theorem counts32 : Counts 32 31 128 := .inr ⟨rfl, rfl, rfl⟩

/-- A point's row of blocks and its chunk. -/
def row (nk : ℕ) {N : ℕ} (t : Fin N) : ℕ := t.val / nk % 4
def chk (nk : ℕ) {N : ℕ} (t : Fin N) : ℕ := t.val % nk

/-- The point at which the sample block that point `t` belongs to is complete. -/
def done (last P : ℕ) {N : ℕ} (h : P * (N / P) = N ∧ last < P) (t : Fin N) : Fin N := ⟨P * (t.val / P) + last, by
  obtain ⟨t, ht⟩ := t
  have h1 : t / P < N / P := (Nat.div_lt_iff_lt_mul (by omega)).2 (by rw [Nat.mul_comm, h.1]; exact ht)
  calc P * (t / P) + last < P * (t / P) + P := by omega
    _ = P * (t / P + 1) := by rw [Nat.mul_add, Nat.mul_one]
    _ ≤ P * (N / P) := Nat.mul_le_mul_left _ h1
    _ = N := h.1⟩

section Counts

variable {nk last P : ℕ} (hc : Counts nk last P) {N : ℕ} (t : Fin N)

include hc in
/-- The tests select the points they should. -/
theorem row_first : isFirst (BitVec.ofNat 32 (row nk t)) = 1#1 ↔ row nk t = 0 := first4 ⟨t.val / nk % 4, Nat.mod_lt _ (by decide)⟩
include hc in
theorem chk_selects : Selects last (chk nk t) := by
  rcases hc with ⟨rfl, rfl, rfl⟩ | ⟨rfl, rfl, rfl⟩
  · exact selects7 ⟨t.val % 8, Nat.mod_lt _ (by decide)⟩
  · exact selects31 ⟨t.val % 32, Nat.mod_lt _ (by decide)⟩
include hc in
theorem last_pos : 0 < last := by rcases hc with ⟨_, rfl, _⟩ | ⟨_, rfl, _⟩ <;> decide
include hc in
theorem at_zero (h : t.val = 0) : row nk t = 0 ∧ chk nk t = 0 := by
  unfold row chk; rw [h]; rcases hc with ⟨rfl, _, _⟩ | ⟨rfl, _, _⟩ <;> exact ⟨rfl, rfl⟩
include hc in
/-- The last chunk of the first row of blocks is at place `last` of a column of blocks. -/
theorem first_last : (row nk t = 0 ∧ chk nk t = last) ↔ t.val % P = last := by
  unfold row chk; rcases hc with ⟨rfl, rfl, rfl⟩ | ⟨rfl, rfl, rfl⟩ <;> omega

end Counts

/-! ## The body at a point -/

section Body

variable {nD : ℕ} {τ : Topo} {sig : RefSig} {Λ₀ : Labels} {F : FTy → Type} [FloatOps F] {eP eS : EltTy}

local notation "𝕄" => MT nD τ sig Unit (Elt F) ℕ (UR sig nD τ) ℕ

/-- From the operands' buffers holding their blocks, whatever the results' buffers hold, the body leaves the operands'
    as they were and in the results' what the two obligations ask. -/
theorem body_point (defs₀ : Defs nD τ sig (Elt F) Λ₀) (c : Dev nD) {nk last P : ℕ} (hc : Counts nk last P) {N : ℕ} (t : Fin N)
    (outP : FVec F TileW .f32 → FVec F TileP .bf16 → FVec F ResP .f32 → Vec F ResP eP)
    (outS : FVec F TileW .f32 → FVec F TileS .bf16 → FVec F ResS .f32 → Vec F ResS eS)
    (arg3 : Memref sig .tc .vmem TileP .bf16) (arg4 : Memref sig .tc .vmem TileS .bf16) (arg5 : Memref sig .tc .vmem TileW .f32)
    (arg6 : Memref sig .tc .vmem ResP eP) (arg7 : Memref sig .tc .vmem ResS eS)
    (arg8 : Memref sig .tc .vmem ResP .f32) (arg9 : Memref sig .tc .vmem ResS .f32) (h6 h7)
    (W : Fin N → FVec F TileW .f32) (A : Fin N → FVec F TileP .bf16) (S : Fin N → FVec F TileS .bf16) {αA αS αW αP αQ : Type}
    (bA : αA → FVec F TileP .bf16) (bS : αS → FVec F TileS .bf16) (bW : αW → FVec F TileW .f32) (bP : αP → Vec F ResP eP) (bQ : αQ → Vec F ResS eS)
    (hA : ∀ d, bA d = A t) (hS : ∀ d, bS d = S t) (hW : ∀ d, bW d = W t) (O L3 L4 : sProp 𝕄)
    (h3 : ∀ d, owns (c : Thread nD τ) arg6 fullShare (left 0 (chk nk t) last (outP (W t) (A t) (accP (chk nk) last W A t.val t.isLt)) (bP d)) ⊢ L3)
    (h4 : ∀ d, owns (c : Thread nD τ) arg7 fullShare (left (row nk t) (chk nk t) last (outS (W t) (S t) (accS (row nk) (chk nk) last W S t.val t.isLt)) (bQ d)) ⊢ L4) :
    iprop(Inv c arg8 arg9 (accP (chk nk) last W A) (accS (row nk) (chk nk) last W S) t.val ∗ O
        ∗ (∃ d, owns (c : Thread nD τ) arg3 fullShare (bA d)) ∗ (∃ d, owns (c : Thread nD τ) arg4 fullShare (bS d)) ∗ (∃ d, owns (c : Thread nD τ) arg5 fullShare (bW d))
        ∗ (∃ d, owns (c : Thread nD τ) arg6 fullShare (bP d)) ∗ (∃ d, owns (c : Thread nD τ) arg7 fullShare (bQ d)))
      ⊢ wp frame (wpE defs₀ Variants.none (c : Thread nD τ) none) Set.univ
          (body (BitVec.ofNat 32 (row nk t)) (BitVec.ofNat 32 (chk nk t)) (BitVec.ofNat 32 last) outP outS arg3 arg4 arg5 arg6 arg7 arg8 arg9 h6 h7)
          (fun _ => iprop(Inv c arg8 arg9 (accP (chk nk) last W A) (accS (row nk) (chk nk) last W S) (t.val + 1) ∗ O
            ∗ owns (c : Thread nD τ) arg3 fullShare (A t) ∗ owns (c : Thread nD τ) arg4 fullShare (S t) ∗ owns (c : Thread nD τ) arg5 fullShare (W t)
            ∗ L3 ∗ L4)) := by
  simp only [hA, hS, hW]
  iintro ⟨HI, Ho, ⟨%d0, H0⟩, ⟨%d1, H1⟩, ⟨%d2, H2⟩, ⟨%d3, H3⟩, ⟨%d4, H4⟩⟩
  iapply (body_inv defs₀ c t (row nk) (chk nk) last (row_first hc t) (chk_selects hc t) (last_pos hc) (at_zero hc t)
    outP outS arg3 arg4 arg5 arg6 arg7 arg8 arg9 h6 h7 W A S (bP d3) (bQ d4) Set.univ _)
  isplitl [HI]; · iexact HI
  isplitl [H0]; · iexact H0
  isplitl [H1]; · iexact H1
  isplitl [H2]; · iexact H2
  isplitl [H3]; · iexact H3
  isplitl [H4]; · iexact H4
  iintro ⟨HI, H0, H1, H2, H3, H4⟩
  isplitl [HI]; · iexact HI
  isplitl [Ho]; · iexact Ho
  isplitl [H0]; · iexact H0
  isplitl [H1]; · iexact H1
  isplitl [H2]; · iexact H2
  isplitl [H3]; · iapply (h3 d3); iexact H3
  iapply (h4 d4); iexact H4

end Body

/-! ## What the results' buffers are left with -/

section Leaves

variable {nD : ℕ} {τ : Topo} {sig : RefSig} {Λ₀ : Labels} {F : FTy → Type} [FloatOps F]
variable {cfg : Cfg sig Λ₀} {c : Dev nD} (dat : Dat τ (Elt F) Unit ℕ (UR sig nD τ) ℕ cfg c) (w : Fin cfg.W)
variable {nk last P : ℕ} (hc : Counts nk last P) (t : Fin cfg.N)

/-- The prompt result's: stored into and written back at each last chunk. -/
theorem leaves_prompt (d x : (cfg.win w).block.Idx → Elt F (cfg.win w).elt) (hx : dat.after w t = x)
    (hid : cfg.idle w (cfg.grid.coords t) = !(isLast (BitVec.ofNat 32 (chk nk t)) (BitVec.ofNat 32 last) == 1#1))
    (hs : Selects last (chk nk t)) (hfl : (cfg.win w).flush t = true ↔ t.val % nk = last) :
    (owns (c : Thread nD τ) ((cfg.win w).stage (cfg.slots t w)) fullShare (left 0 (chk nk t) last x (dat.before w t d)) : sProp (MT nD τ sig Unit (Elt F) ℕ (UR sig nD τ) ℕ))
      ⊢ dat.leavesExact w t := by
  have hi : cfg.idle w (cfg.grid.coords t) = false ↔ chk nk t = last := by rw [hid, ← hs.2.2]; simp
  refine leaves_of dat w t _ d (fun h => ?_) (fun h => ?_) (fun h hf => ?_)
  · rw [hx]; unfold left; rw [if_pos rfl, if_pos (hi.1 h)]
  · have : ¬ chk nk t = last := fun hk => by rw [hi.2 hk] at h; exact Bool.false_ne_true h
    unfold left; rw [if_pos rfl, if_neg this]
  · rw [hi.2 (hfl.1 hf)] at h; exact absurd h Bool.false_ne_true

include hc in
/-- The sample result's: stored into at the last chunk of the first row of blocks, written back at the end of the
    column of blocks. -/
theorem leaves_sample (hN : P * (cfg.N / P) = cfg.N ∧ last < P) (x : Fin cfg.N → (cfg.win w).block.Idx → Elt F (cfg.win w).elt)
    (hx : ∀ t, dat.after w t = x (done last P hN t)) (d : (cfg.win w).block.Idx → Elt F (cfg.win w).elt)
    (hid : ∀ t, cfg.idle w (cfg.grid.coords t)
      = !(isFirst (BitVec.ofNat 32 (row nk t)) == 1#1 && isLast (BitVec.ofNat 32 (chk nk t)) (BitVec.ofNat 32 last) == 1#1))
    (hf : ∀ t, (cfg.win w).fetch t = false) (hfl : ∀ t, (cfg.win w).flush t = true ↔ t.val % P = P - 1) (hkept : ∀ t d, dat.kept w t d = dat.after w t) :
    (owns (c : Thread nD τ) ((cfg.win w).stage (cfg.slots t w)) fullShare (left (row nk t) (chk nk t) last (x t) (dat.before w t d)) : sProp (MT nD τ sig Unit (Elt F) ℕ (UR sig nD τ) ℕ))
      ⊢ dat.leavesExact w t := by
  have hi : ∀ t, cfg.idle w (cfg.grid.coords t) = false ↔ row nk t = 0 ∧ chk nk t = last := fun t => by
    rw [hid, ← (chk_selects hc t).2.2, ← row_first hc t]; simp
  have hm : ∀ t, cfg.idle w (cfg.grid.coords t) = false ↔ t.val % P = last := fun t => (hi t).trans (first_last hc t)
  refine leaves_of dat w t _ d (fun h => ?_) (fun h => ?_) (fun _ hfl' => ?_)
  · have hd : done last P hN t = t := Fin.ext (by
      show P * (t.val / P) + last = t.val
      rw [← (hm t).1 h]; exact Nat.div_add_mod _ _)
    rw [hx, hd]; unfold left; rw [if_pos ((hi t).1 h).1, if_pos ((hi t).1 h).2]
  · have : ¬ (row nk t = 0 ∧ chk nk t = last) := fun hk => by rw [(hi t).2 hk] at h; exact Bool.false_ne_true h
    unfold left
    by_cases hr : row nk t = 0
    · rw [if_pos hr, if_neg fun hk => this ⟨hr, hk⟩]
    · rw [if_neg hr]
  · exact before_kept dat w P last (by omega) hf hfl hm hkept
      (fun t t' h => by rw [hx, hx, show done last P hN t = done last P hN t' from Fin.ext (by show P * (t.val / P) + last = P * (t'.val / P) + last; rw [h])])
      t.val t.isLt (by rw [(hfl t).1 hfl']; rcases hc with ⟨_, rfl, rfl⟩ | ⟨_, rfl, rfl⟩ <;> decide) d

end Leaves

/-! ## The value of a result block -/

section Value

variable {nk last P : ℕ} (hc : Counts nk last P) {N nb K C : ℕ} (hN : N = P * nb) (hK : K = 512 * nk) (hC : 1024 * nb ≤ C)
  (V : Fin N → FVec Ideal TileW .f32) (W : Fin K → Fin C → EReal)
  (hV : ∀ t (x : Fin 512) (n : Fin 1024) h1 h2, (V t (ix3 0 x n) : EReal) = W ⟨512 * (t.val % nk) + x.val, h1⟩ ⟨1024 * (t.val / P) + n.val, h2⟩)

include hc hN hK hC hV

/-- At a prompt block's last chunk the accumulator and the chunk's product make the whole product. -/
theorem prompt_total (B : Fin N → FVec Ideal TileP .bf16) (A : Fin 8256 → Fin K → EReal)
    (hB : ∀ t (r : Fin 2064) (x : Fin 512) h1 h2, (B t (ix2 r x) : EReal) = A ⟨2064 * (t.val / nk % 4) + r.val, h1⟩ ⟨512 * (t.val % nk) + x.val, h2⟩)
    (t : Fin N) (ht : t.val % nk = last) (r : Fin 2064) (n : Fin 1024) :
    (accP (F := Ideal) (chk nk) last V B t.val t.isLt (ix2 r n) : EReal) + (partP (F := Ideal) (V t) (B t) (ix2 r n) : EReal)
      = dotAt A W (2064 * (t.val / nk % 4) + r.val) (1024 * (t.val / P) + n.val) := by
  obtain ⟨tv, hv⟩ := t
  obtain ⟨b, rfl⟩ : ∃ b, tv = b + last := ⟨tv - last, by have := Nat.mod_le tv nk; dsimp only at ht; omega⟩
  dsimp only at ht ⊢
  have hb : ∀ q, b + q < N → q ≤ last → 2064 * ((b + q) / nk % 4) + r.val < 8256 ∧ 1024 * ((b + q) / P) + n.val < C ∧ 512 * ((b + q) % nk) + 512 ≤ K
      ∧ (b + q) / nk % 4 = (b + last) / nk % 4 ∧ (b + q) / P = (b + last) / P ∧ (b + q) % nk = q := by
    rcases hc with ⟨rfl, rfl, rfl⟩ | ⟨rfl, rfl, rfl⟩ <;> omega
  refine accP_total (chk nk) V B b (last_pos hc) hv (fun q h hq => (hb q h hq).2.2.2.2.2) _ _ _ _
    (by rcases hc with ⟨rfl, rfl, _⟩ | ⟨rfl, rfl, _⟩ <;> exact hK) r n fun q h hq => ?_
  obtain ⟨h1, h2, h3, h4, h5, h6⟩ := hb q h hq
  have e := sum_block A W h1 h2 h3 _ fun x => congrArg₂ (· * ·) (hB ⟨b + q, h⟩ r x h1 (by dsimp only; omega)) (hV ⟨b + q, h⟩ x n (by dsimp only; omega) h2)
  rw [h4, h5, h6] at e
  exact e

/-- The same of a sample block's, in the first row of blocks. -/
theorem sample_total (S : Fin N → FVec Ideal TileS .bf16) (A : Fin 64 → Fin K → EReal)
    (hS : ∀ t (r : Fin 64) (x : Fin 512) h, (S t (ix2 r x) : EReal) = A r ⟨512 * (t.val % nk) + x.val, h⟩)
    (t : Fin N) (ht : t.val % P = last) (r : Fin 64) (n : Fin 1024) :
    (accS (F := Ideal) (row nk) (chk nk) last V S t.val t.isLt (ix2 r n) : EReal) + (partS (F := Ideal) (V t) (S t) (ix2 r n) : EReal)
      = dotAt A W r.val (1024 * (t.val / P) + n.val) := by
  obtain ⟨tv, hv⟩ := t
  obtain ⟨b, rfl⟩ : ∃ b, tv = b + last := ⟨tv - last, by have := Nat.mod_le tv P; dsimp only at ht; omega⟩
  dsimp only at ht ⊢
  have hb : ∀ q, b + q < N → q ≤ last → 1024 * ((b + q) / P) + n.val < C ∧ 512 * ((b + q) % nk) + 512 ≤ K
      ∧ (b + q) / nk % 4 = 0 ∧ (b + q) / P = (b + last) / P ∧ (b + q) % nk = q := by
    rcases hc with ⟨rfl, rfl, rfl⟩ | ⟨rfl, rfl, rfl⟩ <;> omega
  refine accS_total (row nk) (chk nk) V S b (last_pos hc) hv (fun q h hq => (hb q h hq).2.2.1) (fun q h hq => (hb q h hq).2.2.2.2) _ _ _ _
    (by rcases hc with ⟨rfl, rfl, _⟩ | ⟨rfl, rfl, _⟩ <;> exact hK) r n fun q h hq => ?_
  obtain ⟨h2, h3, _, h5, h6⟩ := hb q h hq
  have e := sum_block A W r.isLt h2 h3 _ fun x => congrArg₂ (· * ·) (hS ⟨b + q, h⟩ r x (by dsimp only; omega)) (hV ⟨b + q, h⟩ x n (by dsimp only; omega) h2)
  rw [h5, h6] at e
  exact e

/-- Where the sample block of a point is complete, read back at the point. -/
theorem sample_done (hd : P * (N / P) = N ∧ last < P) (S : Fin N → FVec Ideal TileS .bf16) (A : Fin 64 → Fin K → EReal)
    (hS : ∀ t (r : Fin 64) (x : Fin 512) h, (S t (ix2 r x) : EReal) = A r ⟨512 * (t.val % nk) + x.val, h⟩)
    (t : Fin N) (r : Fin 64) (n : Fin 1024) :
    (accS (F := Ideal) (row nk) (chk nk) last V S (done last P hd t).val (done last P hd t).isLt (ix2 r n) : EReal)
        + (partS (F := Ideal) (V (done last P hd t)) (S (done last P hd t)) (ix2 r n) : EReal)
      = dotAt A W r.val (1024 * (t.val / P) + n.val) := by
  have e : (done last P hd t).val = P * (t.val / P) + last := rfl
  have hP : (done last P hd t).val % P = last := by rw [e, Nat.mul_add_mod, Nat.mod_eq_of_lt hd.2]
  rw [sample_total hc hN hK hC V W hV S A hS (done last P hd t) hP r n, e, Nat.mul_add_div (by omega), Nat.div_eq_of_lt hd.2, Nat.add_zero]

end Value

end Cert.Proof.Mm

end
-- ==== Proof.UpFrame.lean ====
/-
  The up-projection call's run: the body at every grid point, and the launch.
-/
module

public import proofs.«01_k».proof.Proof.Gen.Up.Frame
public import proofs.«01_k».proof.Proof.Gen.Up.Skeleton
public import proofs.«01_k».proof.Proof.Gen.Up.Launch
public import proofs.«01_k».proof.Proof.Gen.Up.Points
public import proofs.«01_k».proof.Proof.MmPoint

@[expose] public section

set_option maxRecDepth 16384

noncomputable section

namespace Cert.Proof.Up

open Cert.Up Cert.Up.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 8 t)) (BitVec.ofNat 32 (Mm.chk 8 t)) (BitVec.ofNat 32 7) Mm.reluP Mm.reluS (st0_0 t) (st0_1 t) (st0_2 t) (st0_3 t) (st0_4 t)
        (Memref.whole cc0_scratch0) (Memref.whole cc0_scratch1) h6 h7 := by
  refine ⟨View.stores_vmem h_S2064x1024 ((hstage0_3 ((cfg0.slots t 3).cast nbuf0_3)).storeExact_slice rfl _ packedbf16_S2064x1024_S2064x1024_0_0) (fun _ => rfl),
    View.stores_vmem h_S64x1024 ((hstage0_4 ((cfg0.slots t 4).cast nbuf0_4)).storeExact_slice rfl _ packedbf16_S64x1024_S64x1024_0_0) (fun _ => rfl), ?_⟩
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]
  unfold bodyAt0
  rw [cc0__mm_kernel_eq_skeleton]
  rfl

/-- The points fill whole columns of blocks. -/
theorem columns : 32 * (cfg0.N / 32) = cfg0.N ∧ 7 < 32 := by rw [show cfg0.N = 512 from N_0]; decide

/-- When the body stores into the results' buffers, as tests of the point's chunk and row of blocks. -/
theorem idle3 (t : Fin cfg0.N) : cfg0.idle 3 (cfg0.grid.coords t) = !(Mm.isLast (BitVec.ofNat 32 (Mm.chk 8 t)) (BitVec.ofNat 32 7) == 1#1) := by
  rw [show Mm.chk 8 t = (grid0.coords t 2).val from ((by decide +kernel : ∀ t : Fin grid0.N, (grid0.coords t 2).val = t.val % 8) t).symm]; rfl
theorem idle4 (t : Fin cfg0.N) : cfg0.idle 4 (cfg0.grid.coords t)
    = !(Mm.isFirst (BitVec.ofNat 32 (Mm.row 8 t)) == 1#1 && Mm.isLast (BitVec.ofNat 32 (Mm.chk 8 t)) (BitVec.ofNat 32 7) == 1#1) := by
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := iblk m c 2 t

/-- The accumulators after each point. -/
abbrev accP (c : Dev nD) := Mm.accP (Mm.chk 8) 7 (blkW m c) (blkA m c)
abbrev accS (c : Dev nD) := Mm.accS (Mm.row 8) (Mm.chk 8) 7 (blkW m c) (blkS m c)

/-- The result blocks that a last chunk's point leaves. -/
def outP (c : Dev nD) (t : Fin cfg0.N) : FVec F Mm.ResP .bf16 := Mm.reluP (blkW m c t) (blkA m c t) (accP m c t.val t.isLt)
def outS (c : Dev nD) (t : Fin cfg0.N) : FVec F Mm.ResS .bf16 := Mm.reluS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outS m c (Mm.done 7 32 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 7 32 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 8 t) 7 (outP m c t) ((dats m 0 c).before 3 t d)) : sProp 𝕄) ⊢ (dats m 0 c).leavesExact 3 t :=
  Mm.leaves_prompt (dats m 0 c) 3 t d _ (after3 m c t) (idle3 t) (Mm.chk_selects Mm.counts8 t) (flush0_3 t)
theorem leaves4 (c : Dev nD) (t : Fin cfg0.N) (d) :
    (owns (c : Thread nD τ) (st0_4 t) fullShare (Mm.left (Mm.row 8 t) (Mm.chk 8 t) 7 (outS m c t) ((dats m 0 c).before 4 t d)) : sProp 𝕄) ⊢ (dats m 0 c).leavesExact 4 t :=
  Mm.leaves_sample (dats m 0 c) 4 Mm.counts8 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts8 t Mm.reluP Mm.reluS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.Up

end
-- ==== Proof.UpValue.lean ====
/-
  The up-projection call's result arrays: every element is the squared positive part of its row and column's product sum, over the whole summed axis.
-/
module

public import proofs.«01_k».proof.Proof.UpFrame
public import Idealize.ShloMosaic.Lib.Pipeline.ValueKit.Geometry

@[expose] public section

set_option maxRecDepth 16384

noncomputable section

namespace Cert.Proof.Up

open Cert.Up Cert.Up.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 4096) : EReal := (m ((c.tc : Thread nD τ).loc main_arg0) : FVec Ideal S8256x4096 .bf16) (ix2 r k)
abbrev argS (r : Fin 64) (k : Fin 4096) : EReal := (m ((c.tc : Thread nD τ).loc main_arg1) : FVec Ideal S64x4096 .bf16) (ix2 r k)
abbrev argW (k : Fin 4096) (n : Fin 16384) : EReal := (m ((c.tc : Thread nD τ).loc main_arg2) : FVec Ideal S4x4096x16384 .f32) (ix3 0 k n)

/-- Where the windows' blocks lie. -/
theorem index0 : ∀ t : Fin cfg0.N, win0_0.index t = ![t.val / 8 % 4, t.val % 8] := (by decide +kernel : ∀ t : Fin grid0.N, win0_0.index t = ![t.val / 8 % 4, t.val % 8])
theorem index1 : ∀ t : Fin cfg0.N, win0_1.index t = ![0, t.val % 8] := (by decide +kernel : ∀ t : Fin grid0.N, win0_1.index t = ![0, t.val % 8])
theorem index2 : ∀ t : Fin cfg0.N, win0_2.index t = ![0, t.val % 8, t.val / 32] := (by decide +kernel : ∀ t : Fin grid0.N, win0_2.index t = ![0, t.val % 8, t.val / 32])
theorem index3 : ∀ t : Fin cfg0.N, win0_3.index t = ![t.val / 8 % 4, t.val / 32] := (by decide +kernel : ∀ t : Fin grid0.N, win0_3.index t = ![t.val / 8 % 4, t.val / 32])
theorem index4 : ∀ t : Fin cfg0.N, win0_4.index t = ![0, t.val / 32] := (by decide +kernel : ∀ t : Fin grid0.N, win0_4.index t = ![0, t.val / 32])

/-- The blocks at a point. -/
theorem block0 (t : Fin cfg0.N) (r : Fin 2064) (x : Fin 512) (h1 h2) :
    blkA m c t (ix2 r x) = argP m c ⟨2064 * (t.val / 8 % 4) + r.val, h1⟩ ⟨512 * (t.val % 8) + x.val, h2⟩ := by
  unfold blkA
  blk_simp [iblk]
  refine congrArg (m ((c.tc : Thread nD τ).loc main_arg0) : FVec Ideal S8256x4096 .bf16) ?_
  blk_ext [index0]
theorem block1 (t : Fin cfg0.N) (r : Fin 64) (x : Fin 512) (h) :
    blkS m c t (ix2 r x) = argS m c r ⟨512 * (t.val % 8) + x.val, h⟩ := by
  unfold blkS
  blk_simp [iblk]
  refine congrArg (m ((c.tc : Thread nD τ).loc main_arg1) : FVec Ideal S64x4096 .bf16) ?_
  blk_ext [index1]
theorem block2 (t : Fin cfg0.N) (x : Fin 512) (n : Fin 1024) (h1 h2) :
    blkW m c t (ix3 0 x n) = argW m c ⟨512 * (t.val % 8) + x.val, h1⟩ ⟨1024 * (t.val / 32) + n.val, h2⟩ := by
  unfold blkW
  blk_simp [iblk]
  refine congrArg (m ((c.tc : Thread nD τ).loc main_arg2) : FVec Ideal S4x4096x16384 .f32) ?_
  blk_ext [index2]

/-- The result arrays. -/
def finalP (y : S8256x16384.Idx) : EReal := Mm.relu2 (Mm.dotAt (argP m c) (argW m c) (y (0 : Fin 2)).val (y (1 : Fin 2)).val)
def finalS (y : S64x16384.Idx) : EReal := Mm.relu2 (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.reluP_at _ _ _ y0 y1).trans (congrArg Mm.relu2 (Mm.prompt_total Mm.counts8 (nb := 16) N_0 rfl (by decide) _ (argW m c) (block2 m c) _ (argP m c) (block0 m c)
    t ((flush0_3 t).1 hf) y0 y1)) |>.trans ?_
  unfold finalP
  congr 2
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.reluS_at _ _ _ y0 y1).trans (congrArg Mm.relu2 (Mm.sample_done Mm.counts8 (nb := 16) N_0 rfl (by decide) _ (argW m c) (block2 m c) columns _ (argS m c) (block1 m c)
    t y0 y1)) |>.trans ?_
  unfold finalS
  congr 2
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.Up

end
-- ==== Proof.UpClaim.lean ====
/-
  The up-projection call against its reference: both programs end with the same arrays, for any arguments.
-/
module

public import proofs.«01_k».proof.Defs
public import proofs.«01_k».proof.Proof.UpValue
public import proofs.«01_k».proof.Proof.Gen.UpIdeal
public import proofs.«01_k».proof.Proof.Gen.UpReferenceIdeal.Run

@[expose] public section

set_option maxRecDepth 16384

noncomputable section

namespace Cert.Proof.Up

open Idealize.ShloMosaic Idealize.ShloMosaic.TcCoe Idealize.ShloMosaic.Pipeline Idealize.SL Idealize.SL.Sem

/-! ## The idealized program is the same text -/

theorem defs₀_eq {F : FTy → Type} [FloatOps F] : Cert.UpIdeal.defs₀ (F := F) = Cert.Up.defs₀ (F := F) := by
  unfold Cert.UpIdeal.defs₀ Cert.Up.defs₀
  refine congrArg Defs.onTc (funext fun l => funext fun x => ?_)
  obtain rfl : l = 0 := Subsingleton.elim l 0
  rfl

/-- The two programs' functions are the same. -/
theorem defs_eq {F : FTy → Type} [FloatOps F] : Cert.UpIdeal.defs (F := F) = Cert.Up.defs (F := F) := congrArg (Pipeline.defs Cert.Up.pcfgs) defs₀_eq

/-! ## The reference's result arrays -/

section Reference

open Cert.UpReferenceIdeal Cert.UpReferenceIdeal.Gen

/-- The reference's result arrays, from its arguments. -/
def refP (p : FVec Ideal S8256x4096 .bf16) (w : FVec Ideal S4x4096x16384 .f32) : FVec Ideal S8256x16384 .bf16 :=
  truncf .bf16 (mulf (maximumf (Host.dotGeneral dot_S8256x4096_S4096x16384_S8256x16384_1_0_0_1_n_n none (extf .f32 p bitsLt_bf16_f32) (shapeCast _ (extractStridedSlice S1x4096x16384 ![0, 0, 0] w slices_S4x4096x16384_S1x4096x16384_0_0_0) shapeCasts_S1x4096x16384_S4096x16384)) (broadcastInDim S8256x16384 ![] bcast_S_S8256x16384 (constant S_ .f32 0x00000000#32))) (maximumf (Host.dotGeneral dot_S8256x4096_S4096x16384_S8256x16384_1_0_0_1_n_n none (extf .f32 p bitsLt_bf16_f32) (shapeCast _ (extractStridedSlice S1x4096x16384 ![0, 0, 0] w slices_S4x4096x16384_S1x4096x16384_0_0_0) shapeCasts_S1x4096x16384_S4096x16384)) (broadcastInDim S8256x16384 ![] bcast_S_S8256x16384 (constant S_ .f32 0x00000000#32)))) bitsLt_bf16_f32
def refS (s : FVec Ideal S64x4096 .bf16) (w : FVec Ideal S4x4096x16384 .f32) : FVec Ideal S64x16384 .bf16 :=
  truncf .bf16 (mulf (maximumf (Host.dotGeneral dot_S64x4096_S4096x16384_S64x16384_1_0_0_1_n_n none (extf .f32 s bitsLt_bf16_f32) (shapeCast _ (extractStridedSlice S1x4096x16384 ![0, 0, 0] w slices_S4x4096x16384_S1x4096x16384_0_0_0) shapeCasts_S1x4096x16384_S4096x16384)) (broadcastInDim S64x16384 ![] bcast_S_S64x16384 (constant S_ .f32 0x00000000#32))) (maximumf (Host.dotGeneral dot_S64x4096_S4096x16384_S64x16384_1_0_0_1_n_n none (extf .f32 s bitsLt_bf16_f32) (shapeCast _ (extractStridedSlice S1x4096x16384 ![0, 0, 0] w slices_S4x4096x16384_S1x4096x16384_0_0_0) shapeCasts_S1x4096x16384_S4096x16384)) (broadcastInDim S64x16384 ![] bcast_S_S64x16384 (constant S_ .f32 0x00000000#32)))) bitsLt_bf16_f32

/-- Read at a row and a column. -/
theorem refP_at (p : FVec Ideal S8256x4096 .bf16) (w : FVec Ideal S4x4096x16384 .f32) (r : Fin 8256) (n : Fin 16384) :
    (refP p w (ix2 r n) : EReal) = Mm.relu2 (∑ k : Fin 4096, (p (ix2 r k) : EReal) * (w (ix3 0 k n) : EReal)) := by
  pointwise [refP, Mm.relu2]
theorem refS_at (s : FVec Ideal S64x4096 .bf16) (w : FVec Ideal S4x4096x16384 .f32) (r : Fin 64) (n : Fin 16384) :
    (refS s w (ix2 r n) : EReal) = Mm.relu2 (∑ k : Fin 4096, (s (ix2 r k) : EReal) * (w (ix3 0 k n) : EReal)) := by
  pointwise [refS, Mm.relu2]

end Reference

/-! ## The claims -/

/-- The run, for the text the claims name. -/
theorem frame_ideal (m : (ℓ : Loc Cert.UpIdeal.nD Cert.UpIdeal.τ Cert.UpIdeal.sig) → Buf (Elt Ideal) ℓ) (g : Dev Cert.UpIdeal.nD → PrngReg) :
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0) := by
  rw [defs_eq]
  exact frame (F := Ideal) m g

/-- Every argument array of the kernel's run is left as it was, and every counter is zero. -/
theorem quiescent : Cert.quiescent_Up (hUp := Cert.Up.Gen.facts) := fun m g _ => frame m g
theorem quiescent_ideal : Cert.quiescent_UpIdeal (hUpIdeal := Cert.UpIdeal.Gen.facts) := fun m g _ => frame_ideal m g

/-- The same of the reference's run. -/
theorem quiescent_ref : Cert.quiescent_UpReferenceIdeal (hUpReferenceIdeal := Cert.UpReferenceIdeal.Gen.facts) := fun m g _ =>
  (θ_run _ _ _).mono (fun r h => ⟨fun c => (h c).2.2, sem_eq_zero_of_no_sems rfl r.2⟩) (Cert.UpReferenceIdeal.Value.run (F := Ideal) m g)

/-- The kernel and the reference, run from the same arguments, end with the same arrays. -/
theorem algebraic : Cert.algebraic_UpIdeal_UpReferenceIdeal (hUpIdeal := Cert.UpIdeal.Gen.facts) (hUpReferenceIdeal := Cert.UpReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.UpReferenceIdeal.Value.run (F := Ideal) m' g')
    · obtain ⟨a0, a1, a2⟩ := hargs c
      rw [a0, a2]
      funext y
      idx_vars y
      exact (refP_at _ _ y0 y1).trans (congrArg Mm.relu2 (Mm.sum_eq_dotAt (argP m c) (argW m c) y0 y1))
    · obtain ⟨a0, a1, a2⟩ := hargs c
      rw [a1, a2]
      funext y
      idx_vars y
      exact (refS_at _ _ y0 y1).trans (congrArg Mm.relu2 (Mm.sum_eq_dotAt (argS m c) (argW m c) y0 y1))

end Cert.Proof.Up

end
-- ==== Proof.DownFrame.lean ====
/-
  The down-projection call's run: the body at every grid point, and the launch.
-/
module

public import proofs.«01_k».proof.Proof.Gen.Down.Frame
public import proofs.«01_k».proof.Proof.Gen.Down.Skeleton
public import proofs.«01_k».proof.Proof.Gen.Down.Launch
public import proofs.«01_k».proof.Proof.Gen.Down.Points
public import proofs.«01_k».proof.Proof.MmPoint

@[expose] public section

set_option maxRecDepth 16384

noncomputable section

namespace Cert.Proof.Down

open Cert.Down Cert.Down.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 32 t)) (BitVec.ofNat 32 (Mm.chk 32 t)) (BitVec.ofNat 32 31) Mm.sumP Mm.sumS (st0_0 t) (st0_1 t) (st0_2 t) (st0_3 t) (st0_4 t)
        (Memref.whole cc0_scratch0) (Memref.whole cc0_scratch1) h6 h7 := by
  refine ⟨View.stores_vmem_bits_univ h_S2064x1024 rfl,
    View.stores_vmem_bits_univ h_S64x1024 rfl, ?_⟩
  rw [show Mm.row 32 t = (grid0.coords t 1).val from ((by decide +kernel : ∀ t : Fin grid0.N, (grid0.coords t 1).val = t.val / 32 % 4) t).symm,
    show Mm.chk 32 t = (grid0.coords t 2).val from ((by decide +kernel : ∀ t : Fin grid0.N, (grid0.coords t 2).val = t.val % 32) t).symm]
  unfold bodyAt0
  rw [cc0__mm_kernel_eq_skeleton]
  rfl

/-- The points fill whole columns of blocks. -/
theorem columns : 128 * (cfg0.N / 128) = cfg0.N ∧ 31 < 128 := by rw [show cfg0.N = 512 from N_0]; decide

/-- When the body stores into the results' buffers, as tests of the point's chunk and row of blocks. -/
theorem idle3 (t : Fin cfg0.N) : cfg0.idle 3 (cfg0.grid.coords t) = !(Mm.isLast (BitVec.ofNat 32 (Mm.chk 32 t)) (BitVec.ofNat 32 31) == 1#1) := by
  rw [show Mm.chk 32 t = (grid0.coords t 2).val from ((by decide +kernel : ∀ t : Fin grid0.N, (grid0.coords t 2).val = t.val % 32) t).symm]; rfl
theorem idle4 (t : Fin cfg0.N) : cfg0.idle 4 (cfg0.grid.coords t)
    = !(Mm.isFirst (BitVec.ofNat 32 (Mm.row 32 t)) == 1#1 && Mm.isLast (BitVec.ofNat 32 (Mm.chk 32 t)) (BitVec.ofNat 32 31) == 1#1) := by
  rw [show Mm.row 32 t = (grid0.coords t 1).val from ((by decide +kernel : ∀ t : Fin grid0.N, (grid0.coords t 1).val = t.val / 32 % 4) t).symm,
    show Mm.chk 32 t = (grid0.coords t 2).val from ((by decide +kernel : ∀ t : Fin grid0.N, (grid0.coords t 2).val = t.val % 32) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := iblk m c 2 t

/-- The accumulators after each point. -/
abbrev accP (c : Dev nD) := Mm.accP (Mm.chk 32) 31 (blkW m c) (blkA m c)
abbrev accS (c : Dev nD) := Mm.accS (Mm.row 32) (Mm.chk 32) 31 (blkW m c) (blkS m c)

/-- The result blocks that a last chunk's point leaves. -/
def outP (c : Dev nD) (t : Fin cfg0.N) : FVec F Mm.ResP .f32 := Mm.sumP (blkW m c t) (blkA m c t) (accP m c t.val t.isLt)
def outS (c : Dev nD) (t : Fin cfg0.N) : FVec F Mm.ResS .f32 := Mm.sumS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outS m c (Mm.done 31 128 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 31 128 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 32 t) 31 (outP m c t) ((dats m 0 c).before 3 t d)) : sProp 𝕄) ⊢ (dats m 0 c).leavesExact 3 t :=
  Mm.leaves_prompt (dats m 0 c) 3 t d _ (after3 m c t) (idle3 t) (Mm.chk_selects Mm.counts32 t) (flush0_3 t)
theorem leaves4 (c : Dev nD) (t : Fin cfg0.N) (d) :
    (owns (c : Thread nD τ) (st0_4 t) fullShare (Mm.left (Mm.row 32 t) (Mm.chk 32 t) 31 (outS m c t) ((dats m 0 c).before 4 t d)) : sProp 𝕄) ⊢ (dats m 0 c).leavesExact 4 t :=
  Mm.leaves_sample (dats m 0 c) 4 Mm.counts32 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts32 t Mm.sumP Mm.sumS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.Down

end
-- ==== Proof.DownValue.lean ====
/-
  The down-projection call's result arrays: every element is its row and column's product sum, over the whole summed axis.
-/
module

public import proofs.«01_k».proof.Proof.DownFrame
public import Idealize.ShloMosaic.Lib.Pipeline.ValueKit.Geometry

@[expose] public section

set_option maxRecDepth 16384

noncomputable section

namespace Cert.Proof.Down

open Cert.Down Cert.Down.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 16384) : EReal := (m ((c.tc : Thread nD τ).loc main_arg0) : FVec Ideal S8256x16384 .bf16) (ix2 r k)
abbrev argS (r : Fin 64) (k : Fin 16384) : EReal := (m ((c.tc : Thread nD τ).loc main_arg1) : FVec Ideal S64x16384 .bf16) (ix2 r k)
abbrev argW (k : Fin 16384) (n : Fin 4096) : EReal := (m ((c.tc : Thread nD τ).loc main_arg2) : FVec Ideal S4x16384x4096 .f32) (ix3 0 k n)

/-- Where the windows' blocks lie. -/
theorem index0 : ∀ t : Fin cfg0.N, win0_0.index t = ![t.val / 32 % 4, t.val % 32] := (by decide +kernel : ∀ t : Fin grid0.N, win0_0.index t = ![t.val / 32 % 4, t.val % 32])
theorem index1 : ∀ t : Fin cfg0.N, win0_1.index t = ![0, t.val % 32] := (by decide +kernel : ∀ t : Fin grid0.N, win0_1.index t = ![0, t.val % 32])
theorem index2 : ∀ t : Fin cfg0.N, win0_2.index t = ![0, t.val % 32, t.val / 128] := (by decide +kernel : ∀ t : Fin grid0.N, win0_2.index t = ![0, t.val % 32, t.val / 128])
theorem index3 : ∀ t : Fin cfg0.N, win0_3.index t = ![t.val / 32 % 4, t.val / 128] := (by decide +kernel : ∀ t : Fin grid0.N, win0_3.index t = ![t.val / 32 % 4, t.val / 128])
theorem index4 : ∀ t : Fin cfg0.N, win0_4.index t = ![0, t.val / 128] := (by decide +kernel : ∀ t : Fin grid0.N, win0_4.index t = ![0, t.val / 128])

/-- The blocks at a point. -/
theorem block0 (t : Fin cfg0.N) (r : Fin 2064) (x : Fin 512) (h1 h2) :
    blkA m c t (ix2 r x) = argP m c ⟨2064 * (t.val / 32 % 4) + r.val, h1⟩ ⟨512 * (t.val % 32) + x.val, h2⟩ := by
  unfold blkA
  blk_simp [iblk]
  refine congrArg (m ((c.tc : Thread nD τ).loc main_arg0) : FVec Ideal S8256x16384 .bf16) ?_
  blk_ext [index0]
theorem block1 (t : Fin cfg0.N) (r : Fin 64) (x : Fin 512) (h) :
    blkS m c t (ix2 r x) = argS m c r ⟨512 * (t.val % 32) + x.val, h⟩ := by
  unfold blkS
  blk_simp [iblk]
  refine congrArg (m ((c.tc : Thread nD τ).loc main_arg1) : FVec Ideal S64x16384 .bf16) ?_
  blk_ext [index1]
theorem block2 (t : Fin cfg0.N) (x : Fin 512) (n : Fin 1024) (h1 h2) :
    blkW m c t (ix3 0 x n) = argW m c ⟨512 * (t.val % 32) + x.val, h1⟩ ⟨1024 * (t.val / 128) + n.val, h2⟩ := by
  unfold blkW
  blk_simp [iblk]
  refine congrArg (m ((c.tc : Thread nD τ).loc main_arg2) : FVec Ideal S4x16384x4096 .f32) ?_
  blk_ext [index2]

/-- The result arrays. -/
def finalP (y : S8256x4096.Idx) : EReal := (Mm.dotAt (argP m c) (argW m c) (y (0 : Fin 2)).val (y (1 : Fin 2)).val)
def finalS (y : S64x4096.Idx) : EReal := (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.sumP_at _ _ _ y0 y1).trans ((Mm.prompt_total Mm.counts32 (nb := 4) N_0 rfl (by decide) _ (argW m c) (block2 m c) _ (argP m c) (block0 m c)
    t ((flush0_3 t).1 hf) y0 y1)) |>.trans ?_
  unfold finalP
  congr 1
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.sumS_at _ _ _ y0 y1).trans ((Mm.sample_done Mm.counts32 (nb := 4) N_0 rfl (by decide) _ (argW m c) (block2 m c) columns _ (argS m c) (block1 m c)
    t y0 y1)) |>.trans ?_
  unfold finalS
  congr 1
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.Down

end
-- ==== Proof.DownClaim.lean ====
/-
  The down-projection call against its reference: both programs end with the same arrays, for any arguments.
-/
module

public import proofs.«01_k».proof.Defs
public import proofs.«01_k».proof.Proof.DownValue
public import proofs.«01_k».proof.Proof.Gen.DownIdeal
public import proofs.«01_k».proof.Proof.Gen.DownReferenceIdeal.Run

@[expose] public section

set_option maxRecDepth 16384

noncomputable section

namespace Cert.Proof.Down

open Idealize.ShloMosaic Idealize.ShloMosaic.TcCoe Idealize.ShloMosaic.Pipeline Idealize.SL Idealize.SL.Sem

/-! ## The idealized program is the same text -/

theorem defs₀_eq {F : FTy → Type} [FloatOps F] : Cert.DownIdeal.defs₀ (F := F) = Cert.Down.defs₀ (F := F) := by
  unfold Cert.DownIdeal.defs₀ Cert.Down.defs₀
  refine congrArg Defs.onTc (funext fun l => funext fun x => ?_)
  obtain rfl : l = 0 := Subsingleton.elim l 0
  rfl

/-- The two programs' functions are the same. -/
theorem defs_eq {F : FTy → Type} [FloatOps F] : Cert.DownIdeal.defs (F := F) = Cert.Down.defs (F := F) := congrArg (Pipeline.defs Cert.Down.pcfgs) defs₀_eq

/-! ## The reference's result arrays -/

section Reference

open Cert.DownReferenceIdeal Cert.DownReferenceIdeal.Gen

/-- The reference's result arrays, from its arguments. -/
def refP (p : FVec Ideal S8256x16384 .bf16) (w : FVec Ideal S4x16384x4096 .f32) : FVec Ideal S8256x4096 .f32 :=
  Host.dotGeneral dot_S8256x16384_S16384x4096_S8256x4096_1_0_0_1_n_n none (extf .f32 p bitsLt_bf16_f32) (shapeCast _ (extractStridedSlice S1x16384x4096 ![0, 0, 0] w slices_S4x16384x4096_S1x16384x4096_0_0_0) shapeCasts_S1x16384x4096_S16384x4096)
def refS (s : FVec Ideal S64x16384 .bf16) (w : FVec Ideal S4x16384x4096 .f32) : FVec Ideal S64x4096 .f32 :=
  Host.dotGeneral dot_S64x16384_S16384x4096_S64x4096_1_0_0_1_n_n none (extf .f32 s bitsLt_bf16_f32) (shapeCast _ (extractStridedSlice S1x16384x4096 ![0, 0, 0] w slices_S4x16384x4096_S1x16384x4096_0_0_0) shapeCasts_S1x16384x4096_S16384x4096)

/-- Read at a row and a column. -/
theorem refP_at (p : FVec Ideal S8256x16384 .bf16) (w : FVec Ideal S4x16384x4096 .f32) (r : Fin 8256) (n : Fin 4096) :
    (refP p w (ix2 r n) : EReal) = (∑ k : Fin 16384, (p (ix2 r k) : EReal) * (w (ix3 0 k n) : EReal)) := by
  pointwise [refP]
theorem refS_at (s : FVec Ideal S64x16384 .bf16) (w : FVec Ideal S4x16384x4096 .f32) (r : Fin 64) (n : Fin 4096) :
    (refS s w (ix2 r n) : EReal) = (∑ k : Fin 16384, (s (ix2 r k) : EReal) * (w (ix3 0 k n) : EReal)) := by
  pointwise [refS]

end Reference

/-! ## The claims -/

/-- The run, for the text the claims name. -/
theorem frame_ideal (m : (ℓ : Loc Cert.DownIdeal.nD Cert.DownIdeal.τ Cert.DownIdeal.sig) → Buf (Elt Ideal) ℓ) (g : Dev Cert.DownIdeal.nD → PrngReg) :
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0) := by
  rw [defs_eq]
  exact frame (F := Ideal) m g

/-- Every argument array of the kernel's run is left as it was, and every counter is zero. -/
theorem quiescent : Cert.quiescent_Down (hDown := Cert.Down.Gen.facts) := fun m g _ => frame m g
theorem quiescent_ideal : Cert.quiescent_DownIdeal (hDownIdeal := Cert.DownIdeal.Gen.facts) := fun m g _ => frame_ideal m g

/-- The same of the reference's run. -/
theorem quiescent_ref : Cert.quiescent_DownReferenceIdeal (hDownReferenceIdeal := Cert.DownReferenceIdeal.Gen.facts) := fun m g _ =>
  (θ_run _ _ _).mono (fun r h => ⟨fun c => (h c).2.2, sem_eq_zero_of_no_sems rfl r.2⟩) (Cert.DownReferenceIdeal.Value.run (F := Ideal) m g)

/-- The kernel and the reference, run from the same arguments, end with the same arrays. -/
theorem algebraic : Cert.algebraic_DownIdeal_DownReferenceIdeal (hDownIdeal := Cert.DownIdeal.Gen.facts) (hDownReferenceIdeal := Cert.DownReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.DownReferenceIdeal.Value.run (F := Ideal) m' g')
    · obtain ⟨a0, a1, a2⟩ := hargs c
      rw [a0, a2]
      funext y
      idx_vars y
      exact (refP_at _ _ y0 y1).trans ((Mm.sum_eq_dotAt (argP m c) (argW m c) y0 y1))
    · obtain ⟨a0, a1, a2⟩ := hargs c
      rw [a1, a2]
      funext y
      idx_vars y
      exact (refS_at _ _ y0 y1).trans ((Mm.sum_eq_dotAt (argS m c) (argW m c) y0 y1))

end Cert.Proof.Down

end
-- ==== Proof.KProjFrame.lean ====
/-
  The key projection call's run: the body at every grid point, and the launch.
-/
module

public import proofs.«01_k».proof.Proof.Gen.KProj.Frame
public import proofs.«01_k».proof.Proof.Gen.KProj.Skeleton
public import proofs.«01_k».proof.Proof.Gen.KProj.Launch
public import proofs.«01_k».proof.Proof.Gen.KProj.Points
public import proofs.«01_k».proof.Proof.MmPoint

@[expose] public section

set_option maxRecDepth 16384

noncomputable section

namespace Cert.Proof.KProj

open Cert.KProj Cert.KProj.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 8 t)) (BitVec.ofNat 32 (Mm.chk 8 t)) (BitVec.ofNat 32 7) Mm.sumP Mm.sumS (st0_0 t) (st0_1 t) (st0_2 t) (st0_3 t) (st0_4 t)
        (Memref.whole cc0_scratch0) (Memref.whole cc0_scratch1) h6 h7 := by
  refine ⟨View.stores_vmem_bits_univ h_S2064x1024 rfl,
    View.stores_vmem_bits_univ h_S64x1024 rfl, ?_⟩
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]
  unfold bodyAt0
  rw [cc0__mm_kernel_eq_skeleton]
  rfl

/-- The points fill whole columns of blocks. -/
theorem columns : 32 * (cfg0.N / 32) = cfg0.N ∧ 7 < 32 := by rw [show cfg0.N = 128 from N_0]; decide

/-- When the body stores into the results' buffers, as tests of the point's chunk and row of blocks. -/
theorem idle3 (t : Fin cfg0.N) : cfg0.idle 3 (cfg0.grid.coords t) = !(Mm.isLast (BitVec.ofNat 32 (Mm.chk 8 t)) (BitVec.ofNat 32 7) == 1#1) := by
  rw [show Mm.chk 8 t = (grid0.coords t 2).val from ((by decide +kernel : ∀ t : Fin grid0.N, (grid0.coords t 2).val = t.val % 8) t).symm]; rfl
theorem idle4 (t : Fin cfg0.N) : cfg0.idle 4 (cfg0.grid.coords t)
    = !(Mm.isFirst (BitVec.ofNat 32 (Mm.row 8 t)) == 1#1 && Mm.isLast (BitVec.ofNat 32 (Mm.chk 8 t)) (BitVec.ofNat 32 7) == 1#1) := by
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := iblk m c 2 t

/-- The accumulators after each point. -/
abbrev accP (c : Dev nD) := Mm.accP (Mm.chk 8) 7 (blkW m c) (blkA m c)
abbrev accS (c : Dev nD) := Mm.accS (Mm.row 8) (Mm.chk 8) 7 (blkW m c) (blkS m c)

/-- The result blocks that a last chunk's point leaves. -/
def outP (c : Dev nD) (t : Fin cfg0.N) : FVec F Mm.ResP .f32 := Mm.sumP (blkW m c t) (blkA m c t) (accP m c t.val t.isLt)
def outS (c : Dev nD) (t : Fin cfg0.N) : FVec F Mm.ResS .f32 := Mm.sumS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outS m c (Mm.done 7 32 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 7 32 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 8 t) 7 (outP m c t) ((dats m 0 c).before 3 t d)) : sProp 𝕄) ⊢ (dats m 0 c).leavesExact 3 t :=
  Mm.leaves_prompt (dats m 0 c) 3 t d _ (after3 m c t) (idle3 t) (Mm.chk_selects Mm.counts8 t) (flush0_3 t)
theorem leaves4 (c : Dev nD) (t : Fin cfg0.N) (d) :
    (owns (c : Thread nD τ) (st0_4 t) fullShare (Mm.left (Mm.row 8 t) (Mm.chk 8 t) 7 (outS m c t) ((dats m 0 c).before 4 t d)) : sProp 𝕄) ⊢ (dats m 0 c).leavesExact 4 t :=
  Mm.leaves_sample (dats m 0 c) 4 Mm.counts8 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts8 t Mm.sumP Mm.sumS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.KProj

end
-- ==== Proof.KProjValue.lean ====
/-
  The key projection call's result arrays: every element is its row and column's product sum, over the whole summed axis.
-/
module

public import proofs.«01_k».proof.Proof.KProjFrame
public import Idealize.ShloMosaic.Lib.Pipeline.ValueKit.Geometry

@[expose] public section

set_option maxRecDepth 16384

noncomputable section

namespace Cert.Proof.KProj

open Cert.KProj Cert.KProj.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 4096) : EReal := (m ((c.tc : Thread nD τ).loc main_arg0) : FVec Ideal S8256x4096 .bf16) (ix2 r k)
abbrev argS (r : Fin 64) (k : Fin 4096) : EReal := (m ((c.tc : Thread nD τ).loc main_arg1) : FVec Ideal S64x4096 .bf16) (ix2 r k)
abbrev argW (k : Fin 4096) (n : Fin 4096) : EReal := (m ((c.tc : Thread nD τ).loc main_arg2) : FVec Ideal S2x4096x12288 .f32) (ix3 0 k ⟨4096 + n.val, by omega⟩)

/-- Where the windows' blocks lie. -/
theorem index0 : ∀ t : Fin cfg0.N, win0_0.index t = ![t.val / 8 % 4, t.val % 8] := (by decide +kernel : ∀ t : Fin grid0.N, win0_0.index t = ![t.val / 8 % 4, t.val % 8])
theorem index1 : ∀ t : Fin cfg0.N, win0_1.index t = ![0, t.val % 8] := (by decide +kernel : ∀ t : Fin grid0.N, win0_1.index t = ![0, t.val % 8])
theorem index2 : ∀ t : Fin cfg0.N, win0_2.index t = ![0, t.val % 8, t.val / 32 + 4] := (by decide +kernel : ∀ t : Fin grid0.N, win0_2.index t = ![0, t.val % 8, t.val / 32 + 4])
theorem index3 : ∀ t : Fin cfg0.N, win0_3.index t = ![t.val / 8 % 4, t.val / 32] := (by decide +kernel : ∀ t : Fin grid0.N, win0_3.index t = ![t.val / 8 % 4, t.val / 32])
theorem index4 : ∀ t : Fin cfg0.N, win0_4.index t = ![0, t.val / 32] := (by decide +kernel : ∀ t : Fin grid0.N, win0_4.index t = ![0, t.val / 32])

/-- The blocks at a point. -/
theorem block0 (t : Fin cfg0.N) (r : Fin 2064) (x : Fin 512) (h1 h2) :
    blkA m c t (ix2 r x) = argP m c ⟨2064 * (t.val / 8 % 4) + r.val, h1⟩ ⟨512 * (t.val % 8) + x.val, h2⟩ := by
  unfold blkA
  blk_simp [iblk]
  refine congrArg (m ((c.tc : Thread nD τ).loc main_arg0) : FVec Ideal S8256x4096 .bf16) ?_
  blk_ext [index0]
theorem block1 (t : Fin cfg0.N) (r : Fin 64) (x : Fin 512) (h) :
    blkS m c t (ix2 r x) = argS m c r ⟨512 * (t.val % 8) + x.val, h⟩ := by
  unfold blkS
  blk_simp [iblk]
  refine congrArg (m ((c.tc : Thread nD τ).loc main_arg1) : FVec Ideal S64x4096 .bf16) ?_
  blk_ext [index1]
theorem block2 (t : Fin cfg0.N) (x : Fin 512) (n : Fin 1024) (h1 h2) :
    blkW m c t (ix3 0 x n) = argW m c ⟨512 * (t.val % 8) + x.val, h1⟩ ⟨1024 * (t.val / 32) + n.val, h2⟩ := by
  unfold blkW
  blk_simp [iblk]
  refine congrArg (m ((c.tc : Thread nD τ).loc main_arg2) : FVec Ideal S2x4096x12288 .f32) ?_
  blk_ext [index2]

/-- The result arrays. -/
def finalP (y : S8256x4096.Idx) : EReal := (Mm.dotAt (argP m c) (argW m c) (y (0 : Fin 2)).val (y (1 : Fin 2)).val)
def finalS (y : S64x4096.Idx) : EReal := (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.sumP_at _ _ _ y0 y1).trans ((Mm.prompt_total Mm.counts8 (nb := 4) N_0 rfl (by decide) _ (argW m c) (block2 m c) _ (argP m c) (block0 m c)
    t ((flush0_3 t).1 hf) y0 y1)) |>.trans ?_
  unfold finalP
  congr 1
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.sumS_at _ _ _ y0 y1).trans ((Mm.sample_done Mm.counts8 (nb := 4) N_0 rfl (by decide) _ (argW m c) (block2 m c) columns _ (argS m c) (block1 m c)
    t y0 y1)) |>.trans ?_
  unfold finalS
  congr 1
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.KProj

end
-- ==== Proof.KProjClaim.lean ====
/-
  The key projection call against its reference: both programs end with the same arrays, for any arguments.
-/
module

public import proofs.«01_k».proof.Defs
public import proofs.«01_k».proof.Proof.KProjValue
public import proofs.«01_k».proof.Proof.Gen.KProjIdeal
public import proofs.«01_k».proof.Proof.Gen.KProjReferenceIdeal.Run

@[expose] public section

set_option maxRecDepth 16384

noncomputable section

namespace Cert.Proof.KProj

open Idealize.ShloMosaic Idealize.ShloMosaic.TcCoe Idealize.ShloMosaic.Pipeline Idealize.SL Idealize.SL.Sem

/-! ## The idealized program is the same text -/

theorem defs₀_eq {F : FTy → Type} [FloatOps F] : Cert.KProjIdeal.defs₀ (F := F) = Cert.KProj.defs₀ (F := F) := by
  unfold Cert.KProjIdeal.defs₀ Cert.KProj.defs₀
  refine congrArg Defs.onTc (funext fun l => funext fun x => ?_)
  obtain rfl : l = 0 := Subsingleton.elim l 0
  rfl

/-- The two programs' functions are the same. -/
theorem defs_eq {F : FTy → Type} [FloatOps F] : Cert.KProjIdeal.defs (F := F) = Cert.KProj.defs (F := F) := congrArg (Pipeline.defs Cert.KProj.pcfgs) defs₀_eq

/-! ## The reference's result arrays -/

section Reference

open Cert.KProjReferenceIdeal Cert.KProjReferenceIdeal.Gen

/-- The reference's result arrays, from its arguments. -/
def refP (p : FVec Ideal S8256x4096 .bf16) (w : FVec Ideal S2x4096x12288 .f32) : FVec Ideal S8256x4096 .f32 :=
  Host.dotGeneral dot_S8256x4096_S4096x4096_S8256x4096_1_0_0_1_n_n none (extf .f32 p bitsLt_bf16_f32) (extractStridedSlice S4096x4096 ![0, 4096] (shapeCast _ (extractStridedSlice S1x4096x12288 ![0, 0, 0] w slices_S2x4096x12288_S1x4096x12288_0_0_0) shapeCasts_S1x4096x12288_S4096x12288) slices_S4096x12288_S4096x4096_0_4096)
def refS (s : FVec Ideal S64x4096 .bf16) (w : FVec Ideal S2x4096x12288 .f32) : FVec Ideal S64x4096 .f32 :=
  Host.dotGeneral dot_S64x4096_S4096x4096_S64x4096_1_0_0_1_n_n none (extf .f32 s bitsLt_bf16_f32) (extractStridedSlice S4096x4096 ![0, 4096] (shapeCast _ (extractStridedSlice S1x4096x12288 ![0, 0, 0] w slices_S2x4096x12288_S1x4096x12288_0_0_0) shapeCasts_S1x4096x12288_S4096x12288) slices_S4096x12288_S4096x4096_0_4096)

/-- Read at a row and a column. -/
theorem refP_at (p : FVec Ideal S8256x4096 .bf16) (w : FVec Ideal S2x4096x12288 .f32) (r : Fin 8256) (n : Fin 4096) :
    (refP p w (ix2 r n) : EReal) = (∑ k : Fin 4096, (p (ix2 r k) : EReal) * (w (ix3 0 k ⟨4096 + n.val, by omega⟩) : EReal)) := by
  pointwise [refP]
theorem refS_at (s : FVec Ideal S64x4096 .bf16) (w : FVec Ideal S2x4096x12288 .f32) (r : Fin 64) (n : Fin 4096) :
    (refS s w (ix2 r n) : EReal) = (∑ k : Fin 4096, (s (ix2 r k) : EReal) * (w (ix3 0 k ⟨4096 + n.val, by omega⟩) : EReal)) := by
  pointwise [refS]

end Reference

/-! ## The claims -/

/-- The run, for the text the claims name. -/
theorem frame_ideal (m : (ℓ : Loc Cert.KProjIdeal.nD Cert.KProjIdeal.τ Cert.KProjIdeal.sig) → Buf (Elt Ideal) ℓ) (g : Dev Cert.KProjIdeal.nD → PrngReg) :
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ r.2.sem = fun _ => 0) := by
  rw [defs_eq]
  exact frame (F := Ideal) m g

/-- Every argument array of the kernel's run is left as it was, and every counter is zero. -/
theorem quiescent : Cert.quiescent_KProj (hKProj := Cert.KProj.Gen.facts) := fun m g _ => frame m g
theorem quiescent_ideal : Cert.quiescent_KProjIdeal (hKProjIdeal := Cert.KProjIdeal.Gen.facts) := fun m g _ => frame_ideal m g

/-- The same of the reference's run. -/
theorem quiescent_ref : Cert.quiescent_KProjReferenceIdeal (hKProjReferenceIdeal := Cert.KProjReferenceIdeal.Gen.facts) := fun m g _ =>
  (θ_run _ _ _).mono (fun r h => ⟨fun c => (h c).2.2, sem_eq_zero_of_no_sems rfl r.2⟩) (Cert.KProjReferenceIdeal.Value.run (F := Ideal) m g)

/-- The kernel and the reference, run from the same arguments, end with the same arrays. -/
theorem algebraic : Cert.algebraic_KProjIdeal_KProjReferenceIdeal (hKProjIdeal := Cert.KProjIdeal.Gen.facts) (hKProjReferenceIdeal := Cert.KProjReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.KProjReferenceIdeal.Value.run (F := Ideal) m' g')
    · obtain ⟨a0, a1, a2⟩ := hargs c
      rw [a0, a2]
      funext y
      idx_vars y
      exact (refP_at _ _ y0 y1).trans ((Mm.sum_eq_dotAt (argP m c) (argW m c) y0 y1))
    · obtain ⟨a0, a1, a2⟩ := hargs c
      rw [a1, a2]
      funext y
      idx_vars y
      exact (refS_at _ _ y0 y1).trans ((Mm.sum_eq_dotAt (argS m c) (argW m c) y0 y1))

end Cert.Proof.KProj

end
-- ==== Proof.VProjFrame.lean ====
/-
  The value projection call's run: the body at every grid point, and the launch.
-/
module

public import proofs.«01_k».proof.Proof.Gen.VProj.Frame
public import proofs.«01_k».proof.Proof.Gen.VProj.Skeleton
public import proofs.«01_k».proof.Proof.Gen.VProj.Launch
public import proofs.«01_k».proof.Proof.Gen.VProj.Points
public import proofs.«01_k».proof.Proof.MmPoint

@[expose] public section

set_option maxRecDepth 16384

noncomputable section

namespace Cert.Proof.VProj

open Cert.VProj Cert.VProj.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 8 t)) (BitVec.ofNat 32 (Mm.chk 8 t)) (BitVec.ofNat 32 7) Mm.sumP Mm.sumS (st0_0 t) (st0_1 t) (st0_2 t) (st0_3 t) (st0_4 t)
        (Memref.whole cc0_scratch0) (Memref.whole cc0_scratch1) h6 h7 := by
  refine ⟨View.stores_vmem_bits_univ h_S2064x1024 rfl,
    View.stores_vmem_bits_univ h_S64x1024 rfl, ?_⟩
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]
  unfold bodyAt0
  rw [cc0__mm_kernel_eq_skeleton]
  rfl

/-- The points fill whole columns of blocks. -/
theorem columns : 32 * (cfg0.N / 32) = cfg0.N ∧ 7 < 32 := by rw [show cfg0.N = 128 from N_0]; decide

/-- When the body stores into the results' buffers, as tests of the point's chunk and row of blocks. -/
theorem idle3 (t : Fin cfg0.N) : cfg0.idle 3 (cfg0.grid.coords t) = !(Mm.isLast (BitVec.ofNat 32 (Mm.chk 8 t)) (BitVec.ofNat 32 7) == 1#1) := by
  rw [show Mm.chk 8 t = (grid0.coords t 2).val from ((by decide +kernel : ∀ t : Fin grid0.N, (grid0.coords t 2).val = t.val % 8) t).symm]; rfl
theorem idle4 (t : Fin cfg0.N) : cfg0.idle 4 (cfg0.grid.coords t)
    = !(Mm.isFirst (BitVec.ofNat 32 (Mm.row 8 t)) == 1#1 && Mm.isLast (BitVec.ofNat 32 (Mm.chk 8 t)) (BitVec.ofNat 32 7) == 1#1) := by
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := iblk m c 2 t

/-- The accumulators after each point. -/
abbrev accP (c : Dev nD) := Mm.accP (Mm.chk 8) 7 (blkW m c) (blkA m c)
abbrev accS (c : Dev nD) := Mm.accS (Mm.row 8) (Mm.chk 8) 7 (blkW m c) (blkS m c)

/-- The result blocks that a last chunk's point leaves. -/
def outP (c : Dev nD) (t : Fin cfg0.N) : FVec F Mm.ResP .f32 := Mm.sumP (blkW m c t) (blkA m c t) (accP m c t.val t.isLt)
def outS (c : Dev nD) (t : Fin cfg0.N) : FVec F Mm.ResS .f32 := Mm.sumS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outS m c (Mm.done 7 32 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 7 32 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 8 t) 7 (outP m c t) ((dats m 0 c).before 3 t d)) : sProp 𝕄) ⊢ (dats m 0 c).leavesExact 3 t :=
  Mm.leaves_prompt (dats m 0 c) 3 t d _ (after3 m c t) (idle3 t) (Mm.chk_selects Mm.counts8 t) (flush0_3 t)
theorem leaves4 (c : Dev nD) (t : Fin cfg0.N) (d) :
    (owns (c : Thread nD τ) (st0_4 t) fullShare (Mm.left (Mm.row 8 t) (Mm.chk 8 t) 7 (outS m c t) ((dats m 0 c).before 4 t d)) : sProp 𝕄) ⊢ (dats m 0 c).leavesExact 4 t :=
  Mm.leaves_sample (dats m 0 c) 4 Mm.counts8 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts8 t Mm.sumP Mm.sumS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.VProj

end
-- ==== Proof.VProjValue.lean ====
/-
  The value projection call's result arrays: every element is its row and column's product sum, over the whole summed axis.
-/
module

public import proofs.«01_k».proof.Proof.VProjFrame
public import Idealize.ShloMosaic.Lib.Pipeline.ValueKit.Geometry

@[expose] public section

set_option maxRecDepth 16384

noncomputable section

namespace Cert.Proof.VProj

open Cert.VProj Cert.VProj.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 4096) : EReal := (m ((c.tc : Thread nD τ).loc main_arg0) : FVec Ideal S8256x4096 .bf16) (ix2 r k)
abbrev argS (r : Fin 64) (k : Fin 4096) : EReal := (m ((c.tc : Thread nD τ).loc main_arg1) : FVec Ideal S64x4096 .bf16) (ix2 r k)
abbrev argW (k : Fin 4096) (n : Fin 4096) : EReal := (m ((c.tc : Thread nD τ).loc main_arg2) : FVec Ideal S2x4096x12288 .f32) (ix3 0 k ⟨8192 + n.val, by omega⟩)

/-- Where the windows' blocks lie. -/
theorem index0 : ∀ t : Fin cfg0.N, win0_0.index t = ![t.val / 8 % 4, t.val % 8] := (by decide +kernel : ∀ t : Fin grid0.N, win0_0.index t = ![t.val / 8 % 4, t.val % 8])
theorem index1 : ∀ t : Fin cfg0.N, win0_1.index t = ![0, t.val % 8] := (by decide +kernel : ∀ t : Fin grid0.N, win0_1.index t = ![0, t.val % 8])
theorem index2 : ∀ t : Fin cfg0.N, win0_2.index t = ![0, t.val % 8, t.val / 32 + 8] := (by decide +kernel : ∀ t : Fin grid0.N, win0_2.index t = ![0, t.val % 8, t.val / 32 + 8])
theorem index3 : ∀ t : Fin cfg0.N, win0_3.index t = ![t.val / 8 % 4, t.val / 32] := (by decide +kernel : ∀ t : Fin grid0.N, win0_3.index t = ![t.val / 8 % 4, t.val / 32])
theorem index4 : ∀ t : Fin cfg0.N, win0_4.index t = ![0, t.val / 32] := (by decide +kernel : ∀ t : Fin grid0.N, win0_4.index t = ![0, t.val / 32])

/-- The blocks at a point. -/
theorem block0 (t : Fin cfg0.N) (r : Fin 2064) (x : Fin 512) (h1 h2) :
    blkA m c t (ix2 r x) = argP m c ⟨2064 * (t.val / 8 % 4) + r.val, h1⟩ ⟨512 * (t.val % 8) + x.val, h2⟩ := by
  unfold blkA
  blk_simp [iblk]
  refine congrArg (m ((c.tc : Thread nD τ).loc main_arg0) : FVec Ideal S8256x4096 .bf16) ?_
  blk_ext [index0]
theorem block1 (t : Fin cfg0.N) (r : Fin 64) (x : Fin 512) (h) :
    blkS m c t (ix2 r x) = argS m c r ⟨512 * (t.val % 8) + x.val, h⟩ := by
  unfold blkS
  blk_simp [iblk]
  refine congrArg (m ((c.tc : Thread nD τ).loc main_arg1) : FVec Ideal S64x4096 .bf16) ?_
  blk_ext [index1]
theorem block2 (t : Fin cfg0.N) (x : Fin 512) (n : Fin 1024) (h1 h2) :
    blkW m c t (ix3 0 x n) = argW m c ⟨512 * (t.val % 8) + x.val, h1⟩ ⟨1024 * (t.val / 32) + n.val, h2⟩ := by
  unfold blkW
  blk_simp [iblk]
  refine congrArg (m ((c.tc : Thread nD τ).loc main_arg2) : FVec Ideal S2x4096x12288 .f32) ?_
  blk_ext [index2]

/-- The result arrays. -/
def finalP (y : S8256x4096.Idx) : EReal := (Mm.dotAt (argP m c) (argW m c) (y (0 : Fin 2)).val (y (1 : Fin 2)).val)
def finalS (y : S64x4096.Idx) : EReal := (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.sumP_at _ _ _ y0 y1).trans ((Mm.prompt_total Mm.counts8 (nb := 4) N_0 rfl (by decide) _ (argW m c) (block2 m c) _ (argP m c) (block0 m c)
    t ((flush0_3 t).1 hf) y0 y1)) |>.trans ?_
  unfold finalP
  congr 1
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.sumS_at _ _ _ y0 y1).trans ((Mm.sample_done Mm.counts8 (nb := 4) N_0 rfl (by decide) _ (argW m c) (block2 m c) columns _ (argS m c) (block1 m c)
    t y0 y1)) |>.trans ?_
  unfold finalS
  congr 1
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.VProj

end
-- ==== Proof.VProjClaim.lean ====
/-
  The value projection call against its reference: both programs end with the same arrays, for any arguments.
-/
module

public import proofs.«01_k».proof.Defs
public import proofs.«01_k».proof.Proof.VProjValue
public import proofs.«01_k».proof.Proof.Gen.VProjIdeal
public import proofs.«01_k».proof.Proof.Gen.VProjReferenceIdeal.Run

@[expose] public section

set_option maxRecDepth 16384

noncomputable section

namespace Cert.Proof.VProj

open Idealize.ShloMosaic Idealize.ShloMosaic.TcCoe Idealize.ShloMosaic.Pipeline Idealize.SL Idealize.SL.Sem

/-! ## The idealized program is the same text -/

theorem defs₀_eq {F : FTy → Type} [FloatOps F] : Cert.VProjIdeal.defs₀ (F := F) = Cert.VProj.defs₀ (F := F) := by
  unfold Cert.VProjIdeal.defs₀ Cert.VProj.defs₀
  refine congrArg Defs.onTc (funext fun l => funext fun x => ?_)
  obtain rfl : l = 0 := Subsingleton.elim l 0
  rfl

/-- The two programs' functions are the same. -/
theorem defs_eq {F : FTy → Type} [FloatOps F] : Cert.VProjIdeal.defs (F := F) = Cert.VProj.defs (F := F) := congrArg (Pipeline.defs Cert.VProj.pcfgs) defs₀_eq

/-! ## The reference's result arrays -/

section Reference

open Cert.VProjReferenceIdeal Cert.VProjReferenceIdeal.Gen

/-- The reference's result arrays, from its arguments. -/
def refP (p : FVec Ideal S8256x4096 .bf16) (w : FVec Ideal S2x4096x12288 .f32) : FVec Ideal S8256x4096 .f32 :=
  Host.dotGeneral dot_S8256x4096_S4096x4096_S8256x4096_1_0_0_1_n_n none (extf .f32 p bitsLt_bf16_f32) (extractStridedSlice S4096x4096 ![0, 8192] (shapeCast _ (extractStridedSlice S1x4096x12288 ![0, 0, 0] w slices_S2x4096x12288_S1x4096x12288_0_0_0) shapeCasts_S1x4096x12288_S4096x12288) slices_S4096x12288_S4096x4096_0_8192)
def refS (s : FVec Ideal S64x4096 .bf16) (w : FVec Ideal S2x4096x12288 .f32) : FVec Ideal S64x4096 .f32 :=
  Host.dotGeneral dot_S64x4096_S4096x4096_S64x4096_1_0_0_1_n_n none (extf .f32 s bitsLt_bf16_f32) (extractStridedSlice S4096x4096 ![0, 8192] (shapeCast _ (extractStridedSlice S1x4096x12288 ![0, 0, 0] w slices_S2x4096x12288_S1x4096x12288_0_0_0) shapeCasts_S1x4096x12288_S4096x12288) slices_S4096x12288_S4096x4096_0_8192)

/-- Read at a row and a column. -/
theorem refP_at (p : FVec Ideal S8256x4096 .bf16) (w : FVec Ideal S2x4096x12288 .f32) (r : Fin 8256) (n : Fin 4096) :
    (refP p w (ix2 r n) : EReal) = (∑ k : Fin 4096, (p (ix2 r k) : EReal) * (w (ix3 0 k ⟨8192 + n.val, by omega⟩) : EReal)) := by
  pointwise [refP]
theorem refS_at (s : FVec Ideal S64x4096 .bf16) (w : FVec Ideal S2x4096x12288 .f32) (r : Fin 64) (n : Fin 4096) :
    (refS s w (ix2 r n) : EReal) = (∑ k : Fin 4096, (s (ix2 r k) : EReal) * (w (ix3 0 k ⟨8192 + n.val, by omega⟩) : EReal)) := by
  pointwise [refS]

end Reference

/-! ## The claims -/

/-- The run, for the text the claims name. -/
theorem frame_ideal (m : (ℓ : Loc Cert.VProjIdeal.nD Cert.VProjIdeal.τ Cert.VProjIdeal.sig) → Buf (Elt Ideal) ℓ) (g : Dev Cert.VProjIdeal.nD → PrngReg) :
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
      ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2))
      ∧ r.2.sem = fun _ => 0) := by
  rw [defs_eq]
  exact frame (F := Ideal) m g

/-- Every argument array of the kernel's run is left as it was, and every counter is zero. -/
theorem quiescent : Cert.quiescent_VProj (hVProj := Cert.VProj.Gen.facts) := fun m g _ => frame m g
theorem quiescent_ideal : Cert.quiescent_VProjIdeal (hVProjIdeal := Cert.VProjIdeal.Gen.facts) := fun m g _ => frame_ideal m g

/-- The same of the reference's run. -/
theorem quiescent_ref : Cert.quiescent_VProjReferenceIdeal (hVProjReferenceIdeal := Cert.VProjReferenceIdeal.Gen.facts) := fun m g _ =>
  (θ_run _ _ _).mono (fun r h => ⟨fun c => (h c).2.2, sem_eq_zero_of_no_sems rfl r.2⟩) (Cert.VProjReferenceIdeal.Value.run (F := Ideal) m g)

/-- The kernel and the reference, run from the same arguments, end with the same arrays. -/
theorem algebraic : Cert.algebraic_VProjIdeal_VProjReferenceIdeal (hVProjIdeal := Cert.VProjIdeal.Gen.facts) (hVProjReferenceIdeal := Cert.VProjReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.VProjReferenceIdeal.Value.run (F := Ideal) m' g')
    · obtain ⟨a0, a1, a2⟩ := hargs c
      rw [a0, a2]
      funext y
      idx_vars y
      exact (refP_at _ _ y0 y1).trans ((Mm.sum_eq_dotAt (argP m c) (argW m c) y0 y1))
    · obtain ⟨a0, a1, a2⟩ := hargs c
      rw [a1, a2]
      funext y
      idx_vars y
      exact (refS_at _ _ y0 y1).trans ((Mm.sum_eq_dotAt (argS m c) (argW m c) y0 y1))

end Cert.Proof.VProj

end
-- ==== Proof.QProjFrame.lean ====
/-
  The query projection call's run: the body at every grid point, and the launch.
-/
module

public import proofs.«01_k».proof.Proof.Gen.QProj.Frame
public import proofs.«01_k».proof.Proof.Gen.QProj.Skeleton
public import proofs.«01_k».proof.Proof.Gen.QProj.Launch
public import proofs.«01_k».proof.Proof.Gen.QProj.Points
public import proofs.«01_k».proof.Proof.MmPoint

@[expose] public section

set_option maxRecDepth 16384

noncomputable section

namespace Cert.Proof.QProj

open Cert.QProj Cert.QProj.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 8 t)) (BitVec.ofNat 32 (Mm.chk 8 t)) (BitVec.ofNat 32 7) Mm.roundP Mm.sumS (st0_0 t) (st0_1 t) (st0_2 t) (st0_3 t) (st0_4 t)
        (Memref.whole cc0_scratch0) (Memref.whole cc0_scratch1) h6 h7 := by
  refine ⟨View.stores_vmem h_S2064x1024 ((hstage0_3 ((cfg0.slots t 3).cast nbuf0_3)).storeExact_slice rfl _ packedbf16_S2064x1024_S2064x1024_0_0) (fun _ => rfl),
    View.stores_vmem_bits_univ h_S64x1024 rfl, ?_⟩
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]
  unfold bodyAt0
  rw [cc0__mm_kernel_eq_skeleton]
  rfl

/-- The points fill whole columns of blocks. -/
theorem columns : 32 * (cfg0.N / 32) = cfg0.N ∧ 7 < 32 := by rw [show cfg0.N = 128 from N_0]; decide

/-- When the body stores into the results' buffers, as tests of the point's chunk and row of blocks. -/
theorem idle3 (t : Fin cfg0.N) : cfg0.idle 3 (cfg0.grid.coords t) = !(Mm.isLast (BitVec.ofNat 32 (Mm.chk 8 t)) (BitVec.ofNat 32 7) == 1#1) := by
  rw [show Mm.chk 8 t = (grid0.coords t 2).val from ((by decide +kernel : ∀ t : Fin grid0.N, (grid0.coords t 2).val = t.val % 8) t).symm]; rfl
theorem idle4 (t : Fin cfg0.N) : cfg0.idle 4 (cfg0.grid.coords t)
    = !(Mm.isFirst (BitVec.ofNat 32 (Mm.row 8 t)) == 1#1 && Mm.isLast (BitVec.ofNat 32 (Mm.chk 8 t)) (BitVec.ofNat 32 7) == 1#1) := by
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := iblk m c 2 t

/-- The accumulators after each point. -/
abbrev accP (c : Dev nD) := Mm.accP (Mm.chk 8) 7 (blkW m c) (blkA m c)
abbrev accS (c : Dev nD) := Mm.accS (Mm.row 8) (Mm.chk 8) 7 (blkW m c) (blkS m c)

/-- The result blocks that a last chunk's point leaves. -/
def outP (c : Dev nD) (t : Fin cfg0.N) : FVec F Mm.ResP .bf16 := Mm.roundP (blkW m c t) (blkA m c t) (accP m c t.val t.isLt)
def outS (c : Dev nD) (t : Fin cfg0.N) : FVec F Mm.ResS .f32 := Mm.sumS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outS m c (Mm.done 7 32 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 7 32 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 8 t) 7 (outP m c t) ((dats m 0 c).before 3 t d)) : sProp 𝕄) ⊢ (dats m 0 c).leavesExact 3 t :=
  Mm.leaves_prompt (dats m 0 c) 3 t d _ (after3 m c t) (idle3 t) (Mm.chk_selects Mm.counts8 t) (flush0_3 t)
theorem leaves4 (c : Dev nD) (t : Fin cfg0.N) (d) :
    (owns (c : Thread nD τ) (st0_4 t) fullShare (Mm.left (Mm.row 8 t) (Mm.chk 8 t) 7 (outS m c t) ((dats m 0 c).before 4 t d)) : sProp 𝕄) ⊢ (dats m 0 c).leavesExact 4 t :=
  Mm.leaves_sample (dats m 0 c) 4 Mm.counts8 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts8 t Mm.roundP Mm.sumS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.QProj

end
-- ==== Proof.QProjValue.lean ====
/-
  The query projection call's result arrays: every element is its row and column's product sum, over the whole summed axis.
-/
module

public import proofs.«01_k».proof.Proof.QProjFrame
public import Idealize.ShloMosaic.Lib.Pipeline.ValueKit.Geometry

@[expose] public section

set_option maxRecDepth 16384

noncomputable section

namespace Cert.Proof.QProj

open Cert.QProj Cert.QProj.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 4096) : EReal := (m ((c.tc : Thread nD τ).loc main_arg0) : FVec Ideal S8256x4096 .bf16) (ix2 r k)
abbrev argS (r : Fin 64) (k : Fin 4096) : EReal := (m ((c.tc : Thread nD τ).loc main_arg1) : FVec Ideal S64x4096 .bf16) (ix2 r k)
abbrev argW (k : Fin 4096) (n : Fin 4096) : EReal := (m ((c.tc : Thread nD τ).loc main_arg2) : FVec Ideal S2x4096x12288 .f32) (ix3 0 k ⟨n.val, by omega⟩)

/-- Where the windows' blocks lie. -/
theorem index0 : ∀ t : Fin cfg0.N, win0_0.index t = ![t.val / 8 % 4, t.val % 8] := (by decide +kernel : ∀ t : Fin grid0.N, win0_0.index t = ![t.val / 8 % 4, t.val % 8])
theorem index1 : ∀ t : Fin cfg0.N, win0_1.index t = ![0, t.val % 8] := (by decide +kernel : ∀ t : Fin grid0.N, win0_1.index t = ![0, t.val % 8])
theorem index2 : ∀ t : Fin cfg0.N, win0_2.index t = ![0, t.val % 8, t.val / 32] := (by decide +kernel : ∀ t : Fin grid0.N, win0_2.index t = ![0, t.val % 8, t.val / 32])
theorem index3 : ∀ t : Fin cfg0.N, win0_3.index t = ![t.val / 8 % 4, t.val / 32] := (by decide +kernel : ∀ t : Fin grid0.N, win0_3.index t = ![t.val / 8 % 4, t.val / 32])
theorem index4 : ∀ t : Fin cfg0.N, win0_4.index t = ![0, t.val / 32] := (by decide +kernel : ∀ t : Fin grid0.N, win0_4.index t = ![0, t.val / 32])

/-- The blocks at a point. -/
theorem block0 (t : Fin cfg0.N) (r : Fin 2064) (x : Fin 512) (h1 h2) :
    blkA m c t (ix2 r x) = argP m c ⟨2064 * (t.val / 8 % 4) + r.val, h1⟩ ⟨512 * (t.val % 8) + x.val, h2⟩ := by
  unfold blkA
  blk_simp [iblk]
  refine congrArg (m ((c.tc : Thread nD τ).loc main_arg0) : FVec Ideal S8256x4096 .bf16) ?_
  blk_ext [index0]
theorem block1 (t : Fin cfg0.N) (r : Fin 64) (x : Fin 512) (h) :
    blkS m c t (ix2 r x) = argS m c r ⟨512 * (t.val % 8) + x.val, h⟩ := by
  unfold blkS
  blk_simp [iblk]
  refine congrArg (m ((c.tc : Thread nD τ).loc main_arg1) : FVec Ideal S64x4096 .bf16) ?_
  blk_ext [index1]
theorem block2 (t : Fin cfg0.N) (x : Fin 512) (n : Fin 1024) (h1 h2) :
    blkW m c t (ix3 0 x n) = argW m c ⟨512 * (t.val % 8) + x.val, h1⟩ ⟨1024 * (t.val / 32) + n.val, h2⟩ := by
  unfold blkW
  blk_simp [iblk]
  refine congrArg (m ((c.tc : Thread nD τ).loc main_arg2) : FVec Ideal S2x4096x12288 .f32) ?_
  blk_ext [index2]

/-- The result arrays. -/
def finalP (y : S8256x4096.Idx) : EReal := (Mm.dotAt (argP m c) (argW m c) (y (0 : Fin 2)).val (y (1 : Fin 2)).val)
def finalS (y : S64x4096.Idx) : EReal := (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.roundP_at _ _ _ y0 y1).trans ((Mm.prompt_total Mm.counts8 (nb := 4) N_0 rfl (by decide) _ (argW m c) (block2 m c) _ (argP m c) (block0 m c)
    t ((flush0_3 t).1 hf) y0 y1)) |>.trans ?_
  unfold finalP
  congr 1
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.sumS_at _ _ _ y0 y1).trans ((Mm.sample_done Mm.counts8 (nb := 4) N_0 rfl (by decide) _ (argW m c) (block2 m c) columns _ (argS m c) (block1 m c)
    t y0 y1)) |>.trans ?_
  unfold finalS
  congr 1
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.QProj

end
-- ==== Proof.QProjClaim.lean ====
/-
  The query projection call against its reference: both programs end with the same arrays, for any arguments.
-/
module

public import proofs.«01_k».proof.Defs
public import proofs.«01_k».proof.Proof.QProjValue
public import proofs.«01_k».proof.Proof.Gen.QProjIdeal
public import proofs.«01_k».proof.Proof.Gen.QProjReferenceIdeal.Run

@[expose] public section

set_option maxRecDepth 16384

noncomputable section

namespace Cert.Proof.QProj

open Idealize.ShloMosaic Idealize.ShloMosaic.TcCoe Idealize.ShloMosaic.Pipeline Idealize.SL Idealize.SL.Sem

/-! ## The idealized program is the same text -/

theorem defs₀_eq {F : FTy → Type} [FloatOps F] : Cert.QProjIdeal.defs₀ (F := F) = Cert.QProj.defs₀ (F := F) := by
  unfold Cert.QProjIdeal.defs₀ Cert.QProj.defs₀
  refine congrArg Defs.onTc (funext fun l => funext fun x => ?_)
  obtain rfl : l = 0 := Subsingleton.elim l 0
  rfl

/-- The two programs' functions are the same. -/
theorem defs_eq {F : FTy → Type} [FloatOps F] : Cert.QProjIdeal.defs (F := F) = Cert.QProj.defs (F := F) := congrArg (Pipeline.defs Cert.QProj.pcfgs) defs₀_eq

/-! ## The reference's result arrays -/

section Reference

open Cert.QProjReferenceIdeal Cert.QProjReferenceIdeal.Gen

/-- The reference's result arrays, from its arguments. -/
def refP (p : FVec Ideal S8256x4096 .bf16) (w : FVec Ideal S2x4096x12288 .f32) : FVec Ideal S8256x4096 .bf16 :=
  truncf .bf16 (Host.dotGeneral dot_S8256x4096_S4096x4096_S8256x4096_1_0_0_1_n_n none (extf .f32 p bitsLt_bf16_f32) (extractStridedSlice S4096x4096 ![0, 0] (shapeCast _ (extractStridedSlice S1x4096x12288 ![0, 0, 0] w slices_S2x4096x12288_S1x4096x12288_0_0_0) shapeCasts_S1x4096x12288_S4096x12288) slices_S4096x12288_S4096x4096_0_0)) bitsLt_bf16_f32
def refS (s : FVec Ideal S64x4096 .bf16) (w : FVec Ideal S2x4096x12288 .f32) : FVec Ideal S64x4096 .f32 :=
  Host.dotGeneral dot_S64x4096_S4096x4096_S64x4096_1_0_0_1_n_n none (extf .f32 s bitsLt_bf16_f32) (extractStridedSlice S4096x4096 ![0, 0] (shapeCast _ (extractStridedSlice S1x4096x12288 ![0, 0, 0] w slices_S2x4096x12288_S1x4096x12288_0_0_0) shapeCasts_S1x4096x12288_S4096x12288) slices_S4096x12288_S4096x4096_0_0)

/-- Read at a row and a column. -/
theorem refP_at (p : FVec Ideal S8256x4096 .bf16) (w : FVec Ideal S2x4096x12288 .f32) (r : Fin 8256) (n : Fin 4096) :
    (refP p w (ix2 r n) : EReal) = (∑ k : Fin 4096, (p (ix2 r k) : EReal) * (w (ix3 0 k ⟨n.val, by omega⟩) : EReal)) := by
  pointwise [refP]
theorem refS_at (s : FVec Ideal S64x4096 .bf16) (w : FVec Ideal S2x4096x12288 .f32) (r : Fin 64) (n : Fin 4096) :
    (refS s w (ix2 r n) : EReal) = (∑ k : Fin 4096, (s (ix2 r k) : EReal) * (w (ix3 0 k ⟨n.val, by omega⟩) : EReal)) := by
  pointwise [refS]

end Reference

/-! ## The claims -/

/-- The run, for the text the claims name. -/
theorem frame_ideal (m : (ℓ : Loc Cert.QProjIdeal.nD Cert.QProjIdeal.τ Cert.QProjIdeal.sig) → Buf (Elt Ideal) ℓ) (g : Dev Cert.QProjIdeal.nD → PrngReg) :
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0) := by
  rw [defs_eq]
  exact frame (F := Ideal) m g

/-- Every argument array of the kernel's run is left as it was, and every counter is zero. -/
theorem quiescent : Cert.quiescent_QProj (hQProj := Cert.QProj.Gen.facts) := fun m g _ => frame m g
theorem quiescent_ideal : Cert.quiescent_QProjIdeal (hQProjIdeal := Cert.QProjIdeal.Gen.facts) := fun m g _ => frame_ideal m g

/-- The same of the reference's run. -/
theorem quiescent_ref : Cert.quiescent_QProjReferenceIdeal (hQProjReferenceIdeal := Cert.QProjReferenceIdeal.Gen.facts) := fun m g _ =>
  (θ_run _ _ _).mono (fun r h => ⟨fun c => (h c).2.2, sem_eq_zero_of_no_sems rfl r.2⟩) (Cert.QProjReferenceIdeal.Value.run (F := Ideal) m g)

/-- The kernel and the reference, run from the same arguments, end with the same arrays. -/
theorem algebraic : Cert.algebraic_QProjIdeal_QProjReferenceIdeal (hQProjIdeal := Cert.QProjIdeal.Gen.facts) (hQProjReferenceIdeal := Cert.QProjReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.QProjReferenceIdeal.Value.run (F := Ideal) m' g')
    · obtain ⟨a0, a1, a2⟩ := hargs c
      rw [a0, a2]
      funext y
      idx_vars y
      exact (refP_at _ _ y0 y1).trans ((Mm.sum_eq_dotAt (argP m c) (argW m c) y0 y1))
    · obtain ⟨a0, a1, a2⟩ := hargs c
      rw [a1, a2]
      funext y
      idx_vars y
      exact (refS_at _ _ y0 y1).trans ((Mm.sum_eq_dotAt (argS m c) (argW m c) y0 y1))

end Cert.Proof.QProj

end
-- ==== Proof.OutProjFrame.lean ====
/-
  The output projection call's run: the body at every grid point, and the launch.
-/
module

public import proofs.«01_k».proof.Proof.Gen.OutProj.Frame
public import proofs.«01_k».proof.Proof.Gen.OutProj.Skeleton
public import proofs.«01_k».proof.Proof.Gen.OutProj.Launch
public import proofs.«01_k».proof.Proof.Gen.OutProj.Points
public import proofs.«01_k».proof.Proof.MmPoint

@[expose] public section

set_option maxRecDepth 16384

noncomputable section

namespace Cert.Proof.OutProj

open Cert.OutProj Cert.OutProj.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 8 t)) (BitVec.ofNat 32 (Mm.chk 8 t)) (BitVec.ofNat 32 7) Mm.sumP Mm.sumS (st0_0 t) (st0_1 t) (st0_2 t) (st0_3 t) (st0_4 t)
        (Memref.whole cc0_scratch0) (Memref.whole cc0_scratch1) h6 h7 := by
  refine ⟨View.stores_vmem_bits_univ h_S2064x1024 rfl,
    View.stores_vmem_bits_univ h_S64x1024 rfl, ?_⟩
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]
  unfold bodyAt0
  rw [cc0__mm_kernel_eq_skeleton]
  rfl

/-- The points fill whole columns of blocks. -/
theorem columns : 32 * (cfg0.N / 32) = cfg0.N ∧ 7 < 32 := by rw [show cfg0.N = 128 from N_0]; decide

/-- When the body stores into the results' buffers, as tests of the point's chunk and row of blocks. -/
theorem idle3 (t : Fin cfg0.N) : cfg0.idle 3 (cfg0.grid.coords t) = !(Mm.isLast (BitVec.ofNat 32 (Mm.chk 8 t)) (BitVec.ofNat 32 7) == 1#1) := by
  rw [show Mm.chk 8 t = (grid0.coords t 2).val from ((by decide +kernel : ∀ t : Fin grid0.N, (grid0.coords t 2).val = t.val % 8) t).symm]; rfl
theorem idle4 (t : Fin cfg0.N) : cfg0.idle 4 (cfg0.grid.coords t)
    = !(Mm.isFirst (BitVec.ofNat 32 (Mm.row 8 t)) == 1#1 && Mm.isLast (BitVec.ofNat 32 (Mm.chk 8 t)) (BitVec.ofNat 32 7) == 1#1) := by
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := iblk m c 2 t

/-- The accumulators after each point. -/
abbrev accP (c : Dev nD) := Mm.accP (Mm.chk 8) 7 (blkW m c) (blkA m c)
abbrev accS (c : Dev nD) := Mm.accS (Mm.row 8) (Mm.chk 8) 7 (blkW m c) (blkS m c)

/-- The result blocks that a last chunk's point leaves. -/
def outP (c : Dev nD) (t : Fin cfg0.N) : FVec F Mm.ResP .f32 := Mm.sumP (blkW m c t) (blkA m c t) (accP m c t.val t.isLt)
def outS (c : Dev nD) (t : Fin cfg0.N) : FVec F Mm.ResS .f32 := Mm.sumS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outS m c (Mm.done 7 32 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 7 32 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 8 t) 7 (outP m c t) ((dats m 0 c).before 3 t d)) : sProp 𝕄) ⊢ (dats m 0 c).leavesExact 3 t :=
  Mm.leaves_prompt (dats m 0 c) 3 t d _ (after3 m c t) (idle3 t) (Mm.chk_selects Mm.counts8 t) (flush0_3 t)
theorem leaves4 (c : Dev nD) (t : Fin cfg0.N) (d) :
    (owns (c : Thread nD τ) (st0_4 t) fullShare (Mm.left (Mm.row 8 t) (Mm.chk 8 t) 7 (outS m c t) ((dats m 0 c).before 4 t d)) : sProp 𝕄) ⊢ (dats m 0 c).leavesExact 4 t :=
  Mm.leaves_sample (dats m 0 c) 4 Mm.counts8 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts8 t Mm.sumP Mm.sumS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.OutProj

end
-- ==== Proof.OutProjValue.lean ====
/-
  The output projection call's result arrays: every element is its row and column's product sum, over the whole summed axis.
-/
module

public import proofs.«01_k».proof.Proof.OutProjFrame
public import Idealize.ShloMosaic.Lib.Pipeline.ValueKit.Geometry

@[expose] public section

set_option maxRecDepth 16384

noncomputable section

namespace Cert.Proof.OutProj

open Cert.OutProj Cert.OutProj.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 4096) : EReal := (m ((c.tc : Thread nD τ).loc main_arg0) : FVec Ideal S8256x4096 .bf16) (ix2 r k)
abbrev argS (r : Fin 64) (k : Fin 4096) : EReal := (m ((c.tc : Thread nD τ).loc main_arg1) : FVec Ideal S64x4096 .bf16) (ix2 r k)
abbrev argW (k : Fin 4096) (n : Fin 4096) : EReal := (m ((c.tc : Thread nD τ).loc main_arg2) : FVec Ideal S2x4096x4096 .f32) (ix3 0 k n)

/-- Where the windows' blocks lie. -/
theorem index0 : ∀ t : Fin cfg0.N, win0_0.index t = ![t.val / 8 % 4, t.val % 8] := (by decide +kernel : ∀ t : Fin grid0.N, win0_0.index t = ![t.val / 8 % 4, t.val % 8])
theorem index1 : ∀ t : Fin cfg0.N, win0_1.index t = ![0, t.val % 8] := (by decide +kernel : ∀ t : Fin grid0.N, win0_1.index t = ![0, t.val % 8])
theorem index2 : ∀ t : Fin cfg0.N, win0_2.index t = ![0, t.val % 8, t.val / 32] := (by decide +kernel : ∀ t : Fin grid0.N, win0_2.index t = ![0, t.val % 8, t.val / 32])
theorem index3 : ∀ t : Fin cfg0.N, win0_3.index t = ![t.val / 8 % 4, t.val / 32] := (by decide +kernel : ∀ t : Fin grid0.N, win0_3.index t = ![t.val / 8 % 4, t.val / 32])
theorem index4 : ∀ t : Fin cfg0.N, win0_4.index t = ![0, t.val / 32] := (by decide +kernel : ∀ t : Fin grid0.N, win0_4.index t = ![0, t.val / 32])

/-- The blocks at a point. -/
theorem block0 (t : Fin cfg0.N) (r : Fin 2064) (x : Fin 512) (h1 h2) :
    blkA m c t (ix2 r x) = argP m c ⟨2064 * (t.val / 8 % 4) + r.val, h1⟩ ⟨512 * (t.val % 8) + x.val, h2⟩ := by
  unfold blkA
  blk_simp [iblk]
  refine congrArg (m ((c.tc : Thread nD τ).loc main_arg0) : FVec Ideal S8256x4096 .bf16) ?_
  blk_ext [index0]
theorem block1 (t : Fin cfg0.N) (r : Fin 64) (x : Fin 512) (h) :
    blkS m c t (ix2 r x) = argS m c r ⟨512 * (t.val % 8) + x.val, h⟩ := by
  unfold blkS
  blk_simp [iblk]
  refine congrArg (m ((c.tc : Thread nD τ).loc main_arg1) : FVec Ideal S64x4096 .bf16) ?_
  blk_ext [index1]
theorem block2 (t : Fin cfg0.N) (x : Fin 512) (n : Fin 1024) (h1 h2) :
    blkW m c t (ix3 0 x n) = argW m c ⟨512 * (t.val % 8) + x.val, h1⟩ ⟨1024 * (t.val / 32) + n.val, h2⟩ := by
  unfold blkW
  blk_simp [iblk]
  refine congrArg (m ((c.tc : Thread nD τ).loc main_arg2) : FVec Ideal S2x4096x4096 .f32) ?_
  blk_ext [index2]

/-- The result arrays. -/
def finalP (y : S8256x4096.Idx) : EReal := (Mm.dotAt (argP m c) (argW m c) (y (0 : Fin 2)).val (y (1 : Fin 2)).val)
def finalS (y : S64x4096.Idx) : EReal := (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.sumP_at _ _ _ y0 y1).trans ((Mm.prompt_total Mm.counts8 (nb := 4) N_0 rfl (by decide) _ (argW m c) (block2 m c) _ (argP m c) (block0 m c)
    t ((flush0_3 t).1 hf) y0 y1)) |>.trans ?_
  unfold finalP
  congr 1
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.sumS_at _ _ _ y0 y1).trans ((Mm.sample_done Mm.counts8 (nb := 4) N_0 rfl (by decide) _ (argW m c) (block2 m c) columns _ (argS m c) (block1 m c)
    t y0 y1)) |>.trans ?_
  unfold finalS
  congr 1
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.OutProj

end
-- ==== Proof.OutProjClaim.lean ====
/-
  The output projection call against its reference: both programs end with the same arrays, for any arguments.
-/
module

public import proofs.«01_k».proof.Defs
public import proofs.«01_k».proof.Proof.OutProjValue
public import proofs.«01_k».proof.Proof.Gen.OutProjIdeal
public import proofs.«01_k».proof.Proof.Gen.OutProjReferenceIdeal.Run

@[expose] public section

set_option maxRecDepth 16384

noncomputable section

namespace Cert.Proof.OutProj

open Idealize.ShloMosaic Idealize.ShloMosaic.TcCoe Idealize.ShloMosaic.Pipeline Idealize.SL Idealize.SL.Sem

/-! ## The idealized program is the same text -/

theorem defs₀_eq {F : FTy → Type} [FloatOps F] : Cert.OutProjIdeal.defs₀ (F := F) = Cert.OutProj.defs₀ (F := F) := by
  unfold Cert.OutProjIdeal.defs₀ Cert.OutProj.defs₀
  refine congrArg Defs.onTc (funext fun l => funext fun x => ?_)
  obtain rfl : l = 0 := Subsingleton.elim l 0
  rfl

/-- The two programs' functions are the same. -/
theorem defs_eq {F : FTy → Type} [FloatOps F] : Cert.OutProjIdeal.defs (F := F) = Cert.OutProj.defs (F := F) := congrArg (Pipeline.defs Cert.OutProj.pcfgs) defs₀_eq

/-! ## The reference's result arrays -/

section Reference

open Cert.OutProjReferenceIdeal Cert.OutProjReferenceIdeal.Gen

/-- The reference's result arrays, from its arguments. -/
def refP (p : FVec Ideal S8256x4096 .bf16) (w : FVec Ideal S2x4096x4096 .f32) : FVec Ideal S8256x4096 .f32 :=
  Host.dotGeneral dot_S8256x4096_S4096x4096_S8256x4096_1_0_0_1_n_n none (extf .f32 p bitsLt_bf16_f32) (shapeCast _ (extractStridedSlice S1x4096x4096 ![0, 0, 0] w slices_S2x4096x4096_S1x4096x4096_0_0_0) shapeCasts_S1x4096x4096_S4096x4096)
def refS (s : FVec Ideal S64x4096 .bf16) (w : FVec Ideal S2x4096x4096 .f32) : FVec Ideal S64x4096 .f32 :=
  Host.dotGeneral dot_S64x4096_S4096x4096_S64x4096_1_0_0_1_n_n none (extf .f32 s bitsLt_bf16_f32) (shapeCast _ (extractStridedSlice S1x4096x4096 ![0, 0, 0] w slices_S2x4096x4096_S1x4096x4096_0_0_0) shapeCasts_S1x4096x4096_S4096x4096)

/-- Read at a row and a column. -/
theorem refP_at (p : FVec Ideal S8256x4096 .bf16) (w : FVec Ideal S2x4096x4096 .f32) (r : Fin 8256) (n : Fin 4096) :
    (refP p w (ix2 r n) : EReal) = (∑ k : Fin 4096, (p (ix2 r k) : EReal) * (w (ix3 0 k n) : EReal)) := by
  pointwise [refP]
theorem refS_at (s : FVec Ideal S64x4096 .bf16) (w : FVec Ideal S2x4096x4096 .f32) (r : Fin 64) (n : Fin 4096) :
    (refS s w (ix2 r n) : EReal) = (∑ k : Fin 4096, (s (ix2 r k) : EReal) * (w (ix3 0 k n) : EReal)) := by
  pointwise [refS]

end Reference

/-! ## The claims -/

/-- The run, for the text the claims name. -/
theorem frame_ideal (m : (ℓ : Loc Cert.OutProjIdeal.nD Cert.OutProjIdeal.τ Cert.OutProjIdeal.sig) → Buf (Elt Ideal) ℓ) (g : Dev Cert.OutProjIdeal.nD → PrngReg) :
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0) := by
  rw [defs_eq]
  exact frame (F := Ideal) m g

/-- Every argument array of the kernel's run is left as it was, and every counter is zero. -/
theorem quiescent : Cert.quiescent_OutProj (hOutProj := Cert.OutProj.Gen.facts) := fun m g _ => frame m g
theorem quiescent_ideal : Cert.quiescent_OutProjIdeal (hOutProjIdeal := Cert.OutProjIdeal.Gen.facts) := fun m g _ => frame_ideal m g

/-- The same of the reference's run. -/
theorem quiescent_ref : Cert.quiescent_OutProjReferenceIdeal (hOutProjReferenceIdeal := Cert.OutProjReferenceIdeal.Gen.facts) := fun m g _ =>
  (θ_run _ _ _).mono (fun r h => ⟨fun c => (h c).2.2, sem_eq_zero_of_no_sems rfl r.2⟩) (Cert.OutProjReferenceIdeal.Value.run (F := Ideal) m g)

/-- The kernel and the reference, run from the same arguments, end with the same arrays. -/
theorem algebraic : Cert.algebraic_OutProjIdeal_OutProjReferenceIdeal (hOutProjIdeal := Cert.OutProjIdeal.Gen.facts) (hOutProjReferenceIdeal := Cert.OutProjReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.OutProjReferenceIdeal.Value.run (F := Ideal) m' g')
    · obtain ⟨a0, a1, a2⟩ := hargs c
      rw [a0, a2]
      funext y
      idx_vars y
      exact (refP_at _ _ y0 y1).trans ((Mm.sum_eq_dotAt (argP m c) (argW m c) y0 y1))
    · obtain ⟨a0, a1, a2⟩ := hargs c
      rw [a1, a2]
      funext y
      idx_vars y
      exact (refS_at _ _ y0 y1).trans ((Mm.sum_eq_dotAt (argS m c) (argW m c) y0 y1))

end Cert.Proof.OutProj

end
-- ==== Proof.InProjFrame.lean ====
/-
  The input projection call's run: the body at every grid point, and the launch.
-/
module

public import proofs.«01_k».proof.Proof.Gen.InProj.Frame
public import proofs.«01_k».proof.Proof.Gen.InProj.Skeleton
public import proofs.«01_k».proof.Proof.Gen.InProj.Launch
public import proofs.«01_k».proof.Proof.Gen.InProj.Points
public import proofs.«01_k».proof.Proof.MmPoint

@[expose] public section

set_option maxRecDepth 16384

noncomputable section

namespace Cert.Proof.InProj

open Cert.InProj Cert.InProj.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 8 t)) (BitVec.ofNat 32 (Mm.chk 8 t)) (BitVec.ofNat 32 7) Mm.sumP Mm.sumS (st0_0 t) (st0_1 t) (st0_2 t) (st0_3 t) (st0_4 t)
        (Memref.whole cc0_scratch0) (Memref.whole cc0_scratch1) h6 h7 := by
  refine ⟨View.stores_vmem_bits_univ h_S2064x1024 rfl,
    View.stores_vmem_bits_univ h_S64x1024 rfl, ?_⟩
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]
  unfold bodyAt0
  rw [cc0__mm_kernel_eq_skeleton]
  rfl

/-- The points fill whole columns of blocks. -/
theorem columns : 32 * (cfg0.N / 32) = cfg0.N ∧ 7 < 32 := by rw [show cfg0.N = 192 from N_0]; decide

/-- When the body stores into the results' buffers, as tests of the point's chunk and row of blocks. -/
theorem idle3 (t : Fin cfg0.N) : cfg0.idle 3 (cfg0.grid.coords t) = !(Mm.isLast (BitVec.ofNat 32 (Mm.chk 8 t)) (BitVec.ofNat 32 7) == 1#1) := by
  rw [show Mm.chk 8 t = (grid0.coords t 2).val from ((by decide +kernel : ∀ t : Fin grid0.N, (grid0.coords t 2).val = t.val % 8) t).symm]; rfl
theorem idle4 (t : Fin cfg0.N) : cfg0.idle 4 (cfg0.grid.coords t)
    = !(Mm.isFirst (BitVec.ofNat 32 (Mm.row 8 t)) == 1#1 && Mm.isLast (BitVec.ofNat 32 (Mm.chk 8 t)) (BitVec.ofNat 32 7) == 1#1) := by
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := X0_2 m c t

/-- The accumulators after each point. -/
abbrev accP (c : Dev nD) := Mm.accP (Mm.chk 8) 7 (blkW m c) (blkA m c)
abbrev accS (c : Dev nD) := Mm.accS (Mm.row 8) (Mm.chk 8) 7 (blkW m c) (blkS m c)

/-- The result blocks that a last chunk's point leaves. -/
def outP (c : Dev nD) (t : Fin cfg0.N) : FVec F Mm.ResP .f32 := Mm.sumP (blkW m c t) (blkA m c t) (accP m c t.val t.isLt)
def outS (c : Dev nD) (t : Fin cfg0.N) : FVec F Mm.ResS .f32 := Mm.sumS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => outP m c t
    | ⟨4, _⟩ => outS m c (Mm.done 7 32 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 7 32 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 8 t) 7 (outP m c t) ((dats m 0 c).before 3 t d)) : sProp 𝕄) ⊢ (dats m 0 c).leavesExact 3 t :=
  Mm.leaves_prompt (dats m 0 c) 3 t d _ (after3 m c t) (idle3 t) (Mm.chk_selects Mm.counts8 t) (flush0_3 t)
theorem leaves4 (c : Dev nD) (t : Fin cfg0.N) (d) :
    (owns (c : Thread nD τ) (st0_4 t) fullShare (Mm.left (Mm.row 8 t) (Mm.chk 8 t) 7 (outS m c t) ((dats m 0 c).before 4 t d)) : sProp 𝕄) ⊢ (dats m 0 c).leavesExact 4 t :=
  Mm.leaves_sample (dats m 0 c) 4 Mm.counts8 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts8 t Mm.sumP Mm.sumS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.InProj

end
-- ==== Proof.InProjValue.lean ====
/-
  The input projection call's result arrays: every element is its row and column's product sum, over the whole summed axis.
-/
module

public import proofs.«01_k».proof.Proof.InProjFrame
public import Idealize.ShloMosaic.Lib.Pipeline.ValueKit.Geometry

@[expose] public section

set_option maxRecDepth 16384

noncomputable section

namespace Cert.Proof.InProj

open Cert.InProj Cert.InProj.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 4096) : EReal := (m ((c.tc : Thread nD τ).loc main_arg0) : FVec Ideal S8256x4096 .bf16) (ix2 r k)
abbrev argS (r : Fin 64) (k : Fin 4096) : EReal := (m ((c.tc : Thread nD τ).loc main_arg1) : FVec Ideal S64x4096 .bf16) (ix2 r k)
abbrev argW (k : Fin 4096) (n : Fin 6144) : EReal := (m ((c.tc : Thread nD τ).loc main_arg2) : FVec Ideal S2x4096x10256 .f32) (ix3 0 k ⟨n.val, by omega⟩)

/-- Where the windows' blocks lie. -/
theorem index0 : ∀ t : Fin cfg0.N, win0_0.index t = ![t.val / 8 % 4, t.val % 8] := (by decide +kernel : ∀ t : Fin grid0.N, win0_0.index t = ![t.val / 8 % 4, t.val % 8])
theorem index1 : ∀ t : Fin cfg0.N, win0_1.index t = ![0, t.val % 8] := (by decide +kernel : ∀ t : Fin grid0.N, win0_1.index t = ![0, t.val % 8])
theorem index2 : ∀ t : Fin cfg0.N, win0_2.index t = ![0, t.val % 8, t.val / 32] := (by decide +kernel : ∀ t : Fin grid0.N, win0_2.index t = ![0, t.val % 8, t.val / 32])
theorem index3 : ∀ t : Fin cfg0.N, win0_3.index t = ![t.val / 8 % 4, t.val / 32] := (by decide +kernel : ∀ t : Fin grid0.N, win0_3.index t = ![t.val / 8 % 4, t.val / 32])
theorem index4 : ∀ t : Fin cfg0.N, win0_4.index t = ![0, t.val / 32] := (by decide +kernel : ∀ t : Fin grid0.N, win0_4.index t = ![0, t.val / 32])

/-- The blocks at a point. -/
theorem block0 (t : Fin cfg0.N) (r : Fin 2064) (x : Fin 512) (h1 h2) :
    blkA m c t (ix2 r x) = argP m c ⟨2064 * (t.val / 8 % 4) + r.val, h1⟩ ⟨512 * (t.val % 8) + x.val, h2⟩ := by
  unfold blkA
  blk_simp [iblk]
  refine congrArg (m ((c.tc : Thread nD τ).loc main_arg0) : FVec Ideal S8256x4096 .bf16) ?_
  blk_ext [index0]
theorem block1 (t : Fin cfg0.N) (r : Fin 64) (x : Fin 512) (h) :
    blkS m c t (ix2 r x) = argS m c r ⟨512 * (t.val % 8) + x.val, h⟩ := by
  unfold blkS
  blk_simp [iblk]
  refine congrArg (m ((c.tc : Thread nD τ).loc main_arg1) : FVec Ideal S64x4096 .bf16) ?_
  blk_ext [index1]
theorem block2 (t : Fin cfg0.N) (x : Fin 512) (n : Fin 1024) (h1 h2) :
    blkW m c t (ix3 0 x n) = argW m c ⟨512 * (t.val % 8) + x.val, h1⟩ ⟨1024 * (t.val / 32) + n.val, h2⟩ := by
  unfold blkW X0_2 Pipeline.Window.fill
  rw [dif_pos (moved0_2 t _)]
  blk_simp [iblk]
  refine congrArg (m ((c.tc : Thread nD τ).loc main_arg2) : FVec Ideal S2x4096x10256 .f32) ?_
  blk_ext [index2]

/-- The result arrays. -/
def finalP (y : S8256x6144.Idx) : EReal := (Mm.dotAt (argP m c) (argW m c) (y (0 : Fin 2)).val (y (1 : Fin 2)).val)
def finalS (y : S64x6144.Idx) : EReal := (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.sumP_at _ _ _ y0 y1).trans ((Mm.prompt_total Mm.counts8 (nb := 6) N_0 rfl (by decide) _ (argW m c) (block2 m c) _ (argP m c) (block0 m c)
    t ((flush0_3 t).1 hf) y0 y1)) |>.trans ?_
  unfold finalP
  congr 1
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.sumS_at _ _ _ y0 y1).trans ((Mm.sample_done Mm.counts8 (nb := 6) N_0 rfl (by decide) _ (argW m c) (block2 m c) columns _ (argS m c) (block1 m c)
    t y0 y1)) |>.trans ?_
  unfold finalS
  congr 1
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.InProj

end
-- ==== Proof.InProjClaim.lean ====
/-
  The input projection call against its reference: both programs end with the same arrays, for any arguments.
-/
module

public import proofs.«01_k».proof.Defs
public import proofs.«01_k».proof.Proof.InProjValue
public import proofs.«01_k».proof.Proof.Gen.InProjIdeal
public import proofs.«01_k».proof.Proof.Gen.InProjReferenceIdeal.Run

@[expose] public section

set_option maxRecDepth 16384

noncomputable section

namespace Cert.Proof.InProj

open Idealize.ShloMosaic Idealize.ShloMosaic.TcCoe Idealize.ShloMosaic.Pipeline Idealize.SL Idealize.SL.Sem

/-! ## The idealized program is the same text -/

theorem defs₀_eq {F : FTy → Type} [FloatOps F] : Cert.InProjIdeal.defs₀ (F := F) = Cert.InProj.defs₀ (F := F) := by
  unfold Cert.InProjIdeal.defs₀ Cert.InProj.defs₀
  refine congrArg Defs.onTc (funext fun l => funext fun x => ?_)
  obtain rfl : l = 0 := Subsingleton.elim l 0
  rfl

/-- The two programs' functions are the same. -/
theorem defs_eq {F : FTy → Type} [FloatOps F] : Cert.InProjIdeal.defs (F := F) = Cert.InProj.defs (F := F) := congrArg (Pipeline.defs Cert.InProj.pcfgs) defs₀_eq

/-! ## The reference's result arrays -/

section Reference

open Cert.InProjReferenceIdeal Cert.InProjReferenceIdeal.Gen

/-- The reference's result arrays, from its arguments. -/
def refP (p : FVec Ideal S8256x4096 .bf16) (w : FVec Ideal S2x4096x10256 .f32) : FVec Ideal S8256x6144 .f32 :=
  Host.dotGeneral dot_S8256x4096_S4096x6144_S8256x6144_1_0_0_1_n_n none (extf .f32 p bitsLt_bf16_f32) (extractStridedSlice S4096x6144 ![0, 0] (shapeCast _ (extractStridedSlice S1x4096x10256 ![0, 0, 0] w slices_S2x4096x10256_S1x4096x10256_0_0_0) shapeCasts_S1x4096x10256_S4096x10256) slices_S4096x10256_S4096x6144_0_0)
def refS (s : FVec Ideal S64x4096 .bf16) (w : FVec Ideal S2x4096x10256 .f32) : FVec Ideal S64x6144 .f32 :=
  Host.dotGeneral dot_S64x4096_S4096x6144_S64x6144_1_0_0_1_n_n none (extf .f32 s bitsLt_bf16_f32) (extractStridedSlice S4096x6144 ![0, 0] (shapeCast _ (extractStridedSlice S1x4096x10256 ![0, 0, 0] w slices_S2x4096x10256_S1x4096x10256_0_0_0) shapeCasts_S1x4096x10256_S4096x10256) slices_S4096x10256_S4096x6144_0_0)

/-- Read at a row and a column. -/
theorem refP_at (p : FVec Ideal S8256x4096 .bf16) (w : FVec Ideal S2x4096x10256 .f32) (r : Fin 8256) (n : Fin 6144) :
    (refP p w (ix2 r n) : EReal) = (∑ k : Fin 4096, (p (ix2 r k) : EReal) * (w (ix3 0 k ⟨n.val, by omega⟩) : EReal)) := by
  pointwise [refP]
theorem refS_at (s : FVec Ideal S64x4096 .bf16) (w : FVec Ideal S2x4096x10256 .f32) (r : Fin 64) (n : Fin 6144) :
    (refS s w (ix2 r n) : EReal) = (∑ k : Fin 4096, (s (ix2 r k) : EReal) * (w (ix3 0 k ⟨n.val, by omega⟩) : EReal)) := by
  pointwise [refS]

end Reference

/-! ## The claims -/

/-- The run, for the text the claims name. -/
theorem frame_ideal (m : (ℓ : Loc Cert.InProjIdeal.nD Cert.InProjIdeal.τ Cert.InProjIdeal.sig) → Buf (Elt Ideal) ℓ) (g : Dev Cert.InProjIdeal.nD → PrngReg) :
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0) := by
  rw [defs_eq]
  exact frame (F := Ideal) m g

/-- Every argument array of the kernel's run is left as it was, and every counter is zero. -/
theorem quiescent : Cert.quiescent_InProj (hInProj := Cert.InProj.Gen.facts) := fun m g _ => frame m g
theorem quiescent_ideal : Cert.quiescent_InProjIdeal (hInProjIdeal := Cert.InProjIdeal.Gen.facts) := fun m g _ => frame_ideal m g

/-- The same of the reference's run. -/
theorem quiescent_ref : Cert.quiescent_InProjReferenceIdeal (hInProjReferenceIdeal := Cert.InProjReferenceIdeal.Gen.facts) := fun m g _ =>
  (θ_run _ _ _).mono (fun r h => ⟨fun c => (h c).2.2, sem_eq_zero_of_no_sems rfl r.2⟩) (Cert.InProjReferenceIdeal.Value.run (F := Ideal) m g)

/-- The kernel and the reference, run from the same arguments, end with the same arrays. -/
theorem algebraic : Cert.algebraic_InProjIdeal_InProjReferenceIdeal (hInProjIdeal := Cert.InProjIdeal.Gen.facts) (hInProjReferenceIdeal := Cert.InProjReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.InProjReferenceIdeal.Value.run (F := Ideal) m' g')
    · obtain ⟨a0, a1, a2⟩ := hargs c
      rw [a0, a2]
      funext y
      idx_vars y
      exact (refP_at _ _ y0 y1).trans ((Mm.sum_eq_dotAt (argP m c) (argW m c) y0 y1))
    · obtain ⟨a0, a1, a2⟩ := hargs c
      rw [a1, a2]
      funext y
      idx_vars y
      exact (refS_at _ _ y0 y1).trans ((Mm.sum_eq_dotAt (argS m c) (argW m c) y0 y1))

end Cert.Proof.InProj

end
-- ==== Proof.GluProjFrame.lean ====
/-
  The gate projection call's run: the body at every grid point, and the launch.
-/
module

public import proofs.«01_k».proof.Proof.Gen.GluProj.Frame
public import proofs.«01_k».proof.Proof.Gen.GluProj.Skeleton
public import proofs.«01_k».proof.Proof.Gen.GluProj.Launch
public import proofs.«01_k».proof.Proof.Gen.GluProj.Points
public import proofs.«01_k».proof.Proof.MmPoint

@[expose] public section

set_option maxRecDepth 16384

noncomputable section

namespace Cert.Proof.GluProj

open Cert.GluProj Cert.GluProj.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

/-- The body the pipeline calls at a point is the blocked product's, at the point's row of blocks and chunk. -/
theorem body_eq (t : Fin cfg0.N) : ∃ h6 h7, bodyAt0 (F := F) t
    = Mm.body (BitVec.ofNat 32 (Mm.row 8 t)) (BitVec.ofNat 32 (Mm.chk 8 t)) (BitVec.ofNat 32 7) Mm.sumP Mm.sumS (st0_0 t) (st0_1 t) (st0_2 t) (st0_3 t) (st0_4 t)
        (Memref.whole cc0_scratch0) (Memref.whole cc0_scratch1) h6 h7 := by
  refine ⟨View.stores_vmem_bits_univ h_S2064x1024 rfl,
    View.stores_vmem_bits_univ h_S64x1024 rfl, ?_⟩
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]
  unfold bodyAt0
  rw [cc0__mm_kernel_eq_skeleton]
  rfl

/-- The points fill whole columns of blocks. -/
theorem columns : 32 * (cfg0.N / 32) = cfg0.N ∧ 7 < 32 := by rw [show cfg0.N = 128 from N_0]; decide

/-- When the body stores into the results' buffers, as tests of the point's chunk and row of blocks. -/
theorem idle3 (t : Fin cfg0.N) : cfg0.idle 3 (cfg0.grid.coords t) = !(Mm.isLast (BitVec.ofNat 32 (Mm.chk 8 t)) (BitVec.ofNat 32 7) == 1#1) := by
  rw [show Mm.chk 8 t = (grid0.coords t 2).val from ((by decide +kernel : ∀ t : Fin grid0.N, (grid0.coords t 2).val = t.val % 8) t).symm]; rfl
theorem idle4 (t : Fin cfg0.N) : cfg0.idle 4 (cfg0.grid.coords t)
    = !(Mm.isFirst (BitVec.ofNat 32 (Mm.row 8 t)) == 1#1 && Mm.isLast (BitVec.ofNat 32 (Mm.chk 8 t)) (BitVec.ofNat 32 7) == 1#1) := by
  rw [show Mm.row 8 t = (grid0.coords t 1).val from ((by decide +kernel : ∀ t : Fin grid0.N, (grid0.coords t 1).val = t.val / 8 % 4) t).symm,
    show Mm.chk 8 t = (grid0.coords t 2).val from ((by decide +kernel : ∀ t : Fin grid0.N, (grid0.coords t 2).val = t.val % 8) t).symm]; rfl

variable (m : (ℓ : Loc nD τ sig) → Buf (Elt F) ℓ) (ρ : Dev nD → PrngReg)

/-- The operands' blocks. -/
def blkA (c : Dev nD) (t : Fin cfg0.N) : FVec F Mm.TileP .bf16 := iblk m c 0 t
def blkS (c : Dev nD) (t : Fin cfg0.N) : FVec F Mm.TileS .bf16 := iblk m c 1 t
def blkW (c : Dev nD) (t : Fin cfg0.N) : FVec F Mm.TileW .f32 := iblk m c 2 t

/-- The accumulators after each point. -/
abbrev accP (c : Dev nD) := Mm.accP (Mm.chk 8) 7 (blkW m c) (blkA m c)
abbrev accS (c : Dev nD) := Mm.accS (Mm.row 8) (Mm.chk 8) 7 (blkW m c) (blkS m c)

/-- The result blocks that a last chunk's point leaves. -/
def outP (c : Dev nD) (t : Fin cfg0.N) : FVec F Mm.ResP .f32 := Mm.sumP (blkW m c t) (blkA m c t) (accP m c t.val t.isLt)
def outS (c : Dev nD) (t : Fin cfg0.N) : FVec F Mm.ResS .f32 := Mm.sumS (blkW m c t) (blkS m c t) (accS m c t.val t.isLt)

/-- Point by point: the arrays as launched, every operand's block left in place, the results' blocks where complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outS m c (Mm.done 7 32 columns t)
  Φ t := Mm.Inv c (Memref.whole cc0_scratch0) (Memref.whole cc0_scratch1) (accP m c) (accS m c) t.val
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outS m c (Mm.done 7 32 columns t) := by dsimp only [dats]

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-- What the body starts from at a point, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The results' buffers end as the windows' obligations say. -/
theorem leaves3 (c : Dev nD) (t : Fin cfg0.N) (d) :
    (owns (c : Thread nD τ) (st0_3 t) fullShare (Mm.left 0 (Mm.chk 8 t) 7 (outP m c t) ((dats m 0 c).before 3 t d)) : sProp 𝕄) ⊢ (dats m 0 c).leavesExact 3 t :=
  Mm.leaves_prompt (dats m 0 c) 3 t d _ (after3 m c t) (idle3 t) (Mm.chk_selects Mm.counts8 t) (flush0_3 t)
theorem leaves4 (c : Dev nD) (t : Fin cfg0.N) (d) :
    (owns (c : Thread nD τ) (st0_4 t) fullShare (Mm.left (Mm.row 8 t) (Mm.chk 8 t) 7 (outS m c t) ((dats m 0 c).before 4 t d)) : sProp 𝕄) ⊢ (dats m 0 c).leavesExact 4 t :=
  Mm.leaves_sample (dats m 0 c) 4 Mm.counts8 t columns (outS m c) (after4 m c) d idle4 (fun t => (cfg0.win 4).fetch_out rfl t) flush0_4 fun _ _ => rfl

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  obtain ⟨h6, h7, e⟩ := body_eq (F := F) t
  unfold pointPre pointPost
  rw [e, after0, after1, after2, show (dats m 0 c).owesAt () t.succ = (dats m 0 c).owesAt () t.castSucc from rfl]
  have h := Mm.body_point (defs₀ (F := F)) c Mm.counts8 t Mm.sumP Mm.sumS (st0_0 t) (st0_1 t) (st0_2 t) (st0_3 t) (st0_4 t)
    (Memref.whole cc0_scratch0) (Memref.whole cc0_scratch1) h6 h7 (blkW m c) (blkA m c) (blkS m c)
    ((dats m 0 c).before 0 t) ((dats m 0 c).before 1 t) ((dats m 0 c).before 2 t) ((dats m 0 c).before 3 t) ((dats m 0 c).before 4 t)
    (before0_0_of m (dats m 0 c) (dats_A m c 0) (after0 m c) t) (before0_1_of m (dats m 0 c) (dats_A m c 1) (after1 m c) t)
    (before0_2_of m (dats m 0 c) (dats_A m c 2) (after2 m c) t) ((dats m 0 c).owesAt () t.castSucc) _ _ (leaves3 m c t) (leaves4 m c t)
  exact h

/-- The body's obligation at every point. -/
theorem point_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point_run m c t) rfl .rfl fun _ => .rfl

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m)
    (hin := fun c => by rw [lent_eq]; exact Mm.inv_in c _ _ _ _) (hout := fun c => by rw [lent_eq]; exact Mm.inv_out c _ _ _ _ _)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.GluProj

end
-- ==== Proof.GluProjValue.lean ====
/-
  The gate projection call's result arrays: every element is its row and column's product sum, over the whole summed axis.
-/
module

public import proofs.«01_k».proof.Proof.GluProjFrame
public import Idealize.ShloMosaic.Lib.Pipeline.ValueKit.Geometry

@[expose] public section

set_option maxRecDepth 16384

noncomputable section

namespace Cert.Proof.GluProj

open Cert.GluProj Cert.GluProj.Gen
open Idealize.ShloMosaic Idealize.ShloMosaic.TcCoe Idealize.ShloMosaic.Pipeline
open Idealize.SL Idealize.SL.Sem
open Finset

variable (m : (ℓ : Loc nD τ sig) → Buf (Elt Ideal) ℓ) (ρ : Dev nD → PrngReg) (c : Dev nD)

/-- The argument arrays: the prompt rows, the sample rows, the layer's weights. -/
abbrev argP (r : Fin 8256) (k : Fin 4096) : EReal := (m ((c.tc : Thread nD τ).loc main_arg0) : FVec Ideal S8256x4096 .bf16) (ix2 r k)
abbrev argS (r : Fin 64) (k : Fin 4096) : EReal := (m ((c.tc : Thread nD τ).loc main_arg1) : FVec Ideal S64x4096 .bf16) (ix2 r k)
abbrev argW (k : Fin 4096) (n : Fin 4096) : EReal := (m ((c.tc : Thread nD τ).loc main_arg2) : FVec Ideal S2x4096x10256 .f32) (ix3 0 k ⟨6160 + n.val, by omega⟩)

/-- Where the windows' blocks lie. -/
theorem index0 : ∀ t : Fin cfg0.N, win0_0.index t = ![t.val / 8 % 4, t.val % 8] := (by decide +kernel : ∀ t : Fin grid0.N, win0_0.index t = ![t.val / 8 % 4, t.val % 8])
theorem index1 : ∀ t : Fin cfg0.N, win0_1.index t = ![0, t.val % 8] := (by decide +kernel : ∀ t : Fin grid0.N, win0_1.index t = ![0, t.val % 8])
theorem index2 : ∀ t : Fin cfg0.N, win0_2.index t = ![0, t.val % 8, t.val / 32] := (by decide +kernel : ∀ t : Fin grid0.N, win0_2.index t = ![0, t.val % 8, t.val / 32])
theorem index3 : ∀ t : Fin cfg0.N, win0_3.index t = ![t.val / 8 % 4, t.val / 32] := (by decide +kernel : ∀ t : Fin grid0.N, win0_3.index t = ![t.val / 8 % 4, t.val / 32])
theorem index4 : ∀ t : Fin cfg0.N, win0_4.index t = ![0, t.val / 32] := (by decide +kernel : ∀ t : Fin grid0.N, win0_4.index t = ![0, t.val / 32])

/-- The host cuts the gate's columns out before the call. -/
theorem sliced : (V m c main_v0 : FVec Ideal S1x4096x4096 .f32)
    = extractStridedSlice S1x4096x4096 ![0, 0, 6160] (m ((c.tc : Thread nD τ).loc main_arg2) : FVec Ideal S2x4096x10256 .f32) slices_S2x4096x10256_S1x4096x4096_0_0_6160 := by
  rfl
theorem sliced_at (k : Fin 4096) (n : Fin 4096) : (V m c main_v0 : FVec Ideal S1x4096x4096 .f32) (ix3 0 k n) = argW m c k n := by
  rw [sliced]
  pointwise []

/-- The blocks at a point. -/
theorem block0 (t : Fin cfg0.N) (r : Fin 2064) (x : Fin 512) (h1 h2) :
    blkA m c t (ix2 r x) = argP m c ⟨2064 * (t.val / 8 % 4) + r.val, h1⟩ ⟨512 * (t.val % 8) + x.val, h2⟩ := by
  unfold blkA
  blk_simp [iblk]
  refine congrArg (m ((c.tc : Thread nD τ).loc main_arg0) : FVec Ideal S8256x4096 .bf16) ?_
  blk_ext [index0]
theorem block1 (t : Fin cfg0.N) (r : Fin 64) (x : Fin 512) (h) :
    blkS m c t (ix2 r x) = argS m c r ⟨512 * (t.val % 8) + x.val, h⟩ := by
  unfold blkS
  blk_simp [iblk]
  refine congrArg (m ((c.tc : Thread nD τ).loc main_arg1) : FVec Ideal S64x4096 .bf16) ?_
  blk_ext [index1]
theorem block2 (t : Fin cfg0.N) (x : Fin 512) (n : Fin 1024) (h1 h2) :
    blkW m c t (ix3 0 x n) = argW m c ⟨512 * (t.val % 8) + x.val, h1⟩ ⟨1024 * (t.val / 32) + n.val, h2⟩ := by
  rw [← sliced_at]
  unfold blkW
  blk_simp [iblk]
  refine congrArg (V m c main_v0 : FVec Ideal S1x4096x4096 .f32) ?_
  blk_ext [index2]

/-- The result arrays. -/
def finalP (y : S8256x4096.Idx) : EReal := (Mm.dotAt (argP m c) (argW m c) (y (0 : Fin 2)).val (y (1 : Fin 2)).val)
def finalS (y : S64x4096.Idx) : EReal := (Mm.dotAt (argS m c) (argW m c) (y (0 : Fin 2)).val (y (1 : Fin 2)).val)

theorem final_prompt : (dats m 0 c).arrAt 3 cfg0.N = finalP m c := by
  refine (dats m 0 c).arrAt_eq_of_covers 3 _ (by decide +kernel) fun t hf y => ?_
  blk_simp
  rw [after3]
  idx_vars y
  refine (Mm.sumP_at _ _ _ y0 y1).trans ((Mm.prompt_total Mm.counts8 (nb := 4) N_0 rfl (by decide) _ (argW m c) (block2 m c) _ (argP m c) (block0 m c)
    t ((flush0_3 t).1 hf) y0 y1)) |>.trans ?_
  unfold finalP
  congr 1
  · show _ = (win0_3.index t) (0 : Fin 2) * 2064 + 1 * y0.val
    rw [index3, one_mul, mul_comm]; rfl
  · show _ = (win0_3.index t) (1 : Fin 2) * 1024 + 1 * y1.val
    rw [index3, one_mul, mul_comm]; rfl

theorem final_sample : (dats m 0 c).arrAt 4 cfg0.N = finalS m c := by
  refine (dats m 0 c).arrAt_eq_of_covers 4 _ (by decide +kernel) fun t hf y => ?_
  blk_simp
  rw [after4]
  idx_vars y
  refine (Mm.sumS_at _ _ _ y0 y1).trans ((Mm.sample_done Mm.counts8 (nb := 4) N_0 rfl (by decide) _ (argW m c) (block2 m c) columns _ (argS m c) (block1 m c)
    t y0 y1)) |>.trans ?_
  unfold finalS
  congr 1
  · show y0.val = (win0_4.index t) (0 : Fin 2) * 64 + 1 * y0.val
    rw [index4]; show y0.val = 0 * 64 + 1 * y0.val; omega
  · show _ = (win0_4.index t) (1 : Fin 2) * 1024 + 1 * y1.val
    rw [index4, one_mul, mul_comm]; rfl

end Cert.Proof.GluProj

end
-- ==== Proof.GluProjClaim.lean ====
/-
  The gate projection call against its reference: both programs end with the same arrays, for any arguments.
-/
module

public import proofs.«01_k».proof.Defs
public import proofs.«01_k».proof.Proof.GluProjValue
public import proofs.«01_k».proof.Proof.Gen.GluProjIdeal
public import proofs.«01_k».proof.Proof.Gen.GluProjReferenceIdeal.Run

@[expose] public section

set_option maxRecDepth 16384

noncomputable section

namespace Cert.Proof.GluProj

open Idealize.ShloMosaic Idealize.ShloMosaic.TcCoe Idealize.ShloMosaic.Pipeline Idealize.SL Idealize.SL.Sem

/-! ## The idealized program is the same text -/

theorem defs₀_eq {F : FTy → Type} [FloatOps F] : Cert.GluProjIdeal.defs₀ (F := F) = Cert.GluProj.defs₀ (F := F) := by
  unfold Cert.GluProjIdeal.defs₀ Cert.GluProj.defs₀
  refine congrArg Defs.onTc (funext fun l => funext fun x => ?_)
  obtain rfl : l = 0 := Subsingleton.elim l 0
  rfl

/-- The two programs' functions are the same. -/
theorem defs_eq {F : FTy → Type} [FloatOps F] : Cert.GluProjIdeal.defs (F := F) = Cert.GluProj.defs (F := F) := congrArg (Pipeline.defs Cert.GluProj.pcfgs) defs₀_eq

/-! ## The reference's result arrays -/

section Reference

open Cert.GluProjReferenceIdeal Cert.GluProjReferenceIdeal.Gen

/-- The reference's result arrays, from its arguments. -/
def refP (p : FVec Ideal S8256x4096 .bf16) (w : FVec Ideal S2x4096x10256 .f32) : FVec Ideal S8256x4096 .f32 :=
  Host.dotGeneral dot_S8256x4096_S4096x4096_S8256x4096_1_0_0_1_n_n none (extf .f32 p bitsLt_bf16_f32) (extractStridedSlice S4096x4096 ![0, 6160] (shapeCast _ (extractStridedSlice S1x4096x10256 ![0, 0, 0] w slices_S2x4096x10256_S1x4096x10256_0_0_0) shapeCasts_S1x4096x10256_S4096x10256) slices_S4096x10256_S4096x4096_0_6160)
def refS (s : FVec Ideal S64x4096 .bf16) (w : FVec Ideal S2x4096x10256 .f32) : FVec Ideal S64x4096 .f32 :=
  Host.dotGeneral dot_S64x4096_S4096x4096_S64x4096_1_0_0_1_n_n none (extf .f32 s bitsLt_bf16_f32) (extractStridedSlice S4096x4096 ![0, 6160] (shapeCast _ (extractStridedSlice S1x4096x10256 ![0, 0, 0] w slices_S2x4096x10256_S1x4096x10256_0_0_0) shapeCasts_S1x4096x10256_S4096x10256) slices_S4096x10256_S4096x4096_0_6160)

/-- Read at a row and a column. -/
theorem refP_at (p : FVec Ideal S8256x4096 .bf16) (w : FVec Ideal S2x4096x10256 .f32) (r : Fin 8256) (n : Fin 4096) :
    (refP p w (ix2 r n) : EReal) = (∑ k : Fin 4096, (p (ix2 r k) : EReal) * (w (ix3 0 k ⟨6160 + n.val, by omega⟩) : EReal)) := by
  pointwise [refP]
theorem refS_at (s : FVec Ideal S64x4096 .bf16) (w : FVec Ideal S2x4096x10256 .f32) (r : Fin 64) (n : Fin 4096) :
    (refS s w (ix2 r n) : EReal) = (∑ k : Fin 4096, (s (ix2 r k) : EReal) * (w (ix3 0 k ⟨6160 + n.val, by omega⟩) : EReal)) := by
  pointwise [refS]

end Reference

/-! ## The claims -/

/-- The run, for the text the claims name. -/
theorem frame_ideal (m : (ℓ : Loc Cert.GluProjIdeal.nD Cert.GluProjIdeal.τ Cert.GluProjIdeal.sig) → Buf (Elt Ideal) ℓ) (g : Dev Cert.GluProjIdeal.nD → PrngReg) :
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
      ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ r.2.sem = fun _ => 0) := by
  rw [defs_eq]
  exact frame (F := Ideal) m g

/-- Every argument array of the kernel's run is left as it was, and every counter is zero. -/
theorem quiescent : Cert.quiescent_GluProj (hGluProj := Cert.GluProj.Gen.facts) := fun m g _ => frame m g
theorem quiescent_ideal : Cert.quiescent_GluProjIdeal (hGluProjIdeal := Cert.GluProjIdeal.Gen.facts) := fun m g _ => frame_ideal m g

/-- The same of the reference's run. -/
theorem quiescent_ref : Cert.quiescent_GluProjReferenceIdeal (hGluProjReferenceIdeal := Cert.GluProjReferenceIdeal.Gen.facts) := fun m g _ =>
  (θ_run _ _ _).mono (fun r h => ⟨fun c => (h c).2.2, sem_eq_zero_of_no_sems rfl r.2⟩) (Cert.GluProjReferenceIdeal.Value.run (F := Ideal) m g)

/-- The kernel and the reference, run from the same arguments, end with the same arrays. -/
theorem algebraic : Cert.algebraic_GluProjIdeal_GluProjReferenceIdeal (hGluProjIdeal := Cert.GluProjIdeal.Gen.facts) (hGluProjReferenceIdeal := Cert.GluProjReferenceIdeal.Gen.facts) := by
  intro m g m' g' _ hargs
  refine ⟨fun c => finalP m c, fun c => finalS m c, ?_, ?_⟩
  · rw [defs_eq]
    refine (θ_run _ _ _).mono (fun r h c => ⟨?_, ?_, h.2.1 c⟩) (θ_run_and (launch_run (F := Ideal) m g) (frame (F := Ideal) m g))
    · exact ((h.1.1 c).1 (3 : Fin 5)).trans (final_prompt m c)
    · exact ((h.1.1 c).1 (4 : Fin 5)).trans (final_sample m c)
  · refine (θ_run _ _ _).mono (fun r h c => ⟨(h c).1.trans ?_, (h c).2.1.trans ?_, (h c).2.2⟩) (Cert.GluProjReferenceIdeal.Value.run (F := Ideal) m' g')
    · obtain ⟨a0, a1, a2⟩ := hargs c
      rw [a0, a2]
      funext y
      idx_vars y
      exact (refP_at _ _ y0 y1).trans ((Mm.sum_eq_dotAt (argP m c) (argW m c) y0 y1))
    · obtain ⟨a0, a1, a2⟩ := hargs c
      rw [a1, a2]
      funext y
      idx_vars y
      exact (refS_at _ _ y0 y1).trans ((Mm.sum_eq_dotAt (argS m c) (argW m c) y0 y1))

end Cert.Proof.GluProj

end
-- ==== Proof.Norm.lean ====
/-
  Root-mean-square normalization of a row of extended reals.
-/
module

public import proofs.«01_k».proof.Proof.MmBase
public import Idealize.ShloMosaic.Lib.Pointwise
public import Idealize.ShloMosaic.Lib.IdealHost
public import Idealize.ShloMosaic.Lib.ValueLayout

@[expose] public section

noncomputable section

namespace Cert.Proof.Norm

open Idealize.ShloMosaic

/-- The row `x` over the root of its mean square (plus the offset), scaled by `g`, at column `j`. The row's length `4096` and
    the offset `1e-6` are kept as the constants the programs hold. -/
def rms (x g : Fin 4096 → EReal) (j : Fin 4096) : EReal :=
  x j * Ideal.rsqrt (Ideal.div (∑ k, x k * x k) (Ideal.ofBits FTy.f32 0x45800000#32) + Ideal.ofBits FTy.f32 0x358637BD#32) * g j

/-- A row with the normalization of another row added to it. -/
def res (x y g : Fin 4096 → EReal) (j : Fin 4096) : EReal := x j + rms y g j

theorem rms_congr {x x' g g' : Fin 4096 → EReal} {j j' : Fin 4096} (hx : x = x') (hg : g = g') (hj : j = j') : rms x g j = rms x' g' j' := by
  subst hx hg hj; rfl

/-- The origin of a rank-two array. -/
theorem zeros2 : (![0, 0] : Fin 2 → ℕ) = fun _ => 0 := by decide

end Cert.Proof.Norm

end
-- ==== Proof.NormP.lean ====
/-
  The normalization of the prompt rows against its reference: both programs end with the same arrays, for any arguments.
-/
module

public import proofs.«01_k».proof.Defs
public import proofs.«01_k».proof.Proof.Norm
public import Idealize.ShloMosaic.Lib.Pipeline.ValueKit.Geometry
public import proofs.«01_k».proof.Proof.Gen.NormP
public import proofs.«01_k».proof.Proof.Gen.NormP.Frame
public import proofs.«01_k».proof.Proof.Gen.NormPIdeal
public import proofs.«01_k».proof.Proof.Gen.NormPIdeal.Value
public import proofs.«01_k».proof.Proof.Gen.NormPReferenceIdeal.Run

@[expose] public section

set_option maxRecDepth 16384

noncomputable section

namespace Cert.Proof.NormP

open Idealize.ShloMosaic Idealize.ShloMosaic.TcCoe Idealize.ShloMosaic.Pipeline
open Idealize.SL Idealize.SL.Sem

section Kernel

open Cert.NormPIdeal Cert.NormPIdeal.Gen

variable (m : (ℓ : Loc nD τ sig) → Buf (Elt Ideal) ℓ) (c : Dev nD)

/-- The argument arrays: the rows and the scales. -/
abbrev argX (r : Fin 8256) (k : Fin 4096) : EReal := (m ((c.tc : Thread nD τ).loc main_arg0) : FVec Ideal S8256x4096 .f32) (ix2 r k)
abbrev argG (k : Fin 4096) : EReal := (m ((c.tc : Thread nD τ).loc main_arg1) : FVec Ideal S4096 .f32) (ix1 k)

/-- A scale as the call reads it. -/
theorem reshapedG (k : Fin 4096) : (V m c main_v0 : FVec Ideal S1x4096 .f32) (ix2 0 k) = argG m c k := by
  have h : (V m c main_v0 : FVec Ideal S1x4096 .f32) = shapeCast S1x4096 (m ((c.tc : Thread nD τ).loc main_arg1) : FVec Ideal S4096 .f32) shapeCasts_S4096_S1x4096 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The row of the arrays that a point's block has at `r`. -/
def row (t : Fin cfg0.N) (r : Fin 192) : Fin 8256 := ⟨192 * t.val + r.val, by have : t.val < 43 := t.isLt.trans_eq N_0; omega⟩

/-- The blocks at a point. -/
theorem block0 (t : Fin cfg0.N) (r : Fin 192) : (fun k => (iblk m c 0 t : FVec Ideal S192x4096 .f32) (ix2 r k)) = argX m c (row t r) := by
  funext k
  unfold row
  blk_simp [iblk]
  refine congrArg (m ((c.tc : Thread nD τ).loc main_arg0) : FVec Ideal S8256x4096 .f32) ?_
  blk_ext [index0]
theorem block1 (t : Fin cfg0.N) : (fun k => (iblk m c 1 t : FVec Ideal S1x4096 .f32) (ix2 0 k)) = argG m c := by
  funext k
  refine Eq.trans ?_ (reshapedG m c k)
  blk_simp [iblk]
  refine congrArg (V m c main_v0 : FVec Ideal S1x4096 .f32) ?_
  blk_ext [index1]

/-- Where the result's block lies. -/
theorem emb2 (t : Fin cfg0.N) (r : Fin 192) (j : Fin 4096) : ((View.whole main_v1).slice (win0_2.rect t)).emb (ix2 r j) = ix2 (row t r) j := by
  unfold row
  blk_ext [index2]

/-- What the body stores, at a row and a column. -/
theorem out2_at (x : FVec Ideal S192x4096 .f32) (g : FVec Ideal S1x4096 .f32) (r : Fin 192) (j : Fin 4096) :
    (out0_2 (F := Ideal) x g (ix2 r j) : EReal) = Norm.rms (fun k => x (ix2 r k)) (fun k => g (ix2 0 k)) j := by
  unfold out0_2
  rw [View.canon_unit_zero Norm.zeros2, View.ld_unit_zero Norm.zeros2, View.ld_unit_zero Norm.zeros2]
  pointwise [k0_pay1, Norm.rms]

/-- The result arrays. -/
def final2 (y : S8256x4096.Idx) : EReal := Norm.rms (argX m c (y (0 : Fin 2))) (argG m c) (y (1 : Fin 2))

theorem final2_eq : (dats m 0 c).arrAt 2 cfg0.N = final2 m c := by
  refine (dats m 0 c).arrAt_eq_of_covers 2 _ (by decide +kernel) fun t hf y => ?_
  blk_simp
  rw [after0_2]
  idx_vars y
  rw [out2_at, emb2, block0 m c t y0, block1 m c t]
  rfl

end Kernel

section Reference

open Cert.NormPReferenceIdeal Cert.NormPReferenceIdeal.Gen

/-- The reference's result arrays, from its arguments. -/
def ref (x : FVec Ideal S8256x4096 .f32) (g : FVec Ideal S4096 .f32) : FVec Ideal S8256x4096 .bf16 :=
  truncf .bf16 (mulf (mulf x (broadcastInDim S8256x4096 ![0, 1] bcast_S8256x1_S8256x4096_0_1 (Host.rsqrt (addf (Host.divf (broadcastInDim S8256x1 ![0] bcast_S8256_S8256x1_0 (Host.reduceAdd (mulf x x) (constant S_ .f32 0x00000000#32) reducesTo_S8256x4096_S8256_d1 h_S_)) (broadcastInDim S8256x1 ![] bcast_S_S8256x1 (constant S_ .f32 0x45800000#32))) (broadcastInDim S8256x1 ![] bcast_S_S8256x1 (constant S_ .f32 0x358637BD#32)))))) (broadcastInDim S8256x4096 ![0, 1] bcast_S1x4096_S8256x4096_0_1 (broadcastInDim S1x4096 ![1] bcast_S4096_S1x4096_1 g))) bitsLt_bf16_f32

/-- Read at a row and a column. -/
theorem ref_at (x : FVec Ideal S8256x4096 .f32) (g : FVec Ideal S4096 .f32) (r : Fin 8256) (j : Fin 4096) : (ref x g (ix2 r j) : EReal) = Norm.rms (fun k => x (ix2 r k)) (fun k => g (ix1 k)) j := by
  pointwise [ref, Norm.rms]

end Reference

/-- Every argument array is left as it was, and every counter is zero: of the kernel's two runs and of the reference's. -/
theorem quiescent : Cert.quiescent_NormP (hNormP := Cert.NormP.Gen.facts) := fun m g _ => Cert.NormP.Gen.frame m g
theorem quiescent_ideal : Cert.quiescent_NormPIdeal (hNormPIdeal := Cert.NormPIdeal.Gen.facts) := fun m g _ => Cert.NormPIdeal.Gen.frame m g
theorem quiescent_ref : Cert.quiescent_NormPReferenceIdeal (hNormPReferenceIdeal := Cert.NormPReferenceIdeal.Gen.facts) := fun m g _ =>
  (θ_run _ _ _).mono (fun r h => ⟨fun c => (h c).2, sem_eq_zero_of_no_sems rfl r.2⟩) (Cert.NormPReferenceIdeal.Value.run (F := Ideal) m g)

/-- The kernel and the reference, run from the same arguments, end with the same arrays. -/
theorem algebraic : Cert.algebraic_NormPIdeal_NormPReferenceIdeal (hNormPIdeal := Cert.NormPIdeal.Gen.facts) (hNormPReferenceIdeal := Cert.NormPReferenceIdeal.Gen.facts) := by
  intro m g m' g' _ hargs
  refine ⟨fun c => final2 m c, ?_, ?_⟩
  · exact (θ_run _ _ _).mono (fun r h c => ⟨(h c).1.trans (final2_eq m c), (h c).2⟩) (Cert.NormPIdeal.Value.run_blocks (F := Ideal) m g)
  · refine (θ_run _ _ _).mono (fun r h c => ⟨(h c).1.trans ?_, (h c).2⟩) (Cert.NormPReferenceIdeal.Value.run (F := Ideal) m' g')
    obtain ⟨a0, a1⟩ := hargs c
    rw [a0, a1]
    funext y
    idx_vars y
    exact ref_at _ _ y0 y1

end Cert.Proof.NormP

end
-- ==== Proof.NormS.lean ====
/-
  The normalization of the sample rows against its reference: both programs end with the same arrays, for any arguments.
-/
module

public import proofs.«01_k».proof.Defs
public import proofs.«01_k».proof.Proof.Norm
public import Idealize.ShloMosaic.Lib.Pipeline.ValueKit.Geometry
public import proofs.«01_k».proof.Proof.Gen.NormS
public import proofs.«01_k».proof.Proof.Gen.NormS.Frame
public import proofs.«01_k».proof.Proof.Gen.NormSIdeal
public import proofs.«01_k».proof.Proof.Gen.NormSIdeal.Value
public import proofs.«01_k».proof.Proof.Gen.NormSReferenceIdeal.Run

@[expose] public section

set_option maxRecDepth 16384

noncomputable section

namespace Cert.Proof.NormS

open Idealize.ShloMosaic Idealize.ShloMosaic.TcCoe Idealize.ShloMosaic.Pipeline
open Idealize.SL Idealize.SL.Sem

section Kernel

open Cert.NormSIdeal Cert.NormSIdeal.Gen

variable (m : (ℓ : Loc nD τ sig) → Buf (Elt Ideal) ℓ) (c : Dev nD)

/-- The argument arrays: the rows and the scales. -/
abbrev argX (r : Fin 64) (k : Fin 4096) : EReal := (m ((c.tc : Thread nD τ).loc main_arg0) : FVec Ideal S64x4096 .f32) (ix2 r k)
abbrev argG (k : Fin 4096) : EReal := (m ((c.tc : Thread nD τ).loc main_arg1) : FVec Ideal S4096 .f32) (ix1 k)

/-- A scale as the call reads it. -/
theorem reshapedG (k : Fin 4096) : (V m c main_v0 : FVec Ideal S1x4096 .f32) (ix2 0 k) = argG m c k := by
  have h : (V m c main_v0 : FVec Ideal S1x4096 .f32) = shapeCast S1x4096 (m ((c.tc : Thread nD τ).loc main_arg1) : FVec Ideal S4096 .f32) shapeCasts_S4096_S1x4096 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The row of the arrays that a point's block has at `r`. -/
def row (t : Fin cfg0.N) (r : Fin 64) : Fin 64 := ⟨64 * t.val + r.val, by have : t.val < 1 := t.isLt.trans_eq N_0; omega⟩

/-- The blocks at a point. -/
theorem block0 (t : Fin cfg0.N) (r : Fin 64) : (fun k => (iblk m c 0 t : FVec Ideal S64x4096 .f32) (ix2 r k)) = argX m c (row t r) := by
  funext k
  unfold row
  blk_simp [iblk]
  refine congrArg (m ((c.tc : Thread nD τ).loc main_arg0) : FVec Ideal S64x4096 .f32) ?_
  blk_ext [index0]
theorem block1 (t : Fin cfg0.N) : (fun k => (iblk m c 1 t : FVec Ideal S1x4096 .f32) (ix2 0 k)) = argG m c := by
  funext k
  refine Eq.trans ?_ (reshapedG m c k)
  blk_simp [iblk]
  refine congrArg (V m c main_v0 : FVec Ideal S1x4096 .f32) ?_
  blk_ext [index1]

/-- Where the result's block lies. -/
theorem emb2 (t : Fin cfg0.N) (r : Fin 64) (j : Fin 4096) : ((View.whole main_v1).slice (win0_2.rect t)).emb (ix2 r j) = ix2 (row t r) j := by
  unfold row
  blk_ext [index2]

/-- What the body stores, at a row and a column. -/
theorem out2_at (x : FVec Ideal S64x4096 .f32) (g : FVec Ideal S1x4096 .f32) (r : Fin 64) (j : Fin 4096) :
    (out0_2 (F := Ideal) x g (ix2 r j) : EReal) = Norm.rms (fun k => x (ix2 r k)) (fun k => g (ix2 0 k)) j := by
  unfold out0_2
  rw [View.canon_unit_zero Norm.zeros2, View.ld_unit_zero Norm.zeros2, View.ld_unit_zero Norm.zeros2]
  pointwise [k0_pay1, Norm.rms]

/-- The result arrays. -/
def final2 (y : S64x4096.Idx) : EReal := Norm.rms (argX m c (y (0 : Fin 2))) (argG m c) (y (1 : Fin 2))

theorem final2_eq : (dats m 0 c).arrAt 2 cfg0.N = final2 m c := by
  refine (dats m 0 c).arrAt_eq_of_covers 2 _ (by decide +kernel) fun t hf y => ?_
  blk_simp
  rw [after0_2]
  idx_vars y
  rw [out2_at, emb2, block0 m c t y0, block1 m c t]
  rfl

end Kernel

section Reference

open Cert.NormSReferenceIdeal Cert.NormSReferenceIdeal.Gen

/-- The reference's result arrays, from its arguments. -/
def ref (x : FVec Ideal S64x4096 .f32) (g : FVec Ideal S4096 .f32) : FVec Ideal S64x4096 .bf16 :=
  truncf .bf16 (mulf (mulf x (broadcastInDim S64x4096 ![0, 1] bcast_S64x1_S64x4096_0_1 (Host.rsqrt (addf (Host.divf (broadcastInDim S64x1 ![0] bcast_S64_S64x1_0 (Host.reduceAdd (mulf x x) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x358637BD#32)))))) (broadcastInDim S64x4096 ![0, 1] bcast_S1x4096_S64x4096_0_1 (broadcastInDim S1x4096 ![1] bcast_S4096_S1x4096_1 g))) bitsLt_bf16_f32

/-- Read at a row and a column. -/
theorem ref_at (x : FVec Ideal S64x4096 .f32) (g : FVec Ideal S4096 .f32) (r : Fin 64) (j : Fin 4096) : (ref x g (ix2 r j) : EReal) = Norm.rms (fun k => x (ix2 r k)) (fun k => g (ix1 k)) j := by
  pointwise [ref, Norm.rms]

end Reference

/-- Every argument array is left as it was, and every counter is zero: of the kernel's two runs and of the reference's. -/
theorem quiescent : Cert.quiescent_NormS (hNormS := Cert.NormS.Gen.facts) := fun m g _ => Cert.NormS.Gen.frame m g
theorem quiescent_ideal : Cert.quiescent_NormSIdeal (hNormSIdeal := Cert.NormSIdeal.Gen.facts) := fun m g _ => Cert.NormSIdeal.Gen.frame m g
theorem quiescent_ref : Cert.quiescent_NormSReferenceIdeal (hNormSReferenceIdeal := Cert.NormSReferenceIdeal.Gen.facts) := fun m g _ =>
  (θ_run _ _ _).mono (fun r h => ⟨fun c => (h c).2, sem_eq_zero_of_no_sems rfl r.2⟩) (Cert.NormSReferenceIdeal.Value.run (F := Ideal) m g)

/-- The kernel and the reference, run from the same arguments, end with the same arrays. -/
theorem algebraic : Cert.algebraic_NormSIdeal_NormSReferenceIdeal (hNormSIdeal := Cert.NormSIdeal.Gen.facts) (hNormSReferenceIdeal := Cert.NormSReferenceIdeal.Gen.facts) := by
  intro m g m' g' _ hargs
  refine ⟨fun c => final2 m c, ?_, ?_⟩
  · exact (θ_run _ _ _).mono (fun r h c => ⟨(h c).1.trans (final2_eq m c), (h c).2⟩) (Cert.NormSIdeal.Value.run_blocks (F := Ideal) m g)
  · refine (θ_run _ _ _).mono (fun r h c => ⟨(h c).1.trans ?_, (h c).2⟩) (Cert.NormSReferenceIdeal.Value.run (F := Ideal) m' g')
    obtain ⟨a0, a1⟩ := hargs c
    rw [a0, a1]
    funext y
    idx_vars y
    exact ref_at _ _ y0 y1

end Cert.Proof.NormS

end
-- ==== Proof.ResnormP.lean ====
/-
  The sum of the prompt rows and another array's rows normalized, and the sum normalized in turn, against its reference: both programs end with the same arrays, for any arguments.
-/
module

public import proofs.«01_k».proof.Defs
public import proofs.«01_k».proof.Proof.Norm
public import Idealize.ShloMosaic.Lib.Pipeline.ValueKit.Geometry
public import proofs.«01_k».proof.Proof.Gen.ResnormP
public import proofs.«01_k».proof.Proof.Gen.ResnormP.Frame
public import proofs.«01_k».proof.Proof.Gen.ResnormPIdeal
public import proofs.«01_k».proof.Proof.Gen.ResnormPIdeal.Value
public import proofs.«01_k».proof.Proof.Gen.ResnormPReferenceIdeal.Run

@[expose] public section

set_option maxRecDepth 16384

noncomputable section

namespace Cert.Proof.ResnormP

open Idealize.ShloMosaic Idealize.ShloMosaic.TcCoe Idealize.ShloMosaic.Pipeline
open Idealize.SL Idealize.SL.Sem

section Kernel

open Cert.ResnormPIdeal Cert.ResnormPIdeal.Gen

variable (m : (ℓ : Loc nD τ sig) → Buf (Elt Ideal) ℓ) (c : Dev nD)

/-- The argument arrays: the rows and the scales. -/
abbrev argX (r : Fin 8256) (k : Fin 4096) : EReal := (m ((c.tc : Thread nD τ).loc main_arg0) : FVec Ideal S8256x4096 .f32) (ix2 r k)
abbrev argY (r : Fin 8256) (k : Fin 4096) : EReal := (m ((c.tc : Thread nD τ).loc main_arg1) : FVec Ideal S8256x4096 .f32) (ix2 r k)
abbrev argG (k : Fin 4096) : EReal := (m ((c.tc : Thread nD τ).loc main_arg2) : FVec Ideal S4096 .f32) (ix1 k)
abbrev argH (k : Fin 4096) : EReal := (m ((c.tc : Thread nD τ).loc main_arg3) : FVec Ideal S4096 .f32) (ix1 k)

/-- A scale as the call reads it. -/
theorem reshapedG (k : Fin 4096) : (V m c main_v0 : FVec Ideal S1x4096 .f32) (ix2 0 k) = argG m c k := by
  have h : (V m c main_v0 : FVec Ideal S1x4096 .f32) = shapeCast S1x4096 (m ((c.tc : Thread nD τ).loc main_arg2) : FVec Ideal S4096 .f32) shapeCasts_S4096_S1x4096 := by rfl
  rw [h]
  exact ValueIdx.shapeCast_a_1a_apply _ _ _ _
theorem reshapedH (k : Fin 4096) : (V m c main_v1 : FVec Ideal S1x4096 .f32) (ix2 0 k) = argH m c k := by
  have h : (V m c main_v1 : FVec Ideal S1x4096 .f32) = shapeCast S1x4096 (m ((c.tc : Thread nD τ).loc main_arg3) : FVec Ideal S4096 .f32) shapeCasts_S4096_S1x4096 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])

/-- The row of the arrays that a point's block has at `r`. -/
def row (t : Fin cfg0.N) (r : Fin 192) : Fin 8256 := ⟨192 * t.val + r.val, by have : t.val < 43 := t.isLt.trans_eq N_0; omega⟩

/-- The blocks at a point. -/
theorem block0 (t : Fin cfg0.N) (r : Fin 192) : (fun k => (iblk m c 0 t : FVec Ideal S192x4096 .f32) (ix2 r k)) = argX m c (row t r) := by
  funext k
  unfold row
  blk_simp [iblk]
  refine congrArg (m ((c.tc : Thread nD τ).loc main_arg0) : FVec Ideal S8256x4096 .f32) ?_
  blk_ext [index0]
theorem block1 (t : Fin cfg0.N) (r : Fin 192) : (fun k => (iblk m c 1 t : FVec Ideal S192x4096 .f32) (ix2 r k)) = argY m c (row t r) := by
  funext k
  unfold row
  blk_simp [iblk]
  refine congrArg (m ((c.tc : Thread nD τ).loc main_arg1) : FVec Ideal S8256x4096 .f32) ?_
  blk_ext [index1]
theorem block2 (t : Fin cfg0.N) : (fun k => (iblk m c 2 t : FVec Ideal S1x4096 .f32) (ix2 0 k)) = argG m c := by
  funext k
  refine Eq.trans ?_ (reshapedG m c k)
  blk_simp [iblk]
  refine congrArg (V m c main_v0 : FVec Ideal S1x4096 .f32) ?_
  blk_ext [index2]
theorem block3 (t : Fin cfg0.N) : (fun k => (iblk m c 3 t : FVec Ideal S1x4096 .f32) (ix2 0 k)) = argH m c := by
  funext k
  refine Eq.trans ?_ (reshapedH m c k)
  blk_simp [iblk]
  refine congrArg (V m c main_v1 : FVec Ideal S1x4096 .f32) ?_
  blk_ext [index3]

/-- Where the result's block lies. -/
theorem emb4 (t : Fin cfg0.N) (r : Fin 192) (j : Fin 4096) : ((View.whole main_v2_0).slice (win0_4.rect t)).emb (ix2 r j) = ix2 (row t r) j := by
  unfold row
  blk_ext [index4]
/-- Where the result's block lies. -/
theorem emb5 (t : Fin cfg0.N) (r : Fin 192) (j : Fin 4096) : ((View.whole main_v2_1).slice (win0_5.rect t)).emb (ix2 r j) = ix2 (row t r) j := by
  unfold row
  blk_ext [index5]

/-- What the body stores, at a row and a column. -/
theorem out4_at (x : FVec Ideal S192x4096 .f32) (y : FVec Ideal S192x4096 .f32) (g : FVec Ideal S1x4096 .f32) (h : FVec Ideal S1x4096 .f32) (r : Fin 192) (j : Fin 4096) :
    (out0_4 (F := Ideal) x y g h (ix2 r j) : EReal) = Norm.res (fun k => x (ix2 r k)) (fun k => y (ix2 r k)) (fun k => g (ix2 0 k)) j := by
  unfold out0_4
  rw [View.canon_unit_zero Norm.zeros2, View.ld_unit_zero Norm.zeros2, View.ld_unit_zero Norm.zeros2, View.ld_unit_zero Norm.zeros2]
  pointwise [k0_pay1, Norm.res, Norm.rms]
theorem out5_at (x : FVec Ideal S192x4096 .f32) (y : FVec Ideal S192x4096 .f32) (g : FVec Ideal S1x4096 .f32) (h : FVec Ideal S1x4096 .f32) (r : Fin 192) (j : Fin 4096) :
    (out0_5 (F := Ideal) x y g h (ix2 r j) : EReal) = Norm.rms (Norm.res (fun k => x (ix2 r k)) (fun k => y (ix2 r k)) (fun k => g (ix2 0 k))) (fun k => h (ix2 0 k)) j := by
  unfold out0_5
  rw [View.canon_unit_zero Norm.zeros2, View.ld_unit_zero Norm.zeros2, View.ld_unit_zero Norm.zeros2, View.ld_unit_zero Norm.zeros2, View.ld_unit_zero Norm.zeros2]
  pointwise [k0_pay2, k0_pay1, Norm.res, Norm.rms]

/-- The result arrays. -/
def final4 (y : S8256x4096.Idx) : EReal := Norm.res (argX m c (y (0 : Fin 2))) (argY m c (y (0 : Fin 2))) (argG m c) (y (1 : Fin 2))
def final5 (y : S8256x4096.Idx) : EReal := Norm.rms (Norm.res (argX m c (y (0 : Fin 2))) (argY m c (y (0 : Fin 2))) (argG m c)) (argH m c) (y (1 : Fin 2))

theorem final4_eq : (dats m 0 c).arrAt 4 cfg0.N = final4 m c := by
  refine (dats m 0 c).arrAt_eq_of_covers 4 _ (by decide +kernel) fun t hf y => ?_
  blk_simp
  rw [after0_4]
  idx_vars y
  rw [out4_at, emb4, block0 m c t y0, block1 m c t y0, block2 m c t]
  rfl
theorem final5_eq : (dats m 0 c).arrAt 5 cfg0.N = final5 m c := by
  refine (dats m 0 c).arrAt_eq_of_covers 5 _ (by decide +kernel) fun t hf y => ?_
  blk_simp
  rw [after0_5]
  idx_vars y
  rw [out5_at, emb5, block0 m c t y0, block1 m c t y0, block2 m c t, block3 m c t]
  rfl

end Kernel

section Reference

open Cert.ResnormPReferenceIdeal Cert.ResnormPReferenceIdeal.Gen

/-- The reference's result arrays, from its arguments. -/
def refSum (x : FVec Ideal S8256x4096 .f32) (y : FVec Ideal S8256x4096 .f32) (g : FVec Ideal S4096 .f32) : FVec Ideal S8256x4096 .f32 :=
  addf x (mulf (mulf y (broadcastInDim S8256x4096 ![0, 1] bcast_S8256x1_S8256x4096_0_1 (Host.rsqrt (addf (Host.divf (broadcastInDim S8256x1 ![0] bcast_S8256_S8256x1_0 (Host.reduceAdd (mulf y y) (constant S_ .f32 0x00000000#32) reducesTo_S8256x4096_S8256_d1 h_S_)) (broadcastInDim S8256x1 ![] bcast_S_S8256x1 (constant S_ .f32 0x45800000#32))) (broadcastInDim S8256x1 ![] bcast_S_S8256x1 (constant S_ .f32 0x358637BD#32)))))) (broadcastInDim S8256x4096 ![0, 1] bcast_S1x4096_S8256x4096_0_1 (broadcastInDim S1x4096 ![1] bcast_S4096_S1x4096_1 g)))
def refNorm (x : FVec Ideal S8256x4096 .f32) (y : FVec Ideal S8256x4096 .f32) (g : FVec Ideal S4096 .f32) (h : FVec Ideal S4096 .f32) : FVec Ideal S8256x4096 .bf16 :=
  truncf .bf16 (mulf (mulf (refSum x y g) (broadcastInDim S8256x4096 ![0, 1] bcast_S8256x1_S8256x4096_0_1 (Host.rsqrt (addf (Host.divf (broadcastInDim S8256x1 ![0] bcast_S8256_S8256x1_0 (Host.reduceAdd (mulf (refSum x y g) (refSum x y g)) (constant S_ .f32 0x00000000#32) reducesTo_S8256x4096_S8256_d1 h_S_)) (broadcastInDim S8256x1 ![] bcast_S_S8256x1 (constant S_ .f32 0x45800000#32))) (broadcastInDim S8256x1 ![] bcast_S_S8256x1 (constant S_ .f32 0x358637BD#32)))))) (broadcastInDim S8256x4096 ![0, 1] bcast_S1x4096_S8256x4096_0_1 (broadcastInDim S1x4096 ![1] bcast_S4096_S1x4096_1 h))) bitsLt_bf16_f32

/-- Read at a row and a column. -/
theorem refSum_at (x : FVec Ideal S8256x4096 .f32) (y : FVec Ideal S8256x4096 .f32) (g : FVec Ideal S4096 .f32) (r : Fin 8256) (j : Fin 4096) : (refSum x y g (ix2 r j) : EReal) = Norm.res (fun k => x (ix2 r k)) (fun k => y (ix2 r k)) (fun k => g (ix1 k)) j := by
  pointwise [refSum, Norm.res, Norm.rms]
theorem refNorm_at (x : FVec Ideal S8256x4096 .f32) (y : FVec Ideal S8256x4096 .f32) (g : FVec Ideal S4096 .f32) (h : FVec Ideal S4096 .f32) (r : Fin 8256) (j : Fin 4096) : (refNorm x y g h (ix2 r j) : EReal) = Norm.rms (Norm.res (fun k => x (ix2 r k)) (fun k => y (ix2 r k)) (fun k => g (ix1 k))) (fun k => h (ix1 k)) j := by
  pointwise [refNorm, refSum, Norm.res, Norm.rms]

end Reference

/-- Every argument array is left as it was, and every counter is zero: of the kernel's two runs and of the reference's. -/
theorem quiescent : Cert.quiescent_ResnormP (hResnormP := Cert.ResnormP.Gen.facts) := fun m g _ => Cert.ResnormP.Gen.frame m g
theorem quiescent_ideal : Cert.quiescent_ResnormPIdeal (hResnormPIdeal := Cert.ResnormPIdeal.Gen.facts) := fun m g _ => Cert.ResnormPIdeal.Gen.frame m g
theorem quiescent_ref : Cert.quiescent_ResnormPReferenceIdeal (hResnormPReferenceIdeal := Cert.ResnormPReferenceIdeal.Gen.facts) := fun m g _ =>
  (θ_run _ _ _).mono (fun r h => ⟨fun c => (h c).2.2, sem_eq_zero_of_no_sems rfl r.2⟩) (Cert.ResnormPReferenceIdeal.Value.run (F := Ideal) m g)

/-- The kernel and the reference, run from the same arguments, end with the same arrays. -/
theorem algebraic : Cert.algebraic_ResnormPIdeal_ResnormPReferenceIdeal (hResnormPIdeal := Cert.ResnormPIdeal.Gen.facts) (hResnormPReferenceIdeal := Cert.ResnormPReferenceIdeal.Gen.facts) := by
  intro m g m' g' _ hargs
  refine ⟨fun c => final4 m c, fun c => final5 m c, ?_, ?_⟩
  · exact (θ_run _ _ _).mono (fun r h c => ⟨(h c).1.trans (final4_eq m c), (h c).2.1.trans (final5_eq m c), (h c).2.2⟩) (Cert.ResnormPIdeal.Value.run_blocks (F := Ideal) m g)
  · refine (θ_run _ _ _).mono (fun r h c => ⟨(h c).1.trans ?_, (h c).2.1.trans ?_, (h c).2.2⟩) (Cert.ResnormPReferenceIdeal.Value.run (F := Ideal) m' g')
    · obtain ⟨a0, a1, a2, a3⟩ := hargs c
      rw [a0, a1, a2]
      funext y
      idx_vars y
      exact refSum_at _ _ _ y0 y1
    · obtain ⟨a0, a1, a2, a3⟩ := hargs c
      rw [a0, a1, a2, a3]
      funext y
      idx_vars y
      exact refNorm_at _ _ _ _ y0 y1

end Cert.Proof.ResnormP

end
-- ==== Proof.ResnormS.lean ====
/-
  The sum of the sample rows and another array's rows normalized, and the sum normalized in turn, against its reference: both programs end with the same arrays, for any arguments.
-/
module

public import proofs.«01_k».proof.Defs
public import proofs.«01_k».proof.Proof.Norm
public import Idealize.ShloMosaic.Lib.Pipeline.ValueKit.Geometry
public import proofs.«01_k».proof.Proof.Gen.ResnormS
public import proofs.«01_k».proof.Proof.Gen.ResnormS.Frame
public import proofs.«01_k».proof.Proof.Gen.ResnormSIdeal
public import proofs.«01_k».proof.Proof.Gen.ResnormSIdeal.Value
public import proofs.«01_k».proof.Proof.Gen.ResnormSReferenceIdeal.Run

@[expose] public section

set_option maxRecDepth 16384

noncomputable section

namespace Cert.Proof.ResnormS

open Idealize.ShloMosaic Idealize.ShloMosaic.TcCoe Idealize.ShloMosaic.Pipeline
open Idealize.SL Idealize.SL.Sem

section Kernel

open Cert.ResnormSIdeal Cert.ResnormSIdeal.Gen

variable (m : (ℓ : Loc nD τ sig) → Buf (Elt Ideal) ℓ) (c : Dev nD)

/-- The argument arrays: the rows and the scales. -/
abbrev argX (r : Fin 64) (k : Fin 4096) : EReal := (m ((c.tc : Thread nD τ).loc main_arg0) : FVec Ideal S64x4096 .f32) (ix2 r k)
abbrev argY (r : Fin 64) (k : Fin 4096) : EReal := (m ((c.tc : Thread nD τ).loc main_arg1) : FVec Ideal S64x4096 .f32) (ix2 r k)
abbrev argG (k : Fin 4096) : EReal := (m ((c.tc : Thread nD τ).loc main_arg2) : FVec Ideal S4096 .f32) (ix1 k)
abbrev argH (k : Fin 4096) : EReal := (m ((c.tc : Thread nD τ).loc main_arg3) : FVec Ideal S4096 .f32) (ix1 k)

/-- A scale as the call reads it. -/
theorem reshapedG (k : Fin 4096) : (V m c main_v0 : FVec Ideal S1x4096 .f32) (ix2 0 k) = argG m c k := by
  have h : (V m c main_v0 : FVec Ideal S1x4096 .f32) = shapeCast S1x4096 (m ((c.tc : Thread nD τ).loc main_arg2) : FVec Ideal S4096 .f32) shapeCasts_S4096_S1x4096 := by rfl
  rw [h]
  exact ValueIdx.shapeCast_a_1a_apply _ _ _ _
theorem reshapedH (k : Fin 4096) : (V m c main_v1 : FVec Ideal S1x4096 .f32) (ix2 0 k) = argH m c k := by
  have h : (V m c main_v1 : FVec Ideal S1x4096 .f32) = shapeCast S1x4096 (m ((c.tc : Thread nD τ).loc main_arg3) : FVec Ideal S4096 .f32) shapeCasts_S4096_S1x4096 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])

/-- The row of the arrays that a point's block has at `r`. -/
def row (t : Fin cfg0.N) (r : Fin 64) : Fin 64 := ⟨64 * t.val + r.val, by have : t.val < 1 := t.isLt.trans_eq N_0; omega⟩

/-- The blocks at a point. -/
theorem block0 (t : Fin cfg0.N) (r : Fin 64) : (fun k => (iblk m c 0 t : FVec Ideal S64x4096 .f32) (ix2 r k)) = argX m c (row t r) := by
  funext k
  unfold row
  blk_simp [iblk]
  refine congrArg (m ((c.tc : Thread nD τ).loc main_arg0) : FVec Ideal S64x4096 .f32) ?_
  blk_ext [index0]
theorem block1 (t : Fin cfg0.N) (r : Fin 64) : (fun k => (iblk m c 1 t : FVec Ideal S64x4096 .f32) (ix2 r k)) = argY m c (row t r) := by
  funext k
  unfold row
  blk_simp [iblk]
  refine congrArg (m ((c.tc : Thread nD τ).loc main_arg1) : FVec Ideal S64x4096 .f32) ?_
  blk_ext [index1]
theorem block2 (t : Fin cfg0.N) : (fun k => (iblk m c 2 t : FVec Ideal S1x4096 .f32) (ix2 0 k)) = argG m c := by
  funext k
  refine Eq.trans ?_ (reshapedG m c k)
  blk_simp [iblk]
  refine congrArg (V m c main_v0 : FVec Ideal S1x4096 .f32) ?_
  blk_ext [index2]
theorem block3 (t : Fin cfg0.N) : (fun k => (iblk m c 3 t : FVec Ideal S1x4096 .f32) (ix2 0 k)) = argH m c := by
  funext k
  refine Eq.trans ?_ (reshapedH m c k)
  blk_simp [iblk]
  refine congrArg (V m c main_v1 : FVec Ideal S1x4096 .f32) ?_
  blk_ext [index3]

/-- Where the result's block lies. -/
theorem emb4 (t : Fin cfg0.N) (r : Fin 64) (j : Fin 4096) : ((View.whole main_v2_0).slice (win0_4.rect t)).emb (ix2 r j) = ix2 (row t r) j := by
  unfold row
  blk_ext [index4]
/-- Where the result's block lies. -/
theorem emb5 (t : Fin cfg0.N) (r : Fin 64) (j : Fin 4096) : ((View.whole main_v2_1).slice (win0_5.rect t)).emb (ix2 r j) = ix2 (row t r) j := by
  unfold row
  blk_ext [index5]

/-- What the body stores, at a row and a column. -/
theorem out4_at (x : FVec Ideal S64x4096 .f32) (y : FVec Ideal S64x4096 .f32) (g : FVec Ideal S1x4096 .f32) (h : FVec Ideal S1x4096 .f32) (r : Fin 64) (j : Fin 4096) :
    (out0_4 (F := Ideal) x y g h (ix2 r j) : EReal) = Norm.res (fun k => x (ix2 r k)) (fun k => y (ix2 r k)) (fun k => g (ix2 0 k)) j := by
  unfold out0_4
  rw [View.canon_unit_zero Norm.zeros2, View.ld_unit_zero Norm.zeros2, View.ld_unit_zero Norm.zeros2, View.ld_unit_zero Norm.zeros2]
  pointwise [k0_pay1, Norm.res, Norm.rms]
theorem out5_at (x : FVec Ideal S64x4096 .f32) (y : FVec Ideal S64x4096 .f32) (g : FVec Ideal S1x4096 .f32) (h : FVec Ideal S1x4096 .f32) (r : Fin 64) (j : Fin 4096) :
    (out0_5 (F := Ideal) x y g h (ix2 r j) : EReal) = Norm.rms (Norm.res (fun k => x (ix2 r k)) (fun k => y (ix2 r k)) (fun k => g (ix2 0 k))) (fun k => h (ix2 0 k)) j := by
  unfold out0_5
  rw [View.canon_unit_zero Norm.zeros2, View.ld_unit_zero Norm.zeros2, View.ld_unit_zero Norm.zeros2, View.ld_unit_zero Norm.zeros2, View.ld_unit_zero Norm.zeros2]
  pointwise [k0_pay2, k0_pay1, Norm.res, Norm.rms]

/-- The result arrays. -/
def final4 (y : S64x4096.Idx) : EReal := Norm.res (argX m c (y (0 : Fin 2))) (argY m c (y (0 : Fin 2))) (argG m c) (y (1 : Fin 2))
def final5 (y : S64x4096.Idx) : EReal := Norm.rms (Norm.res (argX m c (y (0 : Fin 2))) (argY m c (y (0 : Fin 2))) (argG m c)) (argH m c) (y (1 : Fin 2))

theorem final4_eq : (dats m 0 c).arrAt 4 cfg0.N = final4 m c := by
  refine (dats m 0 c).arrAt_eq_of_covers 4 _ (by decide +kernel) fun t hf y => ?_
  blk_simp
  rw [after0_4]
  idx_vars y
  rw [out4_at, emb4, block0 m c t y0, block1 m c t y0, block2 m c t]
  rfl
theorem final5_eq : (dats m 0 c).arrAt 5 cfg0.N = final5 m c := by
  refine (dats m 0 c).arrAt_eq_of_covers 5 _ (by decide +kernel) fun t hf y => ?_
  blk_simp
  rw [after0_5]
  idx_vars y
  rw [out5_at, emb5, block0 m c t y0, block1 m c t y0, block2 m c t, block3 m c t]
  rfl

end Kernel

section Reference

open Cert.ResnormSReferenceIdeal Cert.ResnormSReferenceIdeal.Gen

/-- The reference's result arrays, from its arguments. -/
def refSum (x : FVec Ideal S64x4096 .f32) (y : FVec Ideal S64x4096 .f32) (g : FVec Ideal S4096 .f32) : FVec Ideal S64x4096 .f32 :=
  addf x (mulf (mulf y (broadcastInDim S64x4096 ![0, 1] bcast_S64x1_S64x4096_0_1 (Host.rsqrt (addf (Host.divf (broadcastInDim S64x1 ![0] bcast_S64_S64x1_0 (Host.reduceAdd (mulf y y) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x358637BD#32)))))) (broadcastInDim S64x4096 ![0, 1] bcast_S1x4096_S64x4096_0_1 (broadcastInDim S1x4096 ![1] bcast_S4096_S1x4096_1 g)))
def refNorm (x : FVec Ideal S64x4096 .f32) (y : FVec Ideal S64x4096 .f32) (g : FVec Ideal S4096 .f32) (h : FVec Ideal S4096 .f32) : FVec Ideal S64x4096 .bf16 :=
  truncf .bf16 (mulf (mulf (refSum x y g) (broadcastInDim S64x4096 ![0, 1] bcast_S64x1_S64x4096_0_1 (Host.rsqrt (addf (Host.divf (broadcastInDim S64x1 ![0] bcast_S64_S64x1_0 (Host.reduceAdd (mulf (refSum x y g) (refSum x y g)) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x358637BD#32)))))) (broadcastInDim S64x4096 ![0, 1] bcast_S1x4096_S64x4096_0_1 (broadcastInDim S1x4096 ![1] bcast_S4096_S1x4096_1 h))) bitsLt_bf16_f32

/-- Read at a row and a column. -/
theorem refSum_at (x : FVec Ideal S64x4096 .f32) (y : FVec Ideal S64x4096 .f32) (g : FVec Ideal S4096 .f32) (r : Fin 64) (j : Fin 4096) : (refSum x y g (ix2 r j) : EReal) = Norm.res (fun k => x (ix2 r k)) (fun k => y (ix2 r k)) (fun k => g (ix1 k)) j := by
  pointwise [refSum, Norm.res, Norm.rms]
theorem refNorm_at (x : FVec Ideal S64x4096 .f32) (y : FVec Ideal S64x4096 .f32) (g : FVec Ideal S4096 .f32) (h : FVec Ideal S4096 .f32) (r : Fin 64) (j : Fin 4096) : (refNorm x y g h (ix2 r j) : EReal) = Norm.rms (Norm.res (fun k => x (ix2 r k)) (fun k => y (ix2 r k)) (fun k => g (ix1 k))) (fun k => h (ix1 k)) j := by
  pointwise [refNorm, refSum, Norm.res, Norm.rms]

end Reference

/-- Every argument array is left as it was, and every counter is zero: of the kernel's two runs and of the reference's. -/
theorem quiescent : Cert.quiescent_ResnormS (hResnormS := Cert.ResnormS.Gen.facts) := fun m g _ => Cert.ResnormS.Gen.frame m g
theorem quiescent_ideal : Cert.quiescent_ResnormSIdeal (hResnormSIdeal := Cert.ResnormSIdeal.Gen.facts) := fun m g _ => Cert.ResnormSIdeal.Gen.frame m g
theorem quiescent_ref : Cert.quiescent_ResnormSReferenceIdeal (hResnormSReferenceIdeal := Cert.ResnormSReferenceIdeal.Gen.facts) := fun m g _ =>
  (θ_run _ _ _).mono (fun r h => ⟨fun c => (h c).2.2, sem_eq_zero_of_no_sems rfl r.2⟩) (Cert.ResnormSReferenceIdeal.Value.run (F := Ideal) m g)

/-- The kernel and the reference, run from the same arguments, end with the same arrays. -/
theorem algebraic : Cert.algebraic_ResnormSIdeal_ResnormSReferenceIdeal (hResnormSIdeal := Cert.ResnormSIdeal.Gen.facts) (hResnormSReferenceIdeal := Cert.ResnormSReferenceIdeal.Gen.facts) := by
  intro m g m' g' _ hargs
  refine ⟨fun c => final4 m c, fun c => final5 m c, ?_, ?_⟩
  · exact (θ_run _ _ _).mono (fun r h c => ⟨(h c).1.trans (final4_eq m c), (h c).2.1.trans (final5_eq m c), (h c).2.2⟩) (Cert.ResnormSIdeal.Value.run_blocks (F := Ideal) m g)
  · refine (θ_run _ _ _).mono (fun r h c => ⟨(h c).1.trans ?_, (h c).2.1.trans ?_, (h c).2.2⟩) (Cert.ResnormSReferenceIdeal.Value.run (F := Ideal) m' g')
    · obtain ⟨a0, a1, a2, a3⟩ := hargs c
      rw [a0, a1, a2]
      funext y
      idx_vars y
      exact refSum_at _ _ _ y0 y1
    · obtain ⟨a0, a1, a2, a3⟩ := hargs c
      rw [a0, a1, a2, a3]
      funext y
      idx_vars y
      exact refNorm_at _ _ _ _ y0 y1

end Cert.Proof.ResnormS

end
-- ==== Proof.ResP.lean ====
/-
  The sum of the prompt rows and another array's rows normalized against its reference: both programs end with the same arrays, for any arguments.
-/
module

public import proofs.«01_k».proof.Defs
public import proofs.«01_k».proof.Proof.Norm
public import Idealize.ShloMosaic.Lib.Pipeline.ValueKit.Geometry
public import proofs.«01_k».proof.Proof.Gen.ResP
public import proofs.«01_k».proof.Proof.Gen.ResP.Frame
public import proofs.«01_k».proof.Proof.Gen.ResPIdeal
public import proofs.«01_k».proof.Proof.Gen.ResPIdeal.Value
public import proofs.«01_k».proof.Proof.Gen.ResPReferenceIdeal.Run

@[expose] public section

set_option maxRecDepth 16384

noncomputable section

namespace Cert.Proof.ResP

open Idealize.ShloMosaic Idealize.ShloMosaic.TcCoe Idealize.ShloMosaic.Pipeline
open Idealize.SL Idealize.SL.Sem

section Kernel

open Cert.ResPIdeal Cert.ResPIdeal.Gen

variable (m : (ℓ : Loc nD τ sig) → Buf (Elt Ideal) ℓ) (c : Dev nD)

/-- The argument arrays: the rows and the scales. -/
abbrev argX (r : Fin 8256) (k : Fin 4096) : EReal := (m ((c.tc : Thread nD τ).loc main_arg0) : FVec Ideal S8256x4096 .f32) (ix2 r k)
abbrev argY (r : Fin 8256) (k : Fin 4096) : EReal := (m ((c.tc : Thread nD τ).loc main_arg1) : FVec Ideal S8256x4096 .f32) (ix2 r k)
abbrev argG (k : Fin 4096) : EReal := (m ((c.tc : Thread nD τ).loc main_arg2) : FVec Ideal S4096 .f32) (ix1 k)

/-- A scale as the call reads it. -/
theorem reshapedG (k : Fin 4096) : (V m c main_v0 : FVec Ideal S1x4096 .f32) (ix2 0 k) = argG m c k := by
  have h : (V m c main_v0 : FVec Ideal S1x4096 .f32) = shapeCast S1x4096 (m ((c.tc : Thread nD τ).loc main_arg2) : FVec Ideal S4096 .f32) shapeCasts_S4096_S1x4096 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])

/-- The row of the arrays that a point's block has at `r`. -/
def row (t : Fin cfg0.N) (r : Fin 192) : Fin 8256 := ⟨192 * t.val + r.val, by have : t.val < 43 := t.isLt.trans_eq N_0; omega⟩

/-- The blocks at a point. -/
theorem block0 (t : Fin cfg0.N) (r : Fin 192) : (fun k => (iblk m c 0 t : FVec Ideal S192x4096 .f32) (ix2 r k)) = argX m c (row t r) := by
  funext k
  unfold row
  blk_simp [iblk]
  refine congrArg (m ((c.tc : Thread nD τ).loc main_arg0) : FVec Ideal S8256x4096 .f32) ?_
  blk_ext [index0]
theorem block1 (t : Fin cfg0.N) (r : Fin 192) : (fun k => (iblk m c 1 t : FVec Ideal S192x4096 .f32) (ix2 r k)) = argY m c (row t r) := by
  funext k
  unfold row
  blk_simp [iblk]
  refine congrArg (m ((c.tc : Thread nD τ).loc main_arg1) : FVec Ideal S8256x4096 .f32) ?_
  blk_ext [index1]
theorem block2 (t : Fin cfg0.N) : (fun k => (iblk m c 2 t : FVec Ideal S1x4096 .f32) (ix2 0 k)) = argG m c := by
  funext k
  refine Eq.trans ?_ (reshapedG m c k)
  blk_simp [iblk]
  refine congrArg (V m c main_v0 : FVec Ideal S1x4096 .f32) ?_
  blk_ext [index2]

/-- Where the result's block lies. -/
theorem emb3 (t : Fin cfg0.N) (r : Fin 192) (j : Fin 4096) : ((View.whole main_v1).slice (win0_3.rect t)).emb (ix2 r j) = ix2 (row t r) j := by
  unfold row
  blk_ext [index3]

/-- What the body stores, at a row and a column. -/
theorem out3_at (x : FVec Ideal S192x4096 .f32) (y : FVec Ideal S192x4096 .f32) (g : FVec Ideal S1x4096 .f32) (r : Fin 192) (j : Fin 4096) :
    (out0_3 (F := Ideal) x y g (ix2 r j) : EReal) = Norm.res (fun k => x (ix2 r k)) (fun k => y (ix2 r k)) (fun k => g (ix2 0 k)) j := by
  unfold out0_3
  rw [View.canon_unit_zero Norm.zeros2, View.ld_unit_zero Norm.zeros2, View.ld_unit_zero Norm.zeros2, View.ld_unit_zero Norm.zeros2]
  pointwise [k0_pay1, Norm.res, Norm.rms]

/-- The result arrays. -/
def final3 (y : S8256x4096.Idx) : EReal := Norm.res (argX m c (y (0 : Fin 2))) (argY m c (y (0 : Fin 2))) (argG m c) (y (1 : Fin 2))

theorem final3_eq : (dats m 0 c).arrAt 3 cfg0.N = final3 m c := by
  refine (dats m 0 c).arrAt_eq_of_covers 3 _ (by decide +kernel) fun t hf y => ?_
  blk_simp
  rw [after0_3]
  idx_vars y
  rw [out3_at, emb3, block0 m c t y0, block1 m c t y0, block2 m c t]
  rfl

end Kernel

section Reference

open Cert.ResPReferenceIdeal Cert.ResPReferenceIdeal.Gen

/-- The reference's result arrays, from its arguments. -/
def ref (x : FVec Ideal S8256x4096 .f32) (y : FVec Ideal S8256x4096 .f32) (g : FVec Ideal S4096 .f32) : FVec Ideal S8256x4096 .f32 :=
  addf x (mulf (mulf y (broadcastInDim S8256x4096 ![0, 1] bcast_S8256x1_S8256x4096_0_1 (Host.rsqrt (addf (Host.divf (broadcastInDim S8256x1 ![0] bcast_S8256_S8256x1_0 (Host.reduceAdd (mulf y y) (constant S_ .f32 0x00000000#32) reducesTo_S8256x4096_S8256_d1 h_S_)) (broadcastInDim S8256x1 ![] bcast_S_S8256x1 (constant S_ .f32 0x45800000#32))) (broadcastInDim S8256x1 ![] bcast_S_S8256x1 (constant S_ .f32 0x358637BD#32)))))) (broadcastInDim S8256x4096 ![0, 1] bcast_S1x4096_S8256x4096_0_1 (broadcastInDim S1x4096 ![1] bcast_S4096_S1x4096_1 g)))

/-- Read at a row and a column. -/
theorem ref_at (x : FVec Ideal S8256x4096 .f32) (y : FVec Ideal S8256x4096 .f32) (g : FVec Ideal S4096 .f32) (r : Fin 8256) (j : Fin 4096) : (ref x y g (ix2 r j) : EReal) = Norm.res (fun k => x (ix2 r k)) (fun k => y (ix2 r k)) (fun k => g (ix1 k)) j := by
  pointwise [ref, Norm.res, Norm.rms]

end Reference

/-- Every argument array is left as it was, and every counter is zero: of the kernel's two runs and of the reference's. -/
theorem quiescent : Cert.quiescent_ResP (hResP := Cert.ResP.Gen.facts) := fun m g _ => Cert.ResP.Gen.frame m g
theorem quiescent_ideal : Cert.quiescent_ResPIdeal (hResPIdeal := Cert.ResPIdeal.Gen.facts) := fun m g _ => Cert.ResPIdeal.Gen.frame m g
theorem quiescent_ref : Cert.quiescent_ResPReferenceIdeal (hResPReferenceIdeal := Cert.ResPReferenceIdeal.Gen.facts) := fun m g _ =>
  (θ_run _ _ _).mono (fun r h => ⟨fun c => (h c).2, sem_eq_zero_of_no_sems rfl r.2⟩) (Cert.ResPReferenceIdeal.Value.run (F := Ideal) m g)

/-- The kernel and the reference, run from the same arguments, end with the same arrays. -/
theorem algebraic : Cert.algebraic_ResPIdeal_ResPReferenceIdeal (hResPIdeal := Cert.ResPIdeal.Gen.facts) (hResPReferenceIdeal := Cert.ResPReferenceIdeal.Gen.facts) := by
  intro m g m' g' _ hargs
  refine ⟨fun c => final3 m c, ?_, ?_⟩
  · exact (θ_run _ _ _).mono (fun r h c => ⟨(h c).1.trans (final3_eq m c), (h c).2⟩) (Cert.ResPIdeal.Value.run_blocks (F := Ideal) m g)
  · refine (θ_run _ _ _).mono (fun r h c => ⟨(h c).1.trans ?_, (h c).2⟩) (Cert.ResPReferenceIdeal.Value.run (F := Ideal) m' g')
    obtain ⟨a0, a1, a2⟩ := hargs c
    rw [a0, a1, a2]
    funext y
    idx_vars y
    exact ref_at _ _ _ y0 y1

end Cert.Proof.ResP

end
-- ==== Proof.ResS.lean ====
/-
  The sum of the sample rows and another array's rows normalized against its reference: both programs end with the same arrays, for any arguments.
-/
module

public import proofs.«01_k».proof.Defs
public import proofs.«01_k».proof.Proof.Norm
public import Idealize.ShloMosaic.Lib.Pipeline.ValueKit.Geometry
public import proofs.«01_k».proof.Proof.Gen.ResS
public import proofs.«01_k».proof.Proof.Gen.ResS.Frame
public import proofs.«01_k».proof.Proof.Gen.ResSIdeal
public import proofs.«01_k».proof.Proof.Gen.ResSIdeal.Value
public import proofs.«01_k».proof.Proof.Gen.ResSReferenceIdeal.Run

@[expose] public section

set_option maxRecDepth 16384

noncomputable section

namespace Cert.Proof.ResS

open Idealize.ShloMosaic Idealize.ShloMosaic.TcCoe Idealize.ShloMosaic.Pipeline
open Idealize.SL Idealize.SL.Sem

section Kernel

open Cert.ResSIdeal Cert.ResSIdeal.Gen

variable (m : (ℓ : Loc nD τ sig) → Buf (Elt Ideal) ℓ) (c : Dev nD)

/-- The argument arrays: the rows and the scales. -/
abbrev argX (r : Fin 64) (k : Fin 4096) : EReal := (m ((c.tc : Thread nD τ).loc main_arg0) : FVec Ideal S64x4096 .f32) (ix2 r k)
abbrev argY (r : Fin 64) (k : Fin 4096) : EReal := (m ((c.tc : Thread nD τ).loc main_arg1) : FVec Ideal S64x4096 .f32) (ix2 r k)
abbrev argG (k : Fin 4096) : EReal := (m ((c.tc : Thread nD τ).loc main_arg2) : FVec Ideal S4096 .f32) (ix1 k)

/-- A scale as the call reads it. -/
theorem reshapedG (k : Fin 4096) : (V m c main_v0 : FVec Ideal S1x4096 .f32) (ix2 0 k) = argG m c k := by
  have h : (V m c main_v0 : FVec Ideal S1x4096 .f32) = shapeCast S1x4096 (m ((c.tc : Thread nD τ).loc main_arg2) : FVec Ideal S4096 .f32) shapeCasts_S4096_S1x4096 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])

/-- The row of the arrays that a point's block has at `r`. -/
def row (t : Fin cfg0.N) (r : Fin 64) : Fin 64 := ⟨64 * t.val + r.val, by have : t.val < 1 := t.isLt.trans_eq N_0; omega⟩

/-- The blocks at a point. -/
theorem block0 (t : Fin cfg0.N) (r : Fin 64) : (fun k => (iblk m c 0 t : FVec Ideal S64x4096 .f32) (ix2 r k)) = argX m c (row t r) := by
  funext k
  unfold row
  blk_simp [iblk]
  refine congrArg (m ((c.tc : Thread nD τ).loc main_arg0) : FVec Ideal S64x4096 .f32) ?_
  blk_ext [index0]
theorem block1 (t : Fin cfg0.N) (r : Fin 64) : (fun k => (iblk m c 1 t : FVec Ideal S64x4096 .f32) (ix2 r k)) = argY m c (row t r) := by
  funext k
  unfold row
  blk_simp [iblk]
  refine congrArg (m ((c.tc : Thread nD τ).loc main_arg1) : FVec Ideal S64x4096 .f32) ?_
  blk_ext [index1]
theorem block2 (t : Fin cfg0.N) : (fun k => (iblk m c 2 t : FVec Ideal S1x4096 .f32) (ix2 0 k)) = argG m c := by
  funext k
  refine Eq.trans ?_ (reshapedG m c k)
  blk_simp [iblk]
  refine congrArg (V m c main_v0 : FVec Ideal S1x4096 .f32) ?_
  blk_ext [index2]

/-- Where the result's block lies. -/
theorem emb3 (t : Fin cfg0.N) (r : Fin 64) (j : Fin 4096) : ((View.whole main_v1).slice (win0_3.rect t)).emb (ix2 r j) = ix2 (row t r) j := by
  unfold row
  blk_ext [index3]

/-- What the body stores, at a row and a column. -/
theorem out3_at (x : FVec Ideal S64x4096 .f32) (y : FVec Ideal S64x4096 .f32) (g : FVec Ideal S1x4096 .f32) (r : Fin 64) (j : Fin 4096) :
    (out0_3 (F := Ideal) x y g (ix2 r j) : EReal) = Norm.res (fun k => x (ix2 r k)) (fun k => y (ix2 r k)) (fun k => g (ix2 0 k)) j := by
  unfold out0_3
  rw [View.canon_unit_zero Norm.zeros2, View.ld_unit_zero Norm.zeros2, View.ld_unit_zero Norm.zeros2, View.ld_unit_zero Norm.zeros2]
  pointwise [k0_pay1, Norm.res, Norm.rms]

/-- The result arrays. -/
def final3 (y : S64x4096.Idx) : EReal := Norm.res (argX m c (y (0 : Fin 2))) (argY m c (y (0 : Fin 2))) (argG m c) (y (1 : Fin 2))

theorem final3_eq : (dats m 0 c).arrAt 3 cfg0.N = final3 m c := by
  refine (dats m 0 c).arrAt_eq_of_covers 3 _ (by decide +kernel) fun t hf y => ?_
  blk_simp
  rw [after0_3]
  idx_vars y
  rw [out3_at, emb3, block0 m c t y0, block1 m c t y0, block2 m c t]
  rfl

end Kernel

section Reference

open Cert.ResSReferenceIdeal Cert.ResSReferenceIdeal.Gen

/-- The reference's result arrays, from its arguments. -/
def ref (x : FVec Ideal S64x4096 .f32) (y : FVec Ideal S64x4096 .f32) (g : FVec Ideal S4096 .f32) : FVec Ideal S64x4096 .f32 :=
  addf x (mulf (mulf y (broadcastInDim S64x4096 ![0, 1] bcast_S64x1_S64x4096_0_1 (Host.rsqrt (addf (Host.divf (broadcastInDim S64x1 ![0] bcast_S64_S64x1_0 (Host.reduceAdd (mulf y y) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x358637BD#32)))))) (broadcastInDim S64x4096 ![0, 1] bcast_S1x4096_S64x4096_0_1 (broadcastInDim S1x4096 ![1] bcast_S4096_S1x4096_1 g)))

/-- Read at a row and a column. -/
theorem ref_at (x : FVec Ideal S64x4096 .f32) (y : FVec Ideal S64x4096 .f32) (g : FVec Ideal S4096 .f32) (r : Fin 64) (j : Fin 4096) : (ref x y g (ix2 r j) : EReal) = Norm.res (fun k => x (ix2 r k)) (fun k => y (ix2 r k)) (fun k => g (ix1 k)) j := by
  pointwise [ref, Norm.res, Norm.rms]

end Reference

/-- Every argument array is left as it was, and every counter is zero: of the kernel's two runs and of the reference's. -/
theorem quiescent : Cert.quiescent_ResS (hResS := Cert.ResS.Gen.facts) := fun m g _ => Cert.ResS.Gen.frame m g
theorem quiescent_ideal : Cert.quiescent_ResSIdeal (hResSIdeal := Cert.ResSIdeal.Gen.facts) := fun m g _ => Cert.ResSIdeal.Gen.frame m g
theorem quiescent_ref : Cert.quiescent_ResSReferenceIdeal (hResSReferenceIdeal := Cert.ResSReferenceIdeal.Gen.facts) := fun m g _ =>
  (θ_run _ _ _).mono (fun r h => ⟨fun c => (h c).2, sem_eq_zero_of_no_sems rfl r.2⟩) (Cert.ResSReferenceIdeal.Value.run (F := Ideal) m g)

/-- The kernel and the reference, run from the same arguments, end with the same arrays. -/
theorem algebraic : Cert.algebraic_ResSIdeal_ResSReferenceIdeal (hResSIdeal := Cert.ResSIdeal.Gen.facts) (hResSReferenceIdeal := Cert.ResSReferenceIdeal.Gen.facts) := by
  intro m g m' g' _ hargs
  refine ⟨fun c => final3 m c, ?_, ?_⟩
  · exact (θ_run _ _ _).mono (fun r h c => ⟨(h c).1.trans (final3_eq m c), (h c).2⟩) (Cert.ResSIdeal.Value.run_blocks (F := Ideal) m g)
  · refine (θ_run _ _ _).mono (fun r h c => ⟨(h c).1.trans ?_, (h c).2⟩) (Cert.ResSReferenceIdeal.Value.run (F := Ideal) m' g')
    obtain ⟨a0, a1, a2⟩ := hargs c
    rw [a0, a1, a2]
    funext y
    idx_vars y
    exact ref_at _ _ _ y0 y1

end Cert.Proof.ResS

end
-- ==== Proof.ConvSKernel.lean ====
/-
  The convolution of the sample rows as the kernel computes it: the scratch's rows, the taps' sums of the four parts of the
  channels, the normalization, and the two result arrays as functions of the whole argument arrays.
-/
module

public import proofs.«01_k».proof.Defs
public import proofs.«01_k».proof.Proof.Norm
public import Idealize.ShloMosaic.Lib.Pipeline.ValueKit.Geometry
public import Idealize.ShloMosaic.Lib.ValueLayout
public import proofs.«01_k».proof.Proof.Gen.ConvSIdeal
public import proofs.«01_k».proof.Proof.Gen.ConvSIdeal.Value
@[expose] public section
set_option maxRecDepth 16384
noncomputable section
namespace Cert.Proof.ConvS
open Idealize.ShloMosaic Idealize.ShloMosaic.TcCoe Idealize.ShloMosaic.Pipeline
open Idealize.SL Idealize.SL.Sem
open Cert.ConvSIdeal Cert.ConvSIdeal.Gen

/-- The logistic function. -/
def sigm (x : EReal) : EReal := Ideal.div 1 (1 + Ideal.exp (-x))

/-- The rows the scratch holds while a sequence's taps are summed: two rows of zeros, the thirty rows before, the gated rows. -/
def rows (a g : Fin 8 → Fin 2048 → EReal) (buf : Fin 30 → Fin 2048 → EReal) (i : Fin 40) (j : Fin 2048) : EReal :=
  if h : i.val < 32 then (if h2 : i.val < 2 then 0 else buf ⟨i.val - 2, by omega⟩ j)
  else a ⟨i.val - 32, by omega⟩ j * sigm (g ⟨i.val - 32, by omega⟩ j)

/-- The first `n + 1` taps' products at row `r`, added one after the other. -/
def taps (H : Fin 40 → EReal) (w : Fin 31 → EReal) (r : Fin 8) : (n : ℕ) → n < 31 → EReal
  | 0, _ => H ⟨2 + r.val, by omega⟩ * w 0
  | n + 1, h => taps H w r n (by omega) + H ⟨n + 3 + r.val, by omega⟩ * w ⟨n + 1, h⟩

/-- One channel's convolution at row `r`. -/
def conv (H : Fin 40 → EReal) (w : Fin 31 → EReal) (b : EReal) (r : Fin 8) : EReal := taps H w r 30 (by omega) + b

/-- The mean of a row. -/
def mean (f : Fin 2048 → EReal) : EReal := Ideal.div (∑ k, f k) (Ideal.ofBits FTy.f32 0x45000000#32)

/-- A row normalized to mean zero and variance one, then scaled and shifted. -/
def norm (f g b : Fin 2048 → EReal) (j : Fin 2048) : EReal :=
  (f j - mean f) * Ideal.rsqrt (mean (fun k => (f k - mean f) * (f k - mean f)) + Ideal.ofBits FTy.f32 0x358637BD#32) * g j + b j

/-- The normalized row times its logistic function. -/
def silu (f g b : Fin 2048 → EReal) (j : Fin 2048) : EReal := norm f g b j * sigm (norm f g b j)

section
variable (c : Dev nD) (arg2 : Memref sig .tc .vmem S8x2048 .f32) (harg2 : arg2.IsWhole) (arg3 : Memref sig .tc .vmem S8x2048 .f32) (harg3 : arg3.IsWhole) (arg4 : Memref sig .tc .vmem S1x30x2048 .f32) (harg4 : arg4.IsWhole) (arg5 : Memref sig .tc .vmem S31x2048 .f32) (harg5 : arg5.IsWhole) (arg6 : Memref sig .tc .vmem S1x2048 .f32) (harg6 : arg6.IsWhole)
 (arg11 : Memref sig .tc .vmem S40x2048 .f32) (x0 : Vec Ideal S8x2048 .f32) (x1 : Vec Ideal S8x2048 .f32) (x2 : Vec Ideal S1x30x2048 .f32) (x3 : Vec Ideal S31x2048 .f32) (x4 : Vec Ideal S1x2048 .f32)

theorem scratch_at (i : Fin 40) (j : Fin 2048) : (View.canon (kernelRun0_A.sl.HS0_3 c arg2 harg2 arg3 harg3 arg4 harg4 x0 x1 x2) (ix2 i j) : EReal)
    = rows (fun r k => x0 (ix2 r k)) (fun r k => x1 (ix2 r k)) (fun r k => x2 (ix3 0 r k)) i j := by
  unfold kernelRun0_A.sl.HS0_3
  simp only [View.readAt_eq_ld, Memref.IsWhole.read_unread]
  unfold rows
  by_cases h : i.val < 32
  · rw [dif_pos h, View.canon_cons_of_not_mem _ _ (Rect.not_mem_set_of_axis (s := S40x2048) _ _ (0 : Fin 2) 32 8 rfl rfl rfl (Or.inl h))]
    by_cases h2 : i.val < 2
    · rw [dif_pos h2, View.canon_cons_of_not_mem _ _ (Rect.not_mem_set_of_axis _ _ (0 : Fin 2) 2 30 rfl rfl rfl (Or.inl h2))]
      have e : (ix2 i j : S40x2048.Idx) = (Rect.unit (s := S40x2048) ![0, 0] S32x2048.size inb_S40x2048_S32x2048_0_0).emb (ix2 ⟨i.val, h⟩ j) := by blk_ext
      rw [e, View.canon_cons_emb]
      pointwise [k0_pay2]
    · rw [dif_neg h2]
      have e : (ix2 i j : S40x2048.Idx) = (Rect.unit (s := S40x2048) ![2, 0] S30x2048.size inb_S40x2048_S30x2048_2_0).emb (ix2 ⟨i.val - 2, by omega⟩ j) := by blk_ext
      rw [e, View.canon_cons_emb]
      pointwise [k0_pay3]
  · rw [dif_neg h]
    have e : (ix2 i j : S40x2048.Idx) = (Rect.unit (s := S40x2048) ![32, 0] S8x2048.size inb_S40x2048_S8x2048_32_0).emb (ix2 ⟨i.val - 32, by omega⟩ j) := by blk_ext
    rw [e, View.canon_cons_emb]
    pointwise [k0_pay5, sigm, zero_sub]

/-- A window of the scratch's columns, read at a row and a column. -/
theorem window_at (off : Fin 2 → ℕ) (o : ℕ) (ho : off = ![0, o]) (inb) (hb : o + 512 ≤ 2048) (i : Fin 40) (j : Fin 512) :
    (arg11.view.readCov (kernelRun0_A.sl.HS0_3 c arg2 harg2 arg3 harg3 arg4 harg4 x0 x1 x2) (Rect.unit (s := S40x2048) off S40x512.size inb).toLoadRect (ix2 i j) : EReal)
      = rows (fun r k => x0 (ix2 r k)) (fun r k => x1 (ix2 r k)) (fun r k => x2 (ix3 0 r k)) i ⟨o + j.val, by omega⟩ := by
  subst ho
  rw [View.readCov_eq_canon', ← scratch_at c arg2 harg2 arg3 harg3 arg4 harg4]
  refine congrArg (View.canon (kernelRun0_A.sl.HS0_3 c arg2 harg2 arg3 harg3 arg4 harg4 x0 x1 x2)) ?_
  refine Rect.emb_eq_of_coords (Rect.unit (s := S40x2048) ![0, o] S40x512.size inb) (ix2 i j) _ (Fin.forall_fin_two.mpr ⟨?_, ?_⟩)
  · exact (by omega : i.val = 0 + 1 * i.val)
  · exact (by omega : o + j.val = o + 1 * j.val)

theorem v22_at (i : Fin 40) (j : Fin 512) : (kernelRun0_A.sl.v22 c arg2 harg2 arg3 harg3 arg4 harg4 arg11 x0 x1 x2 (ix2 i j) : EReal)
    = rows (fun r k => x0 (ix2 r k)) (fun r k => x1 (ix2 r k)) (fun r k => x2 (ix3 0 r k)) i ⟨j.val, by omega⟩ :=
  (window_at c arg2 harg2 arg3 harg3 arg4 harg4 arg11 x0 x1 x2 k0_off1 0 rfl _ (by omega) i j).trans (congrArg _ (Fin.ext (Nat.zero_add _)))
theorem v184_at (i : Fin 40) (j : Fin 512) : (kernelRun0_A.sl.v184 c arg2 harg2 arg3 harg3 arg4 harg4 arg11 x0 x1 x2 (ix2 i j) : EReal)
    = rows (fun r k => x0 (ix2 r k)) (fun r k => x1 (ix2 r k)) (fun r k => x2 (ix3 0 r k)) i ⟨512 + j.val, by omega⟩ :=
  window_at c arg2 harg2 arg3 harg3 arg4 harg4 arg11 x0 x1 x2 k0_off2 512 rfl _ (by omega) i j
theorem v346_at (i : Fin 40) (j : Fin 512) : (kernelRun0_A.sl.v346 c arg2 harg2 arg3 harg3 arg4 harg4 arg11 x0 x1 x2 (ix2 i j) : EReal)
    = rows (fun r k => x0 (ix2 r k)) (fun r k => x1 (ix2 r k)) (fun r k => x2 (ix3 0 r k)) i ⟨1024 + j.val, by omega⟩ :=
  window_at c arg2 harg2 arg3 harg3 arg4 harg4 arg11 x0 x1 x2 k0_off3 1024 rfl _ (by omega) i j
theorem v508_at (i : Fin 40) (j : Fin 512) : (kernelRun0_A.sl.v508 c arg2 harg2 arg3 harg3 arg4 harg4 arg11 x0 x1 x2 (ix2 i j) : EReal)
    = rows (fun r k => x0 (ix2 r k)) (fun r k => x1 (ix2 r k)) (fun r k => x2 (ix3 0 r k)) i ⟨1536 + j.val, by omega⟩ :=
  window_at c arg2 harg2 arg3 harg3 arg4 harg4 arg11 x0 x1 x2 k0_off4 1536 rfl _ (by omega) i j

/-- The last thirty rows of the scratch, as the state's store takes them. -/
theorem v707_at (i : Fin 30) (j : Fin 2048) : (kernelRun0_A.sl.v707 c arg2 harg2 arg3 harg3 arg4 harg4 arg11 x0 x1 x2 (ix2 i j) : EReal)
    = rows (fun r k => x0 (ix2 r k)) (fun r k => x1 (ix2 r k)) (fun r k => x2 (ix3 0 r k)) ⟨10 + i.val, by omega⟩ j := by
  unfold kernelRun0_A.sl.v707
  rw [View.readCov_eq_canon', ← scratch_at c arg2 harg2 arg3 harg3 arg4 harg4]
  refine congrArg (View.canon (kernelRun0_A.sl.HS0_3 c arg2 harg2 arg3 harg3 arg4 harg4 x0 x1 x2)) ?_
  refine Rect.emb_eq_of_coords (Rect.unit (s := S40x2048) ![10, 0] ![30, 2048] inb_S40x2048_S30x2048_10_0) (ix2 i j) _ (Fin.forall_fin_two.mpr ⟨?_, ?_⟩)
  · exact (by omega : 10 + i.val = 10 + 1 * i.val)
  · exact (by omega : j.val = 0 + 1 * j.val)

/-- The convolution of a channel, from what the windows hold. -/
def conv_of (j : Fin 2048) (r : Fin 8) : EReal :=
  conv (fun i => rows (fun r k => x0 (ix2 r k)) (fun r k => x1 (ix2 r k)) (fun r k => x2 (ix3 0 r k)) i j) (fun k => x3 (ix2 k j)) (x4 (ix2 0 j)) r

theorem first_at (r : Fin 8) (j : Fin 512) : (kernelRun0_A.sl.r_9 c arg2 harg2 arg3 harg3 arg4 harg4 arg5 harg5 arg6 harg6 arg11 x0 x1 x2 x3 x4 (ix2 r j) : EReal) = conv_of x0 x1 x2 x3 x4 ⟨j.val, by omega⟩ r := by
  unfold conv_of kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [← v22_at c arg2 harg2 arg3 harg3 arg4 harg4 arg11]
  generalize hv : kernelRun0_A.sl.v22 c arg2 harg2 arg3 harg3 arg4 harg4 arg11 x0 x1 x2 = v
  simp only [View.readAt_eq_ld, Memref.IsWhole.read_unread]
  pointwise [k0_pay14, k0_pay13, k0_pay12, k0_pay11, k0_pay10, k0_pay9, k0_pay8, k0_pay7, k0_pay6, conv, taps]

theorem second_at (r : Fin 8) (j : Fin 512) : (kernelRun0_A.sl.r_19 c arg2 harg2 arg3 harg3 arg4 harg4 arg5 harg5 arg6 harg6 arg11 x0 x1 x2 x3 x4 (ix2 r j) : EReal) = conv_of x0 x1 x2 x3 x4 ⟨512 + j.val, by omega⟩ r := by
  unfold conv_of kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10
  simp only [← v184_at c arg2 harg2 arg3 harg3 arg4 harg4 arg11]
  generalize hv : kernelRun0_A.sl.v184 c arg2 harg2 arg3 harg3 arg4 harg4 arg11 x0 x1 x2 = v
  simp only [View.readAt_eq_ld, Memref.IsWhole.read_unread]
  pointwise [k0_pay24, k0_pay23, k0_pay22, k0_pay21, k0_pay20, k0_pay19, k0_pay18, k0_pay17, k0_pay16, k0_pay15, conv, taps]

theorem third_at (r : Fin 8) (j : Fin 512) : (kernelRun0_A.sl.r_27 c arg2 harg2 arg3 harg3 arg4 harg4 arg5 harg5 arg6 harg6 arg11 x0 x1 x2 x3 x4 (ix2 r j) : EReal) = conv_of x0 x1 x2 x3 x4 ⟨1024 + j.val, by omega⟩ r := by
  unfold conv_of kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20
  simp only [← v346_at c arg2 harg2 arg3 harg3 arg4 harg4 arg11]
  generalize hv : kernelRun0_A.sl.v346 c arg2 harg2 arg3 harg3 arg4 harg4 arg11 x0 x1 x2 = v
  simp only [View.readAt_eq_ld, Memref.IsWhole.read_unread]
  pointwise [k0_pay31, k0_pay30, k0_pay29, k0_pay28, k0_pay27, k0_pay26, k0_pay25, conv, taps]

/-- The four parts side by side, read at a row and a column of one part. -/
theorem parts_at (u v w x : FVec Ideal S8x512 .f32) (r : Fin 8) (j : Fin 2048) (R : EReal)
    (hu : ∀ k : Fin 512, j.val = k.val → (u (ix2 r k) : EReal) = R) (hv : ∀ k : Fin 512, j.val = 512 + k.val → (v (ix2 r k) : EReal) = R)
    (hw : ∀ k : Fin 512, j.val = 1024 + k.val → (w (ix2 r k) : EReal) = R) (hx : ∀ k : Fin 512, j.val = 1536 + k.val → (x (ix2 r k) : EReal) = R) :
    (concatenate S8x2048 1 [⟨S8x512, u⟩, ⟨S8x512, v⟩, ⟨S8x512, w⟩, ⟨S8x512, x⟩] concatenates_S8x512_S8x512_S8x512_S8x512_S8x2048_d1 (ix2 r j) : EReal) = R := by
  pointwise
  by_cases h0 : j.val < 512
  · rw [dif_pos h0]
    exact hu _ rfl
  rw [dif_neg h0]
  by_cases h1 : j.val - 512 < 512
  · rw [dif_pos h1]
    exact hv _ (by omega : j.val = 512 + (j.val - 512))
  rw [dif_neg h1]
  by_cases h2 : j.val - 512 - 512 < 512
  · rw [dif_pos h2]
    exact hw _ (by omega : j.val = 1024 + (j.val - 512 - 512))
  rw [dif_neg h2]
  exact hx _ (by omega : j.val = 1536 + (j.val - 512 - 512 - 512))

theorem whole_at (r : Fin 8) (j : Fin 2048) : (kernelRun0_A.sl.r_35 c arg2 harg2 arg3 harg3 arg4 harg4 arg5 harg5 arg6 harg6 arg11 x0 x1 x2 x3 x4 (ix2 r j) : EReal) = conv_of x0 x1 x2 x3 x4 j r := by
  unfold kernelRun0_A.sl.r_35
  refine parts_at _ _ _ _ r j _ (fun k h => ?_) (fun k h => ?_) (fun k h => ?_) (fun k h => ?_)
  · exact (first_at c arg2 harg2 arg3 harg3 arg4 harg4 arg5 harg5 arg6 harg6 arg11 x0 x1 x2 x3 x4 r k).trans (congrArg (conv_of x0 x1 x2 x3 x4 · r) (Fin.ext h.symm))
  · exact (second_at c arg2 harg2 arg3 harg3 arg4 harg4 arg5 harg5 arg6 harg6 arg11 x0 x1 x2 x3 x4 r k).trans (congrArg (conv_of x0 x1 x2 x3 x4 · r) (Fin.ext h.symm))
  · exact (third_at c arg2 harg2 arg3 harg3 arg4 harg4 arg5 harg5 arg6 harg6 arg11 x0 x1 x2 x3 x4 r k).trans (congrArg (conv_of x0 x1 x2 x3 x4 · r) (Fin.ext h.symm))
  · refine Eq.trans ?_ (congrArg (conv_of x0 x1 x2 x3 x4 · r) (Fin.ext h.symm : (⟨1536 + k.val, by omega⟩ : Fin 2048) = j))
    dsimp only
    unfold conv_of kernelRun0_A.sl.r_34 kernelRun0_A.sl.r_33 kernelRun0_A.sl.r_32 kernelRun0_A.sl.r_31 kernelRun0_A.sl.r_30 kernelRun0_A.sl.r_29 kernelRun0_A.sl.r_28
    simp only [← v508_at c arg2 harg2 arg3 harg3 arg4 harg4 arg11]
    generalize hv : kernelRun0_A.sl.v508 c arg2 harg2 arg3 harg3 arg4 harg4 arg11 x0 x1 x2 = v
    simp only [View.readAt_eq_ld, Memref.IsWhole.read_unread]
    pointwise [k0_pay38, k0_pay37, k0_pay36, k0_pay35, k0_pay34, k0_pay33, k0_pay32, conv, taps]

/-- The mean of the row of channels. -/
theorem mean_at (r : Fin 8) : (kernelRun0_A.sl.r_36 c arg2 harg2 arg3 harg3 arg4 harg4 arg5 harg5 arg6 harg6 arg11 x0 x1 x2 x3 x4 (ix2 r 0) : EReal) = mean (fun j => conv_of x0 x1 x2 x3 x4 j r) := by
  change divf (shapeCast S8x1 (multiReduction (F := Ideal) .add [1] S8 (kernelRun0_A.sl.r_35 c arg2 harg2 arg3 harg3 arg4 harg4 arg5 harg5 arg6 harg6 arg11 x0 x1 x2 x3 x4) 0x00000000#32 reduces_S8x2048_S8 (.inl rfl) rfl) shapeCasts_S8_S8x1) (broadcast S8x1 (Scalar.ofBits .f32 0x45000000#32)) (ix2 r 0) = _
  pointwise [whole_at c arg2 harg2 arg3 harg3 arg4 harg4 arg5 harg5 arg6 harg6 arg11 x0 x1 x2 x3 x4, mean]

end

/-- The last store's payload from its row and the row's mean. -/
theorem pay41_at (x : FVec Ideal S8x2048 .f32) (mu : FVec Ideal S8x1 .f32) (g b : FVec Ideal S1x2048 .f32) (r : Fin 8) (f : Fin 2048 → EReal)
    (hx : ∀ k, (x (ix2 r k) : EReal) = f k) (hmu : (mu (ix2 r 0) : EReal) = mean f) (j : Fin 2048) :
    (k0_pay41 x mu g b (ix2 r j) : EReal) = silu f (fun k => g (ix2 0 k)) (fun k => b (ix2 0 k)) j := by
  pointwise [k0_pay41, silu, norm, sigm, hx, hmu, zero_sub]
  simp only [mean]

section
variable (m : (ℓ : Loc nD τ sig) → Buf (Elt Ideal) ℓ) (c : Dev nD)

/-- What a point's block of the activations holds. -/
theorem out7_at (t : Fin cfg0.N) (r : Fin 8) (j : Fin 2048) : ((outsAt0 m c t).1 (ix2 r j) : EReal)
    = silu (fun k => conv_of (iblk m c 0 t) (iblk m c 1 t) (iblk m c 2 t) (iblk m c 3 t) (iblk m c 4 t) k r)
        (fun k => (iblk m c 5 t : FVec Ideal S1x2048 .f32) (ix2 0 k)) (fun k => (iblk m c 6 t : FVec Ideal S1x2048 .f32) (ix2 0 k)) j := by
  unfold outsAt0 out0_A_7
  dsimp only [kernelRun0_A]
  have e : (ix2 r j : S8x2048.Idx) = (Rect.unit (s := S8x2048) k0_off5 ![8, 2048] k0_off5_inb).emb (ix2 r j) := by
    refine (Rect.emb_eq_of_coords _ _ _ (Fin.forall_fin_two.mpr ⟨?_, ?_⟩)).symm
    · exact (by omega : r.val = 0 + 1 * r.val)
    · exact (by omega : j.val = 0 + 1 * j.val)
  refine (congrArg _ e).trans ((View.read_writes_cons_emb _ _ _ _ _ _).trans ?_)
  refine (pay41_at _ _ _ _ r _ (whole_at c _ _ _ _ _ _ _ _ _ _ _ _ _ _ _ _ r) (mean_at c _ _ _ _ _ _ _ _ _ _ _ _ _ _ _ _ r) j).trans ?_
  simp only [View.readAt_eq_ld, Memref.IsWhole.read_unread]
  rw [View.ld_unit_zero Norm.zeros2, View.ld_unit_zero Norm.zeros2]

/-- What a point's block of the state holds. -/
theorem out8_at (t : Fin cfg0.N) (i : Fin 30) (j : Fin 2048) : ((outsAt0 m c t).2 (ix3 0 i j) : EReal)
    = rows (fun r k => (iblk m c 0 t : FVec Ideal S8x2048 .f32) (ix2 r k)) (fun r k => (iblk m c 1 t : FVec Ideal S8x2048 .f32) (ix2 r k))
        (fun r k => (iblk m c 2 t : FVec Ideal S1x30x2048 .f32) (ix3 0 r k)) ⟨10 + i.val, by omega⟩ j := by
  unfold outsAt0 out0_A_8
  dsimp only [kernelRun0_A]
  have e : (ix3 0 i j : S1x30x2048.Idx) = (Rect.unit (s := S1x30x2048) ![0, 0, 0] ![1, 30, 2048] inb_S1x30x2048_S1x30x2048_0_0_0).emb (ix3 0 i j) := by blk_ext
  refine (congrArg _ e).trans ((View.read_writes_cons_emb _ _ _ _ _ _).trans ?_)
  refine Eq.trans ?_ (v707_at c _ (hs0_0 t) _ (hs0_1 t) _ (hs0_2 t) scM0_0 _ _ _ i j)
  pointwise [k0_pay1]

/-- The argument arrays: the two halves of the gated projection's columns, the rows before, the taps' weights, the bias, the scales and the shifts. -/
abbrev argGlu : FVec Ideal S64x4096 .f32 := m ((c.tc : Thread nD τ).loc main_arg0)
abbrev argBuf : FVec Ideal S8x30x2048 .f32 := m ((c.tc : Thread nD τ).loc main_arg1)
abbrev argW : FVec Ideal S31x2048 .f32 := m ((c.tc : Thread nD τ).loc main_arg2)
abbrev argB : FVec Ideal S2048 .f32 := m ((c.tc : Thread nD τ).loc main_arg3)
abbrev argG : FVec Ideal S2048 .f32 := m ((c.tc : Thread nD τ).loc main_arg4)
abbrev argS : FVec Ideal S2048 .f32 := m ((c.tc : Thread nD τ).loc main_arg5)

/-- The bias, the scales and the shifts as the call reads them. -/
theorem reshaped0 (k : Fin 2048) : (V m c main_v0 : FVec Ideal S1x2048 .f32) (ix2 0 k) = argB m c (ix1 k) := by
  have h : (V m c main_v0 : FVec Ideal S1x2048 .f32) = shapeCast S1x2048 (argB m c) shapeCasts_S2048_S1x2048 := by rfl
  rw [h]
  exact ValueIdx.shapeCast_a_1a_apply _ _ _ _
theorem reshaped1 (k : Fin 2048) : (V m c main_v1 : FVec Ideal S1x2048 .f32) (ix2 0 k) = argG m c (ix1 k) := by
  have h : (V m c main_v1 : FVec Ideal S1x2048 .f32) = shapeCast S1x2048 (argG m c) shapeCasts_S2048_S1x2048 := by rfl
  rw [h]
  exact ValueIdx.shapeCast_a_1a_apply _ _ _ _
theorem reshaped2 (k : Fin 2048) : (V m c main_v2 : FVec Ideal S1x2048 .f32) (ix2 0 k) = argS m c (ix1 k) := by
  have h : (V m c main_v2 : FVec Ideal S1x2048 .f32) = shapeCast S1x2048 (argS m c) shapeCasts_S2048_S1x2048 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 1] := (by decide +kernel : ∀ t : Fin grid0.N, win0_1.index t = ![t.val, 1])
theorem index2 : ∀ t : Fin cfg0.N, win0_2.index t = ![t.val, 0, 0] := (by decide +kernel : ∀ t : Fin grid0.N, win0_2.index t = ![t.val, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0, 0] := (by decide +kernel : ∀ t : Fin grid0.N, win0_8.index t = ![t.val, 0, 0])

/-- The sequence a point works on, and the row of the arrays that holds a sequence's row `r`. -/
def seqOf (t : Fin cfg0.N) : Fin 8 := ⟨t.val, t.isLt.trans_eq N_0⟩
def row (b r : Fin 8) : Fin 64 := ⟨b.val * 8 + r.val, by omega⟩

/-- The blocks at a point. -/
theorem block0 (t : Fin cfg0.N) : (fun r k => (iblk m c 0 t : FVec Ideal S8x2048 .f32) (ix2 r k)) = fun r (k : Fin 2048) => argGlu m c (ix2 (row (seqOf t) r) ⟨k.val, by omega⟩) := by
  funext r k
  unfold row seqOf
  blk_simp [iblk]
  refine congrArg (argGlu m c) ?_
  blk_ext [index0]
theorem block1 (t : Fin cfg0.N) : (fun r k => (iblk m c 1 t : FVec Ideal S8x2048 .f32) (ix2 r k)) = fun r (k : Fin 2048) => argGlu m c (ix2 (row (seqOf t) r) ⟨2048 + k.val, by omega⟩) := by
  funext r k
  unfold row seqOf
  blk_simp [iblk]
  refine congrArg (argGlu m c) ?_
  blk_ext [index1]
theorem block2 (t : Fin cfg0.N) : (fun i k => (iblk m c 2 t : FVec Ideal S1x30x2048 .f32) (ix3 0 i k)) = fun i k => argBuf m c (ix3 (seqOf t) i k) := by
  funext i k
  unfold seqOf
  blk_simp [iblk]
  refine congrArg (argBuf m c) ?_
  blk_ext [index2]
theorem block3 (t : Fin cfg0.N) (k : Fin 2048) : (fun i => (iblk m c 3 t : FVec Ideal S31x2048 .f32) (ix2 i k)) = fun i => argW m c (ix2 i k) := by
  funext i
  blk_simp [iblk]
  refine congrArg (argW m c) ?_
  blk_ext [index3]
theorem block4 (t : Fin cfg0.N) (k : Fin 2048) : (iblk m c 4 t : FVec Ideal S1x2048 .f32) (ix2 0 k) = argB m c (ix1 k) := by
  refine Eq.trans ?_ (reshaped0 m c k)
  blk_simp [iblk]
  refine congrArg (V m c main_v0 : FVec Ideal S1x2048 .f32) ?_
  blk_ext [index4]
theorem block5 (t : Fin cfg0.N) : (fun k => (iblk m c 5 t : FVec Ideal S1x2048 .f32) (ix2 0 k)) = fun k => argG m c (ix1 k) := by
  funext k
  refine Eq.trans ?_ (reshaped1 m c k)
  blk_simp [iblk]
  refine congrArg (V m c main_v1 : FVec Ideal S1x2048 .f32) ?_
  blk_ext [index5]
theorem block6 (t : Fin cfg0.N) : (fun k => (iblk m c 6 t : FVec Ideal S1x2048 .f32) (ix2 0 k)) = fun k => argS m c (ix1 k) := by
  funext k
  refine Eq.trans ?_ (reshaped2 m c k)
  blk_simp [iblk]
  refine congrArg (V m c main_v2 : FVec Ideal S1x2048 .f32) ?_
  blk_ext [index6]

/-- Where the results' blocks lie. -/
theorem emb7 (t : Fin cfg0.N) (r : Fin 8) (j : Fin 2048) : ((View.whole main_v3_0).slice (win0_7.rect t)).emb (ix2 r j) = ix2 (row (seqOf t) r) j := by
  unfold row seqOf
  blk_ext [index7]
theorem emb8 (t : Fin cfg0.N) (i : Fin 30) (j : Fin 2048) : ((View.whole main_v3_1).slice (win0_8.rect t)).emb (ix3 0 i j) = ix3 (seqOf t) i j := by
  unfold seqOf
  blk_ext [index8]

end

/-- The rows a sequence's taps are summed over, from the whole arrays. -/
def seqRows (glu : FVec Ideal S64x4096 .f32) (buf : FVec Ideal S8x30x2048 .f32) (b : Fin 8) : Fin 40 → Fin 2048 → EReal :=
  rows (fun r (k : Fin 2048) => glu (ix2 (row b r) ⟨k.val, by omega⟩)) (fun r (k : Fin 2048) => glu (ix2 (row b r) ⟨2048 + k.val, by omega⟩)) (fun i k => buf (ix3 b i k))

/-- The activations of a sequence's row, from the whole arrays. -/
def act (glu : FVec Ideal S64x4096 .f32) (buf : FVec Ideal S8x30x2048 .f32) (w : FVec Ideal S31x2048 .f32) (cb g s : FVec Ideal S2048 .f32) (b r : Fin 8) (j : Fin 2048) : EReal :=
  silu (fun k => conv (fun i => seqRows glu buf b i k) (fun i => w (ix2 i k)) (cb (ix1 k)) r) (fun k => g (ix1 k)) (fun k => s (ix1 k)) j

/-- The result arrays. -/
def final7 (glu : FVec Ideal S64x4096 .f32) (buf : FVec Ideal S8x30x2048 .f32) (w : FVec Ideal S31x2048 .f32) (cb g s : FVec Ideal S2048 .f32) (y : S64x2048.Idx) : EReal :=
  act glu buf w cb g s ⟨(y (0 : Fin 2)).val / 8, by have : (y (0 : Fin 2)).val < 64 := (y (0 : Fin 2)).isLt; omega⟩ ⟨(y (0 : Fin 2)).val % 8, Nat.mod_lt _ (by omega)⟩ (y (1 : Fin 2))
def final8 (glu : FVec Ideal S64x4096 .f32) (buf : FVec Ideal S8x30x2048 .f32) (y : S8x30x2048.Idx) : EReal :=
  seqRows glu buf (y (0 : Fin 3)) ⟨10 + (y (1 : Fin 3)).val, by have : (y (1 : Fin 3)).val < 30 := (y (1 : Fin 3)).isLt; omega⟩ (y (2 : Fin 3))

theorem final7_at (glu : FVec Ideal S64x4096 .f32) (buf : FVec Ideal S8x30x2048 .f32) (w : FVec Ideal S31x2048 .f32) (cb g s : FVec Ideal S2048 .f32) (b r : Fin 8) (j : Fin 2048) :
    final7 glu buf w cb g s (ix2 (row b r) j) = act glu buf w cb g s b r j := by
  have e1 : (b.val * 8 + r.val) / 8 = b.val := by omega
  have e2 : (b.val * 8 + r.val) % 8 = r.val := by omega
  exact congrArg₂ (fun u v => act glu buf w cb g s u v j) (Fin.ext e1) (Fin.ext e2)

section
variable (m : (ℓ : Loc nD τ sig) → Buf (Elt Ideal) ℓ) (c : Dev nD)

theorem final7_eq : (dats m 0 c).arrAt 7 cfg0.N = final7 (argGlu m c) (argBuf m c) (argW m c) (argB m c) (argG m c) (argS m c) := by
  refine (dats m 0 c).arrAt_eq_of_covers 7 _ (by decide +kernel) fun t hf y => ?_
  blk_simp
  rw [after0_7]
  idx_vars y
  rw [out7_at, emb7, final7_at]
  unfold conv_of act seqRows
  simp only [block0, block1, block2, block3, block4, block5, block6]

theorem final8_eq : (dats m 0 c).arrAt 8 cfg0.N = final8 (argGlu m c) (argBuf m c) := by
  refine (dats m 0 c).arrAt_eq_of_covers 8 _ (by decide +kernel) fun t hf y => ?_
  blk_simp
  rw [after0_8]
  idx_vars y
  obtain rfl : y0 = 0 := Subsingleton.elim _ _
  rw [out8_at, emb8, block0, block1, block2]
  rfl
end

end Cert.Proof.ConvS

end
-- ==== Proof.ConvS.lean ====
/-
  The convolution of the sample rows against its reference: both programs end with the same arrays, for any arguments.
-/
module

public import proofs.«01_k».proof.Defs
public import proofs.«01_k».proof.Proof.ConvSKernel
public import proofs.«01_k».proof.Proof.Gen.ConvS
public import proofs.«01_k».proof.Proof.Gen.ConvS.Frame
public import proofs.«01_k».proof.Proof.Gen.ConvSReferenceIdeal.Run

@[expose] public section
set_option maxRecDepth 16384
noncomputable section
namespace Cert.Proof.ConvS
open Idealize.ShloMosaic Idealize.ShloMosaic.TcCoe Idealize.ShloMosaic.Pipeline
open Idealize.SL Idealize.SL.Sem
open Idealize.ShloMosaic.StableHlo

section
open Cert.ConvSReferenceIdeal Cert.ConvSReferenceIdeal.Gen Cert.ConvSReferenceIdeal.Value

variable (V0 : Valuation Cert.ConvSReferenceIdeal.τ Cert.ConvSReferenceIdeal.sig (Elt Ideal))

theorem ref_rows (b : Fin 8) (i : Fin 38) (j : Fin 2048) : (res_main_v10 V0 (ix3 b i j) : EReal)
    = seqRows (V0 (Proc.devRef .tc Cert.ConvSReferenceIdeal.main_arg0)) (V0 (Proc.devRef .tc Cert.ConvSReferenceIdeal.main_arg1)) b ⟨i.val + 2, by omega⟩ j := by
  pointwise [res_main_v10, res_main_v0, seqRows, rows, sigm]
  by_cases h : i.val < 30
  · rw [dif_pos h, dif_pos (by omega), dif_neg (by omega)]
    rfl
  · have e : (⟨i.val + 2 - 32, by omega⟩ : Fin 8) = ⟨i.val - 30, by omega⟩ := Fin.ext (by omega : i.val + 2 - 32 = i.val - 30)
    rw [dif_neg h, dif_neg (by omega), e]
    rfl

/-- The taps' sum, the rows counted from the first that a tap reads. -/
def taps' (H : Fin 38 → EReal) (w : Fin 31 → EReal) (r : Fin 8) : (n : ℕ) → n < 31 → EReal
  | 0, _ => H ⟨r.val, by omega⟩ * w 0
  | n + 1, h => taps' H w r n (by omega) + H ⟨n + 1 + r.val, by omega⟩ * w ⟨n + 1, h⟩

theorem taps_eq (H : Fin 40 → EReal) (w : Fin 31 → EReal) (r : Fin 8) : ∀ (n : ℕ) (h : n < 31), taps H w r n h = taps' (fun i => H ⟨i.val + 2, by omega⟩) w r n h
  | 0, _ => by
    have e : (⟨2 + r.val, by omega⟩ : Fin 40) = ⟨r.val + 2, by omega⟩ := Fin.ext (Nat.add_comm _ _)
    unfold taps taps'
    rw [e]
  | n + 1, h => by
    have e : (⟨n + 3 + r.val, by omega⟩ : Fin 40) = ⟨n + 1 + r.val + 2, by omega⟩ := Fin.ext (by omega : n + 3 + r.val = n + 1 + r.val + 2)
    unfold taps taps'
    rw [taps_eq H w r n, e]

theorem ref_conv (b r : Fin 8) (j : Fin 2048) : (res_main_v231 V0 (ix3 b r j) : EReal)
    = conv (fun i => seqRows (V0 (Proc.devRef .tc Cert.ConvSReferenceIdeal.main_arg0)) (V0 (Proc.devRef .tc Cert.ConvSReferenceIdeal.main_arg1)) b i j)
        (fun i => (V0 (Proc.devRef .tc Cert.ConvSReferenceIdeal.main_arg2) : FVec Ideal S31x2048 .f32) (ix2 i j)) ((V0 (Proc.devRef .tc Cert.ConvSReferenceIdeal.main_arg3) : FVec Ideal S2048 .f32) (ix1 j)) r := by
  unfold conv
  rw [taps_eq]
  simp only [← ref_rows V0]
  unfold res_main_v231 res_main_v165 res_main_v88
  generalize hu : res_main_v10 V0 = u
  pointwise [taps']

/-- The convolution less its row's mean, and the normalized row, from the row of the convolution. -/
theorem ref_centred (b r : Fin 8) (f : Fin 2048 → EReal) (hf : ∀ k, (res_main_v231 V0 (ix3 b r k) : EReal) = f k) (j : Fin 2048) : (res_main_v237 V0 (ix3 b r j) : EReal) = f j - mean f := by
  pointwise [res_main_v237, hf, mean]

theorem ref_norm (b r : Fin 8) (f : Fin 2048 → EReal) (hf : ∀ k, (res_main_v231 V0 (ix3 b r k) : EReal) = f k) (j : Fin 2048) : (res_main_v253 V0 (ix3 b r j) : EReal)
    = norm f (fun k => (V0 (Proc.devRef .tc Cert.ConvSReferenceIdeal.main_arg4) : FVec Ideal S2048 .f32) (ix1 k)) (fun k => (V0 (Proc.devRef .tc Cert.ConvSReferenceIdeal.main_arg5) : FVec Ideal S2048 .f32) (ix1 k)) j := by
  unfold norm
  generalize hmu : mean f = mu
  have hc : ∀ k, (res_main_v237 V0 (ix3 b r k) : EReal) = f k - mu := fun k => hmu ▸ ref_centred V0 b r f hf k
  pointwise [res_main_v253, hc, mean]

theorem ref_act (b r : Fin 8) (j : Fin 2048) : (mulf (res_main_v253 V0) (Host.divf (broadcastInDim Cert.ConvSReferenceIdeal.S8x8x2048 ![] bcast_S_S8x8x2048 (constant Cert.ConvSReferenceIdeal.S_ .f32 0x3F800000#32)) (addf (broadcastInDim Cert.ConvSReferenceIdeal.S8x8x2048 ![] bcast_S_S8x8x2048 (constant Cert.ConvSReferenceIdeal.S_ .f32 0x3F800000#32)) (Host.exp (Host.negf (res_main_v253 V0))))) (ix3 b r j) : EReal)
    = act (V0 (Proc.devRef .tc Cert.ConvSReferenceIdeal.main_arg0)) (V0 (Proc.devRef .tc Cert.ConvSReferenceIdeal.main_arg1)) (V0 (Proc.devRef .tc Cert.ConvSReferenceIdeal.main_arg2)) (V0 (Proc.devRef .tc Cert.ConvSReferenceIdeal.main_arg3)) (V0 (Proc.devRef .tc Cert.ConvSReferenceIdeal.main_arg4)) (V0 (Proc.devRef .tc Cert.ConvSReferenceIdeal.main_arg5)) b r j := by
  pointwise [ref_norm V0 b r _ (ref_conv V0 b r), act, silu, sigm]
end

section
open Cert.ConvSReferenceIdeal.Value

/-- Every argument array is left as it was, and every counter is zero: of the kernel's two runs and of the reference's. -/
theorem quiescent : Cert.quiescent_ConvS (hConvS := Cert.ConvS.Gen.facts) := fun m g _ => Cert.ConvS.Gen.frame m g
theorem quiescent_ideal : Cert.quiescent_ConvSIdeal (hConvSIdeal := Cert.ConvSIdeal.Gen.facts) := fun m g _ => Cert.ConvSIdeal.Gen.frame m g
theorem quiescent_ref : Cert.quiescent_ConvSReferenceIdeal (hConvSReferenceIdeal := Cert.ConvSReferenceIdeal.Gen.facts) := fun m g _ =>
  (θ_run _ _ _).mono (fun r h => ⟨fun c => (h c).2.2, sem_eq_zero_of_no_sems rfl r.2⟩) (Cert.ConvSReferenceIdeal.Value.run (F := Ideal) m g)

/-- The kernel and the reference, run from the same arguments, end with the same arrays. -/
theorem algebraic : Cert.algebraic_ConvSIdeal_ConvSReferenceIdeal (hConvSIdeal := Cert.ConvSIdeal.Gen.facts) (hConvSReferenceIdeal := Cert.ConvSReferenceIdeal.Gen.facts) := by
  intro m g m' g' _ hargs
  refine ⟨fun c => final7 (argGlu m c) (argBuf m c) (argW m c) (argB m c) (argG m c) (argS m c), fun c => final8 (argGlu m c) (argBuf m c), ?_, ?_⟩
  · exact (θ_run _ _ _).mono (fun r h c => ⟨(h c).1.trans (final7_eq m c), (h c).2.1.trans (final8_eq m c), (h c).2.2⟩) (Cert.ConvSIdeal.Value.run_blocks (F := Ideal) m g)
  · refine (θ_run _ _ _).mono (fun r h c => ⟨(h c).1.trans ?_, (h c).2.1.trans ?_, (h c).2.2⟩) (Cert.ConvSReferenceIdeal.Value.run (F := Ideal) m' g')
    · obtain ⟨a0, a1, a2, a3, a4, a5⟩ := hargs c
      funext y
      idx_vars y
      unfold argGlu argBuf argW argB argG argS
      rw [← a0, ← a1, ← a2, ← a3, ← a4, ← a5]
      refine Eq.trans ?_ (ref_act (launchContents m' c) ⟨y0.val / 8, by omega⟩ ⟨y0.val % 8, by omega⟩ y1)
      generalize mulf (res_main_v253 (launchContents m' c)) _ = x
      pointwise
    · obtain ⟨a0, a1, a2, a3, a4, a5⟩ := hargs c
      funext y
      idx_vars y
      unfold argGlu argBuf
      rw [← a0, ← a1]
      pointwise [ref_rows (launchContents m' c), final8]
      exact congrArg (fun i => seqRows _ _ y0 i y2) (Fin.ext (by omega : 8 + y1.val + 2 = 10 + y1.val))
end
end Cert.Proof.ConvS
end
-- ==== Proof.GlaSKernel.lean ====
/-
  The gated linear attention of the sample rows as the kernel computes it: one head's rows and state from its blocks, the
  scratch's states, and the two result arrays as functions of the whole argument arrays.
-/
module

public import proofs.«01_k».proof.Defs
public import proofs.«01_k».proof.Proof.Norm
public import Idealize.ShloMosaic.Lib.Pipeline.ValueKit.Geometry
public import Idealize.ShloMosaic.Lib.ValueLayout
public import proofs.«01_k».proof.Proof.Gen.GlaSIdeal
public import proofs.«01_k».proof.Proof.Gen.GlaSIdeal.Value
@[expose] public section
set_option maxRecDepth 16384
noncomputable section
namespace Cert.Proof.GlaS
open Idealize.ShloMosaic Idealize.ShloMosaic.TcCoe Idealize.ShloMosaic.Pipeline
open Idealize.SL Idealize.SL.Sem
open Cert.GlaSIdeal Cert.GlaSIdeal.Gen

/-- The weight of row `u` in row `t`'s sum: the scaled query times the key, each channel decayed from `u` to `t`. -/
def weight (q k b : Fin 8 → Fin 128 → EReal) (t u : Fin 8) : EReal :=
  ∑ i, q t i * Ideal.ofBits FTy.f32 0x3DB504F3#32 * Ideal.exp (if u ≤ t then b t i - b u i else Ideal.ofBits FTy.f32 0xFF800000#32) * k u i

/-- A head's row before normalization: what the state gives and what the rows up to this one give. -/
def mix (q k b : Fin 8 → Fin 128 → EReal) (v : Fin 8 → Fin 256 → EReal) (s : Fin 128 → Fin 256 → EReal) (t : Fin 8) (j : Fin 256) : EReal :=
  (∑ i, q t i * Ideal.ofBits FTy.f32 0x3DB504F3#32 * Ideal.exp (b t i) * s i j) + ∑ u, weight q k b t u * v u j

/-- A row divided by the root of its mean square, scaled and gated. -/
def gated (f g r : Fin 256 → EReal) (j : Fin 256) : EReal :=
  f j * Ideal.rsqrt (Ideal.div (∑ i, f i * f i) (Ideal.ofBits FTy.f32 0x43800000#32) + Ideal.ofBits FTy.f32 0x358637BD#32) * g j
    * (r j * Ideal.div 1 (1 + Ideal.exp (-(r j))))

/-- A head's state after the rows. -/
def next (k b : Fin 8 → Fin 128 → EReal) (v : Fin 8 → Fin 256 → EReal) (s : Fin 128 → Fin 256 → EReal) (i : Fin 128) (j : Fin 256) : EReal :=
  Ideal.exp (b 7 i) * s i j + ∑ u, v u j * (k u i * Ideal.exp (b 7 i - b u i))

/-- The mask's choice, as a condition on the rows. -/
theorem masked (t u : Fin 8) (x y : EReal) : Scalar.select (α := EReal) (IntOp.cmpi CmpIPredicate.sle (BitVec.ofNat 32 u.val) (BitVec.ofNat 32 t.val)) x y = if u ≤ t then x else y := by
  have e : ∀ t u : Fin 8, IntOp.cmpi CmpIPredicate.sle (BitVec.ofNat 32 u.val) (BitVec.ofNat 32 t.val) = if u ≤ t then 1#1 else 0#1 := by decide
  rw [e]
  split_ifs <;> rfl

section
variable (q k b : FVec Ideal S8x128 .f32) (v r : FVec Ideal S8x256 .f32) (s : FVec Ideal S1x256x128 .f32) (g : FVec Ideal S1x256 .f32)

/-- What a head's store takes, and its state's store, from the head's loads. -/
def outV : FVec Ideal S8x256 .f32 := k0_pay18 (k0_pay11 g) v (k0_pay14 q b s) (k0_pay15 q b) (k0_pay16 k) r
def nextV : FVec Ideal S1x256x128 .f32 := k0_pay17 k v b (k0_pay13 s)

theorem outV1 : k0_pay27 (k0_pay11 g) (k0_pay21 q b s) (k0_pay22 k0_pay10 q k v b) r = outV q k b v r s g := rfl
theorem outV2 : k0_pay33 (k0_pay11 g) (k0_pay31 k0_pay10 (k0_pay28 q) k v b s) (k0_pay32 k0_pay10 (k0_pay28 q) k v b s) (Scalar.ofBits .f32 0x358637BD#32) r = outV q k b v r s g := rfl
theorem outV3 : k0_pay1 (k0_pay39 (k0_pay11 g) (k0_pay34 q) k v (k0_pay36 q b s) (k0_pay37 k0_pay10 b)) r (k0_pay40 r) (Scalar.ofBits .f32 0x3F800000#32) = outV q k b v r s g := rfl
theorem nextV1 : k0_pay26 (k0_pay20 s) (k0_pay24 k v b) (k0_pay25 b) = nextV k b v s := rfl
theorem nextV2 : k0_pay30 k v b s = nextV k b v s := rfl
theorem nextV3 : k0_pay38 k v b (k0_pay35 s) = nextV k b v s := rfl

variable (Q K B : Fin 8 → Fin 128 → EReal) (V R : Fin 8 → Fin 256 → EReal) (S : Fin 128 → Fin 256 → EReal) (G : Fin 256 → EReal)
    (hq : ∀ t i, (q (ix2 t i) : EReal) = Q t i) (hk : ∀ t i, (k (ix2 t i) : EReal) = K t i) (hb : ∀ t i, (b (ix2 t i) : EReal) = B t i)
    (hv : ∀ t j, (v (ix2 t j) : EReal) = V t j) (hr : ∀ t j, (r (ix2 t j) : EReal) = R t j) (hs : ∀ i j, (s (ix3 0 j i) : EReal) = S i j) (hg : ∀ j, (g (ix2 0 j) : EReal) = G j)
include hk hb hv hs

theorem nextV_at (i : Fin 128) (j : Fin 256) : (nextV k b v s (ix3 0 j i) : EReal) = next K B V S i j := by
  unfold nextV next
  pointwise [k0_pay17, k0_pay13, hk, hb, hv, hs]

include hq hr hg

theorem outV_at (t : Fin 8) (j : Fin 256) : (outV q k b v r s g (ix2 t j) : EReal) = gated (mix Q K B V S t) G (R t) j := by
  unfold outV gated mix weight
  pointwise [k0_pay18, k0_pay16, k0_pay15, k0_pay14, k0_pay13, k0_pay12, k0_pay11, k0_pay10, hq, hk, hb, hv, hr, hs, hg, zero_sub, masked]
end

/-- A head's channels of a point's blocks, and its state. -/
def chans (x : FVec Ideal S8x512 .f32) (h : Fin 4) (t : Fin 8) (i : Fin 128) : EReal := x (ix2 t ⟨128 * h.val + i.val, by omega⟩)
def vals (x : FVec Ideal S8x1024 .f32) (h : Fin 4) (t : Fin 8) (j : Fin 256) : EReal := x (ix2 t ⟨256 * h.val + j.val, by omega⟩)
def state (x : FVec Ideal S1x4x128x256 .f32) (h : Fin 4) (i : Fin 128) (j : Fin 256) : EReal := x (ix4 0 h i j)

/-- A head's channels of a block, as a load takes them. -/
theorem read128 (arg : Memref sig .tc .vmem S8x512 .f32) (harg : arg.IsWhole) (x : Vec Ideal S8x512 .f32) (off : Fin 2 → ℕ) (h : Fin 4) (ho : off = ![0, 128 * h.val]) (inb) (t : Fin 8) (i : Fin 128) :
    (View.readAt (Elt Ideal) arg.view (Rect.unit (s := S8x512) off S8x128.size inb).toLoadRect (harg.unread x) (ix2 t i) : EReal) = chans x h t i := by
  subst ho
  rw [View.readAt_eq_ld, Memref.IsWhole.read_unread]
  pointwise [chans]
theorem read256 (arg : Memref sig .tc .vmem S8x1024 .f32) (harg : arg.IsWhole) (x : Vec Ideal S8x1024 .f32) (off : Fin 2 → ℕ) (h : Fin 4) (ho : off = ![0, 256 * h.val]) (inb) (t : Fin 8) (i : Fin 256) :
    (View.readAt (Elt Ideal) arg.view (Rect.unit (s := S8x1024) off S8x256.size inb).toLoadRect (harg.unread x) (ix2 t i) : EReal) = vals x h t i := by
  subst ho
  rw [View.readAt_eq_ld, Memref.IsWhole.read_unread]
  pointwise [vals]
theorem read_scale (arg : Memref sig .tc .vmem S1x256 .f32) (harg : arg.IsWhole) (x : Vec Ideal S1x256 .f32) (inb) (i : Fin 256) :
    (View.readAt (Elt Ideal) arg.view (Rect.unit (s := S1x256) ![0, 0] S1x256.size inb).toLoadRect (harg.unread x) (ix2 0 i) : EReal) = (x : FVec Ideal S1x256 .f32) (ix2 0 i) := by
  rw [View.readAt_eq_ld, Memref.IsWhole.read_unread]
  pointwise

/-- The scratch's last store at a head: read at that head it gives what was stored, read at another what was there before. -/
theorem canon_hit (o : ℕ) (inb) (p : FVec Ideal S1x256x128 .f32) (L : List (View.Piece (Elt Ideal) S4x256x128 .f32)) (h : Fin 4) (e : h.val = o) (j : Fin 256) (i : Fin 128) :
    (View.canon (⟨Rect.unit (s := S4x256x128) ![o, 0, 0] S1x256x128.size inb, p⟩ :: L) (ix3 h j i) : EReal) = p (ix3 0 j i) := by
  subst e
  have e : (ix3 h j i : S4x256x128.Idx) = (Rect.unit (s := S4x256x128) ![h.val, 0, 0] S1x256x128.size inb).emb (ix3 0 j i) := by blk_ext
  rw [e, View.canon_cons_emb]
theorem canon_miss (o : ℕ) (inb) (p : FVec Ideal S1x256x128 .f32) (L : List (View.Piece (Elt Ideal) S4x256x128 .f32)) (h : Fin 4) (e : h.val ≠ o) (j : Fin 256) (i : Fin 128) :
    (View.canon (⟨Rect.unit (s := S4x256x128) ![o, 0, 0] S1x256x128.size inb, p⟩ :: L) (ix3 h j i) : EReal) = View.canon L (ix3 h j i) :=
  View.canon_cons_of_not_mem _ _ (Rect.not_mem_set_of_axis (s := S4x256x128) _ _ (0 : Fin 3) o 1 rfl rfl rfl (by omega : h.val < o ∨ o + 1 ≤ h.val))
/-- A head's state in the scratch, as a load takes it. -/
theorem state_read (arg : Memref sig .tc .vmem S4x256x128 .f32) (L : List (View.Piece (Elt Ideal) S4x256x128 .f32)) (o : ℕ) (ho : o < 4) (inb) (j : Fin 256) (i : Fin 128) :
    (arg.view.readCov L (Rect.unit (s := S4x256x128) ![o, 0, 0] S1x256x128.size inb).toLoadRect (ix3 0 j i) : EReal) = View.canon L (ix3 ⟨o, ho⟩ j i) := by
  rw [View.readCov_eq_canon']
  refine congrArg (View.canon L) (Rect.emb_eq_of_coords (Rect.unit (s := S4x256x128) ![o, 0, 0] S1x256x128.size inb) (ix3 0 j i) _ fun a => ?_)
  fin_cases a
  · exact (by omega : o = o + 1 * 0)
  · exact (by omega : j.val = 0 + 1 * j.val)
  · exact (by omega : i.val = 0 + 1 * i.val)

/-- The rows' last store at a head, in the same way. -/
theorem rows_hit (W : View sig .tc .vmem S8x1024 .f32) (f) (off : Fin 2 → ℕ) (o : ℕ) (ho : off = ![0, 256 * o]) (inb) (p : FVec Ideal S8x256 .f32) (L : List (View.Piece (Elt Ideal) S8x1024 .f32)) (h : Fin 4) (e : h.val = o) (t : Fin 8) (j : Fin 256) :
    (W.read (Elt Ideal) (W.writes (Elt Ideal) f (⟨Rect.unit (s := S8x1024) off ![8, 256] inb, p⟩ :: L)) (ix2 t ⟨256 * h.val + j.val, by omega⟩) : EReal) = p (ix2 t j) := by
  subst ho
  refine View.read_writes_cons_hit _ _ _ _ _ _ _ (Rect.emb_eq_of_coords _ _ _ (Fin.forall_fin_two.mpr ⟨?_, ?_⟩))
  · exact (by omega : t.val = 0 + 1 * t.val)
  · exact (by omega : 256 * h.val + j.val = 256 * o + 1 * j.val)
theorem rows_miss (W : View sig .tc .vmem S8x1024 .f32) (f) (off : Fin 2 → ℕ) (o : ℕ) (ho : off = ![0, 256 * o]) (inb) (p : FVec Ideal S8x256 .f32) (L : List (View.Piece (Elt Ideal) S8x1024 .f32)) (h : Fin 4) (e : h.val ≠ o) (t : Fin 8) (j : Fin 256) :
    (W.read (Elt Ideal) (W.writes (Elt Ideal) f (⟨Rect.unit (s := S8x1024) off ![8, 256] inb, p⟩ :: L)) (ix2 t ⟨256 * h.val + j.val, by omega⟩) : EReal)
      = W.read (Elt Ideal) (W.writes (Elt Ideal) f L) (ix2 t ⟨256 * h.val + j.val, by omega⟩) := by
  subst ho
  exact View.read_writes_cons_miss_of_axis _ _ _ _ _ (1 : Fin 2) (256 * o) 256 rfl rfl rfl (by omega : 256 * h.val + j.val < 256 * o ∨ 256 * o + 256 ≤ 256 * h.val + j.val)

/-- The states' last store at a head, in the same way. -/
theorem states_hit (W : View sig .tc .vmem S1x4x128x256 .f32) (f) (o : ℕ) (inb) (p : FVec Ideal S1x1x128x256 .f32) (L : List (View.Piece (Elt Ideal) S1x4x128x256 .f32)) (h : Fin 4) (e : h.val = o) (i : Fin 128) (j : Fin 256) :
    (W.read (Elt Ideal) (W.writes (Elt Ideal) f (⟨Rect.unit (s := S1x4x128x256) ![0, o, 0, 0] ![1, 1, 128, 256] inb, p⟩ :: L)) (ix4 0 h i j) : EReal) = p (ix4 0 0 i j) := by
  refine View.read_writes_cons_hit _ _ _ _ _ _ _ (Rect.emb_eq_of_coords _ _ _ fun a => ?_)
  fin_cases a
  · rfl
  · exact (by omega : h.val = o + 1 * 0)
  · exact (by omega : i.val = 0 + 1 * i.val)
  · exact (by omega : j.val = 0 + 1 * j.val)
theorem states_miss (W : View sig .tc .vmem S1x4x128x256 .f32) (f) (o : ℕ) (inb) (p : FVec Ideal S1x1x128x256 .f32) (L : List (View.Piece (Elt Ideal) S1x4x128x256 .f32)) (h : Fin 4) (e : h.val ≠ o) (i : Fin 128) (j : Fin 256) :
    (W.read (Elt Ideal) (W.writes (Elt Ideal) f (⟨Rect.unit (s := S1x4x128x256) ![0, o, 0, 0] ![1, 1, 128, 256] inb, p⟩ :: L)) (ix4 0 h i j) : EReal) = W.read (Elt Ideal) (W.writes (Elt Ideal) f L) (ix4 0 h i j) :=
  View.read_writes_cons_miss_of_axis _ _ _ _ _ (1 : Fin 4) o 1 rfl rfl rfl (by omega : h.val < o ∨ o + 1 ≤ h.val)

section
variable (c : Dev nD) (arg4 : Memref sig .tc .vmem S8x512 .f32) (harg4 : arg4.IsWhole) (arg5 : Memref sig .tc .vmem S8x1024 .f32) (harg5 : arg5.IsWhole)
  (arg7 : Memref sig .tc .vmem S8x512 .f32) (harg7 : arg7.IsWhole) (arg8 : Memref sig .tc .vmem S1x4x128x256 .f32) (harg8 : arg8.IsWhole) (arg12 : Memref sig .tc .vmem S4x256x128 .f32)
  (x1 : Vec Ideal S8x512 .f32) (x2 : Vec Ideal S8x1024 .f32) (x4 : Vec Ideal S8x512 .f32) (x5 : Vec Ideal S1x4x128x256 .f32)

/-- The scratch before the first head holds the heads' states, each turned. -/
theorem start_at (h : Fin 4) (j : Fin 256) (i : Fin 128) : (View.canon (kernelRun0_A.sl.HS0_4 c arg8 harg8 x5) (ix3 h j i) : EReal) = state x5 h i j := by
  unfold kernelRun0_A.sl.HS0_4
  simp only [View.readAt_eq_ld, Memref.IsWhole.read_unread]
  by_cases h3 : h.val = 3
  · obtain rfl : h = 3 := Fin.ext h3
    rw [canon_hit _ _ _ _ _ h3]
    pointwise [k0_pay9, state]
  rw [canon_miss _ _ _ _ _ h3]
  by_cases h2 : h.val = 2
  · obtain rfl : h = 2 := Fin.ext h2
    rw [canon_hit _ _ _ _ _ h2]
    pointwise [k0_pay8, state]
  rw [canon_miss _ _ _ _ _ h2]
  by_cases h1 : h.val = 1
  · obtain rfl : h = 1 := Fin.ext h1
    rw [canon_hit _ _ _ _ _ h1]
    pointwise [k0_pay7, state]
  rw [canon_miss _ _ _ _ _ h1]
  obtain rfl : h = 0 := Fin.ext (by omega : h.val = 0)
  rw [canon_hit 0 _ _ _ 0 rfl]
  pointwise [k0_pay6, state]

/-- Each head's load of its state, the heads before it having stored only their own. -/
theorem load0 (j : Fin 256) (i : Fin 128) : (kernelRun0_A.sl.v20 c arg8 harg8 arg12 x5 (ix3 0 j i) : EReal) = state x5 0 i j :=
  (state_read _ _ 0 (by omega) _ j i).trans (start_at c arg8 harg8 x5 0 j i)
theorem load1 (j : Fin 256) (i : Fin 128) : (kernelRun0_A.sl.v96 c arg4 harg4 arg5 harg5 arg7 harg7 arg8 harg8 arg12 x1 x2 x4 x5 (ix3 0 j i) : EReal) = state x5 1 i j := by
  refine (state_read _ _ 1 (by omega) _ j i).trans ?_
  unfold kernelRun0_A.sl.HS0_5
  exact (canon_miss 0 _ _ _ 1 (by decide) j i).trans (start_at c arg8 harg8 x5 1 j i)
theorem load2 (j : Fin 256) (i : Fin 128) : (kernelRun0_A.sl.v172 c arg4 harg4 arg5 harg5 arg7 harg7 arg8 harg8 arg12 x1 x2 x4 x5 (ix3 0 j i) : EReal) = state x5 2 i j := by
  refine (state_read _ _ 2 (by omega) _ j i).trans ?_
  unfold kernelRun0_A.sl.HS0_6 kernelRun0_A.sl.HS0_5
  exact (canon_miss 1 _ _ _ 2 (by decide) j i).trans ((canon_miss 0 _ _ _ 2 (by decide) j i).trans (start_at c arg8 harg8 x5 2 j i))
theorem load3 (j : Fin 256) (i : Fin 128) : (kernelRun0_A.sl.v248 c arg4 harg4 arg5 harg5 arg7 harg7 arg8 harg8 arg12 x1 x2 x4 x5 (ix3 0 j i) : EReal) = state x5 3 i j := by
  refine (state_read _ _ 3 (by omega) _ j i).trans ?_
  unfold kernelRun0_A.sl.HS0_7 kernelRun0_A.sl.HS0_6 kernelRun0_A.sl.HS0_5
  exact (canon_miss 2 _ _ _ 3 (by decide) j i).trans ((canon_miss 1 _ _ _ 3 (by decide) j i).trans ((canon_miss 0 _ _ _ 3 (by decide) j i).trans (start_at c arg8 harg8 x5 3 j i)))

/-- The scratch after the last head holds the heads' new states. -/
theorem end_at (h : Fin 4) (j : Fin 256) (i : Fin 128) : (View.canon (kernelRun0_A.sl.HS0_8 c arg4 harg4 arg5 harg5 arg7 harg7 arg8 harg8 arg12 x1 x2 x4 x5) (ix3 h j i) : EReal)
    = next (chans x1 h) (chans x4 h) (vals x2 h) (state x5 h) i j := by
  unfold kernelRun0_A.sl.HS0_8
  by_cases h3 : h.val = 3
  · obtain rfl : h = 3 := Fin.ext h3
    unfold kernelRun0_A.sl.r_24 kernelRun0_A.sl.r_23 kernelRun0_A.sl.r_22 kernelRun0_A.sl.r_21
    refine (canon_hit _ _ _ _ _ h3 _ _).trans ((congrFun (nextV3 _ _ _ _) _).trans ?_)
    exact nextV_at _ _ _ _ _ _ _ _ (read128 _ _ _ _ 3 rfl _) (read128 _ _ _ _ 3 rfl _) (read256 _ _ _ _ 3 rfl _) (fun i j => load3 c arg4 harg4 arg5 harg5 arg7 harg7 arg8 harg8 arg12 x1 x2 x4 x5 j i) i j
  rw [canon_miss _ _ _ _ _ h3]
  unfold kernelRun0_A.sl.HS0_7
  by_cases h2 : h.val = 2
  · obtain rfl : h = 2 := Fin.ext h2
    unfold kernelRun0_A.sl.r_17 kernelRun0_A.sl.r_16 kernelRun0_A.sl.r_15
    refine (canon_hit _ _ _ _ _ h2 _ _).trans ((congrFun (nextV2 _ _ _ _) _).trans ?_)
    exact nextV_at _ _ _ _ _ _ _ _ (read128 _ _ _ _ 2 rfl _) (read128 _ _ _ _ 2 rfl _) (read256 _ _ _ _ 2 rfl _) (fun i j => load2 c arg4 harg4 arg5 harg5 arg7 harg7 arg8 harg8 arg12 x1 x2 x4 x5 j i) i j
  rw [canon_miss _ _ _ _ _ h2]
  unfold kernelRun0_A.sl.HS0_6
  by_cases h1 : h.val = 1
  · obtain rfl : h = 1 := Fin.ext h1
    unfold kernelRun0_A.sl.r_13 kernelRun0_A.sl.r_12 kernelRun0_A.sl.r_9
    refine (canon_hit _ _ _ _ _ h1 _ _).trans ((congrFun (nextV1 _ _ _ _) _).trans ?_)
    exact nextV_at _ _ _ _ _ _ _ _ (read128 _ _ _ _ 1 rfl _) (read128 _ _ _ _ 1 rfl _) (read256 _ _ _ _ 1 rfl _) (fun i j => load1 c arg4 harg4 arg5 harg5 arg7 harg7 arg8 harg8 arg12 x1 x2 x4 x5 j i) i j
  rw [canon_miss _ _ _ _ _ h1]
  obtain rfl : h = 0 := Fin.ext (by omega : h.val = 0)
  unfold kernelRun0_A.sl.HS0_5 kernelRun0_A.sl.r_4 kernelRun0_A.sl.r_3 kernelRun0_A.sl.r_2 kernelRun0_A.sl.r_1
  refine (canon_hit 0 _ _ _ 0 rfl _ _).trans ?_
  exact nextV_at _ _ _ _ _ _ _ _ (read128 _ _ _ _ 0 rfl _) (read128 _ _ _ _ 0 rfl _) (read256 _ _ _ _ 0 rfl _) (fun i j => load0 c arg8 harg8 arg12 x5 j i) i j

/-- Each head's last load of its state. -/
theorem done0 (j : Fin 256) (i : Fin 128) : (kernelRun0_A.sl.v317 c arg4 harg4 arg5 harg5 arg7 harg7 arg8 harg8 arg12 x1 x2 x4 x5 (ix3 0 j i) : EReal) = next (chans x1 0) (chans x4 0) (vals x2 0) (state x5 0) i j :=
  (state_read _ _ 0 (by omega) _ j i).trans (end_at c arg4 harg4 arg5 harg5 arg7 harg7 arg8 harg8 arg12 x1 x2 x4 x5 0 j i)
theorem done1 (j : Fin 256) (i : Fin 128) : (kernelRun0_A.sl.v323 c arg4 harg4 arg5 harg5 arg7 harg7 arg8 harg8 arg12 x1 x2 x4 x5 (ix3 0 j i) : EReal) = next (chans x1 1) (chans x4 1) (vals x2 1) (state x5 1) i j :=
  (state_read _ _ 1 (by omega) _ j i).trans (end_at c arg4 harg4 arg5 harg5 arg7 harg7 arg8 harg8 arg12 x1 x2 x4 x5 1 j i)
theorem done2 (j : Fin 256) (i : Fin 128) : (kernelRun0_A.sl.v329 c arg4 harg4 arg5 harg5 arg7 harg7 arg8 harg8 arg12 x1 x2 x4 x5 (ix3 0 j i) : EReal) = next (chans x1 2) (chans x4 2) (vals x2 2) (state x5 2) i j :=
  (state_read _ _ 2 (by omega) _ j i).trans (end_at c arg4 harg4 arg5 harg5 arg7 harg7 arg8 harg8 arg12 x1 x2 x4 x5 2 j i)
theorem done3 (j : Fin 256) (i : Fin 128) : (kernelRun0_A.sl.v335 c arg4 harg4 arg5 harg5 arg7 harg7 arg8 harg8 arg12 x1 x2 x4 x5 (ix3 0 j i) : EReal) = next (chans x1 3) (chans x4 3) (vals x2 3) (state x5 3) i j :=
  (state_read _ _ 3 (by omega) _ j i).trans (end_at c arg4 harg4 arg5 harg5 arg7 harg7 arg8 harg8 arg12 x1 x2 x4 x5 3 j i)
end

section
variable (m : (ℓ : Loc nD τ sig) → Buf (Elt Ideal) ℓ) (c : Dev nD)

/-- What a point's block of the rows holds at a head. -/
theorem out7_at (t : Fin cfg0.N) (h : Fin 4) (r : Fin 8) (j : Fin 256) : ((outsAt0 m c t).1 (ix2 r ⟨256 * h.val + j.val, by omega⟩) : EReal)
    = gated (mix (chans (iblk m c 0 t) h) (chans (iblk m c 1 t) h) (chans (iblk m c 4 t) h) (vals (iblk m c 2 t) h) (state (iblk m c 5 t) h) r)
        (fun k => (iblk m c 6 t : FVec Ideal S1x256 .f32) (ix2 0 k)) (vals (iblk m c 3 t) h r) j := by
  unfold outsAt0 out0_A_7
  dsimp only [kernelRun0_A]
  by_cases h3 : h.val = 3
  · obtain rfl : h = 3 := Fin.ext h3
    unfold kernelRun0_A.sl.r_29 kernelRun0_A.sl.r_28 kernelRun0_A.sl.r_27 kernelRun0_A.sl.r_26 kernelRun0_A.sl.r_25 kernelRun0_A.sl.r_22 kernelRun0_A.sl.r_21 kernelRun0_A.sl.r_20 kernelRun0_A.sl.r kernelRun0_A.sl.cst_88
    refine (rows_hit _ _ _ 3 rfl _ _ _ _ h3 _ _).trans ((congrFun (outV3 _ _ _ _ _ _ _) _).trans ?_)
    exact outV_at _ _ _ _ _ _ _ _ _ _ _ _ _ _ (read128 _ _ _ _ 3 rfl _) (read128 _ _ _ _ 3 rfl _) (read128 _ _ _ _ 3 rfl _) (read256 _ _ _ _ 3 rfl _) (read256 _ _ _ _ 3 rfl _) (fun i j => load3 _ _ _ _ _ _ _ _ _ _ _ _ _ _ j i) (read_scale _ _ _ _) r j
  refine (rows_miss _ _ _ 3 rfl _ _ _ _ h3 _ _).trans ?_
  by_cases h2 : h.val = 2
  · obtain rfl : h = 2 := Fin.ext h2
    unfold kernelRun0_A.sl.r_19 kernelRun0_A.sl.r_18 kernelRun0_A.sl.r_17 kernelRun0_A.sl.r_16 kernelRun0_A.sl.r_15 kernelRun0_A.sl.r_14 kernelRun0_A.sl.r kernelRun0_A.sl.cst_63
    refine (rows_hit _ _ _ 2 rfl _ _ _ _ h2 _ _).trans ((congrFun (outV2 _ _ _ _ _ _ _) _).trans ?_)
    exact outV_at _ _ _ _ _ _ _ _ _ _ _ _ _ _ (read128 _ _ _ _ 2 rfl _) (read128 _ _ _ _ 2 rfl _) (read128 _ _ _ _ 2 rfl _) (read256 _ _ _ _ 2 rfl _) (read256 _ _ _ _ 2 rfl _) (fun i j => load2 _ _ _ _ _ _ _ _ _ _ _ _ _ _ j i) (read_scale _ _ _ _) r j
  refine (rows_miss _ _ _ 2 rfl _ _ _ _ h2 _ _).trans ?_
  by_cases h1 : h.val = 1
  · obtain rfl : h = 1 := Fin.ext h1
    unfold kernelRun0_A.sl.r_11 kernelRun0_A.sl.r_10 kernelRun0_A.sl.r
    refine (rows_hit _ _ _ 1 rfl _ _ _ _ h1 _ _).trans ((congrFun (outV1 _ _ _ _ _ _ _) _).trans ?_)
    exact outV_at _ _ _ _ _ _ _ _ _ _ _ _ _ _ (read128 _ _ _ _ 1 rfl _) (read128 _ _ _ _ 1 rfl _) (read128 _ _ _ _ 1 rfl _) (read256 _ _ _ _ 1 rfl _) (read256 _ _ _ _ 1 rfl _) (fun i j => load1 _ _ _ _ _ _ _ _ _ _ _ _ _ _ j i) (read_scale _ _ _ _) r j
  refine (rows_miss _ _ _ 1 rfl _ _ _ _ h1 _ _).trans ?_
  obtain rfl : h = 0 := Fin.ext (by omega : h.val = 0)
  unfold kernelRun0_A.sl.r_8 kernelRun0_A.sl.r_7 kernelRun0_A.sl.r_6 kernelRun0_A.sl.r_5 kernelRun0_A.sl.r_2 kernelRun0_A.sl.r
  refine (rows_hit _ _ _ 0 rfl _ _ _ _ rfl _ _).trans ?_
  exact outV_at _ _ _ _ _ _ _ _ _ _ _ _ _ _ (read128 _ _ _ _ 0 rfl _) (read128 _ _ _ _ 0 rfl _) (read128 _ _ _ _ 0 rfl _) (read256 _ _ _ _ 0 rfl _) (read256 _ _ _ _ 0 rfl _) (fun i j => load0 _ _ _ _ _ j i) (read_scale _ _ _ _) r j

/-- What a point's block of the states holds at a head. -/
theorem out8_at (t : Fin cfg0.N) (h : Fin 4) (i : Fin 128) (j : Fin 256) : ((outsAt0 m c t).2 (ix4 0 h i j) : EReal)
    = next (chans (iblk m c 1 t) h) (chans (iblk m c 4 t) h) (vals (iblk m c 2 t) h) (state (iblk m c 5 t) h) i j := by
  unfold outsAt0 out0_A_8
  dsimp only [kernelRun0_A]
  by_cases h3 : h.val = 3
  · obtain rfl : h = 3 := Fin.ext h3
    refine (states_hit _ _ 3 _ _ _ _ h3 _ _).trans (Eq.trans ?_ (done3 c _ (hs0_1 t) _ (hs0_2 t) _ (hs0_4 t) _ (hs0_5 t) scM0_0 _ _ _ _ j i))
    pointwise [k0_pay5]
  refine (states_miss _ _ 3 _ _ _ _ h3 _ _).trans ?_
  by_cases h2 : h.val = 2
  · obtain rfl : h = 2 := Fin.ext h2
    refine (states_hit _ _ 2 _ _ _ _ h2 _ _).trans (Eq.trans ?_ (done2 c _ (hs0_1 t) _ (hs0_2 t) _ (hs0_4 t) _ (hs0_5 t) scM0_0 _ _ _ _ j i))
    pointwise [k0_pay4]
  refine (states_miss _ _ 2 _ _ _ _ h2 _ _).trans ?_
  by_cases h1 : h.val = 1
  · obtain rfl : h = 1 := Fin.ext h1
    refine (states_hit _ _ 1 _ _ _ _ h1 _ _).trans (Eq.trans ?_ (done1 c _ (hs0_1 t) _ (hs0_2 t) _ (hs0_4 t) _ (hs0_5 t) scM0_0 _ _ _ _ j i))
    pointwise [k0_pay3]
  refine (states_miss _ _ 1 _ _ _ _ h1 _ _).trans ?_
  obtain rfl : h = 0 := Fin.ext (by omega : h.val = 0)
  refine (states_hit _ _ 0 _ _ _ _ rfl _ _).trans (Eq.trans ?_ (done0 c _ (hs0_1 t) _ (hs0_2 t) _ (hs0_4 t) _ (hs0_5 t) scM0_0 _ _ _ _ j i))
  pointwise [k0_pay2]
end

section
variable (m : (ℓ : Loc nD τ sig) → Buf (Elt Ideal) ℓ) (c : Dev nD)

/-- The argument arrays: the projections' columns, the cumulative log gates, the states before, the scales. -/
abbrev argProj : FVec Ideal S64x6144 .f32 := m ((c.tc : Thread nD τ).loc main_arg0)
abbrev argB : FVec Ideal S64x1024 .f32 := m ((c.tc : Thread nD τ).loc main_arg1)
abbrev argS : FVec Ideal S8x8x128x256 .f32 := m ((c.tc : Thread nD τ).loc main_arg2)
abbrev argG : FVec Ideal S256 .f32 := m ((c.tc : Thread nD τ).loc main_arg3)

/-- The scales as the call reads them. -/
theorem reshaped (k : Fin 256) : (V m c main_v0 : FVec Ideal S1x256 .f32) (ix2 0 k) = argG m c (ix1 k) := by
  have h : (V m c main_v0 : FVec Ideal S1x256 .f32) = shapeCast S1x256 (argG m c) shapeCasts_S256_S1x256 := by rfl
  rw [h]
  exact ValueIdx.shapeCast_a_1a_apply _ _ _ _

/-- Where the windows' blocks lie. -/
theorem index0 : ∀ t : Fin cfg0.N, win0_0.index t = ![t.val / 2, t.val % 2] := (by decide +kernel : ∀ t : Fin grid0.N, win0_0.index t = ![t.val / 2, t.val % 2])
theorem index1 : ∀ t : Fin cfg0.N, win0_1.index t = ![t.val / 2, 2 + t.val % 2] := (by decide +kernel : ∀ t : Fin grid0.N, win0_1.index t = ![t.val / 2, 2 + t.val % 2])
theorem index2 : ∀ t : Fin cfg0.N, win0_2.index t = ![t.val / 2, 2 + t.val % 2] := (by decide +kernel : ∀ t : Fin grid0.N, win0_2.index t = ![t.val / 2, 2 + t.val % 2])
theorem index3 : ∀ t : Fin cfg0.N, win0_3.index t = ![t.val / 2, 4 + t.val % 2] := (by decide +kernel : ∀ t : Fin grid0.N, win0_3.index t = ![t.val / 2, 4 + t.val % 2])
theorem index4 : ∀ t : Fin cfg0.N, win0_4.index t = ![t.val / 2, t.val % 2] := (by decide +kernel : ∀ t : Fin grid0.N, win0_4.index t = ![t.val / 2, t.val % 2])
theorem index5 : ∀ t : Fin cfg0.N, win0_5.index t = ![t.val / 2, t.val % 2, 0, 0] := (by decide +kernel : ∀ t : Fin grid0.N, win0_5.index t = ![t.val / 2, t.val % 2, 0, 0])
theorem index6 : ∀ t : Fin cfg0.N, win0_6.index t = ![0, 0] := (by decide +kernel : ∀ t : Fin grid0.N, win0_6.index t = ![0, 0])
theorem index7 : ∀ t : Fin cfg0.N, win0_7.index t = ![t.val / 2, t.val % 2] := (by decide +kernel : ∀ t : Fin grid0.N, win0_7.index t = ![t.val / 2, t.val % 2])
theorem index8 : ∀ t : Fin cfg0.N, win0_8.index t = ![t.val / 2, t.val % 2, 0, 0] := (by decide +kernel : ∀ t : Fin grid0.N, win0_8.index t = ![t.val / 2, t.val % 2, 0, 0])

/-- The sequence a point works on, a head of its four as a head of the eight, and the row of the arrays that holds a sequence's row `r`. -/
def seqOf (t : Fin cfg0.N) : Fin 8 := ⟨t.val / 2, by have := t.isLt.trans_eq N_0; omega⟩
def headOf (t : Fin cfg0.N) (h : Fin 4) : Fin 8 := ⟨4 * (t.val % 2) + h.val, by omega⟩
def row (b r : Fin 8) : Fin 64 := ⟨b.val * 8 + r.val, by omega⟩
end

/-- A head's queries, keys, values, gates and states of a sequence, from the whole arrays. -/
def qOf (p : FVec Ideal S64x6144 .f32) (b h r : Fin 8) (i : Fin 128) : EReal := p (ix2 (row b r) ⟨128 * h.val + i.val, by omega⟩)
def kOf (p : FVec Ideal S64x6144 .f32) (b h r : Fin 8) (i : Fin 128) : EReal := p (ix2 (row b r) ⟨1024 + (128 * h.val + i.val), by omega⟩)
def vOf (p : FVec Ideal S64x6144 .f32) (b h r : Fin 8) (j : Fin 256) : EReal := p (ix2 (row b r) ⟨2048 + (256 * h.val + j.val), by omega⟩)
def rOf (p : FVec Ideal S64x6144 .f32) (b h r : Fin 8) (j : Fin 256) : EReal := p (ix2 (row b r) ⟨4096 + (256 * h.val + j.val), by omega⟩)
def bOf (p : FVec Ideal S64x1024 .f32) (b h r : Fin 8) (i : Fin 128) : EReal := p (ix2 (row b r) ⟨128 * h.val + i.val, by omega⟩)

/-- A head's gated row and new state of a sequence, from the whole arrays. -/
def outOf (p : FVec Ideal S64x6144 .f32) (cum : FVec Ideal S64x1024 .f32) (s : FVec Ideal S8x8x128x256 .f32) (g : FVec Ideal S256 .f32) (b h r : Fin 8) (j : Fin 256) : EReal :=
  gated (mix (qOf p b h) (kOf p b h) (bOf cum b h) (vOf p b h) (fun i j => s (ix4 b h i j)) r) (fun j => g (ix1 j)) (rOf p b h r) j
def nextOf (p : FVec Ideal S64x6144 .f32) (cum : FVec Ideal S64x1024 .f32) (s : FVec Ideal S8x8x128x256 .f32) (b h : Fin 8) (i : Fin 128) (j : Fin 256) : EReal :=
  next (kOf p b h) (bOf cum b h) (vOf p b h) (fun i j => s (ix4 b h i j)) i j

/-- The result arrays. -/
def final7 (p : FVec Ideal S64x6144 .f32) (cum : FVec Ideal S64x1024 .f32) (s : FVec Ideal S8x8x128x256 .f32) (g : FVec Ideal S256 .f32) (y : S64x2048.Idx) : EReal :=
  outOf p cum s g ⟨(y (0 : Fin 2)).val / 8, by have : (y (0 : Fin 2)).val < 64 := (y (0 : Fin 2)).isLt; omega⟩
    ⟨(y (1 : Fin 2)).val / 256, by have : (y (1 : Fin 2)).val < 2048 := (y (1 : Fin 2)).isLt; omega⟩ ⟨(y (0 : Fin 2)).val % 8, Nat.mod_lt _ (by omega)⟩ ⟨(y (1 : Fin 2)).val % 256, Nat.mod_lt _ (by omega)⟩
def final8 (p : FVec Ideal S64x6144 .f32) (cum : FVec Ideal S64x1024 .f32) (s : FVec Ideal S8x8x128x256 .f32) (y : S8x8x128x256.Idx) : EReal :=
  nextOf p cum s (y (0 : Fin 4)) (y (1 : Fin 4)) (y (2 : Fin 4)) (y (3 : Fin 4))

theorem final7_at (p : FVec Ideal S64x6144 .f32) (cum : FVec Ideal S64x1024 .f32) (s : FVec Ideal S8x8x128x256 .f32) (g : FVec Ideal S256 .f32) (b h r : Fin 8) (j : Fin 256) :
    final7 p cum s g (ix2 (row b r) ⟨256 * h.val + j.val, by omega⟩) = outOf p cum s g b h r j := by
  have e1 : (⟨(b.val * 8 + r.val) / 8, by omega⟩ : Fin 8) = b := Fin.ext (by omega : (b.val * 8 + r.val) / 8 = b.val)
  have e2 : (⟨(b.val * 8 + r.val) % 8, by omega⟩ : Fin 8) = r := Fin.ext (by omega : (b.val * 8 + r.val) % 8 = r.val)
  have e3 : (⟨(256 * h.val + j.val) / 256, by omega⟩ : Fin 8) = h := Fin.ext (by omega : (256 * h.val + j.val) / 256 = h.val)
  have e4 : (⟨(256 * h.val + j.val) % 256, by omega⟩ : Fin 256) = j := Fin.ext (by omega : (256 * h.val + j.val) % 256 = j.val)
  change outOf p cum s g ⟨(b.val * 8 + r.val) / 8, _⟩ ⟨(256 * h.val + j.val) / 256, _⟩ ⟨(b.val * 8 + r.val) % 8, _⟩ ⟨(256 * h.val + j.val) % 256, _⟩ = _
  rw [e1, e2, e3, e4]

section
variable (m : (ℓ : Loc nD τ sig) → Buf (Elt Ideal) ℓ) (c : Dev nD)

/-- The blocks at a point. -/
theorem block0 (t : Fin cfg0.N) (h : Fin 4) : chans (iblk m c 0 t) h = qOf (argProj m c) (seqOf t) (headOf t h) := by
  funext r i
  unfold chans qOf row seqOf headOf
  blk_simp [iblk]
  refine congrArg (argProj m c) ?_
  blk_ext [index0]
theorem block1 (t : Fin cfg0.N) (h : Fin 4) : chans (iblk m c 1 t) h = kOf (argProj m c) (seqOf t) (headOf t h) := by
  funext r i
  unfold chans kOf row seqOf headOf
  blk_simp [iblk]
  refine congrArg (argProj m c) ?_
  blk_ext [index1]
theorem block2 (t : Fin cfg0.N) (h : Fin 4) : vals (iblk m c 2 t) h = vOf (argProj m c) (seqOf t) (headOf t h) := by
  funext r i
  unfold vals vOf row seqOf headOf
  blk_simp [iblk]
  refine congrArg (argProj m c) ?_
  blk_ext [index2]
theorem block3 (t : Fin cfg0.N) (h : Fin 4) : vals (iblk m c 3 t) h = rOf (argProj m c) (seqOf t) (headOf t h) := by
  funext r i
  unfold vals rOf row seqOf headOf
  blk_simp [iblk]
  refine congrArg (argProj m c) ?_
  blk_ext [index3]
theorem block4 (t : Fin cfg0.N) (h : Fin 4) : chans (iblk m c 4 t) h = bOf (argB m c) (seqOf t) (headOf t h) := by
  funext r i
  unfold chans bOf row seqOf headOf
  blk_simp [iblk]
  refine congrArg (argB m c) ?_
  blk_ext [index4]
theorem block5 (t : Fin cfg0.N) (h : Fin 4) : state (iblk m c 5 t) h = fun i j => argS m c (ix4 (seqOf t) (headOf t h) i j) := by
  funext i j
  unfold state seqOf headOf
  blk_simp [iblk]
  refine congrArg (argS m c) ?_
  blk_ext [index5]
theorem block6 (t : Fin cfg0.N) : (fun k => (iblk m c 6 t : FVec Ideal S1x256 .f32) (ix2 0 k)) = fun k => argG m c (ix1 k) := by
  funext k
  refine Eq.trans ?_ (reshaped m c k)
  blk_simp [iblk]
  refine congrArg (V m c main_v0 : FVec Ideal S1x256 .f32) ?_
  blk_ext [index6]

/-- Where the results' blocks lie. -/
theorem emb7 (t : Fin cfg0.N) (h : Fin 4) (r : Fin 8) (j : Fin 256) : ((View.whole main_v1_0).slice (win0_7.rect t)).emb (ix2 r ⟨256 * h.val + j.val, by omega⟩) = ix2 (row (seqOf t) r) ⟨256 * (headOf t h).val + j.val, by omega⟩ := by
  unfold row seqOf headOf
  blk_ext [index7]
theorem emb8 (t : Fin cfg0.N) (h : Fin 4) (i : Fin 128) (j : Fin 256) : ((View.whole main_v1_1).slice (win0_8.rect t)).emb (ix4 0 h i j) = ix4 (seqOf t) (headOf t h) i j := by
  unfold seqOf headOf
  blk_ext [index8]

theorem final7_eq : (dats m 0 c).arrAt 7 cfg0.N = final7 (argProj m c) (argB m c) (argS m c) (argG m c) := by
  refine (dats m 0 c).arrAt_eq_of_covers 7 _ (by decide +kernel) fun t hf y => ?_
  blk_simp
  rw [after0_7]
  idx_vars y
  obtain ⟨h, j, rfl⟩ : ∃ (h : Fin 4) (j : Fin 256), y1 = ⟨256 * h.val + j.val, by omega⟩ :=
    ⟨⟨y1.val / 256, by omega⟩, ⟨y1.val % 256, by omega⟩, Fin.ext (Nat.div_add_mod y1.val 256).symm⟩
  rw [out7_at, emb7, final7_at]
  unfold outOf
  rw [block0, block1, block2, block3, block4, block5, block6]

theorem final8_eq : (dats m 0 c).arrAt 8 cfg0.N = final8 (argProj m c) (argB m c) (argS m c) := by
  refine (dats m 0 c).arrAt_eq_of_covers 8 _ (by decide +kernel) fun t hf y => ?_
  blk_simp
  rw [after0_8]
  idx_vars y
  obtain rfl : y0 = 0 := Subsingleton.elim _ _
  rw [out8_at, emb8, block1, block2, block4, block5]
  rfl
end

end Cert.Proof.GlaS

end
-- ==== Proof.GlaS.lean ====
/-
  The gated linear attention of the sample rows against its reference: both programs end with the same arrays, for any arguments.
-/
module

public import proofs.«01_k».proof.Defs
public import proofs.«01_k».proof.Proof.GlaSKernel
public import proofs.«01_k».proof.Proof.Gen.GlaS
public import proofs.«01_k».proof.Proof.Gen.GlaS.Frame
public import proofs.«01_k».proof.Proof.Gen.GlaSReferenceIdeal.Run

@[expose] public section
set_option maxRecDepth 16384
noncomputable section
namespace Cert.Proof.GlaS
open Idealize.ShloMosaic Idealize.ShloMosaic.TcCoe Idealize.ShloMosaic.Pipeline
open Idealize.SL Idealize.SL.Sem
open Idealize.ShloMosaic.StableHlo

section
open Cert.GlaSReferenceIdeal Cert.GlaSReferenceIdeal.Gen Cert.GlaSReferenceIdeal.Value

variable (p : FVec Ideal Cert.GlaSReferenceIdeal.S64x6144 .f32) (cum : FVec Ideal Cert.GlaSReferenceIdeal.S64x1024 .f32) (s : FVec Ideal Cert.GlaSReferenceIdeal.S8x8x128x256 .f32) (g : FVec Ideal Cert.GlaSReferenceIdeal.S256 .f32)

/-- The reference's arrays by sequence, token and head: queries (scaled), keys, values, cumulative log gates. -/
def refQ : FVec Ideal Cert.GlaSReferenceIdeal.S8x8x8x128 .f32 := mulf (shapeCast _ (extractStridedSlice S8x8x1024 ![0, 0, 0] (shapeCast _ p shapeCasts_S64x6144_S8x8x6144) slices_S8x8x6144_S8x8x1024_0_0_0) shapeCasts_S8x8x1024_S8x8x8x128) (broadcastInDim S8x8x8x128 ![] bcast_S_S8x8x8x128 (constant S_ .f32 0x3DB504F3#32))
def refK : FVec Ideal Cert.GlaSReferenceIdeal.S8x8x8x128 .f32 := shapeCast _ (extractStridedSlice S8x8x1024 ![0, 0, 1024] (shapeCast _ p shapeCasts_S64x6144_S8x8x6144) slices_S8x8x6144_S8x8x1024_0_0_1024) shapeCasts_S8x8x1024_S8x8x8x128
def refV : FVec Ideal Cert.GlaSReferenceIdeal.S8x8x8x256 .f32 := shapeCast _ (extractStridedSlice S8x8x2048 ![0, 0, 2048] (shapeCast _ p shapeCasts_S64x6144_S8x8x6144) slices_S8x8x6144_S8x8x2048_0_0_2048) shapeCasts_S8x8x2048_S8x8x8x256
def refB : FVec Ideal Cert.GlaSReferenceIdeal.S8x8x8x128 .f32 := shapeCast _ cum shapeCasts_S64x1024_S8x8x8x128
/-- The gate's columns, by row. -/
def refR : FVec Ideal Cert.GlaSReferenceIdeal.S64x2048 .f32 := shapeCast _ (extractStridedSlice S8x8x2048 ![0, 0, 4096] (shapeCast _ p shapeCasts_S64x6144_S8x8x6144) slices_S8x8x6144_S8x8x2048_0_0_4096) shapeCasts_S8x8x2048_S64x2048

/-- The decays between two tokens of a sequence, and the weights they give. -/
def refDecay : FVec Ideal Cert.GlaSReferenceIdeal.S8x8x8x8x128 .f32 := select (broadcastInDim S8x8x8x8x128 ![0, 1, 2, 3, 4] bcast_S1x8x8x1x1_S8x8x8x8x128_0_1_2_3_4 (broadcastInDim S1x8x8x1x1 ![1, 2] bcast_S8x8_S1x8x8x1x1_1_2 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))) (subf (broadcastInDim S8x8x8x8x128 ![0, 1, 2, 3, 4] bcast_S8x8x1x8x128_S8x8x8x8x128_0_1_2_3_4 (broadcastInDim S8x8x1x8x128 ![0, 1, 3, 4] bcast_S8x8x8x128_S8x8x1x8x128_0_1_3_4 (refB cum))) (broadcastInDim S8x8x8x8x128 ![0, 1, 2, 3, 4] bcast_S8x1x8x8x128_S8x8x8x8x128_0_1_2_3_4 (broadcastInDim S8x1x8x8x128 ![0, 2, 3, 4] bcast_S8x8x8x128_S8x1x8x8x128_0_2_3_4 (refB cum)))) (broadcastInDim S8x8x8x8x128 ![] bcast_S_S8x8x8x8x128 (id (constant S_ .f32 0xFF800000#32)))
def refWeight : FVec Ideal Cert.GlaSReferenceIdeal.S8x8x8x8 .f32 := Host.reduceAdd (mulf (mulf (broadcastInDim S8x8x8x8x128 ![0, 1, 2, 3, 4] bcast_S8x8x1x8x128_S8x8x8x8x128_0_1_2_3_4 (broadcastInDim S8x8x1x8x128 ![0, 1, 3, 4] bcast_S8x8x8x128_S8x8x1x8x128_0_1_3_4 (refQ p))) (Host.exp (refDecay cum))) (broadcastInDim S8x8x8x8x128 ![0, 1, 2, 3, 4] bcast_S8x1x8x8x128_S8x8x8x8x128_0_1_2_3_4 (broadcastInDim S8x1x8x8x128 ![0, 2, 3, 4] bcast_S8x8x8x128_S8x1x8x8x128_0_2_3_4 (refK p)))) (constant S_ .f32 0x00000000#32) reducesTo_S8x8x8x8x128_S8x8x8x8_d4 h_S_

/-- The attention's rows before the norm, the results, and the new states. -/
def refMix : FVec Ideal Cert.GlaSReferenceIdeal.S8x8x8x256 .f32 := addf (transpose S8x8x8x256 [0, 3, 1, 2] (Host.dotGeneral dot_S8x8x128x256_S8x8x8x128_S8x8x256x8_2_3_3_1_01_02 none s (mulf (refQ p) (Host.exp (refB cum)))) transposes_S8x8x256x8_S8x8x8x256_0_3_1_2) (transpose S8x8x8x256 [0, 3, 1, 2] (Host.dotGeneral dot_S8x8x8x256_S8x8x8x8_S8x8x256x8_1_2_3_1_02_03 none (refV p) (refWeight p cum)) transposes_S8x8x256x8_S8x8x8x256_0_3_1_2)
def refRows (x : FVec Ideal Cert.GlaSReferenceIdeal.S8x8x8x256 .f32) : FVec Ideal Cert.GlaSReferenceIdeal.S8x8x8x256 .f32 := mulf (mulf x (broadcastInDim S8x8x8x256 ![0, 1, 2, 3] bcast_S8x8x8x1_S8x8x8x256_0_1_2_3 (Host.rsqrt (addf (Host.divf (broadcastInDim S8x8x8x1 ![0, 1, 2] bcast_S8x8x8_S8x8x8x1_0_1_2 (Host.reduceAdd (mulf x x) (constant S_ .f32 0x00000000#32) reducesTo_S8x8x8x256_S8x8x8_d3 h_S_)) (broadcastInDim S8x8x8x1 ![] bcast_S_S8x8x8x1 (constant S_ .f32 0x43800000#32))) (broadcastInDim S8x8x8x1 ![] bcast_S_S8x8x8x1 (constant S_ .f32 0x358637BD#32)))))) (broadcastInDim S8x8x8x256 ![0, 1, 2, 3] bcast_S1x1x1x256_S8x8x8x256_0_1_2_3 (broadcastInDim S1x1x1x256 ![3] bcast_S256_S1x1x1x256_3 g))
def refOut : FVec Ideal Cert.GlaSReferenceIdeal.S64x2048 .f32 := mulf (shapeCast _ (refRows g (refMix p cum s)) shapeCasts_S8x8x8x256_S64x2048) (mulf (refR p) (Host.divf (broadcastInDim S64x2048 ![] bcast_S_S64x2048 (constant S_ .f32 0x3F800000#32)) (addf (broadcastInDim S64x2048 ![] bcast_S_S64x2048 (constant S_ .f32 0x3F800000#32)) (Host.exp (Host.negf (refR p))))))
def refState : FVec Ideal Cert.GlaSReferenceIdeal.S8x8x128x256 .f32 := addf (mulf (broadcastInDim S8x8x128x256 ![0, 1, 2, 3] bcast_S8x8x128x1_S8x8x128x256_0_1_2_3 (broadcastInDim S8x8x128x1 ![0, 1, 2] bcast_S8x8x128_S8x8x128x1_0_1_2 (Host.exp (shapeCast _ (extractStridedSlice S8x1x8x128 ![0, 7, 0, 0] (refB cum) slices_S8x8x8x128_S8x1x8x128_0_7_0_0) shapeCasts_S8x1x8x128_S8x8x128)))) s) (Host.dotGeneral dot_S8x8x8x128_S8x8x8x256_S8x8x128x256_1_1_3_3_02_02 none (mulf (refK p) (Host.exp (subf (broadcastInDim S8x8x8x128 ![0, 1, 2, 3] bcast_S8x1x8x128_S8x8x8x128_0_1_2_3 (broadcastInDim S8x1x8x128 ![0, 2, 3] bcast_S8x8x128_S8x1x8x128_0_2_3 (shapeCast _ (extractStridedSlice S8x1x8x128 ![0, 7, 0, 0] (refB cum) slices_S8x8x8x128_S8x1x8x128_0_7_0_0) shapeCasts_S8x1x8x128_S8x8x128))) (refB cum)))) (refV p))

theorem refQ_at (b t h : Fin 8) (i : Fin 128) : (refQ p (ix4 b t h i) : EReal) = qOf p b h t i * Ideal.ofBits .f32 0x3DB504F3#32 := by
  pointwise [refQ, qOf, row]
  simp only [Nat.mul_comm h.val 128]
theorem refK_at (b t h : Fin 8) (i : Fin 128) : (refK p (ix4 b t h i) : EReal) = kOf p b h t i := by
  pointwise [refK, kOf, row]
  simp only [Nat.mul_comm h.val 128]
theorem refV_at (b t h : Fin 8) (j : Fin 256) : (refV p (ix4 b t h j) : EReal) = vOf p b h t j := by
  pointwise [refV, vOf, row]
  simp only [Nat.mul_comm h.val 256]
theorem refB_at (b t h : Fin 8) (i : Fin 128) : (refB cum (ix4 b t h i) : EReal) = bOf cum b h t i := by
  pointwise [refB, bOf, row]
  simp only [Nat.mul_comm h.val 128]

/-- The reference's mask, as a condition on the rows. -/
theorem lower (t u : Fin 8) : Scalar.select (α := BitVec 1) (IntOp.cmpi CmpIPredicate.sge (IntOp.addi (BitVec.ofNat 32 t.val) 0#32) (BitVec.ofNat 32 u.val)) 1#1 0#1 = if u ≤ t then 1#1 else 0#1 := by
  revert t u
  decide

theorem refDecay_at (b t u h : Fin 8) (i : Fin 128) : (refDecay cum (ix5 b t u h i) : EReal)
    = if u ≤ t then bOf cum b h t i - bOf cum b h u i else Ideal.ofBits FTy.f32 0xFF800000#32 := by
  pointwise [refDecay, refB_at cum]
  rw [lower]
  split_ifs <;> rfl

theorem refWeight_at (b t u h : Fin 8) : (refWeight p cum (ix4 b t u h) : EReal) = weight (qOf p b h) (kOf p b h) (bOf cum b h) t u := by
  pointwise [refWeight, refDecay_at cum, refQ_at p, refK_at p, weight]
theorem refMix_at (b t h : Fin 8) (j : Fin 256) : (refMix p cum s (ix4 b t h j) : EReal)
    = mix (qOf p b h) (kOf p b h) (bOf cum b h) (vOf p b h) (fun i j => s (ix4 b h i j)) t j := by
  pointwise [refMix, refQ_at p, refV_at p, refB_at cum, refWeight_at p cum, mix]
  exact congrArg₂ (· + ·) (Finset.sum_congr rfl fun _ _ => mul_comm _ _) (Finset.sum_congr rfl fun _ _ => mul_comm _ _)
theorem refState_at (b h : Fin 8) (i : Fin 128) (j : Fin 256) : (refState p cum s (ix4 b h i j) : EReal) = nextOf p cum s b h i j := by
  pointwise [refState, refK_at p, refV_at p, refB_at cum, nextOf, next]
  exact congrArg (_ + ·) (Finset.sum_congr rfl fun _ _ => mul_comm _ _)

/-- A normalized row, from the row. -/
theorem refRows_at (x : FVec Ideal Cert.GlaSReferenceIdeal.S8x8x8x256 .f32) (b t h : Fin 8) (f : Fin 256 → EReal) (hf : ∀ j, (x (ix4 b t h j) : EReal) = f j) (j : Fin 256) :
    (refRows g x (ix4 b t h j) : EReal) = f j * Ideal.rsqrt (Ideal.div (∑ i, f i * f i) (Ideal.ofBits FTy.f32 0x43800000#32) + Ideal.ofBits FTy.f32 0x358637BD#32) * g (ix1 j) := by
  pointwise [refRows, hf]

theorem refR_at (y0 : Fin 64) (y1 : Fin 2048) : (refR p (ix2 y0 y1) : EReal) = rOf p ⟨y0.val / 8, by omega⟩ ⟨y1.val / 256, by omega⟩ ⟨y0.val % 8, by omega⟩ ⟨y1.val % 256, by omega⟩ := by
  have e0 : row ⟨y0.val / 8, by omega⟩ ⟨y0.val % 8, by omega⟩ = y0 := Fin.ext (by omega : y0.val / 8 * 8 + y0.val % 8 = y0.val)
  have e1 : 256 * (y1.val / 256) + y1.val % 256 = y1.val := by omega
  unfold rOf
  rw [e0]
  simp only [e1]
  pointwise [refR]

theorem refOut_eq : refOut p cum s g = final7 p cum s g := by
  funext y
  idx_vars y
  pointwise [refOut, refRows_at g _ _ _ _ _ (refMix_at p cum s _ _ _), refR_at p]
  rfl

theorem refState_eq : refState p cum s = final8 p cum s := by
  funext y
  idx_vars y
  exact refState_at p cum s _ _ _ _
end

section
open Cert.GlaSReferenceIdeal.Value

/-- Every argument array is left as it was, and every counter is zero: of the kernel's two runs and of the reference's. -/
theorem quiescent : Cert.quiescent_GlaS (hGlaS := Cert.GlaS.Gen.facts) := fun m g _ => Cert.GlaS.Gen.frame m g
theorem quiescent_ideal : Cert.quiescent_GlaSIdeal (hGlaSIdeal := Cert.GlaSIdeal.Gen.facts) := fun m g _ => Cert.GlaSIdeal.Gen.frame m g
theorem quiescent_ref : Cert.quiescent_GlaSReferenceIdeal (hGlaSReferenceIdeal := Cert.GlaSReferenceIdeal.Gen.facts) := fun m g _ =>
  (θ_run _ _ _).mono (fun r h => ⟨fun c => (h c).2.2, sem_eq_zero_of_no_sems rfl r.2⟩) (Cert.GlaSReferenceIdeal.Value.run (F := Ideal) m g)

/-- The kernel and the reference, run from the same arguments, end with the same arrays. -/
theorem algebraic : Cert.algebraic_GlaSIdeal_GlaSReferenceIdeal (hGlaSIdeal := Cert.GlaSIdeal.Gen.facts) (hGlaSReferenceIdeal := Cert.GlaSReferenceIdeal.Gen.facts) := by
  intro m g m' g' _ hargs
  refine ⟨fun c => final7 (argProj m c) (argB m c) (argS m c) (argG m c), fun c => final8 (argProj m c) (argB m c) (argS m c), ?_, ?_⟩
  · exact (θ_run _ _ _).mono (fun r h c => ⟨(h c).1.trans (final7_eq m c), (h c).2.1.trans (final8_eq m c), (h c).2.2⟩) (Cert.GlaSIdeal.Value.run_blocks (F := Ideal) m g)
  · refine (θ_run _ _ _).mono (fun r h c => ⟨(h c).1.trans ?_, (h c).2.1.trans ?_, (h c).2.2⟩) (Cert.GlaSReferenceIdeal.Value.run (F := Ideal) m' g')
    · obtain ⟨a0, a1, a2, a3⟩ := hargs c
      beta_reduce
      unfold argProj argB argS argG
      rw [← a0, ← a1, ← a2, ← a3]
      exact refOut_eq _ _ _ _
    · obtain ⟨a0, a1, a2, a3⟩ := hargs c
      beta_reduce
      unfold argProj argB argS
      rw [← a0, ← a1, ← a2]
      exact refState_eq _ _ _
end
end Cert.Proof.GlaS
end
-- ==== Proof.ConvPKernel.lean ====
/-
  The convolution of the prompt rows as the kernel computes it: the scratch's rows from point to point, the loop's trips of
  sixteen rows, and the two result arrays as functions of the whole argument arrays.
-/
module

public import proofs.«01_k».proof.Defs
public import proofs.«01_k».proof.Proof.ConvSKernel
public import proofs.«01_k».proof.Proof.Gen.ConvPIdeal
public import proofs.«01_k».proof.Proof.Gen.ConvPIdeal.Value
@[expose] public section
set_option maxRecDepth 16384
noncomputable section
namespace Cert.Proof.ConvP
open Idealize.ShloMosaic Idealize.ShloMosaic.TcCoe Idealize.ShloMosaic.Pipeline
open Idealize.SL Idealize.SL.Sem
open Cert.ConvPIdeal Cert.ConvPIdeal.Gen
open Cert.Proof.ConvS (sigm mean silu)

/-- The first `n + 1` taps' products at row `r` of a window, added one after the other. -/
def taps (H : Fin 48 → EReal) (w : Fin 31 → EReal) (r : Fin 16) : (n : ℕ) → n < 31 → EReal
  | 0, _ => H ⟨2 + r.val, by omega⟩ * w 0
  | n + 1, h => taps H w r n (by omega) + H ⟨n + 3 + r.val, by omega⟩ * w ⟨n + 1, h⟩

/-- One channel's convolution at row `r` of a window. -/
def conv (H : Fin 48 → EReal) (w : Fin 31 → EReal) (b : EReal) (r : Fin 16) : EReal := taps H w r 30 (by omega) + b

section
variable (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg11 : Memref sig .tc .vmem S720x2048 .f32)
  (x3 : Vec Ideal S31x2048 .f32) (x4 : Vec Ideal S1x2048 .f32) (x5 : Vec Ideal S1x2048 .f32) (x6 : Vec Ideal S1x2048 .f32)
  (X : BufTy.Contents (Elt Ideal) arg11.view.ty) (S : Fin 720 → Fin 2048 → EReal) (hX : ∀ i j, (arg11.view.read (Elt Ideal) X (ix2 i j) : EReal) = S i j) (k : Fin k0_t1_loop.trips)

/-- The scratch's rows that a trip's window holds. -/
def window (S : Fin 720 → Fin 2048 → EReal) (k : Fin k0_t1_loop.trips) (j : Fin 2048) (i : Fin 48) : EReal :=
  S ⟨16 * k.val + i.val, by have : k.val < 43 := Nat.lt_of_lt_of_le k.isLt k0_t1_abs.2.1; omega⟩ j

include hX in
/-- A window of the scratch's columns, read at a row and a column. -/
theorem window_at (off : Fin 2 → ℕ) (o : ℕ) (ho : off = ![16 * k.val, o]) (inb) (hb : o + 512 ≤ 2048) (i : Fin 48) (j : Fin 512) :
    (View.readAt (Elt Ideal) arg11.view (Rect.unit (s := S720x2048) off S48x512.size inb).toLoadRect X (ix2 i j) : EReal) = window S k ⟨o + j.val, by omega⟩ i := by
  subst ho
  unfold window
  rw [View.readAt_eq_ld, ← hX]
  refine congrArg (arg11.view.read (Elt Ideal) X) ?_
  refine Rect.emb_eq_of_coords (Rect.unit (s := S720x2048) ![16 * k.val, o] S48x512.size inb) (ix2 i j) _ (Fin.forall_fin_two.mpr ⟨?_, ?_⟩)
  · exact (by omega : 16 * k.val + i.val = 16 * k.val + 1 * i.val)
  · exact (by omega : o + j.val = o + 1 * j.val)

/-- The convolution of a channel, from what the scratch holds. -/
def conv_of (x3 : Vec Ideal S31x2048 .f32) (x4 : Vec Ideal S1x2048 .f32) (S : Fin 720 → Fin 2048 → EReal) (k : Fin k0_t1_loop.trips) (j : Fin 2048) (r : Fin 16) : EReal :=
  conv (window S k j) (fun i => x3 (ix2 i j)) (x4 (ix2 0 j)) r

include hX in
theorem first_at (r : Fin 16) (j : Fin 512) : (trip_k0_t1.sl.r_7 arg5 arg6 arg11 (harg5.unread x3) (harg6.unread x4) X k (ix2 r j) : EReal) = conv_of x3 x4 S k ⟨j.val, by omega⟩ r := by
  have e : (⟨j.val, by omega⟩ : Fin 2048) = ⟨0 + j.val, by omega⟩ := Fin.ext (Nat.zero_add _).symm
  have hw : window S k ⟨j.val, by omega⟩ = fun i => (trip_k0_t1.sl.r arg11 X k (ix2 i j) : EReal) := funext fun i => by
    rw [e]
    exact (window_at arg11 X S hX k _ 0 (k0_off1_eq k) _ (by omega) i j).symm
  unfold conv_of trip_k0_t1.sl.r_7 trip_k0_t1.sl.r_6 trip_k0_t1.sl.r_5 trip_k0_t1.sl.r_4 trip_k0_t1.sl.r_3 trip_k0_t1.sl.r_2 trip_k0_t1.sl.r_1
  rw [hw]
  unfold trip_k0_t1.sl.r
  generalize hv : View.readAt (Elt Ideal) arg11.view (Rect.unit (s := S720x2048) (k0_off1 k) S48x512.size (k0_off1_inb k)).toLoadRect X = v
  simp only [View.readAt_eq_ld, Memref.IsWhole.read_unread]
  pointwise [k0_pay7, k0_pay8, k0_pay9, k0_pay10, k0_pay11, k0_pay12, k0_pay13, conv, taps]

include hX in
theorem second_at (r : Fin 16) (j : Fin 512) : (trip_k0_t1.sl.r_16 arg5 arg6 arg11 (harg5.unread x3) (harg6.unread x4) X k (ix2 r j) : EReal) = conv_of x3 x4 S k ⟨512 + j.val, by omega⟩ r := by
  have hw : window S k ⟨512 + j.val, by omega⟩ = fun i => (trip_k0_t1.sl.r_8 arg11 X k (ix2 i j) : EReal) :=
    funext fun i => (window_at arg11 X S hX k _ 512 (k0_off2_eq k) _ (by omega) i j).symm
  unfold conv_of trip_k0_t1.sl.r_16 trip_k0_t1.sl.r_15 trip_k0_t1.sl.r_14 trip_k0_t1.sl.r_13 trip_k0_t1.sl.r_12 trip_k0_t1.sl.r_11 trip_k0_t1.sl.r_10 trip_k0_t1.sl.r_9
  rw [hw]
  unfold trip_k0_t1.sl.r_8
  generalize hv : View.readAt (Elt Ideal) arg11.view (Rect.unit (s := S720x2048) (k0_off2 k) S48x512.size (k0_off2_inb k)).toLoadRect X = v
  simp only [View.readAt_eq_ld, Memref.IsWhole.read_unread]
  pointwise [k0_pay14, k0_pay15, k0_pay16, k0_pay17, k0_pay18, k0_pay19, k0_pay20, k0_pay21, k0_pay22, k0_pay23, conv, taps]

include hX in
theorem third_at (r : Fin 16) (j : Fin 512) : (trip_k0_t1.sl.r_27 arg5 arg6 arg11 (harg5.unread x3) (harg6.unread x4) X k (ix2 r j) : EReal) = conv_of x3 x4 S k ⟨1024 + j.val, by omega⟩ r := by
  have hw : window S k ⟨1024 + j.val, by omega⟩ = fun i => (trip_k0_t1.sl.r_17 arg11 X k (ix2 i j) : EReal) :=
    funext fun i => (window_at arg11 X S hX k _ 1024 (k0_off3_eq k) _ (by omega) i j).symm
  unfold conv_of trip_k0_t1.sl.r_27 trip_k0_t1.sl.r_26 trip_k0_t1.sl.r_25 trip_k0_t1.sl.r_24 trip_k0_t1.sl.r_23 trip_k0_t1.sl.r_22 trip_k0_t1.sl.r_21 trip_k0_t1.sl.r_20 trip_k0_t1.sl.r_19 trip_k0_t1.sl.r_18
  rw [hw]
  unfold trip_k0_t1.sl.r_17
  generalize hv : View.readAt (Elt Ideal) arg11.view (Rect.unit (s := S720x2048) (k0_off3 k) S48x512.size (k0_off3_inb k)).toLoadRect X = v
  simp only [View.readAt_eq_ld, Memref.IsWhole.read_unread]
  pointwise [k0_pay22, k0_pay23, k0_pay24, k0_pay25, k0_pay26, k0_pay27, k0_pay28, k0_pay29, k0_pay30, k0_pay31, k0_pay32, conv, taps]

/-- The last two taps and the bias of the fourth part. -/
def fourth (v : Vec Ideal S48x512 .f32) (p q : FVec Ideal S16x512 .f32) (a b d : Vec Ideal S1x512 .f32) : FVec Ideal S16x512 .f32 :=
  addf (addf (addf p (mulf q (broadcastTo S16x512 a broadcasts_S1x512_S16x512))) (mulf (extractStridedSlice S16x512 ![32, 0] v slices_S48x512_o32_0_S16x512) (broadcastTo S16x512 b broadcasts_S1x512_S16x512)))
    (broadcastTo S16x512 (shapeCast S1x512 d shapeCasts_S1x512_S1x512) broadcasts_S1x512_S16x512)

/-- The four parts side by side, read at a row and a column of one part. -/
theorem parts_at (u v w x : FVec Ideal S16x512 .f32) (r : Fin 16) (j : Fin 2048) (R : EReal)
    (hu : ∀ k : Fin 512, j.val = k.val → (u (ix2 r k) : EReal) = R) (hv : ∀ k : Fin 512, j.val = 512 + k.val → (v (ix2 r k) : EReal) = R)
    (hw : ∀ k : Fin 512, j.val = 1024 + k.val → (w (ix2 r k) : EReal) = R) (hx : ∀ k : Fin 512, j.val = 1536 + k.val → (x (ix2 r k) : EReal) = R) :
    (concatenate S16x2048 1 [⟨S16x512, u⟩, ⟨S16x512, v⟩, ⟨S16x512, w⟩, ⟨S16x512, x⟩] concatenates_S16x512_S16x512_S16x512_S16x512_S16x2048_d1 (ix2 r j) : EReal) = R := by
  pointwise
  by_cases h0 : j.val < 512
  · rw [dif_pos h0]
    exact hu _ rfl
  rw [dif_neg h0]
  by_cases h1 : j.val - 512 < 512
  · rw [dif_pos h1]
    exact hv _ (by omega : j.val = 512 + (j.val - 512))
  rw [dif_neg h1]
  by_cases h2 : j.val - 512 - 512 < 512
  · rw [dif_pos h2]
    exact hw _ (by omega : j.val = 1024 + (j.val - 512 - 512))
  rw [dif_neg h2]
  exact hx _ (by omega : j.val = 1536 + (j.val - 512 - 512 - 512))

/-- The normalized row from the four parts. -/
theorem pay39_at (u v w : FVec Ideal S16x512 .f32) (x : Vec Ideal S48x512 .f32) (p q : FVec Ideal S16x512 .f32) (a b d : Vec Ideal S1x512 .f32) (g s : Vec Ideal S1x2048 .f32) (r : Fin 16) (f : Fin 2048 → EReal)
    (hf : ∀ j, (concatenate S16x2048 1 [⟨S16x512, u⟩, ⟨S16x512, v⟩, ⟨S16x512, w⟩, ⟨S16x512, fourth x p q a b d⟩] concatenates_S16x512_S16x512_S16x512_S16x512_S16x2048_d1 (ix2 r j) : EReal) = f j) (j : Fin 2048) :
    (k0_pay39 u v w x p q a b d g s (ix2 r j) : EReal) = ConvS.norm f (fun k => g (ix2 0 k)) (fun k => s (ix2 0 k)) j := by
  unfold fourth at hf
  dsimp only [k0_pay39]
  generalize concatenate S16x2048 1 _ _ = y at hf ⊢
  pointwise [hf, Cert.Proof.ConvS.norm, mean]

/-- The value a trip stores, from its normalized row. -/
theorem pay5_at (u v w : FVec Ideal S16x512 .f32) (x : Vec Ideal S48x512 .f32) (p q : FVec Ideal S16x512 .f32) (a b d : Vec Ideal S1x512 .f32) (g s : Vec Ideal S1x2048 .f32) (r : Fin 16) (f : Fin 2048 → EReal)
    (hf : ∀ j, (concatenate S16x2048 1 [⟨S16x512, u⟩, ⟨S16x512, v⟩, ⟨S16x512, w⟩, ⟨S16x512, fourth x p q a b d⟩] concatenates_S16x512_S16x512_S16x512_S16x512_S16x2048_d1 (ix2 r j) : EReal) = f j) (j : Fin 2048) :
    (k0_pay5 (k0_pay39 u v w x p q a b d g s) (k0_pay40 u v w x p q a b d g s) (ix2 r j) : EReal) = silu f (fun k => g (ix2 0 k)) (fun k => s (ix2 0 k)) j := by
  have h := pay39_at u v w x p q a b d g s r f hf j
  unfold k0_pay40
  generalize k0_pay39 u v w x p q a b d g s = y at h ⊢
  pointwise [k0_pay5, h, silu, sigm, zero_sub]

include hX in
/-- What a trip stores. -/
theorem trip_at (r : Fin 16) (j : Fin 2048) :
    (k0_pay5 (trip_k0_t1.sl.r_37 arg5 arg6 arg7 arg8 arg11 (harg5.unread x3) (harg6.unread x4) (harg7.unread x5) (harg8.unread x6) X k) (trip_k0_t1.sl.r_38 arg5 arg6 arg7 arg8 arg11 (harg5.unread x3) (harg6.unread x4) (harg7.unread x5) (harg8.unread x6) X k) (ix2 r j) : EReal)
      = silu (fun c => conv_of x3 x4 S k c r) (fun c => x5 (ix2 0 c)) (fun c => x6 (ix2 0 c)) j := by
  unfold trip_k0_t1.sl.r_37 trip_k0_t1.sl.r_38
  refine (pay5_at _ _ _ _ _ _ _ _ _ _ _ r _ (fun l => parts_at _ _ _ _ r l (conv_of x3 x4 S k l r) (fun i h => ?_) (fun i h => ?_) (fun i h => ?_) (fun i h => ?_)) j).trans ?_
  · exact (first_at arg5 harg5 arg6 harg6 arg11 x3 x4 X S hX k r i).trans (congrArg (conv_of x3 x4 S k · r) (Fin.ext h.symm))
  · exact (second_at arg5 harg5 arg6 harg6 arg11 x3 x4 X S hX k r i).trans (congrArg (conv_of x3 x4 S k · r) (Fin.ext h.symm))
  · exact (third_at arg5 harg5 arg6 harg6 arg11 x3 x4 X S hX k r i).trans (congrArg (conv_of x3 x4 S k · r) (Fin.ext h.symm))
  · refine Eq.trans ?_ (congrArg (conv_of x3 x4 S k · r) (Fin.ext h.symm : (⟨1536 + i.val, by omega⟩ : Fin 2048) = l))
    dsimp only
    have hw : window S k ⟨1536 + i.val, by omega⟩ = fun n => (trip_k0_t1.sl.r_28 arg11 X k (ix2 n i) : EReal) :=
      funext fun n => (window_at arg11 X S hX k _ 1536 (k0_off4_eq k) _ (by omega) n i).symm
    unfold conv_of fourth trip_k0_t1.sl.r_36 trip_k0_t1.sl.r_35 trip_k0_t1.sl.r_34 trip_k0_t1.sl.r_33 trip_k0_t1.sl.r_32 trip_k0_t1.sl.r_31 trip_k0_t1.sl.r_30 trip_k0_t1.sl.r_29
    rw [hw]
    unfold trip_k0_t1.sl.r_28
    generalize hv : View.readAt (Elt Ideal) arg11.view (Rect.unit (s := S720x2048) (k0_off4 k) S48x512.size (k0_off4_inb k)).toLoadRect X = v
    simp only [View.readAt_eq_ld, Memref.IsWhole.read_unread]
    pointwise [k0_pay32, k0_pay33, k0_pay34, k0_pay35, k0_pay36, k0_pay37, k0_pay38, conv, taps]
  · simp only [View.readAt_eq_ld, Memref.IsWhole.read_unread]
    rw [View.ld_unit_zero Norm.zeros2, View.ld_unit_zero Norm.zeros2]

/-- What a row of the block of activations holds, from what the scratch holds. -/
def actRow (x3 : Vec Ideal S31x2048 .f32) (x4 x5 x6 : Vec Ideal S1x2048 .f32) (S : Fin 720 → Fin 2048 → EReal) (k : Fin k0_t1_loop.trips) (r : Fin 16) (j : Fin 2048) : EReal :=
  silu (fun c => conv_of x3 x4 S k c r) (fun c => x5 (ix2 0 c)) (fun c => x6 (ix2 0 c)) j

theorem trips_eq : k0_t1_loop.trips = 43 := by decide +kernel

include hX in
/-- The rows that the first `n` trips have stored. -/
theorem loop_at (𝒱 : Variants) (c : Dev nD) (bd : Option 𝒱.V) (i : grid0.Coords) (arg2 : Memref sig .tc .vmem S688x2048 .f32) (harg2 : arg2.IsWhole) (arg3 : Memref sig .tc .vmem S688x2048 .f32) (harg3 : arg3.IsWhole) (arg4 : Memref sig .tc .vmem S1x30x2048 .f32) (harg4 : arg4.IsWhole)
    (arg9 : Memref sig .tc .vmem S688x2048 .bf16) (harg9 : arg9.IsWhole) (arg10 : Memref sig .tc .vmem S1x30x2048 .f32) (harg10 : arg10.IsWhole) (harg11 : arg11.IsWhole) (y : Fin 688) (j : Fin 2048) (n : ℕ) (hn : n ≤ 43) (hy : y.val < 16 * n) :
    (View.canon (pb_k0_t1 (F := Ideal) 𝒱 c bd i arg2 harg2 arg3 harg3 arg4 harg4 arg5 harg5 arg6 harg6 arg7 harg7 arg8 harg8 arg9 harg9 arg10 harg10 arg11 harg11 (harg5.unread x3) (harg6.unread x4) (harg7.unread x5) (harg8.unread x6) X n) (ix2 y j) : EReal)
      = actRow x3 x4 x5 x6 S ⟨y.val / 16, by rw [trips_eq]; omega⟩ ⟨y.val % 16, Nat.mod_lt _ (by omega)⟩ j := by
  induction n with
  | zero => omega
  | succ n ih =>
    have hk : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 arg11 harg11 (harg5.unread x3) (harg6.unread x4) (harg7.unread x5) (harg8.unread x6) X ⟨n, hk⟩
    dsimp only at e
    rw [e]
    unfold tripL_k0_t1 trip_k0_t1
    dsimp only [List.cons_append, List.nil_append]
    have h0 : k0_off5 ⟨n, hk⟩ (0 : Fin 2) = 16 * n := congrFun (k0_off5_eq ⟨n, hk⟩) 0
    have h1 : k0_off5 ⟨n, hk⟩ (1 : Fin 2) = 0 := congrFun (k0_off5_eq ⟨n, hk⟩) 1
    by_cases h : y.val < 16 * n
    · rw [View.canon_cons_of_not_mem _ _ (Rect.not_mem_set_of_axis (s := S688x2048) _ _ (0 : Fin 2) (16 * n) 16 h0 rfl rfl (Or.inl h))]
      exact ih (by omega) h
    · have hq : y.val / 16 = n := by omega
      have e : (ix2 y j : S688x2048.Idx) = (Rect.unit (s := S688x2048) (k0_off5 ⟨n, hk⟩) ![16, 2048] (k0_off5_inb ⟨n, hk⟩)).emb (ix2 ⟨y.val % 16, Nat.mod_lt _ (by omega)⟩ j) := by
        refine (Rect.emb_eq_of_coords _ _ _ (Fin.forall_fin_two.mpr ⟨?_, ?_⟩)).symm
        · refine Eq.trans ?_ (congrArg (· + 1 * (y.val % 16)) h0.symm)
          exact (by omega : y.val = 16 * n + 1 * (y.val % 16))
        · refine Eq.trans ?_ (congrArg (· + 1 * j.val) h1.symm)
          exact (by omega : j.val = 0 + 1 * j.val)
      rw [e, View.canon_cons_emb]
      refine (trip_at arg5 harg5 arg6 harg6 arg7 harg7 arg8 harg8 arg11 x3 x4 x5 x6 X S hX ⟨n, hk⟩ _ j).trans ?_
      exact congrArg (fun q => actRow x3 x4 x5 x6 S q ⟨y.val % 16, Nat.mod_lt _ (by omega)⟩ j) (Fin.ext hq.symm)

end

section
variable (a g : Vec Ideal S688x2048 .f32)

/-- A gated row. -/
def gated (a g : Vec Ideal S688x2048 .f32) (i : Fin 688) (j : Fin 2048) : EReal := a (ix2 i j) * sigm (g (ix2 i j))

theorem pay4_at (i : Fin 688) (j : Fin 2048) : (k0_pay4 a g (ix2 i j) : EReal) = gated a g i j := by
  pointwise [k0_pay4, gated, sigm, zero_sub]

/-- The scratch's rows at a sequence's first point: two rows of zeros, the thirty rows before, the gated rows. -/
theorem scratchA_at (v : Vec Ideal S1x30x2048 .f32) (i : Fin 720) (j : Fin 2048) :
    (View.canon (Val := Elt Ideal) (s := S720x2048) (e := .f32) [⟨Rect.unit ![32, 0] S688x2048.size inb_S720x2048_S688x2048_32_0, k0_pay4 a g⟩, ⟨Rect.unit ![2, 0] S30x2048.size inb_S720x2048_S30x2048_2_0, k0_pay2 v⟩, ⟨Rect.unit ![0, 0] S32x2048.size inb_S720x2048_S32x2048_0_0, k0_pay1 (F := Ideal)⟩] (ix2 i j) : EReal)
      = if h : i.val < 32 then (if h2 : i.val < 2 then 0 else v (ix3 0 ⟨i.val - 2, by omega⟩ j)) else gated a g ⟨i.val - 32, by omega⟩ j := by
  by_cases h : i.val < 32
  · rw [dif_pos h, View.canon_cons_of_not_mem _ _ (Rect.not_mem_set_of_axis (s := S720x2048) _ _ (0 : Fin 2) 32 688 rfl rfl rfl (Or.inl h))]
    by_cases h2 : i.val < 2
    · rw [dif_pos h2, View.canon_cons_of_not_mem _ _ (Rect.not_mem_set_of_axis _ _ (0 : Fin 2) 2 30 rfl rfl rfl (Or.inl h2))]
      have e : (ix2 i j : S720x2048.Idx) = (Rect.unit (s := S720x2048) ![0, 0] S32x2048.size inb_S720x2048_S32x2048_0_0).emb (ix2 ⟨i.val, h⟩ j) := by blk_ext
      rw [e, View.canon_cons_emb]
      pointwise [k0_pay1]
    · rw [dif_neg h2]
      have e : (ix2 i j : S720x2048.Idx) = (Rect.unit (s := S720x2048) ![2, 0] S30x2048.size inb_S720x2048_S30x2048_2_0).emb (ix2 ⟨i.val - 2, by omega⟩ j) := by blk_ext
      rw [e, View.canon_cons_emb]
      pointwise [k0_pay2]
  · rw [dif_neg h]
    have e : (ix2 i j : S720x2048.Idx) = (Rect.unit (s := S720x2048) ![32, 0] S688x2048.size inb_S720x2048_S688x2048_32_0).emb (ix2 ⟨i.val - 32, by omega⟩ j) := by blk_ext
    rw [e, View.canon_cons_emb]
    exact pay4_at a g _ j

/-- The scratch's rows at a later point: the last thirty-two rows of the point before, the gated rows. -/
theorem scratchB_at (v : Vec Ideal S32x2048 .f32) (i : Fin 720) (j : Fin 2048) :
    (View.canon (Val := Elt Ideal) (s := S720x2048) (e := .f32) [⟨Rect.unit ![32, 0] S688x2048.size inb_S720x2048_S688x2048_32_0, k0_pay4 a g⟩, ⟨Rect.unit ![0, 0] S32x2048.size inb_S720x2048_S32x2048_0_0, k0_pay3 v⟩] (ix2 i j) : EReal)
      = if h : i.val < 32 then v (ix2 ⟨i.val, h⟩ j) else gated a g ⟨i.val - 32, by omega⟩ j := by
  by_cases h : i.val < 32
  · rw [dif_pos h, View.canon_cons_of_not_mem _ _ (Rect.not_mem_set_of_axis (s := S720x2048) _ _ (0 : Fin 2) 32 688 rfl rfl rfl (Or.inl h))]
    have e : (ix2 i j : S720x2048.Idx) = (Rect.unit (s := S720x2048) ![0, 0] S32x2048.size inb_S720x2048_S32x2048_0_0).emb (ix2 ⟨i.val, h⟩ j) := by blk_ext
    rw [e, View.canon_cons_emb]
    pointwise [k0_pay3]
  · rw [dif_neg h]
    have e : (ix2 i j : S720x2048.Idx) = (Rect.unit (s := S720x2048) ![32, 0] S688x2048.size inb_S720x2048_S688x2048_32_0).emb (ix2 ⟨i.val - 32, by omega⟩ j) := by blk_ext
    rw [e, View.canon_cons_emb]
    exact pay4_at a g _ j
end

section
variable (m : (ℓ : Loc nD τ sig) → Buf (Elt Ideal) ℓ) (c : Dev nD) (t : Fin cfg0.N)

theorem zeros3 : (![0, 0, 0] : Fin 3 → ℕ) = fun _ => 0 := by decide

/-- What the scratch holds after a point. -/
def scr (i : Fin 720) (j : Fin 2048) : EReal := (outsAt0 m c t.val t.isLt).2.2 (ix2 i j)

theorem scr_first (h0 : t.val % 3 = 0) (i : Fin 720) (j : Fin 2048) : scr m c t i j
    = if h : i.val < 32 then (if h2 : i.val < 2 then (0 : EReal) else (iblk m c 2 t : FVec Ideal S1x30x2048 .f32) (ix3 0 ⟨i.val - 2, by omega⟩ j))
      else gated (iblk m c 0 t) (iblk m c 1 t) ⟨i.val - 32, by omega⟩ j := by
  unfold scr
  rw [outsAt0_A m c t h0 (by omega) (by omega)]
  unfold sout0_A_0
  dsimp only [kernelRun0_A]
  rw [View.read_writes_junk_apply_eq_canon]
  unfold kernelRun0_A.sl.HS0_3
  simp only [View.readAt_eq_ld, Memref.IsWhole.read_unread]
  refine (scratchA_at _ _ _ i j).trans ?_
  rw [View.ld_unit_zero zeros3, View.ld_unit_zero Norm.zeros2, View.ld_unit_zero Norm.zeros2]

/-- The point before. -/
def before (ht : t.val % 3 ≠ 0) : Fin cfg0.N := ⟨t.val - 1, by have := t.isLt; omega⟩

theorem scr_next (h0 : t.val % 3 ≠ 0) (i : Fin 720) (j : Fin 2048) : scr m c t i j
    = if h : i.val < 32 then scr m c (before t h0) ⟨688 + i.val, by omega⟩ j else gated (iblk m c 0 t) (iblk m c 1 t) ⟨i.val - 32, by omega⟩ j := by
  have e : ∀ h : i.val < 32, (Rect.unit (s := S720x2048) ![688, 0] S32x2048.size inb_S720x2048_S32x2048_688_0).emb (ix2 ⟨i.val, h⟩ j) = (ix2 ⟨688 + i.val, by omega⟩ j : S720x2048.Idx) := fun h => by blk_ext
  unfold scr
  by_cases h2 : t.val % 3 = 2
  · rw [outsAt0_C m c t h0 (by omega) h2]
    unfold sout0_C_0
    dsimp only [kernelRun0_C]
    rw [View.read_writes_junk_apply_eq_canon]
    unfold kernelRun0_C.sl.HS0_2
    simp only [View.readAt_eq_ld, Memref.IsWhole.read_unread]
    refine (scratchB_at _ _ _ i j).trans ?_
    rw [View.ld_unit_zero Norm.zeros2, View.ld_unit_zero Norm.zeros2]
    refine dite_congr rfl (fun h => ?_) (fun h => rfl)
    exact (congrFun (Memref.IsWhole.read_unread (Memref.isWhole_whole cc0_scratch0) _) _).trans (congrArg (outsAt0 m c (t.val - 1) _).2.2 (e h))
  · rw [outsAt0_B m c t h0 (by omega) h2]
    unfold sout0_B_0
    dsimp only [kernelRun0_B]
    rw [View.read_writes_junk_apply_eq_canon]
    unfold kernelRun0_B.sl.HS0_2
    simp only [View.readAt_eq_ld, Memref.IsWhole.read_unread]
    refine (scratchB_at _ _ _ i j).trans ?_
    rw [View.ld_unit_zero Norm.zeros2, View.ld_unit_zero Norm.zeros2]
    refine dite_congr rfl (fun h => ?_) (fun h => rfl)
    exact (congrFun (Memref.IsWhole.read_unread (Memref.isWhole_whole cc0_scratch0) _) _).trans (congrArg (outsAt0 m c (t.val - 1) _).2.2 (e h))

/-- What a point's block of the activations holds. -/
theorem out7_at (y : Fin 688) (j : Fin 2048) : ((outsAt0 m c t.val t.isLt).1 (ix2 y j) : EReal)
    = actRow (iblk m c 3 t) (iblk m c 4 t) (iblk m c 5 t) (iblk m c 6 t) (scr m c t) ⟨y.val / 16, by rw [trips_eq]; omega⟩ ⟨y.val % 16, Nat.mod_lt _ (by omega)⟩ j := by
  unfold scr
  have hn : Scf.trips 0#32 (Scalar.addi 0#32 43#32) 1#32 = 43 := by decide +kernel
  by_cases h0 : t.val % 3 = 0
  · rw [outsAt0_A m c t h0 (by omega) (by omega)]
    unfold out0_A_7 sout0_A_0
    dsimp only [kernelRun0_A]
    rw [View.read_writes_junk_apply_eq_canon, hn]
    exact loop_at _ _ _ _ _ _ _ _ _ _ _ _ _ _ _ (fun i j => by rw [View.read_writes_junk_apply_eq_canon]) _ _ _ _ _ _ _ _ _ _ _ _ _ _ _ y j 43 (le_refl _) (by omega)
  · by_cases h2 : t.val % 3 = 2
    · rw [outsAt0_C m c t h0 (by omega) h2]
      unfold out0_C_7 sout0_C_0
      dsimp only [kernelRun0_C]
      rw [View.read_writes_junk_apply_eq_canon, hn]
      exact loop_at _ _ _ _ _ _ _ _ _ _ _ _ _ _ _ (fun i j => by rw [View.read_writes_junk_apply_eq_canon]) _ _ _ _ _ _ _ _ _ _ _ _ _ _ _ y j 43 (le_refl _) (by omega)
    · rw [outsAt0_B m c t h0 (by omega) h2]
      unfold out0_B_7 sout0_B_0
      dsimp only [kernelRun0_B]
      rw [View.read_writes_junk_apply_eq_canon, hn]
      exact loop_at _ _ _ _ _ _ _ _ _ _ _ _ _ _ _ (fun i j => by rw [View.read_writes_junk_apply_eq_canon]) _ _ _ _ _ _ _ _ _ _ _ _ _ _ _ y j 43 (le_refl _) (by omega)

/-- What a sequence's last point leaves in its block of the state: the scratch's last thirty rows. -/
theorem out8_at (h2 : t.val % 3 = 2) (i : Fin 30) (j : Fin 2048) : ((outsAt0 m c t.val t.isLt).2.1 (ix3 0 i j) : EReal) = scr m c t ⟨690 + i.val, by omega⟩ j := by
  unfold scr
  rw [outsAt0_C m c t (by omega) (by omega) h2]
  unfold out0_C_8 sout0_C_0
  dsimp only [kernelRun0_C]
  have e : (ix3 0 i j : S1x30x2048.Idx) = (Rect.unit (s := S1x30x2048) ![0, 0, 0] ![1, 30, 2048] inb_S1x30x2048_S1x30x2048_0_0_0).emb (ix3 0 i j) := by blk_ext
  refine (congrArg _ e).trans ((View.read_writes_cons_emb _ _ _ _ _ _).trans ?_)
  rw [View.read_writes_junk_apply_eq_canon]
  unfold kernelRun0_C.sl.v23
  rw [View.readCov_eq_canon']
  pointwise [k0_pay6]

end

/-- The first `n + 1` taps' products at row `r` of a sequence, added one after the other. -/
def longTaps (H : Fin 2096 → EReal) (w : Fin 31 → EReal) (r : Fin 2064) : (n : ℕ) → n < 31 → EReal
  | 0, _ => H ⟨2 + r.val, by omega⟩ * w 0
  | n + 1, h => longTaps H w r n (by omega) + H ⟨n + 3 + r.val, by omega⟩ * w ⟨n + 1, h⟩

/-- One channel's convolution at row `r` of a sequence. -/
def longConv (H : Fin 2096 → EReal) (w : Fin 31 → EReal) (b : EReal) (r : Fin 2064) : EReal := longTaps H w r 30 (by omega) + b

/-- A window's convolution is the sequence's at the window's place. -/
theorem taps_long (W : Fin 48 → EReal) (H : Fin 2096 → EReal) (w : Fin 31 → EReal) (r : Fin 16) (y : Fin 2064) (o : ℕ) (ho : o + 48 ≤ 2096) (hy : y.val = o + r.val)
    (h : ∀ i : Fin 48, W i = H ⟨o + i.val, by omega⟩) : ∀ (n : ℕ) (hn : n < 31), taps W w r n hn = longTaps H w y n hn
  | 0, _ => by
    unfold taps longTaps
    rw [h]
    exact congrArg (fun q => H q * w 0) (Fin.ext (by simp only; omega))
  | n + 1, hn => by
    unfold taps longTaps
    rw [taps_long W H w r y o ho hy h n (by omega), h]
    exact congrArg (fun q => longTaps H w y n _ + H q * w ⟨n + 1, hn⟩) (Fin.ext (by simp only; omega))

section
variable (m : (ℓ : Loc nD τ sig) → Buf (Elt Ideal) ℓ) (c : Dev nD)

/-- The argument arrays: the two halves of the gated projection's columns, the rows before, the taps' weights, the bias, the scales and the shifts. -/
abbrev argGlu : FVec Ideal S8256x4096 .f32 := m ((c.tc : Thread nD τ).loc main_arg0)
abbrev argBuf : FVec Ideal S4x30x2048 .f32 := m ((c.tc : Thread nD τ).loc main_arg1)
abbrev argW : FVec Ideal S31x2048 .f32 := m ((c.tc : Thread nD τ).loc main_arg2)
abbrev argB : FVec Ideal S2048 .f32 := m ((c.tc : Thread nD τ).loc main_arg3)
abbrev argG : FVec Ideal S2048 .f32 := m ((c.tc : Thread nD τ).loc main_arg4)
abbrev argS : FVec Ideal S2048 .f32 := m ((c.tc : Thread nD τ).loc main_arg5)

/-- The bias, the scales and the shifts as the call reads them. -/
theorem reshaped0 (k : Fin 2048) : (V m c main_v0 : FVec Ideal S1x2048 .f32) (ix2 0 k) = argB m c (ix1 k) := by
  have h : (V m c main_v0 : FVec Ideal S1x2048 .f32) = shapeCast S1x2048 (argB m c) shapeCasts_S2048_S1x2048 := by rfl
  rw [h]
  exact ValueIdx.shapeCast_a_1a_apply _ _ _ _
theorem reshaped1 (k : Fin 2048) : (V m c main_v1 : FVec Ideal S1x2048 .f32) (ix2 0 k) = argG m c (ix1 k) := by
  have h : (V m c main_v1 : FVec Ideal S1x2048 .f32) = shapeCast S1x2048 (argG m c) shapeCasts_S2048_S1x2048 := by rfl
  rw [h]
  exact ValueIdx.shapeCast_a_1a_apply _ _ _ _
theorem reshaped2 (k : Fin 2048) : (V m c main_v2 : FVec Ideal S1x2048 .f32) (ix2 0 k) = argS m c (ix1 k) := by
  have h : (V m c main_v2 : FVec Ideal S1x2048 .f32) = shapeCast S1x2048 (argS m c) shapeCasts_S2048_S1x2048 := by rfl
  rw [h]
  exact ValueIdx.shapeCast_a_1a_apply _ _ _ _

/-- Where the windows' blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 1] := (by decide +kernel : ∀ t : Fin grid0.N, win0_1.index t = ![t.val, 1])
theorem index2 : ∀ t : Fin cfg0.N, win0_2.index t = ![t.val / 3, 0, 0] := (by decide +kernel : ∀ t : Fin grid0.N, win0_2.index t = ![t.val / 3, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val / 3, 0, 0] := (by decide +kernel : ∀ t : Fin grid0.N, win0_8.index t = ![t.val / 3, 0, 0])

/-- The sequence a point works on, the row of the arrays that holds a sequence's row `r`, and the sequence's row that a point's row is. -/
def seqOf (t : Fin cfg0.N) : Fin 4 := ⟨t.val / 3, by have : t.val < 12 := t.isLt.trans_eq N_0; omega⟩
def row (b : Fin 4) (r : Fin 2064) : Fin 8256 := ⟨b.val * 2064 + r.val, by omega⟩
def place (t : Fin cfg0.N) (r : Fin 688) : Fin 2064 := ⟨688 * (t.val % 3) + r.val, by omega⟩

/-- The blocks at a point. -/
theorem block0 (t : Fin cfg0.N) (r : Fin 688) (k : Fin 2048) : (iblk m c 0 t : FVec Ideal S688x2048 .f32) (ix2 r k) = argGlu m c (ix2 (row (seqOf t) (place t r)) ⟨k.val, by omega⟩) := by
  unfold row seqOf place
  blk_simp [iblk]
  refine congrArg (argGlu m c) ?_
  blk_ext [index0]
theorem block1 (t : Fin cfg0.N) (r : Fin 688) (k : Fin 2048) : (iblk m c 1 t : FVec Ideal S688x2048 .f32) (ix2 r k) = argGlu m c (ix2 (row (seqOf t) (place t r)) ⟨2048 + k.val, by omega⟩) := by
  unfold row seqOf place
  blk_simp [iblk]
  refine congrArg (argGlu m c) ?_
  blk_ext [index1]
theorem block2 (t : Fin cfg0.N) (i : Fin 30) (k : Fin 2048) : (iblk m c 2 t : FVec Ideal S1x30x2048 .f32) (ix3 0 i k) = argBuf m c (ix3 (seqOf t) i k) := by
  unfold seqOf
  blk_simp [iblk]
  refine congrArg (argBuf m c) ?_
  blk_ext [index2]
theorem block3 (t : Fin cfg0.N) (k : Fin 2048) : (fun i => (iblk m c 3 t : FVec Ideal S31x2048 .f32) (ix2 i k)) = fun i => argW m c (ix2 i k) := by
  funext i
  blk_simp [iblk]
  refine congrArg (argW m c) ?_
  blk_ext [index3]
theorem block4 (t : Fin cfg0.N) (k : Fin 2048) : (iblk m c 4 t : FVec Ideal S1x2048 .f32) (ix2 0 k) = argB m c (ix1 k) := by
  refine Eq.trans ?_ (reshaped0 m c k)
  blk_simp [iblk]
  refine congrArg (V m c main_v0 : FVec Ideal S1x2048 .f32) ?_
  blk_ext [index4]
theorem block5 (t : Fin cfg0.N) : (fun k => (iblk m c 5 t : FVec Ideal S1x2048 .f32) (ix2 0 k)) = fun k => argG m c (ix1 k) := by
  funext k
  refine Eq.trans ?_ (reshaped1 m c k)
  blk_simp [iblk]
  refine congrArg (V m c main_v1 : FVec Ideal S1x2048 .f32) ?_
  blk_ext [index5]
theorem block6 (t : Fin cfg0.N) : (fun k => (iblk m c 6 t : FVec Ideal S1x2048 .f32) (ix2 0 k)) = fun k => argS m c (ix1 k) := by
  funext k
  refine Eq.trans ?_ (reshaped2 m c k)
  blk_simp [iblk]
  refine congrArg (V m c main_v2 : FVec Ideal S1x2048 .f32) ?_
  blk_ext [index6]

/-- Where the results' blocks lie. -/
theorem emb7 (t : Fin cfg0.N) (r : Fin 688) (j : Fin 2048) : ((View.whole main_v3_0).slice (win0_7.rect t)).emb (ix2 r j) = ix2 (row (seqOf t) (place t r)) j := by
  unfold row seqOf place
  blk_ext [index7]
theorem emb8 (t : Fin cfg0.N) (i : Fin 30) (j : Fin 2048) : ((View.whole main_v3_1).slice (win0_8.rect t)).emb (ix3 0 i j) = ix3 (seqOf t) i j := by
  unfold seqOf
  blk_ext [index8]

end

/-- The rows a sequence's taps are summed over: two rows of zeros, the thirty rows before, the sequence's gated rows. -/
def seqRows (glu : FVec Ideal S8256x4096 .f32) (buf : FVec Ideal S4x30x2048 .f32) (b : Fin 4) (i : Fin 2096) (j : Fin 2048) : EReal :=
  if h : i.val < 32 then (if h2 : i.val < 2 then 0 else buf (ix3 b ⟨i.val - 2, by omega⟩ j))
  else glu (ix2 (row b ⟨i.val - 32, by omega⟩) ⟨j.val, by omega⟩) * sigm (glu (ix2 (row b ⟨i.val - 32, by omega⟩) ⟨2048 + j.val, by omega⟩))

/-- The activations of a sequence's row, from the whole arrays. -/
def act (glu : FVec Ideal S8256x4096 .f32) (buf : FVec Ideal S4x30x2048 .f32) (w : FVec Ideal S31x2048 .f32) (cb g s : FVec Ideal S2048 .f32) (b : Fin 4) (r : Fin 2064) (j : Fin 2048) : EReal :=
  silu (fun k => longConv (fun i => seqRows glu buf b i k) (fun i => w (ix2 i k)) (cb (ix1 k)) r) (fun k => g (ix1 k)) (fun k => s (ix1 k)) j

/-- The result arrays. -/
def final7 (glu : FVec Ideal S8256x4096 .f32) (buf : FVec Ideal S4x30x2048 .f32) (w : FVec Ideal S31x2048 .f32) (cb g s : FVec Ideal S2048 .f32) (y : S8256x2048.Idx) : EReal :=
  act glu buf w cb g s ⟨(y (0 : Fin 2)).val / 2064, by have : (y (0 : Fin 2)).val < 8256 := (y (0 : Fin 2)).isLt; omega⟩ ⟨(y (0 : Fin 2)).val % 2064, Nat.mod_lt _ (by omega)⟩ (y (1 : Fin 2))
def final8 (glu : FVec Ideal S8256x4096 .f32) (buf : FVec Ideal S4x30x2048 .f32) (y : S4x30x2048.Idx) : EReal :=
  seqRows glu buf (y (0 : Fin 3)) ⟨2066 + (y (1 : Fin 3)).val, by have : (y (1 : Fin 3)).val < 30 := (y (1 : Fin 3)).isLt; omega⟩ (y (2 : Fin 3))

theorem final7_at (glu : FVec Ideal S8256x4096 .f32) (buf : FVec Ideal S4x30x2048 .f32) (w : FVec Ideal S31x2048 .f32) (cb g s : FVec Ideal S2048 .f32) (b : Fin 4) (r : Fin 2064) (j : Fin 2048) :
    final7 glu buf w cb g s (ix2 (row b r) j) = act glu buf w cb g s b r j := by
  have e1 : (b.val * 2064 + r.val) / 2064 = b.val := by omega
  have e2 : (b.val * 2064 + r.val) % 2064 = r.val := by omega
  exact congrArg₂ (fun u v => act glu buf w cb g s u v j) (Fin.ext e1) (Fin.ext e2)

section
variable (m : (ℓ : Loc nD τ sig) → Buf (Elt Ideal) ℓ) (c : Dev nD)

theorem gated_eq (t : Fin cfg0.N) (i : Fin 720) (h : ¬ i.val < 32) (j : Fin 2048) :
    gated (iblk m c 0 t) (iblk m c 1 t) ⟨i.val - 32, by omega⟩ j = seqRows (argGlu m c) (argBuf m c) (seqOf t) ⟨688 * (t.val % 3) + i.val, by omega⟩ j := by
  unfold gated seqRows
  have e : place t ⟨i.val - 32, by omega⟩ = ⟨688 * (t.val % 3) + i.val - 32, by omega⟩ := Fin.ext (by unfold place; simp only; omega)
  rw [dif_neg (by simp only; omega), block0, block1, e]

/-- The scratch holds the sequence's rows from the point's first on. -/
theorem scr_eq : ∀ (p : ℕ) (t : Fin cfg0.N), t.val % 3 = p → ∀ (i : Fin 720) (j : Fin 2048),
    scr m c t i j = seqRows (argGlu m c) (argBuf m c) (seqOf t) ⟨688 * (t.val % 3) + i.val, by omega⟩ j
  | 0, t, hp, i, j => by
    rw [scr_first m c t hp]
    by_cases h : i.val < 32
    · have e : (⟨688 * (t.val % 3) + i.val, by omega⟩ : Fin 2096) = ⟨i.val, by omega⟩ := Fin.ext (by simp only; omega)
      rw [dif_pos h, e]
      unfold seqRows
      rw [dif_pos h]
      by_cases h2 : i.val < 2
      · rw [dif_pos h2, dif_pos h2]
      · rw [dif_neg h2, dif_neg h2, block2]
    · rw [dif_neg h]
      exact gated_eq m c t i h j
  | p + 1, t, hp, i, j => by
    rw [scr_next m c t (by omega)]
    by_cases h : i.val < 32
    · have hb : (before t (by omega)).val = t.val - 1 := rfl
      rw [dif_pos h, scr_eq p (before t (by omega)) (by rw [hb]; omega)]
      refine congrArg₂ (fun u v => seqRows (argGlu m c) (argBuf m c) u v j) (Fin.ext ?_) (Fin.ext ?_)
      · show (t.val - 1) / 3 = t.val / 3
        omega
      · show 688 * ((t.val - 1) % 3) + (688 + i.val) = 688 * (t.val % 3) + i.val
        omega
    · rw [dif_neg h]
      exact gated_eq m c t i h j

theorem final7_eq : (dats m 0 c).arrAt 7 cfg0.N = final7 (argGlu m c) (argBuf m c) (argW m c) (argB m c) (argG m c) (argS m c) := by
  refine (dats m 0 c).arrAt_eq_of_covers 7 _ (by decide +kernel) fun t hf y => ?_
  blk_simp
  rw [after0_7]
  idx_vars y
  rw [out7_at, emb7, final7_at]
  unfold actRow act conv_of conv longConv
  simp only [block3, block4, block5, block6]
  refine congrArg (fun f => silu f _ _ y1) (funext fun k => congrArg (· + _) ?_)
  refine taps_long _ _ _ _ _ (688 * (t.val % 3) + 16 * (y0.val / 16)) (by omega) (by unfold place; simp only; omega) (fun i => ?_) 30 (by omega)
  unfold window
  rw [scr_eq m c _ t rfl]
  exact congrArg (fun q => seqRows (argGlu m c) (argBuf m c) (seqOf t) q k) (Fin.ext (by simp only; omega))

theorem final8_eq : (dats m 0 c).arrAt 8 cfg0.N = final8 (argGlu m c) (argBuf m c) := by
  refine (dats m 0 c).arrAt_eq_of_covers 8 _ (by decide +kernel) fun t hf y => ?_
  have h2 : t.val % 3 = 2 := (flush0_8 t).1 hf
  blk_simp
  rw [after0_8]
  idx_vars y
  obtain rfl : y0 = 0 := Subsingleton.elim _ _
  rw [out8_at m c t h2, emb8, scr_eq m c _ t rfl]
  unfold final8
  refine congrArg (fun q => seqRows (argGlu m c) (argBuf m c) (seqOf t) q y2) (Fin.ext ?_)
  show 688 * (t.val % 3) + (690 + y1.val) = 2066 + y1.val
  omega
end

end Cert.Proof.ConvP

end
-- ==== Proof.ConvP.lean ====
/-
  The convolution of the prompt rows against its reference: both programs end with the same arrays, for any arguments.
-/
module

public import proofs.«01_k».proof.Defs
public import proofs.«01_k».proof.Proof.ConvPKernel
public import proofs.«01_k».proof.Proof.Gen.ConvP
public import proofs.«01_k».proof.Proof.Gen.ConvP.Frame
public import proofs.«01_k».proof.Proof.Gen.ConvPReferenceIdeal.Run

@[expose] public section
set_option maxRecDepth 16384
noncomputable section
namespace Cert.Proof.ConvP
open Idealize.ShloMosaic Idealize.ShloMosaic.TcCoe Idealize.ShloMosaic.Pipeline
open Idealize.SL Idealize.SL.Sem
open Idealize.ShloMosaic.StableHlo
open Cert.Proof.ConvS (sigm mean silu)

section
open Cert.ConvPReferenceIdeal Cert.ConvPReferenceIdeal.Gen Cert.ConvPReferenceIdeal.Value

variable (V0 : Valuation Cert.ConvPReferenceIdeal.τ Cert.ConvPReferenceIdeal.sig (Elt Ideal))

theorem ref_rows (b : Fin 4) (i : Fin 2094) (j : Fin 2048) : (res_main_v10 V0 (ix3 b i j) : EReal)
    = seqRows (V0 (Proc.devRef .tc Cert.ConvPReferenceIdeal.main_arg0)) (V0 (Proc.devRef .tc Cert.ConvPReferenceIdeal.main_arg1)) b ⟨i.val + 2, by omega⟩ j := by
  pointwise [res_main_v10, res_main_v0, seqRows, sigm]
  by_cases h : i.val < 30
  · rw [dif_pos h, dif_pos (by omega), dif_neg (by omega)]
    rfl
  · have e : (⟨i.val + 2 - 32, by omega⟩ : Fin 2064) = ⟨i.val - 30, by omega⟩ := Fin.ext (by omega : i.val + 2 - 32 = i.val - 30)
    rw [dif_neg h, dif_neg (by omega), e]
    rfl

/-- The taps' sum, the rows counted from the first that a tap reads. -/
def refTaps (H : Fin 2094 → EReal) (w : Fin 31 → EReal) (r : Fin 2064) : (n : ℕ) → n < 31 → EReal
  | 0, _ => H ⟨r.val, by omega⟩ * w 0
  | n + 1, h => refTaps H w r n (by omega) + H ⟨n + 1 + r.val, by omega⟩ * w ⟨n + 1, h⟩

theorem longTaps_eq (H : Fin 2096 → EReal) (w : Fin 31 → EReal) (r : Fin 2064) : ∀ (n : ℕ) (h : n < 31), longTaps H w r n h = refTaps (fun i => H ⟨i.val + 2, by omega⟩) w r n h
  | 0, _ => by
    have e : (⟨2 + r.val, by omega⟩ : Fin 2096) = ⟨r.val + 2, by omega⟩ := Fin.ext (Nat.add_comm _ _)
    unfold longTaps refTaps
    rw [e]
  | n + 1, h => by
    have e : (⟨n + 3 + r.val, by omega⟩ : Fin 2096) = ⟨n + 1 + r.val + 2, by omega⟩ := Fin.ext (by omega : n + 3 + r.val = n + 1 + r.val + 2)
    unfold longTaps refTaps
    rw [longTaps_eq H w r n, e]

theorem ref_conv (b : Fin 4) (r : Fin 2064) (j : Fin 2048) : (res_main_v231 V0 (ix3 b r j) : EReal)
    = longConv (fun i => seqRows (V0 (Proc.devRef .tc Cert.ConvPReferenceIdeal.main_arg0)) (V0 (Proc.devRef .tc Cert.ConvPReferenceIdeal.main_arg1)) b i j)
        (fun i => (V0 (Proc.devRef .tc Cert.ConvPReferenceIdeal.main_arg2) : FVec Ideal S31x2048 .f32) (ix2 i j)) ((V0 (Proc.devRef .tc Cert.ConvPReferenceIdeal.main_arg3) : FVec Ideal S2048 .f32) (ix1 j)) r := by
  unfold longConv
  rw [longTaps_eq]
  simp only [← ref_rows V0]
  unfold res_main_v231 res_main_v165 res_main_v88
  generalize hu : res_main_v10 V0 = u
  pointwise [refTaps]

/-- The convolution less its row's mean, and the normalized row, from the row of the convolution. -/
theorem ref_centred (b : Fin 4) (r : Fin 2064) (f : Fin 2048 → EReal) (hf : ∀ k, (res_main_v231 V0 (ix3 b r k) : EReal) = f k) (j : Fin 2048) : (res_main_v237 V0 (ix3 b r j) : EReal) = f j - mean f := by
  pointwise [res_main_v237, hf, mean]

theorem ref_norm (b : Fin 4) (r : Fin 2064) (f : Fin 2048 → EReal) (hf : ∀ k, (res_main_v231 V0 (ix3 b r k) : EReal) = f k) (j : Fin 2048) : (res_main_v253 V0 (ix3 b r j) : EReal)
    = ConvS.norm f (fun k => (V0 (Proc.devRef .tc Cert.ConvPReferenceIdeal.main_arg4) : FVec Ideal S2048 .f32) (ix1 k)) (fun k => (V0 (Proc.devRef .tc Cert.ConvPReferenceIdeal.main_arg5) : FVec Ideal S2048 .f32) (ix1 k)) j := by
  unfold ConvS.norm
  generalize hmu : mean f = mu
  have hc : ∀ k, (res_main_v237 V0 (ix3 b r k) : EReal) = f k - mu := fun k => hmu ▸ ref_centred V0 b r f hf k
  pointwise [res_main_v253, hc, mean]

theorem ref_act (b : Fin 4) (r : Fin 2064) (j : Fin 2048) : (mulf (res_main_v253 V0) (Host.divf (broadcastInDim Cert.ConvPReferenceIdeal.S4x2064x2048 ![] bcast_S_S4x2064x2048 (constant Cert.ConvPReferenceIdeal.S_ .f32 0x3F800000#32)) (addf (broadcastInDim Cert.ConvPReferenceIdeal.S4x2064x2048 ![] bcast_S_S4x2064x2048 (constant Cert.ConvPReferenceIdeal.S_ .f32 0x3F800000#32)) (Host.exp (Host.negf (res_main_v253 V0))))) (ix3 b r j) : EReal)
    = act (V0 (Proc.devRef .tc Cert.ConvPReferenceIdeal.main_arg0)) (V0 (Proc.devRef .tc Cert.ConvPReferenceIdeal.main_arg1)) (V0 (Proc.devRef .tc Cert.ConvPReferenceIdeal.main_arg2)) (V0 (Proc.devRef .tc Cert.ConvPReferenceIdeal.main_arg3)) (V0 (Proc.devRef .tc Cert.ConvPReferenceIdeal.main_arg4)) (V0 (Proc.devRef .tc Cert.ConvPReferenceIdeal.main_arg5)) b r j := by
  pointwise [ref_norm V0 b r _ (ref_conv V0 b r), act, silu, sigm]
end

section
open Cert.ConvPReferenceIdeal.Value

/-- Every argument array is left as it was, and every counter is zero: of the kernel's two runs and of the reference's. -/
theorem quiescent : Cert.quiescent_ConvP (hConvP := Cert.ConvP.Gen.facts) := fun m g _ => Cert.ConvP.Gen.frame m g
theorem quiescent_ideal : Cert.quiescent_ConvPIdeal (hConvPIdeal := Cert.ConvPIdeal.Gen.facts) := fun m g _ => Cert.ConvPIdeal.Gen.frame m g
theorem quiescent_ref : Cert.quiescent_ConvPReferenceIdeal (hConvPReferenceIdeal := Cert.ConvPReferenceIdeal.Gen.facts) := fun m g _ =>
  (θ_run _ _ _).mono (fun r h => ⟨fun c => (h c).2.2, sem_eq_zero_of_no_sems rfl r.2⟩) (Cert.ConvPReferenceIdeal.Value.run (F := Ideal) m g)

/-- The kernel and the reference, run from the same arguments, end with the same arrays. -/
theorem algebraic : Cert.algebraic_ConvPIdeal_ConvPReferenceIdeal (hConvPIdeal := Cert.ConvPIdeal.Gen.facts) (hConvPReferenceIdeal := Cert.ConvPReferenceIdeal.Gen.facts) := by
  intro m g m' g' _ hargs
  refine ⟨fun c => final7 (argGlu m c) (argBuf m c) (argW m c) (argB m c) (argG m c) (argS m c), fun c => final8 (argGlu m c) (argBuf m c), ?_, ?_⟩
  · exact (θ_run _ _ _).mono (fun r h c => ⟨(h c).1.trans (final7_eq m c), (h c).2.1.trans (final8_eq m c), (h c).2.2⟩) (Cert.ConvPIdeal.Value.run_blocks (F := Ideal) m g)
  · refine (θ_run _ _ _).mono (fun r h c => ⟨(h c).1.trans ?_, (h c).2.1.trans ?_, (h c).2.2⟩) (Cert.ConvPReferenceIdeal.Value.run (F := Ideal) m' g')
    · obtain ⟨a0, a1, a2, a3, a4, a5⟩ := hargs c
      funext y
      idx_vars y
      unfold argGlu argBuf argW argB argG argS
      rw [← a0, ← a1, ← a2, ← a3, ← a4, ← a5]
      refine Eq.trans ?_ (ref_act (launchContents m' c) ⟨y0.val / 2064, by omega⟩ ⟨y0.val % 2064, by omega⟩ y1)
      generalize mulf (res_main_v253 (launchContents m' c)) _ = x
      pointwise
    · obtain ⟨a0, a1, a2, a3, a4, a5⟩ := hargs c
      funext y
      idx_vars y
      unfold argGlu argBuf
      rw [← a0, ← a1]
      pointwise [ref_rows (launchContents m' c), final8]
      exact congrArg (fun i => seqRows _ _ y0 i y2) (Fin.ext (by omega : 2064 + y1.val + 2 = 2066 + y1.val))
end
end Cert.Proof.ConvP
end
-- ==== Proof.AttnLoop.lean ====
/-
  The prompt attention call's loop over query tiles.

  One trip reads one tile of 256 queries, runs the loop over the key tiles that may be visible to it, and stores the
  256 attention rows. The statement here says what a trip leaves in the result buffer as a function of what the
  queries', keys' and values' buffers hold.
-/
module

public import proofs.«01_k».proof.Proof.Gen.KernelIdeal.Frame
public import proofs.«01_k».proof.Proof.Gen.KernelIdeal.Loops
public import proofs.«01_k».proof.Proof.Gen.KernelIdeal.Points

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg2 : Memref sig .tc .smem S32 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S2064x128 .bf16) (harg6 : arg6.IsWhole) (arg7 : Memref sig .tc .vmem S2304x128 .bf16) (harg7 : arg7.IsWhole) (arg8 : Memref sig .tc .vmem S2304x128 .bf16) (harg8 : arg8.IsWhole) (v1 : Elt F .f32)
  (X3 : BufTy.Contents (Elt F) arg3.view.ty) (X7 : BufTy.Contents (Elt F) arg7.view.ty) (X8 : BufTy.Contents (Elt F) arg8.view.ty)

/-- The buffers a trip touches: queries, copied keys, copied values, and the result at `X6`. -/
abbrev TripOwn (X6 : BufTy.Contents (Elt F) arg6.view.ty) : sProp 𝕄 :=
  iprop((arg3.view.loc (c : Thread nD τ) ↦[arg3.view.set]{fullShare} X3) ∗ (arg7.view.loc (c : Thread nD τ) ↦[arg7.view.set]{fullShare} X7)
    ∗ (arg8.view.loc (c : Thread nD τ) ↦[arg8.view.set]{fullShare} X8) ∗ (arg6.view.loc (c : Thread nD τ) ↦[arg6.view.set]{fullShare} X6))

set_option maxHeartbeats 1000000 in
/-- One trip over a tile of queries: the result buffer's new contents as a function of its old ones, with the run. -/
@[irreducible] def tileTrip (k : Fin k0_t1_loop.trips) :
    { R : BufTy.Contents (Elt F) arg6.view.ty → BufTy.Contents (Elt F) arg6.view.ty // ∀ (E : Set ℕ) (X6 : BufTy.Contents (Elt F) arg6.view.ty) (u : Unit),
      TripOwn (F := F) c arg3 arg6 arg7 arg8 X3 X7 X8 X6
      ⊢ wp frame (wpE (defs₀ (F := F)) Variants.none (c : Thread nD τ) none) E (k0_t1_body (F := F) i arg2 harg2 arg3 harg3 arg4 harg4 arg5 harg5 arg6 harg6 arg7 harg7 arg8 harg8 v1 k u)
          (fun _ => TripOwn (F := F) c arg3 arg6 arg7 arg8 X3 X7 X8 (R X6)) } := by
  refine ⟨?_, fun E X6 u => ?run⟩
  case run =>
    unfold k0_t1_body
    iintro ⟨H3, H7, H8, H6⟩
    sl_exec
    sl_step
    isplitl [H3]; · iexact H3
    isplitl [H7]; · iexact H7
    isplitl [H8]; · iexact H8
    iexact H6

/-- The result buffer after trip `k`, from what it holds before it; past the last trip nothing changes. -/
@[irreducible] def tilesStep (k : ℕ) (X : BufTy.Contents (Elt F) arg6.view.ty) : BufTy.Contents (Elt F) arg6.view.ty :=
  if h : k < k0_t1_loop.trips then
    (tileTrip (F := F) c i arg2 harg2 arg3 harg3 arg4 harg4 arg5 harg5 arg6 harg6 arg7 harg7 arg8 harg8 v1 X3 X7 X8 ⟨k, h⟩).1 X
  else X

/-- The result buffer before trip `k` of the loop over query tiles. -/
def tilesAt (X6 : BufTy.Contents (Elt F) arg6.view.ty) : ℕ → BufTy.Contents (Elt F) arg6.view.ty
  | 0 => X6
  | k + 1 => tilesStep (F := F) c i arg2 harg2 arg3 harg3 arg4 harg4 arg5 harg5 arg6 harg6 arg7 harg7 arg8 harg8 v1 X3 X7 X8 k
      (tilesAt X6 k)

/-- One more trip. -/
theorem tilesAt_succ (X6 : BufTy.Contents (Elt F) arg6.view.ty) (k : Fin k0_t1_loop.trips) :
    tilesAt (F := F) c i arg2 harg2 arg3 harg3 arg4 harg4 arg5 harg5 arg6 harg6 arg7 harg7 arg8 harg8 v1 X3 X7 X8 X6 (k.val + 1)
      = (tileTrip (F := F) c i arg2 harg2 arg3 harg3 arg4 harg4 arg5 harg5 arg6 harg6 arg7 harg7 arg8 harg8 v1 X3 X7 X8 k).1
          (tilesAt (F := F) c i arg2 harg2 arg3 harg3 arg4 harg4 arg5 harg5 arg6 harg6 arg7 harg7 arg8 harg8 v1 X3 X7 X8 X6 k.val) := by
  rw [tilesAt.eq_2]; unfold tilesStep; exact dif_pos k.isLt

set_option warn.classDefReducibility false in
/-- The loop over query tiles by its invariant: before trip `k` the result buffer holds the first `k` tiles. -/
@[sl_loop] def tilesInv (E : Set ℕ) (X6 : BufTy.Contents (Elt F) arg6.view.ty) :
    LoopInvTy_k0_t1 (F := F) Unit ℕ (UR sig nD τ) ℕ Variants.none c none E i arg2 harg2 arg3 harg3 arg4 harg4 arg5 harg5 arg6 harg6 arg7 harg7 arg8 harg8 v1 where
  inv k _ := TripOwn (F := F) c arg3 arg6 arg7 arg8 X3 X7 X8
    (tilesAt (F := F) c i arg2 harg2 arg3 harg3 arg4 harg4 arg5 harg5 arg6 harg6 arg7 harg7 arg8 harg8 v1 X3 X7 X8 X6 k)
  step k u := by
    rw [tilesAt_succ]
    exact (tileTrip (F := F) c i arg2 harg2 arg3 harg3 arg4 harg4 arg5 harg5 arg6 harg6 arg7 harg7 arg8 harg8 v1 X3 X7 X8 k).2 E _ u

end

section

variable (c : Dev nD) (i : grid0.Coords) (arg2 : Memref sig .tc .smem S32 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S2064x128 .bf16) (harg6 : arg6.IsWhole) (arg7 : Memref sig .tc .vmem S2304x128 .bf16) (harg7 : arg7.IsWhole) (arg8 : Memref sig .tc .vmem S2304x128 .bf16) (harg8 : arg8.IsWhole)
  (X2 : BufTy.Contents (Elt F) arg2.view.ty) (X3 : BufTy.Contents (Elt F) arg3.view.ty) (X4 : BufTy.Contents (Elt F) arg4.view.ty) (X5 : BufTy.Contents (Elt F) arg5.view.ty)

set_option maxHeartbeats 2000000 in
/-- The whole body: what it leaves in the result buffer as a function of the buffers' contents, with the run. -/
@[irreducible] def bodyRun (X6 : BufTy.Contents (Elt F) arg6.view.ty) (X7 : BufTy.Contents (Elt F) arg7.view.ty) (X8 : BufTy.Contents (Elt F) arg8.view.ty) :
    { R : BufTy.Contents (Elt F) arg6.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} X4) ∗ (arg5.view.loc (c : Thread nD τ) ↦[arg5.view.set]{fullShare} X5)
        ∗ (arg6.view.loc (c : Thread nD τ) ↦[arg6.view.set]{fullShare} X6) ∗ (arg7.view.loc (c : Thread nD τ) ↦[arg7.view.set]{fullShare} X7)
        ∗ (arg8.view.loc (c : Thread nD τ) ↦[arg8.view.set]{fullShare} X8)
        ∗ (iprop((arg2.view.loc (c : Thread nD τ) ↦[arg2.view.set]{fullShare} X2) ∗ (arg3.view.loc (c : Thread nD τ) ↦[arg3.view.set]{fullShare} X3)
          ∗ (arg4.view.loc (c : Thread nD τ) ↦[arg4.view.set]{fullShare} X4) ∗ (arg5.view.loc (c : Thread nD τ) ↦[arg5.view.set]{fullShare} X5)
          ∗ (arg6.view.loc (c : Thread nD τ) ↦[arg6.view.set]{fullShare} R)
          ∗ (∃ Y, (arg7.view.loc (c : Thread nD τ) ↦[arg7.view.set]{fullShare} Y)) ∗ (∃ Y, (arg8.view.loc (c : Thread nD τ) ↦[arg8.view.set]{fullShare} Y))) -∗ K ⟨⟩))
      ⊢ wp frame (wpE (defs₀ (F := F)) Variants.none (c : Thread nD τ) none) E (cc0__sb_prompt_kernel (F := F) i arg2 harg2 arg3 harg3 arg4 harg4 arg5 harg5 arg6 harg6 arg7 harg7 arg8 harg8) K } := by
  refine ⟨?_, fun E K => ?run⟩
  case run =>
    simp only [cc0__sb_prompt_kernel_eq_skeleton]; unfold cc0__sb_prompt_kernel_skel
    simp only [k0_part4_eq_skeleton]
    iintro ⟨H2, H3, H4, H5, H6, H7, H8, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexists _; iexact H7
    iexists _; iexact H8

end

end Cert.Proof.KernelIdeal

end
-- ==== Proof.AttnRead.lean ====
/-
  What the prompt attention call's body leaves in the result block, as a function of the blocks it reads.

  The block's rows come in tiles of 256 queries and a last tile of 16. A tile's rows are the second component of a
  recursion over key tiles, last key tile first: the running sums of softplus over the keys already passed, and the
  weighted sum of the values.
-/
module

public import proofs.«01_k».proof.Proof.AttnLoop
public import Idealize.ShloMosaic.Lib.WritesUnit
public import Idealize.ShloMosaic.Lib.Pipeline.FrameBody
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-! ## The recursion over key tiles -/

/-- A block of 2064 rows followed by 240 rows of zeros. -/
def padded (x : FVec F S2064x128 .bf16) : FVec F S2304x128 .bf16 := fun y =>
  if h : (y (0 : Fin 2)).val < 2064 then x (ix2 ⟨(y (0 : Fin 2)).val, h⟩ (y (1 : Fin 2))) else Scalar.ofBits .bf16 0x0000#16

/-- The 256 rows of `K` that trip `k2` for query tile `k1` reads. -/
abbrev keyTile (K : FVec F S2304x128 .bf16) (k1 : Fin k0_t1_loop.trips) (k2 : Fin (k0_t2_loop k1).trips) : FVec F S256x128 .bf16 :=
  View.ld (Val := Elt F) (S := S2304x128) (e' := .bf16) K (Rect.unit (s := S2304x128) (k0_off3 k1 k2) S256x128.size (k0_off3_inb k1 k2))

/-- The number of key tiles of query tile `k1`, as a word. -/
abbrev tileCount (k1 : Fin k0_t1_loop.trips) : BitVec 32 := Scalar.muli (Scalar.addi (Scf.iv 0#32 1#32 k1) 1#32) 1#32

/-- The key index inside a tile, as words. -/
abbrev keyIota : IVec S256x256 32 := iota .tc S256x256 32 [1] iota_S256x256_d1_w32

/-- One key tile for query tile `k1`: the new running sums and the new weighted sum. -/
def tileStep (v1 : Elt F .f32) (q : FVec F S256x128 .bf16) (K V : FVec F S2304x128 .bf16) (k1 : Fin k0_t1_loop.trips)
    (k2 : Fin (k0_t2_loop k1).trips) (acc : FVec F S256x128 .f32 × FVec F S256x128 .f32) : FVec F S256x128 .f32 × FVec F S256x128 .f32 :=
  (k0_pay38 acc.1 (k0_pay12 v1 k0_pay33 k1 q (tileCount k1) (k0_pay34 k1) keyIota (0#32) (1#32) k2 (keyTile K k1 k2)),
    k0_pay37 acc.2 (k0_pay13 v1 k0_pay32 k1 q (tileCount k1) (k0_pay34 k1) keyIota (0#32) (1#32) k2 acc.1 (keyTile K k1 k2))
      (keyTile V k1 k2) (constant S256x128 .f32 0x00000000#32))

/-- The pair before trip `n` of query tile `k1`. -/
def tileSt (v1 : Elt F .f32) (q : FVec F S256x128 .bf16) (K V : FVec F S2304x128 .bf16) (k1 : Fin k0_t1_loop.trips) :
    ℕ → FVec F S256x128 .f32 × FVec F S256x128 .f32
  | 0 => (k0_pay35, k0_pay36)
  | n + 1 => if h : n < (k0_t2_loop k1).trips then tileStep v1 q K V k1 ⟨n, h⟩ (tileSt v1 q K V k1 n) else tileSt v1 q K V k1 n

/-- The 256 rows of `K` that trip `k` for the last query tile reads. -/
abbrev lastKeyTile (K : FVec F S2304x128 .bf16) (k : Fin k0_t4_loop.trips) : FVec F S256x128 .bf16 :=
  View.ld (Val := Elt F) (S := S2304x128) (e' := .bf16) K (Rect.unit (s := S2304x128) (k0_off5 k) S256x128.size (k0_off5_inb k))

/-- The key index inside a tile of the last query tile, as words. -/
abbrev lastIota : IVec S16x256 32 := iota .tc S16x256 32 [1] iota_S16x256_d1_w32

/-- One key tile for the last query tile. -/
def lastStep (v1 : Elt F .f32) (q : FVec F S16x128 .bf16) (K V : FVec F S2304x128 .bf16) (k : Fin k0_t4_loop.trips)
    (acc : FVec F S16x128 .f32 × FVec F S16x128 .f32) : FVec F S16x128 .f32 × FVec F S16x128 .f32 :=
  (k0_pay5 acc.1 (k0_pay26 v1 k0_pay33 q k0_pay1 lastIota (0#32) (1#32) k (lastKeyTile K k)),
    k0_pay4 acc.2 (k0_pay27 v1 k0_pay32 q k0_pay1 lastIota (0#32) (1#32) k acc.1 (lastKeyTile K k) (lastKeyTile V k)))

/-- The pair before trip `n` of the last query tile. -/
def lastSt (v1 : Elt F .f32) (q : FVec F S16x128 .bf16) (K V : FVec F S2304x128 .bf16) :
    ℕ → FVec F S16x128 .f32 × FVec F S16x128 .f32
  | 0 => (k0_pay2, k0_pay3)
  | n + 1 => if h : n < k0_t4_loop.trips then lastStep v1 q K V ⟨n, h⟩ (lastSt v1 q K V n) else lastSt v1 q K V n

/-- The rows of query tile `k1`. -/
abbrev queryTile (Q : FVec F S2064x128 .bf16) (k1 : Fin k0_t1_loop.trips) : FVec F S256x128 .bf16 :=
  View.ld (Val := Elt F) (S := S2064x128) (e' := .bf16) Q (Rect.unit (s := S2064x128) (k0_off2 k1) S256x128.size (k0_off2_inb k1))

/-- The last 16 query rows. -/
abbrev lastQueries (Q : FVec F S2064x128 .bf16) : FVec F S16x128 .bf16 :=
  View.ld (Val := Elt F) (S := S2064x128) (e' := .bf16) Q (Rect.unit (s := S2064x128) ![2048, 0] S16x128.size inb_S2064x128_S16x128_2048_0)

/-- The bias of the head of grid point `i`. -/
def headBias (b : FVec F S32 .f32) (i : grid0.Coords) : Elt F .f32 :=
  b ((Rect.unit (s := S32) (k0_off1 i) S1.size (k0_off1_inb i)).idx (Shape.Idx.first (show 0 < S1.numel from Nat.lt_of_lt_of_eq Nat.zero_lt_one numel1_S1.symm)))

/-- The attention rows of query tile `k1`. -/
def tileOut (b : FVec F S32 .f32) (i : grid0.Coords) (Q : FVec F S2064x128 .bf16) (K V : FVec F S2304x128 .bf16)
    (k1 : Fin k0_t1_loop.trips) : FVec F S256x128 .bf16 :=
  k0_pay41 (tileSt (headBias b i) (queryTile Q k1) K V k1 (k0_t2_loop k1).trips).2

/-- The attention rows of the last query tile. -/
def lastOut (b : FVec F S32 .f32) (i : grid0.Coords) (Q : FVec F S2064x128 .bf16) (K V : FVec F S2304x128 .bf16) : FVec F S16x128 .bf16 :=
  k0_pay6 (lastSt (headBias b i) (lastQueries Q) K V k0_t4_loop.trips).2

/-- The eight query tiles one after the other. -/
theorem trips_t1 : k0_t1_loop.trips = 8 := by decide +kernel

/-- The whole result block. -/
def outBlock (b : FVec F S32 .f32) (i : grid0.Coords) (Q : FVec F S2064x128 .bf16) (K V : FVec F S2304x128 .bf16) : FVec F S2064x128 .bf16 := fun y =>
  if h : (y (0 : Fin 2)).val < 2048 then
    tileOut b i Q K V ⟨(y (0 : Fin 2)).val / 256, by rw [trips_t1]; omega⟩
      (ix2 (⟨(y (0 : Fin 2)).val % 256, Nat.mod_lt _ (by decide)⟩ : Fin 256) (y (1 : Fin 2)))
  else lastOut b i Q K V (ix2 (⟨(y (0 : Fin 2)).val - 2048, by have h2 : (y (0 : Fin 2)).val < 2064 := (y (0 : Fin 2)).isLt; omega⟩ : Fin 16) (y (1 : Fin 2)))

/-! ## The run's contents are these -/

section

variable (c : Dev nD) (i : grid0.Coords) (arg2 : Memref sig .tc .smem S32 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S2064x128 .bf16) (harg6 : arg6.IsWhole) (arg7 : Memref sig .tc .vmem S2304x128 .bf16) (harg7 : arg7.IsWhole) (arg8 : Memref sig .tc .vmem S2304x128 .bf16) (harg8 : arg8.IsWhole) (v1 : Elt F .f32)
  (X3 : BufTy.Contents (Elt F) arg3.view.ty) (X7 : BufTy.Contents (Elt F) arg7.view.ty) (X8 : BufTy.Contents (Elt F) arg8.view.ty)

/-- The inner loop's state is the recursion over key tiles. -/
theorem st_t2_eq (k1 : Fin k0_t1_loop.trips) (q : FVec F S256x128 .bf16) (n : ℕ) :
    st_k0_t2 (F := F) Variants.none c none i arg2 harg2 arg3 harg3 arg4 harg4 arg5 harg5 arg6 harg6 arg7 harg7 arg8 harg8 v1 k1 q (tileCount k1) keyIota X7 X8 (k0_pay35, k0_pay36) n
      = tileSt v1 q (arg7.view.read (Elt F) X7) (arg8.view.read (Elt F) X8) k1 n := by
  induction n with
  | zero => rfl
  | succ n ih =>
    rw [st_k0_t2.eq_2, tileSt, ih]
    unfold st_k0_t2Step
    split
    · unfold tripR_k0_t2 trip_k0_t2
      rfl
    · rfl

/-- The last query tile's state is its recursion over key tiles. -/
theorem st_t4_eq (q : FVec F S16x128 .bf16) (n : ℕ) :
    st_k0_t4 (F := F) Variants.none c none i arg2 harg2 arg3 harg3 arg4 harg4 arg5 harg5 arg6 harg6 arg7 harg7 arg8 harg8 v1 k0_pay32 k0_pay33 q lastIota X7 X8 (k0_pay2, k0_pay3) n
      = lastSt v1 q (arg7.view.read (Elt F) X7) (arg8.view.read (Elt F) X8) n := by
  induction n with
  | zero => rfl
  | succ n ih =>
    rw [st_k0_t4.eq_2, lastSt, ih]
    unfold st_k0_t4Step
    split
    · unfold tripR_k0_t4 trip_k0_t4
      rfl
    · rfl

end

/-- The remainder loop of every query tile runs no trip. -/
theorem trips_t3 : ∀ k1 : Fin k0_t1_loop.trips, (k0_t3_loop k1).trips = 0 := by decide +kernel

/-- Query tile `k1` starts at row `256 * k1`. -/
theorem off2_eq : ∀ k1 : Fin k0_t1_loop.trips, k0_off2 k1 = ![256 * k1.val, 0] := by decide +kernel

section

variable (c : Dev nD) (i : grid0.Coords) (arg2 : Memref sig .tc .smem S32 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S2064x128 .bf16) (harg6 : arg6.IsWhole) (arg7 : Memref sig .tc .vmem S2304x128 .bf16) (harg7 : arg7.IsWhole) (arg8 : Memref sig .tc .vmem S2304x128 .bf16) (harg8 : arg8.IsWhole) (v1 : Elt F .f32)
  (X3 : BufTy.Contents (Elt F) arg3.view.ty) (X7 : BufTy.Contents (Elt F) arg7.view.ty) (X8 : BufTy.Contents (Elt F) arg8.view.ty)

/-- One trip writes its tile's rows. -/
theorem tileTrip_eq (k1 : Fin k0_t1_loop.trips) (X6 : BufTy.Contents (Elt F) arg6.view.ty) :
    (tileTrip (F := F) c i arg2 harg2 arg3 harg3 arg4 harg4 arg5 harg5 arg6 harg6 arg7 harg7 arg8 harg8 v1 X3 X7 X8 k1).1 X6
      = arg6.view.writes (Elt F) X6 [⟨Rect.unit (s := S2064x128) (k0_off2 k1) S256x128.size (k0_off2_inb k1),
          k0_pay41 (tileSt v1 (queryTile (arg3.view.read (Elt F) X3) k1) (arg7.view.read (Elt F) X7) (arg8.view.read (Elt F) X8) k1
            (k0_t2_loop k1).trips).2⟩] := by
  rw [← st_t2_eq c i arg2 harg2 arg3 harg3 arg4 harg4 arg5 harg5 arg6 harg6 arg7 harg7 arg8 harg8]
  unfold tileTrip
  dsimp only
  have h3 := trips_t3 k1
  unfold Scf.Loop.trips k0_t3_loop at h3
  dsimp only at h3
  rw [h3]
  rfl

/-- Before trip `n` the rows of the first `n` tiles hold their results. -/
theorem read_tilesAt (Z6 : BufTy.Contents (Elt F) arg6.view.ty) (n : ℕ) (hn : n ≤ 8) (k1 : Fin k0_t1_loop.trips) (hk : k1.val < n)
    (y : S2064x128.Idx) (x : S256x128.Idx) (hx0 : (y (0 : Fin 2)).val = 256 * k1.val + (x (0 : Fin 2)).val)
    (hx1 : (y (1 : Fin 2)).val = (x (1 : Fin 2)).val) :
    arg6.view.read (Elt F) (tilesAt (F := F) c i arg2 harg2 arg3 harg3 arg4 harg4 arg5 harg5 arg6 harg6 arg7 harg7 arg8 harg8 v1 X3 X7 X8 Z6 n) y
      = k0_pay41 (tileSt v1 (queryTile (arg3.view.read (Elt F) X3) k1) (arg7.view.read (Elt F) X7) (arg8.view.read (Elt F) X8) k1
            (k0_t2_loop k1).trips).2 x := by
  induction n with
  | zero => omega
  | succ n ih =>
    have hn8 : n < k0_t1_loop.trips := by rw [trips_t1]; omega
    have hxlt : (x (0 : Fin 2)).val < 256 := (x (0 : Fin 2)).isLt
    have e := tilesAt_succ (F := F) c i arg2 harg2 arg3 harg3 arg4 harg4 arg5 harg5 arg6 harg6 arg7 harg7 arg8 harg8 v1 X3 X7 X8 Z6 ⟨n, hn8⟩
    dsimp only at e
    rw [e, tileTrip_eq]
    by_cases hlt : k1.val < n
    · have := View.read_writes_cons_rows_of_not_mem (Val := Elt F) arg6.view
        (tilesAt (F := F) c i arg2 harg2 arg3 harg3 arg4 harg4 arg5 harg5 arg6 harg6 arg7 harg7 arg8 harg8 v1 X3 X7 X8 Z6 n)
        (k0_off2_inb ⟨n, hn8⟩) (k0_pay41 (tileSt v1 (queryTile (arg3.view.read (Elt F) X3) ⟨n, hn8⟩) (arg7.view.read (Elt F) X7) (arg8.view.read (Elt F) X8) ⟨n, hn8⟩
            (k0_t2_loop ⟨n, hn8⟩).trips).2) [] y (off2_eq ⟨n, hn8⟩) rfl (Or.inl (by dsimp only; omega))
      exact this.trans (ih (by omega) hlt)
    · obtain rfl : k1 = ⟨n, hn8⟩ := Fin.ext (by dsimp only; omega)
      exact View.read_writes_cons_rows_of_mem (Val := Elt F) arg6.view _ (k0_off2_inb ⟨n, hn8⟩) _ [] y x (off2_eq ⟨n, hn8⟩) hx0 hx1

end

/-- The two writes that fill a block of 2304 rows leave the 2064 rows and zeros. -/
theorem read_padded (arg : Memref sig .tc .vmem S2304x128 .bf16) (Z : BufTy.Contents (Elt F) arg.view.ty) (x : FVec F S2064x128 .bf16)
    (z : FVec F S240x128 .bf16) (hz : z = fun _ => Scalar.ofBits .bf16 0x0000#16) :
    arg.view.read (Elt F) (arg.view.writes (Elt F) Z
      [⟨Rect.unit (s := S2304x128) ![2064, 0] S240x128.size inb_S2304x128_S240x128_2064_0, z⟩,
       ⟨Rect.unit (s := S2304x128) ![0, 0] S2064x128.size inb_S2304x128_S2064x128_0_0, x⟩]) = padded x := by
  funext y
  have hy : (y (0 : Fin 2)).val < 2304 := (y (0 : Fin 2)).isLt
  by_cases h : (y (0 : Fin 2)).val < 2064
  · rw [padded, dif_pos h]
    refine (View.read_writes_cons_rows_of_not_mem (Val := Elt F) arg.view Z inb_S2304x128_S240x128_2064_0 z _ y rfl rfl (Or.inl h)).trans ?_
    exact View.read_writes_cons_rows_of_mem (Val := Elt F) arg.view Z inb_S2304x128_S2064x128_0_0 x [] y
      (ix2 (⟨(y (0 : Fin 2)).val, h⟩ : Fin 2064) (y (1 : Fin 2))) rfl (Nat.zero_add _).symm rfl
  · rw [padded, dif_neg h]
    refine (View.read_writes_cons_rows_of_mem (Val := Elt F) arg.view Z inb_S2304x128_S240x128_2064_0 z _ y
      (ix2 (⟨(y (0 : Fin 2)).val - 2064, by omega⟩ : Fin 240) (y (1 : Fin 2))) rfl ?_ rfl).trans ?_
    · show (y (0 : Fin 2)).val = 2064 + ((y (0 : Fin 2)).val - 2064); omega
    · rw [hz]

/-- The zero rows. -/
theorem pay30_eq : (k0_pay30 (F := F)) = fun _ => Scalar.ofBits .bf16 0x0000#16 := rfl
theorem pay31_eq : (k0_pay31 (F := F)) = fun _ => Scalar.ofBits .bf16 0x0000#16 := rfl

section

variable (c : Dev nD) (i : grid0.Coords) (arg2 : Memref sig .tc .smem S32 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S2064x128 .bf16) (harg6 : arg6.IsWhole) (arg7 : Memref sig .tc .vmem S2304x128 .bf16) (harg7 : arg7.IsWhole) (arg8 : Memref sig .tc .vmem S2304x128 .bf16) (harg8 : arg8.IsWhole)
  (X2 : BufTy.Contents (Elt F) arg2.view.ty) (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (X8 : BufTy.Contents (Elt F) arg8.view.ty)

omit [FloatOps F] in
/-- Reading a whole block is the block. -/
theorem readAt_whole {e : EltTy} (arg : Memref sig .tc .vmem S2064x128 e) (Z : BufTy.Contents (Elt F) arg.view.ty) :
    View.readAt (Elt F) arg.view (Rect.unit (s := S2064x128) ![0, 0] S2064x128.size inb_S2064x128_S2064x128_0_0).toLoadRect Z = arg.view.read (Elt F) Z := by
  rw [View.readAt_eq_ld]
  funext y
  unfold View.ld
  refine congrArg _ (funext fun a => Fin.ext ?_)
  fin_cases a
  · show 0 + 1 * (y (0 : Fin 2)).val = (y (0 : Fin 2)).val; omega
  · show 0 + 1 * (y (1 : Fin 2)).val = (y (1 : Fin 2)).val; omega

/-- The body leaves the block `outBlock` names. -/
theorem read_bodyRun :
    arg6.view.read (Elt F) (bodyRun (F := F) c i arg2 harg2 arg3 harg3 arg4 harg4 arg5 harg5 arg6 harg6 arg7 harg7 arg8 harg8 X2 X3 X4 X5 X6 X7 X8).1
      = outBlock (arg2.view.read (Elt F) X2) i (arg3.view.read (Elt F) X3) (padded (k0_pay28 (arg4.view.read (Elt F) X4)))
          (padded (k0_pay29 (arg5.view.read (Elt F) X5))) := by
  funext y
  have hy : (y (0 : Fin 2)).val < 2064 := (y (0 : Fin 2)).isLt
  unfold bodyRun
  dsimp only
  have e7 : arg7.view.read (Elt F) (arg7.view.writes (Elt F) arg7.view.junk (bodyRun.sl.H7_2 arg4 X4)) = padded (k0_pay28 (arg4.view.read (Elt F) X4)) := by
    unfold bodyRun.sl.H7_2
    rw [show View.readAt (Elt F) arg4.view (Rect.unit (s := S2064x128) ![0, 0] S2064x128.size inb_S2064x128_S2064x128_0_0).toLoadRect X4 = arg4.view.read (Elt F) X4 from readAt_whole _ _]
    exact read_padded (F := F) arg7 _ (k0_pay28 (arg4.view.read (Elt F) X4)) k0_pay30 pay30_eq
  have e8 : arg8.view.read (Elt F) (arg8.view.writes (Elt F) arg8.view.junk (bodyRun.sl.H8_2 arg5 X5)) = padded (k0_pay29 (arg5.view.read (Elt F) X5)) := by
    unfold bodyRun.sl.H8_2
    rw [show View.readAt (Elt F) arg5.view (Rect.unit (s := S2064x128) ![0, 0] S2064x128.size inb_S2064x128_S2064x128_0_0).toLoadRect X5 = arg5.view.read (Elt F) X5 from readAt_whole _ _]
    exact read_padded (F := F) arg8 _ (k0_pay29 (arg5.view.read (Elt F) X5)) k0_pay31 pay31_eq
  generalize arg7.view.writes (Elt F) arg7.view.junk (bodyRun.sl.H7_2 arg4 X4) = C7 at *
  generalize arg8.view.writes (Elt F) arg8.view.junk (bodyRun.sl.H8_2 arg5 X5) = C8 at *
  rw [← e7, ← e8]
  clear e7 e8
  have hv : bodyRun.sl.r i arg2 X2 = headBias (arg2.view.read (Elt F) X2) i := rfl
  rw [hv]
  have hq : bodyRun.sl.r_1 arg3 X3 = lastQueries (arg3.view.read (Elt F) X3) := rfl
  rw [hq]
  unfold outBlock
  by_cases h : (y (0 : Fin 2)).val < 2048
  · rw [dif_pos h]
    refine (View.read_writes_cons_rows_of_not_mem (Val := Elt F) arg6.view _ inb_S2064x128_S16x128_2048_0 _ [] y rfl rfl (Or.inl h)).trans ?_
    rw [View.writes_nil, show Scf.trips 0#32 (Scalar.addi 0#32 8#32) 1#32 = 8 from trips_t1]
    have hk : (y (0 : Fin 2)).val / 256 < k0_t1_loop.trips := by rw [trips_t1]; omega
    refine (read_tilesAt (F := F) c i arg2 harg2 arg3 harg3 arg4 harg4 arg5 harg5 arg6 harg6 arg7 harg7 arg8 harg8 _ X3 _ _ X6 8 le_rfl ⟨(y (0 : Fin 2)).val / 256, hk⟩
      (by dsimp only; omega) y (ix2 (⟨(y (0 : Fin 2)).val % 256, Nat.mod_lt _ (by decide)⟩ : Fin 256) (y (1 : Fin 2))) ?_ rfl).trans ?_
    · show (y (0 : Fin 2)).val = 256 * ((y (0 : Fin 2)).val / 256) + (y (0 : Fin 2)).val % 256; omega
    · rfl
  · rw [dif_neg h]
    refine (View.read_writes_cons_rows_of_mem (Val := Elt F) arg6.view _ inb_S2064x128_S16x128_2048_0 _ [] y
      (ix2 (⟨(y (0 : Fin 2)).val - 2048, by omega⟩ : Fin 16) (y (1 : Fin 2))) rfl ?_ rfl).trans ?_
    · show (y (0 : Fin 2)).val = 2048 + ((y (0 : Fin 2)).val - 2048); omega
    · unfold lastOut
      rw [← st_t4_eq c i arg2 harg2 arg3 harg3 arg4 harg4 arg5 harg5 arg6 harg6 arg7 harg7 arg8 harg8]

end

end Cert.Proof.KernelIdeal

end
-- ==== Proof.AttnFrame.lean ====
/-
  The prompt attention call's run: the body at every grid point, and the launch. Every weakly fair execution ends, with
  the result array assembled from the blocks `outBlock` names and the argument arrays as they were.
-/
module

public import proofs.«01_k».proof.Proof.AttnRead
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on what the staging buffers hold -/

/-- The whole attention block from the operand blocks: keys and values narrowed and padded. -/
def attnBlock (i : grid0.Coords) (x2 : FVec F S32 .f32) (x3 : FVec F S2064x128 .bf16) (x4 x5 : FVec F S2064x128 .f32) : FVec F S2064x128 .bf16 :=
  outBlock x2 i x3 (padded (k0_pay28 x4)) (padded (k0_pay29 x5))

/-- The body on owned buffers: the operands stay, the result buffer holds the attention block, the scratch something. -/
theorem body_wp (c : Dev nD) (i : grid0.Coords) (arg2 : Memref sig .tc .smem S32 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S2064x128 .bf16) (harg6 : arg6.IsWhole) (arg7 : Memref sig .tc .vmem S2304x128 .bf16) (harg7 : arg7.IsWhole) (arg8 : Memref sig .tc .vmem S2304x128 .bf16) (harg8 : arg8.IsWhole)
    (x2 : FVec F S32 .f32) (x3 : FVec F S2064x128 .bf16) (x4 x5 : FVec F S2064x128 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare (attnBlock i x2 x3 x4 x5)
          ∗ (∃ d, owns (c : Thread nD τ) arg7 fullShare d) ∗ (∃ d, owns (c : Thread nD τ) arg8 fullShare d)) -∗ K ⟨⟩))
      ⊢ wp frame (wpE (defs₀ (F := F)) Variants.none (c : Thread nD τ) none) E (cc0__sb_prompt_kernel (F := F) i arg2 harg2 arg3 harg3 arg4 harg4 arg5 harg5 arg6 harg6 arg7 harg7 arg8 harg8) K := by
  unfold owns
  iintro ⟨⟨%f2, %h2, H2⟩, ⟨%f3, %h3, H3⟩, ⟨%f4, %h4, H4⟩, ⟨%f5, %h5, H5⟩, ⟨%d6, %f6, %h6, H6⟩, ⟨%d7, %f7, %h7, H7⟩, ⟨%d8, %f8, %h8, H8⟩, Hk⟩
  iapply ((bodyRun (F := F) c i arg2 harg2 arg3 harg3 arg4 harg4 arg5 harg5 arg6 harg6 arg7 harg7 arg8 harg8 f2 f3 f4 f5 f6 f7 f8).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, ⟨%Y7, H7⟩, ⟨%Y8, H8⟩⟩
  iapply Hk
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists _; isplitr
    · ipureintro
      subst h2 h3 h4 h5
      exact read_bodyRun (F := F) c i arg2 harg2 arg3 harg3 arg4 harg4 arg5 harg5 arg6 harg6 arg7 harg7 arg8 harg8 f2 f3 f4 f5 f6 f7 f8
    iexact H6
  isplitl [H7]
  · iexists _; iexists Y7; isplitr
    · ipureintro; rfl
    iexact H7
  iexists _; iexists Y8; isplitr
  · ipureintro; rfl
  iexact H8

/-! ## The proof data -/

variable (m : (ℓ : Loc nD τ sig) → Buf (Elt F) ℓ) (ρ : Dev nD → PrngReg)

/-- Point by point: the arrays as launched, every operand's block left in place, the result's block the attention's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => attnBlock (grid0.coords t) (iblk m c 0 t) (iblk m c 1 t) (iblk m c 2 t) (iblk m c 3 t)
  Φ _ := Pipeline.ΦA spec0 c
  q _ := fullShare
  owed _ := 0

/-- The arrays are the launched ones. -/
theorem dats_A (c : Dev nD) (w : Fin cfg0.W) : (dats m 0 c).A w = V m c (Pipeline.arrRef spec0 w) := by
  dsimp only [dats]

/-- What the body leaves, window by window. -/
theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t
    = attnBlock (grid0.coords t) (iblk m c 0 t) (iblk m c 1 t) (iblk m c 2 t) (iblk m c 3 t) := by dsimp only [dats]

/-- What the body finds in the operands' buffers: their blocks. -/
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d

/-- What the region lends the body besides the staging buffers: the two scratch buffers and the generator register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]

/-! ## The body at a point -/

/-- What the body starts from at point `t`. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point goes from the one to the other. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [dats_before0, dats_before1, dats_before2, dats_before3]
  rw [show (dats m 0 c).Φ t.succ = Pipeline.ΦA spec0 c from rfl, show (dats m 0 c).Φ t.castSucc = Pipeline.ΦA spec0 c from rfl, lent_eq,
    show (dats m 0 c).owesAt () t.succ = (dats m 0 c).owesAt () t.castSucc from rfl,
    dats_after0, dats_after1, dats_after2, dats_after3, dats_after4]
  iintro ⟨⟨⟨Hs0, Hs1⟩, Hg⟩, Ho, ⟨%d0, H0⟩, ⟨%d1, H1⟩, ⟨%d2, H2⟩, ⟨%d3, H3⟩, ⟨%d4, H4⟩⟩
  iapply (body_wp c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [Hs0]; · iexact Hs0
  isplitl [Hs1]; · iexact Hs1
  iintro ⟨H0, H1, H2, H3, H4, Hs0, Hs1⟩
  isplitl [Hs0 Hs1 Hg]
  · isplitl [Hs0 Hs1]
    · isplitl [Hs0]; · iexact Hs0
      iexact Hs1
    iexact Hg
  isplitl [Ho]; · iexact Ho
  isplitl [H0]; · iexact H0
  isplitl [H1]; · iexact H1
  isplitl [H2]; · iexact H2
  isplitl [H3]; · iexact H3
  iexact H4

/-- The body table's row at point `t` is the body there. -/
theorem body_row (t : Fin cfg0.N) :
    defs₀ (F := F) .tc cfg0.body (cfg0.bodyArgs t (cfg0.slots t)) = bodyAt0 t := by
  unfold defs₀; rw [Defs.onTc_tc]

/-- The body's obligation at every point. -/
theorem point_obligation (c : Dev nD) : BodyObligation (dats (F := F) m 0 c) (defs₀ (F := F)) Variants.none () Set.univ := fun t => by
  rw [bigSep_W0, bigSep_W0, body_row]
  exact triple_restated (point_run m c t) rfl .rfl fun _ => .rfl

/-! ## The launch -/

set_option backward.isDefEq.respectTransparency.types false in
set_option maxHeartbeats 800000 in
/-- Every weakly fair execution ends with every array at what the points' blocks make of it and every counter zero. -/
theorem launch_run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m) (hΦ := fun _ _ => rfl)

/-- The argument arrays end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.KernelIdeal

end
-- ==== Proof.StickMath.lean ====
/-
  Stick-breaking weights over the reals, and the extended-real expressions that compute them.

  A query at position `I` pays `softplus (z j)` for every key `j` before it; key `j`'s weight is
  `exp (z j - softplus (z j) - (what the keys after j pay))`. Sums over ranges of keys are over `Finset.Ico`.
-/
module

public import Idealize.ShloMosaic.Lib.Pointwise
public import Idealize.ShloMosaic.Lib.IdealHost
public import Idealize.ShloMosaic.Lib.WordCmp
public import Mathlib.Analysis.SpecialFunctions.Log.Basic
public import Mathlib.Algebra.BigOperators.Intervals

@[expose] public section

noncomputable section

namespace Cert.Proof.Stick

open Idealize.ShloMosaic Finset

/-! ## Real definitions -/

/-- `log (1 + exp x)`, as both programs spell it. -/
def softplus (x : ℝ) : ℝ := max x 0 + Real.log (1 + Real.exp (-|x|))

/-- What key `j` costs a query at position `I`. -/
def cost (z : ℕ → ℝ) (I j : ℕ) : ℝ := if j < I then softplus (z j) else 0

/-- Key `j`'s weight for a query at position `I`, the keys below `M` counted. -/
def weight (z : ℕ → ℝ) (I M j : ℕ) : ℝ :=
  if j < I then Real.exp (z j - softplus (z j) - ∑ l ∈ Ico (j + 1) M, cost z I l) else 0

/-- Keys past the query cost nothing. -/
theorem cost_of_le {z : ℕ → ℝ} {I j : ℕ} (h : I ≤ j) : cost z I j = 0 := if_neg (by omega)

/-- Keys past the query weigh nothing. -/
theorem weight_of_le {z : ℕ → ℝ} {I M j : ℕ} (h : I ≤ j) : weight z I M j = 0 := if_neg (by omega)

/-- The bound on the keys counted does not matter once it reaches the query. -/
theorem weight_bound {z : ℕ → ℝ} {I M M' j : ℕ} (h : I ≤ M) (h' : M ≤ M') : weight z I M' j = weight z I M j := by
  unfold weight
  split
  · rename_i hj
    rw [← sum_Ico_consecutive _ (show j + 1 ≤ M by omega) h', sum_eq_zero (s := Ico M M') fun l hl => cost_of_le (by have := (mem_Ico.mp hl).1; omega), add_zero]
  · rfl

/-- `softplus x - x = softplus (-x)`. -/
theorem softplus_neg (x : ℝ) : softplus (-x) = softplus x - x := by
  unfold softplus
  rw [abs_neg]
  rcases le_total 0 x with h | h
  · rw [max_eq_left h, max_eq_right (by linarith)]; ring
  · rw [max_eq_right h, max_eq_left (by linarith)]; ring

/-! ## Extended reals -/

/-- A sum of reals read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The exponential of a real. -/
theorem exp_coe (x : ℝ) : Ideal.exp (x : EReal) = (Real.exp x : EReal) := rfl

/-- `log (1 + x)` of a nonnegative real. -/
theorem log1p_coe {x : ℝ} (h : 0 ≤ x) : Ideal.log1p (x : EReal) = (Real.log (1 + x) : EReal) := by
  unfold Ideal.log1p
  rw [show (1 : EReal) + (x : EReal) = ((1 + x : ℝ) : EReal) from by rw [EReal.coe_add, EReal.coe_one]]
  show (if 1 + x ≤ 0 then (⊥ : EReal) else (Real.log (1 + x) : EReal)) = _
  rw [if_neg (by linarith)]

/-- `max x (-x)` of a real. -/
theorem max_neg_coe (x : ℝ) : max (x : EReal) (-(x : EReal)) = ((|x| : ℝ) : EReal) := by
  rw [← EReal.coe_neg]
  exact (EReal.coe_strictMono.monotone.map_max (a := x) (b := -x)).symm

/-- The maximum of two reals. -/
theorem max_zero_coe (x : ℝ) : max (x : EReal) 0 = ((max x 0 : ℝ) : EReal) := by
  rw [← EReal.coe_zero]
  exact (EReal.coe_strictMono.monotone.map_max (a := x) (b := 0)).symm

/-- Both programs' softplus, of a real. -/
theorem softplus_coe (x : ℝ) : max (x : EReal) 0 + Ideal.log1p (Ideal.exp (-(max (x : EReal) (-(x : EReal))))) = (softplus x : EReal) := by
  rw [max_neg_coe, max_zero_coe, ← EReal.coe_neg, exp_coe, log1p_coe (Real.exp_pos _).le, ← EReal.coe_add]
  rfl

/-! ## Ranges cut in tiles of 256 keys -/

variable {A : Type} [AddCommMonoid A]

/-- A tile's sum, and the sum over what follows it, make the longer range. -/
theorem sum_tile (f : ℕ → A) {n N : ℕ} (h : n < N) :
    ∑ l ∈ Ico (256 * (N - (n + 1))) (256 * N), f l
      = ∑ l ∈ Ico (256 * (N - n)) (256 * N), f l + ∑ s : Fin 256, f (256 * (N - 1 - n) + s.val) := by
  rw [← sum_Ico_consecutive f (show 256 * (N - (n + 1)) ≤ 256 * (N - n) by omega) (show 256 * (N - n) ≤ 256 * N by omega), add_comm]
  congr 1
  rw [sum_Ico_eq_sum_range, show 256 * (N - n) - 256 * (N - (n + 1)) = 256 by omega, Finset.sum_range]
  exact Finset.sum_congr rfl fun s _ => by rw [show N - (n + 1) = N - 1 - n by omega]

/-- The keys of a tile after key `s`, and what follows the tile. -/
theorem sum_after (f : ℕ → ℝ) {n N : ℕ} (h : n < N) (s : Fin 256) :
    ∑ l ∈ Ico (256 * (N - 1 - n) + s.val + 1) (256 * N), f l
      = ∑ t : Fin 256, f (256 * (N - 1 - n) + t.val) * (if s.val < t.val then 1 else 0) + ∑ l ∈ Ico (256 * (N - n)) (256 * N), f l := by
  have hs := s.isLt
  rw [← sum_Ico_consecutive f (show 256 * (N - 1 - n) + s.val + 1 ≤ 256 * (N - n) by omega) (show 256 * (N - n) ≤ 256 * N by omega)]
  congr 1
  have e : ∑ t : Fin 256, f (256 * (N - 1 - n) + t.val) * (if s.val < t.val then 1 else 0)
      = ∑ t ∈ range 256, f (256 * (N - 1 - n) + t) * (if s.val < t then 1 else 0) := by rw [Finset.sum_range]
  rw [e, ← sum_subset (s₁ := Ico (s.val + 1) 256) (fun t ht => mem_range.mpr (mem_Ico.mp ht).2)
    (fun t ht hn => by
      have h1 := mem_range.mp ht
      have h2 : ¬ s.val < t := fun h3 => hn (mem_Ico.mpr ⟨h3, h1⟩)
      rw [if_neg h2, mul_zero]),
    sum_Ico_eq_sum_range, sum_Ico_eq_sum_range]
  rw [show 256 * (N - n) - (256 * (N - 1 - n) + s.val + 1) = 256 - (s.val + 1) by omega]
  refine sum_congr rfl fun t ht => ?_
  rw [if_pos (by omega), mul_one]
  congr 1
  omega

/-- Weighted sums over enough keys agree. -/
theorem weighted_sum {z : ℕ → ℝ} {I M M' : ℕ} (h : I ≤ M) (h' : I ≤ M') (g : ℕ → EReal) :
    ∑ l ∈ Ico 0 M, (weight z I M l : EReal) * g l = ∑ l ∈ range M', (weight z I M' l : EReal) * g l := by
  have key : ∀ {N : ℕ}, I ≤ N → ∑ l ∈ range N, (weight z I N l : EReal) * g l = ∑ l ∈ range I, (weight z I I l : EReal) * g l := fun {N} hN => by
    rw [Finset.sum_congr rfl fun l _ => by rw [weight_bound (le_refl I) hN]]
    refine (sum_subset (fun l hl => mem_range.mpr (by have := mem_range.mp hl; omega)) fun l _ hn => ?_).symm
    rw [weight_of_le (by by_contra hl; exact hn (mem_range.mpr (by omega))), EReal.coe_zero, zero_mul]
  rw [← Finset.range_eq_Ico, key h, key h']

/-! ## One tile of one query row

`L` holds the tile's logits, `m` the mask, `acc` the sum over the keys after the tile. -/

section

variable {z : ℕ → ℝ} {I N n : ℕ} {L P : Fin 256 → EReal} {m : Fin 256 → BitVec 1} {acc : EReal}

/-- The masked softplus of a tile. -/
theorem cost_tile (hL : ∀ s, L s = (z (256 * (N - 1 - n) + s.val) : EReal)) (hm : ∀ s, m s = 1 ↔ 256 * (N - 1 - n) + s.val < I) (s : Fin 256) :
    Scalar.select (m s) (max (L s) 0 + Ideal.log1p (Ideal.exp (0 - max (L s) (-(L s))))) 0 = (cost z I (256 * (N - 1 - n) + s.val) : EReal) := by
  unfold Scalar.select cost
  by_cases h : 256 * (N - 1 - n) + s.val < I
  · rw [if_pos ((hm s).mpr h), if_pos h, hL, zero_sub, softplus_coe]
  · rw [if_neg fun h' => h ((hm s).mp h'), if_neg h, EReal.coe_zero]

/-- The running sum after a tile: the low parts of the split cost are zero. -/
theorem acc_tile (h : n < N) (hP : ∀ s, P s = (cost z I (256 * (N - 1 - n) + s.val) : EReal))
    (ha : acc = ((∑ l ∈ Ico (256 * (N - n)) (256 * N), cost z I l : ℝ) : EReal)) :
    acc + (∑ s, P s + ∑ s, (P s - P s)) = ((∑ l ∈ Ico (256 * (N - (n + 1))) (256 * N), cost z I l : ℝ) : EReal) := by
  have e : ∀ s, P s - P s = 0 := fun s => by rw [hP, ← EReal.coe_sub, sub_self, EReal.coe_zero]
  rw [Finset.sum_congr rfl fun s _ => e s, Finset.sum_const_zero, add_zero, Finset.sum_congr rfl fun s _ => hP s, ← coe_sum, ha, ← EReal.coe_add, sum_tile _ h]

/-- The weights of a tile. -/
theorem weight_tile (h : n < N) (hL : ∀ s, L s = (z (256 * (N - 1 - n) + s.val) : EReal)) (hm : ∀ s, m s = 1 ↔ 256 * (N - 1 - n) + s.val < I)
    (hP : ∀ s, P s = (cost z I (256 * (N - 1 - n) + s.val) : EReal)) {U : Fin 256 → Fin 256 → EReal}
    (hU : ∀ t s, U t s = ((if s.val < t.val then 1 else 0 : ℝ) : EReal))
    (ha : acc = ((∑ l ∈ Ico (256 * (N - n)) (256 * N), cost z I l : ℝ) : EReal)) (s : Fin 256) :
    Scalar.select (m s) (Ideal.exp (L s - P s - (∑ t, P t * U t s + ∑ t, (P t - P t) * U t s) - acc)) 0
      = (weight z I (256 * N) (256 * (N - 1 - n) + s.val) : EReal) := by
  have e : ∀ t, (P t - P t) * U t s = 0 := fun t => by rw [hP, ← EReal.coe_sub, sub_self, EReal.coe_zero, zero_mul]
  have e' : ∀ t, P t * U t s = ((cost z I (256 * (N - 1 - n) + t.val) * (if s.val < t.val then 1 else 0) : ℝ) : EReal) := fun t => by
    rw [hP, hU, ← EReal.coe_mul]
  unfold Scalar.select weight
  by_cases hI : 256 * (N - 1 - n) + s.val < I
  · rw [if_pos ((hm s).mpr hI), if_pos hI, Finset.sum_congr rfl fun t _ => e t, Finset.sum_const_zero, add_zero, Finset.sum_congr rfl fun t _ => e' t, ← coe_sum,
      ha, hL, hP, ← EReal.coe_sub, ← EReal.coe_sub, ← EReal.coe_sub, exp_coe, sum_after _ h s]
    congr 2
    unfold cost
    rw [if_pos hI]
    ring
  · rw [if_neg fun h' => hI ((hm s).mp h'), if_neg hI, EReal.coe_zero]

end

/-! ## Stick-breaking attention of four rows of 2064 tokens and 32 heads of 128

Token `i` of batch row `b` is row `b * 2064 + i`, and head `h`'s coordinate `d` is column `h * 128 + d`. -/

/-- The scaling constant of the logits, as the programs write it. -/
abbrev scale : EReal := Ideal.ofBits FTy.f32 0x3DB504F3#32

/-- It is a real number. -/
theorem scale_coe : ∃ s : ℝ, scale = (s : EReal) := ⟨_, by unfold scale; simp only [Ideal.ofBits, Ideal.ieee]; simp; rfl⟩

/-- Its value. -/
def scaleR : ℝ := scale_coe.choose

/-- The constant reads as that value. -/
theorem scale_eq : scale = (scaleR : EReal) := scale_coe.choose_spec

/-- The row of token `i`. -/
abbrev row (b : Fin 4) (i : Fin 2064) : Fin 8256 := ⟨b.val * 2064 + i.val, by omega⟩

/-- The column of a head's coordinate. -/
abbrev col (h : Fin 32) (d : Fin 128) : Fin 4096 := ⟨h.val * 128 + d.val, by omega⟩

/-- The logits of query `i` against the keys; past the last token the key is zero. -/
def logits (Q K : Fin 8256 → Fin 4096 → ℝ) (bias : Fin 32 → ℝ) (b : Fin 4) (h : Fin 32) (i : Fin 2064) (j : ℕ) : ℝ :=
  (∑ x : Fin 128, Q (row b i) (col h x) * (if hj : j < 2064 then K (row b ⟨j, hj⟩) (col h x) else 0)) * scaleR + bias h

/-- The logit of a token's key. -/
theorem logits_token (Q K : Fin 8256 → Fin 4096 → ℝ) (bias : Fin 32 → ℝ) (b : Fin 4) (h : Fin 32) (i j : Fin 2064) :
    logits Q K bias b h i j.val = (∑ x : Fin 128, Q (row b i) (col h x) * K (row b j) (col h x)) * scaleR + bias h := by
  unfold logits
  rw [Finset.sum_congr rfl fun x _ => by rw [dif_pos j.isLt]]

/-- The attention of query `i`: the values weighted. -/
def attention (Q K : Fin 8256 → Fin 4096 → ℝ) (bias : Fin 32 → ℝ) (V : Fin 8256 → Fin 4096 → EReal) (b : Fin 4) (h : Fin 32) (i : Fin 2064)
    (d : Fin 128) : EReal :=
  ∑ j : Fin 2064, (weight (logits Q K bias b h i) i.val 2064 j.val : EReal) * V (row b j) (col h d)

/-- The attention of every row and column. -/
def attentionAt (Q K : Fin 8256 → Fin 4096 → ℝ) (bias : Fin 32 → ℝ) (V : Fin 8256 → Fin 4096 → EReal) (r : Fin 8256) (s : Fin 4096) : EReal :=
  attention Q K bias V ⟨r.val / 2064, by omega⟩ ⟨s.val / 128, by omega⟩ ⟨r.val % 2064, by omega⟩ ⟨s.val % 128, by omega⟩

/-- It is what a token's head computes. -/
theorem attentionAt_eq (Q K : Fin 8256 → Fin 4096 → ℝ) (bias : Fin 32 → ℝ) (V : Fin 8256 → Fin 4096 → EReal) {r : Fin 8256} {s : Fin 4096}
    {b : Fin 4} {h : Fin 32} {i : Fin 2064} {d : Fin 128} (hr : r.val = b.val * 2064 + i.val) (hs : s.val = h.val * 128 + d.val) :
    attentionAt Q K bias V r s = attention Q K bias V b h i d := by
  unfold attentionAt
  congr 1 <;> exact Fin.ext (by dsimp only; omega)

end Cert.Proof.Stick

end
-- ==== Proof.AttnIdeal.lean ====
/-
  The recursion over key tiles at the ideal reading: after `n` tiles a query row holds the cost of the keys passed and
  their weighted values, with the real stick-breaking weights.
-/
module

public import proofs.«01_k».proof.Proof.AttnRead
public import proofs.«01_k».proof.Proof.StickMath
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe
open Cert.Proof.Stick Finset

/-! ## Offsets and words of the tiles -/

/-- Key tiles come last first. -/
theorem off3_eq : ∀ (k1 : Fin k0_t1_loop.trips) (k2 : Fin (k0_t2_loop k1).trips), k0_off3 k1 k2 = ![256 * (k1.val + 1 - 1 - k2.val), 0] := by decide +kernel

/-- The same for the last query tile, which has nine. -/
theorem off5_eq : ∀ k : Fin k0_t4_loop.trips, k0_off5 k = ![256 * (9 - 1 - k.val), 0] := by decide +kernel

/-- Query tile `k1` has `k1 + 1` key tiles. -/
theorem trips_t2 : ∀ k1 : Fin k0_t1_loop.trips, (k0_t2_loop k1).trips = k1.val + 1 := by decide +kernel

/-- The last query tile has nine. -/
theorem trips_t4 : k0_t4_loop.trips = 9 := by decide +kernel

/-- The first key of a tile, as a word. -/
theorem keyWord : ∀ (k1 : Fin k0_t1_loop.trips) (k2 : Fin (k0_t2_loop k1).trips),
    Scalar.muli (Scalar.subi (Scalar.subi (tileCount k1) 1#32) (Scf.iv 0#32 1#32 k2.val)) 256#32 = BitVec.ofNat 32 (256 * (k1.val + 1 - 1 - k2.val)) := by
  decide +kernel

/-- The first query of a tile, as a word. -/
theorem queryWord : ∀ k1 : Fin k0_t1_loop.trips, Scalar.muli (Scf.iv 0#32 1#32 k1.val) 256#32 = BitVec.ofNat 32 (256 * k1.val) := by
  decide +kernel

/-- The first key of a tile of the last query tile, as a word. -/
theorem lastKeyWord : ∀ k : Fin k0_t4_loop.trips, Scalar.muli (Scalar.subi 8#32 (Scf.iv 0#32 1#32 k.val)) 256#32 = BitVec.ofNat 32 (256 * (9 - 1 - k.val)) := by
  decide +kernel

/-- Index words below `2 ^ 31` compare as their numbers. -/
theorem slt_words {a b c d : ℕ} (h : a + b < 2 ^ 31) (h' : c + d < 2 ^ 31) :
    IntOp.cmpi .slt (IntOp.addi (BitVec.ofNat 32 a) (BitVec.ofNat 32 b)) (IntOp.addi (BitVec.ofNat 32 c) (BitVec.ofNat 32 d)) = 1 ↔ a + b < c + d := by
  rw [WordCmp.addi_ofNat, WordCmp.addi_ofNat]
  exact WordCmp.cmpi_slt_ofNat_eq_one_iff h h'

/-! ## Rows -/

/-- Row `l` of the keys or values. -/
def keyRow (K : FVec Ideal S2304x128 .bf16) (l : ℕ) (d : Fin 128) : EReal := if h : l < 2304 then K (ix2 ⟨l, h⟩ d) else 0

/-- A key tile's rows. -/
theorem keyTile_at (K : FVec Ideal S2304x128 .bf16) (k1 : Fin k0_t1_loop.trips) (k2 : Fin (k0_t2_loop k1).trips) (s : Fin 256) (d : Fin 128) :
    keyTile K k1 k2 (ix2 s d) = keyRow K (256 * (k1.val + 1 - 1 - k2.val) + s.val) d := by
  have h1 : k1.val < 8 := lt_of_lt_of_eq k1.isLt trips_t1
  have h2 : 256 * (k1.val + 1 - 1 - k2.val) + s.val < 2304 := by have := s.isLt; omega
  rw [keyRow, dif_pos h2]
  refine congrArg K (funext fun x => Fin.ext ?_)
  have h3 := off3_eq k1 k2
  fin_cases x
  · exact congrArg₂ (· + ·) (congrFun h3 0) (Nat.one_mul _)
  · exact (congrArg₂ (· + ·) (congrFun h3 1) (Nat.one_mul _)).trans (Nat.zero_add _)

/-- A key tile's rows, last query tile. -/
theorem lastKeyTile_at (K : FVec Ideal S2304x128 .bf16) (k : Fin k0_t4_loop.trips) (s : Fin 256) (d : Fin 128) :
    lastKeyTile K k (ix2 s d) = keyRow K (256 * (9 - 1 - k.val) + s.val) d := by
  have h2 : 256 * (9 - 1 - k.val) + s.val < 2304 := by have := s.isLt; omega
  rw [keyRow, dif_pos h2]
  refine congrArg K (funext fun x => Fin.ext ?_)
  have h3 := off5_eq k
  fin_cases x
  · exact congrArg₂ (· + ·) (congrFun h3 0) (Nat.one_mul _)
  · exact (congrArg₂ (· + ·) (congrFun h3 1) (Nat.one_mul _)).trans (Nat.zero_add _)

/-- The strict upper triangle used for the sums after a key. -/
theorem upper_at (t s : Fin 256) : (k0_pay32 (F := Ideal)) (ix2 t s) = ((if s.val < t.val then 1 else 0 : ℝ) : EReal) := by
  have ht := t.isLt
  have hs := s.isLt
  pointwise [k0_pay32]
  unfold Scalar.select
  by_cases h : s.val < t.val
  · rw [if_pos h]
    exact (if_pos ((WordCmp.cmpi_sgt_ofNat_eq_one_iff (w := 32) (by omega) (by omega)).mpr h)).trans EReal.coe_one.symm
  · rw [if_neg h]
    exact (if_neg fun h' => h ((WordCmp.cmpi_sgt_ofNat_eq_one_iff (w := 32) (by omega) (by omega)).mp h')).trans EReal.coe_zero.symm

/-! ## Query tiles of 256 rows -/

section

variable (b : Elt Ideal .f32) (q : FVec Ideal S256x128 .bf16) (K V : FVec Ideal S2304x128 .bf16) (k1 : Fin k0_t1_loop.trips) (r : Fin 256) (z : ℕ → ℝ)
  (hz : ∀ l, l < 2304 → (∑ x, q (ix2 r x) * keyRow K l x) * scale + b = (z l : EReal))

include hz in
/-- The logits of a tile. -/
theorem logit_at (k2 : Fin (k0_t2_loop k1).trips) (s : Fin 256) :
    k0_pay7 b q (keyTile K k1 k2) (ix2 r s) = (z (256 * (k1.val + 1 - 1 - k2.val) + s.val) : EReal) := by
  have h1 : k1.val < 8 := lt_of_lt_of_eq k1.isLt trips_t1
  rw [← hz _ (by have := s.isLt; omega)]
  refine (show _ = (∑ x, q (ix2 r x) * keyTile K k1 k2 (ix2 s x)) * scale + b from by pointwise [k0_pay7]).trans ?_
  rw [Finset.sum_congr rfl fun x _ => by rw [keyTile_at]]

/-- The mask of a tile. -/
theorem mask_at (k2 : Fin (k0_t2_loop k1).trips) (s : Fin 256) :
    k0_pay8 k1 (tileCount k1) (k0_pay34 k1) keyIota (0#32) (1#32) k2 (ix2 r s) = 1 ↔ 256 * (k1.val + 1 - 1 - k2.val) + s.val < 256 * k1.val + r.val := by
  have h1 : k1.val < 8 := lt_of_lt_of_eq k1.isLt trips_t1
  have hs := s.isLt
  have hr := r.isLt
  pointwise [k0_pay8, k0_pay34]
  rw [keyWord, queryWord]
  exact slt_words (by omega) (by omega)

include hz in
/-- The masked costs of a tile. -/
theorem cost_at (k2 : Fin (k0_t2_loop k1).trips) (s : Fin 256) :
    k0_pay9 b k1 q (tileCount k1) (k0_pay34 k1) keyIota (0#32) (1#32) k2 (keyTile K k1 k2) (ix2 r s)
      = (cost z (256 * k1.val + r.val) (256 * (k1.val + 1 - 1 - k2.val) + s.val) : EReal) := by
  refine Eq.trans ?_ (cost_tile (logit_at b q K k1 r z hz k2) (mask_at k1 r k2) s)
  pointwise [k0_pay9]
  rfl

include hz in
/-- One key tile. -/
theorem tileStep_at (k2 : Fin (k0_t2_loop k1).trips) (acc : FVec Ideal S256x128 .f32 × FVec Ideal S256x128 .f32)
    (h1 : ∀ d, acc.1 (ix2 r d) = ((∑ l ∈ Ico (256 * (k1.val + 1 - k2.val)) (256 * (k1.val + 1)), cost z (256 * k1.val + r.val) l : ℝ) : EReal))
    (h2 : ∀ d, acc.2 (ix2 r d) = ∑ l ∈ Ico (256 * (k1.val + 1 - k2.val)) (256 * (k1.val + 1)), (weight z (256 * k1.val + r.val) (256 * (k1.val + 1)) l : EReal) * keyRow V l d) :
    (∀ d, (tileStep b q K V k1 k2 acc).1 (ix2 r d)
      = ((∑ l ∈ Ico (256 * (k1.val + 1 - (k2.val + 1))) (256 * (k1.val + 1)), cost z (256 * k1.val + r.val) l : ℝ) : EReal))
    ∧ ∀ d, (tileStep b q K V k1 k2 acc).2 (ix2 r d)
      = ∑ l ∈ Ico (256 * (k1.val + 1 - (k2.val + 1))) (256 * (k1.val + 1)), (weight z (256 * k1.val + r.val) (256 * (k1.val + 1)) l : EReal) * keyRow V l d := by
  have hk : k2.val < k1.val + 1 := lt_of_lt_of_eq k2.isLt (trips_t2 k1)
  have hc := cost_at b q K k1 r z hz k2
  refine ⟨fun d => ?_, fun d => ?_⟩
  · refine Eq.trans ?_ (acc_tile hk hc (h1 d))
    unfold tileStep
    generalize acc.1 = a
    pointwise [k0_pay38, k0_pay12, k0_pay33, k0_pay10, k0_pay11]
  · rw [sum_tile _ hk, ← h2 d]
    have hw : ∀ s : Fin 256, k0_pay13 b k0_pay32 k1 q (tileCount k1) (k0_pay34 k1) keyIota (0#32) (1#32) k2 acc.1 (keyTile K k1 k2) (ix2 r s)
        = (weight z (256 * k1.val + r.val) (256 * (k1.val + 1)) (256 * (k1.val + 1 - 1 - k2.val) + s.val) : EReal) := fun s => by
      generalize acc.1 = a at h1
      refine Eq.trans ?_ (weight_tile hk (logit_at b q K k1 r z hz k2) (mask_at k1 r k2) hc upper_at (h1 ⟨s.val % 128, Nat.mod_lt _ (by decide)⟩) s)
      pointwise [k0_pay13, k0_pay10, k0_pay11]
      rw [h1]
      split <;> rw [h1]
    rw [Finset.sum_congr rfl fun s _ => by rw [← hw s, ← keyTile_at]]
    unfold tileStep
    generalize k0_pay13 b k0_pay32 k1 q (tileCount k1) (k0_pay34 k1) keyIota (0#32) (1#32) k2 acc.1 (keyTile K k1 k2) = w
    generalize acc.2 = a
    pointwise [k0_pay37]

include hz in
/-- After `n` key tiles. -/
theorem tileSt_at (n : ℕ) (hn : n ≤ k1.val + 1) :
    (∀ d, (tileSt b q K V k1 n).1 (ix2 r d) = ((∑ l ∈ Ico (256 * (k1.val + 1 - n)) (256 * (k1.val + 1)), cost z (256 * k1.val + r.val) l : ℝ) : EReal))
    ∧ ∀ d, (tileSt b q K V k1 n).2 (ix2 r d)
      = ∑ l ∈ Ico (256 * (k1.val + 1 - n)) (256 * (k1.val + 1)), (weight z (256 * k1.val + r.val) (256 * (k1.val + 1)) l : EReal) * keyRow V l d := by
  induction n with
  | zero =>
    refine ⟨fun d => ?_, fun d => ?_⟩
    · rw [Nat.sub_zero, Ico_self, sum_empty, EReal.coe_zero]
      unfold tileSt
      pointwise [k0_pay35]
    · rw [Nat.sub_zero, Ico_self, sum_empty]
      unfold tileSt
      pointwise [k0_pay36]
  | succ n ih =>
    have ih := ih (by omega)
    rw [tileSt, dif_pos (by rw [trips_t2]; omega)]
    exact tileStep_at b q K V k1 r z hz ⟨n, by rw [trips_t2]; omega⟩ _ ih.1 ih.2

end

/-! ## The last query tile of 16 rows -/

section

variable (b : Elt Ideal .f32) (q : FVec Ideal S16x128 .bf16) (K V : FVec Ideal S2304x128 .bf16) (r : Fin 16) (z : ℕ → ℝ)
  (hz : ∀ l, l < 2304 → (∑ x, q (ix2 r x) * keyRow K l x) * scale + b = (z l : EReal))

include hz in
/-- The logits of a tile. -/
theorem lastLogit_at (k : Fin k0_t4_loop.trips) (s : Fin 256) :
    k0_pay21 b q (lastKeyTile K k) (ix2 r s) = (z (256 * (9 - 1 - k.val) + s.val) : EReal) := by
  rw [← hz _ (by have := s.isLt; omega)]
  refine (show _ = (∑ x, q (ix2 r x) * lastKeyTile K k (ix2 s x)) * scale + b from by pointwise [k0_pay21]).trans ?_
  rw [Finset.sum_congr rfl fun x _ => by rw [lastKeyTile_at]]

/-- The mask of a tile. -/
theorem lastMask_at (k : Fin k0_t4_loop.trips) (s : Fin 256) :
    k0_pay22 k0_pay1 lastIota (0#32) (1#32) k (ix2 r s) = 1 ↔ 256 * (9 - 1 - k.val) + s.val < 2048 + r.val := by
  have hs := s.isLt
  have hr := r.isLt
  pointwise [k0_pay22, k0_pay1]
  rw [lastKeyWord]
  exact slt_words (by omega) (by omega)

include hz in
/-- The masked costs of a tile. -/
theorem lastCost_at (k : Fin k0_t4_loop.trips) (s : Fin 256) :
    k0_pay23 b q k0_pay1 lastIota (0#32) (1#32) k (lastKeyTile K k) (ix2 r s) = (cost z (2048 + r.val) (256 * (9 - 1 - k.val) + s.val) : EReal) := by
  refine Eq.trans ?_ (cost_tile (lastLogit_at b q K r z hz k) (lastMask_at r k) s)
  pointwise [k0_pay23]
  rfl

/-- A select of a product with zero is the product of the select. -/
theorem select_mul (m : BitVec 1) (x y : EReal) : Scalar.select m (x * y) (0 : EReal) = Scalar.select m x 0 * y := by
  unfold Scalar.select
  split
  · rfl
  · rw [zero_mul]

include hz in
/-- One key tile. -/
theorem lastStep_at (k : Fin k0_t4_loop.trips) (acc : FVec Ideal S16x128 .f32 × FVec Ideal S16x128 .f32)
    (h1 : ∀ d, acc.1 (ix2 r d) = ((∑ l ∈ Ico (256 * (9 - k.val)) (256 * 9), cost z (2048 + r.val) l : ℝ) : EReal))
    (h2 : ∀ d, acc.2 (ix2 r d) = ∑ l ∈ Ico (256 * (9 - k.val)) (256 * 9), (weight z (2048 + r.val) (256 * 9) l : EReal) * keyRow V l d) :
    (∀ d, (lastStep b q K V k acc).1 (ix2 r d) = ((∑ l ∈ Ico (256 * (9 - (k.val + 1))) (256 * 9), cost z (2048 + r.val) l : ℝ) : EReal))
    ∧ ∀ d, (lastStep b q K V k acc).2 (ix2 r d)
      = ∑ l ∈ Ico (256 * (9 - (k.val + 1))) (256 * 9), (weight z (2048 + r.val) (256 * 9) l : EReal) * keyRow V l d := by
  have hk : k.val < 9 := lt_of_lt_of_eq k.isLt trips_t4
  have hc := lastCost_at b q K r z hz k
  refine ⟨fun d => ?_, fun d => ?_⟩
  · refine Eq.trans ?_ (acc_tile hk hc (h1 d))
    unfold lastStep
    generalize acc.1 = a
    pointwise [k0_pay5, k0_pay26, k0_pay33, k0_pay24, k0_pay25]
  · rw [sum_tile _ hk, ← h2 d]
    have hw := weight_tile hk (lastLogit_at b q K r z hz k) (lastMask_at r k) hc upper_at (h1 d)
    rw [Finset.sum_congr rfl fun s _ => by rw [← hw s, ← lastKeyTile_at, ← select_mul], Fin.sum_univ_add (a := 128) (b := 128)]
    unfold lastStep
    generalize acc.1 = a at h1
    generalize acc.2 = a2
    pointwise [k0_pay4, k0_pay27, k0_pay24, k0_pay25]
    simp only [h1]
    rfl

include hz in
/-- After `n` key tiles. -/
theorem lastSt_at (n : ℕ) (hn : n ≤ 9) :
    (∀ d, (lastSt b q K V n).1 (ix2 r d) = ((∑ l ∈ Ico (256 * (9 - n)) (256 * 9), cost z (2048 + r.val) l : ℝ) : EReal))
    ∧ ∀ d, (lastSt b q K V n).2 (ix2 r d) = ∑ l ∈ Ico (256 * (9 - n)) (256 * 9), (weight z (2048 + r.val) (256 * 9) l : EReal) * keyRow V l d := by
  induction n with
  | zero =>
    refine ⟨fun d => ?_, fun d => ?_⟩
    · rw [Nat.sub_zero, Ico_self, sum_empty, EReal.coe_zero]
      unfold lastSt
      pointwise [k0_pay2]
    · rw [Nat.sub_zero, Ico_self, sum_empty]
      unfold lastSt
      pointwise [k0_pay3]
  | succ n ih =>
    have ih := ih (by omega)
    rw [lastSt, dif_pos (by rw [trips_t4]; omega)]
    exact lastStep_at b q K V r z hz ⟨n, by rw [trips_t4]; omega⟩ _ ih.1 ih.2

end

end Cert.Proof.KernelIdeal

end
-- ==== Proof.AttnBlock.lean ====
/-
  The result block of one grid point at the ideal reading: the stick-breaking attention of one batch row and head.
-/
module

public import proofs.«01_k».proof.Proof.AttnFrame
public import proofs.«01_k».proof.Proof.AttnIdeal

@[expose] public section

set_option maxRecDepth 16384

noncomputable section

namespace Cert.Proof.KernelIdeal

open Cert.KernelIdeal Cert.KernelIdeal.Gen
open Idealize.ShloMosaic Idealize.ShloMosaic.TcCoe
open Cert.Proof.Stick Finset

/-- The padded keys' rows. -/
theorem keyRow_keys (x : FVec Ideal S2064x128 .f32) (l : ℕ) (d : Fin 128) :
    keyRow (padded (k0_pay28 (F := Ideal) x)) l d = if h : l < 2064 then x (ix2 ⟨l, h⟩ d) else (0 : EReal) := by
  unfold keyRow padded
  by_cases h : l < 2064
  · rw [dif_pos (show l < 2304 by omega), dif_pos h]
    refine (dif_pos h).trans ?_
    show k0_pay28 (F := Ideal) x (ix2 (⟨l, h⟩ : Fin 2064) d) = _
    pointwise [k0_pay28]
  · rw [dif_neg h]
    by_cases h' : l < 2304
    · rw [dif_pos h']
      exact (dif_neg h).trans Ideal.ofBits_zero_bf16
    · rw [dif_neg h']

/-- The padded values' rows. -/
theorem keyRow_values (x : FVec Ideal S2064x128 .f32) (l : ℕ) (d : Fin 128) :
    keyRow (padded (k0_pay29 (F := Ideal) x)) l d = if h : l < 2064 then x (ix2 ⟨l, h⟩ d) else (0 : EReal) := by
  have e : k0_pay29 (F := Ideal) x = k0_pay28 (F := Ideal) x := rfl
  rw [e, keyRow_keys]

/-- Row `r` of query tile `k1`. -/
theorem queryTile_at (Q : FVec Ideal S2064x128 .bf16) (k1 : Fin k0_t1_loop.trips) (r : Fin 256) (d : Fin 128) (h : 256 * k1.val + r.val < 2064) :
    queryTile Q k1 (ix2 r d) = Q (ix2 ⟨256 * k1.val + r.val, h⟩ d) := by
  refine congrArg Q (funext fun x => Fin.ext ?_)
  have h3 := off2_eq k1
  fin_cases x
  · exact congrArg₂ (· + ·) (congrFun h3 0) (Nat.one_mul _)
  · exact (congrArg₂ (· + ·) (congrFun h3 1) (Nat.one_mul _)).trans (Nat.zero_add _)

/-- Row `r` of the last query tile. -/
theorem lastQueries_at (Q : FVec Ideal S2064x128 .bf16) (r : Fin 16) (d : Fin 128) :
    lastQueries Q (ix2 r d) = Q (ix2 (⟨2048 + r.val, by omega⟩ : Fin 2064) d) := by
  refine congrArg Q (funext fun x => Fin.ext ?_)
  fin_cases x
  · exact congrArg₂ (· + ·) rfl (Nat.one_mul _)
  · exact (congrArg₂ (· + ·) rfl (Nat.one_mul _)).trans (Nat.zero_add _)

/-- A query tile's output rows. -/
theorem tileOut_at (bias : FVec Ideal S32 .f32) (i : grid0.Coords) (Q : FVec Ideal S2064x128 .bf16) (K V : FVec Ideal S2304x128 .bf16) (k1 : Fin k0_t1_loop.trips)
    (r : Fin 256) (d : Fin 128) (z : ℕ → ℝ) (hz : ∀ l, l < 2304 → (∑ x, queryTile Q k1 (ix2 r x) * keyRow K l x) * scale + headBias bias i = (z l : EReal)) :
    tileOut bias i Q K V k1 (ix2 r d)
      = ∑ l ∈ Ico 0 (256 * (k1.val + 1)), (weight z (256 * k1.val + r.val) (256 * (k1.val + 1)) l : EReal) * keyRow V l d := by
  have h0 := (tileSt_at (headBias bias i) (queryTile Q k1) K V k1 r z hz (k1.val + 1) (le_refl _)).2 d
  rw [Nat.sub_self, Nat.mul_zero] at h0
  unfold tileOut
  rw [trips_t2, ← h0]
  generalize (tileSt (headBias bias i) (queryTile Q k1) K V k1 (k1.val + 1)).2 = a
  pointwise [k0_pay41]

/-- The last query tile's output rows. -/
theorem lastOut_at (bias : FVec Ideal S32 .f32) (i : grid0.Coords) (Q : FVec Ideal S2064x128 .bf16) (K V : FVec Ideal S2304x128 .bf16)
    (r : Fin 16) (d : Fin 128) (z : ℕ → ℝ) (hz : ∀ l, l < 2304 → (∑ x, lastQueries Q (ix2 r x) * keyRow K l x) * scale + headBias bias i = (z l : EReal)) :
    lastOut bias i Q K V (ix2 r d) = ∑ l ∈ Ico 0 (256 * 9), (weight z (2048 + r.val) (256 * 9) l : EReal) * keyRow V l d := by
  have h0 := (lastSt_at (headBias bias i) (lastQueries Q) K V r z hz 9 (le_refl _)).2 d
  rw [Nat.sub_self, Nat.mul_zero] at h0
  unfold lastOut
  rw [trips_t4, ← h0]
  generalize (lastSt (headBias bias i) (lastQueries Q) K V 9).2 = a
  pointwise [k0_pay6]

section

variable {bias : FVec Ideal S32 .f32} {i : grid0.Coords} {x3 : FVec Ideal S2064x128 .bf16} {x4 x5 : FVec Ideal S2064x128 .f32}
  {Q K : Fin 8256 → Fin 4096 → ℝ} {B : Fin 32 → ℝ} {V : Fin 8256 → Fin 4096 → EReal} {b : Fin 4} {h : Fin 32}
  (hb : headBias bias i = (B h : EReal)) (hq : ∀ r d, x3 (ix2 r d) = (Q (row b r) (col h d) : EReal)) (hk : ∀ r d, x4 (ix2 r d) = (K (row b r) (col h d) : EReal))
  (hv : ∀ r d, x5 (ix2 r d) = V (row b r) (col h d))

include hb hq hk in
/-- The logits of a query row against the padded keys. -/
theorem block_logit (r : Fin 2064) (l : ℕ) :
    (∑ x, x3 (ix2 r x) * keyRow (padded (k0_pay28 x4)) l x) * scale + headBias bias i = (logits Q K B b h r l : EReal) := by
  unfold logits
  rw [Finset.sum_congr rfl fun x _ => show x3 (ix2 r x) * keyRow (padded (k0_pay28 x4)) l x
      = ((Q (row b r) (col h x) * (if hj : l < 2064 then K (row b ⟨l, hj⟩) (col h x) else 0) : ℝ) : EReal) from by
        rw [keyRow_keys, hq, EReal.coe_mul]
        congr 1
        split
        · rw [hk]
        · rw [EReal.coe_zero],
    ← coe_sum, scale_eq, hb, ← EReal.coe_mul, ← EReal.coe_add]

include hv in
/-- Weighted values over enough keys. -/
theorem block_values (z : ℕ → ℝ) (I M : ℕ) (hI : I ≤ M) (hI' : I ≤ 2064) (d : Fin 128) :
    ∑ l ∈ Ico 0 M, (weight z I M l : EReal) * keyRow (padded (k0_pay29 x5)) l d
      = ∑ j : Fin 2064, (weight z I 2064 j.val : EReal) * V (row b j) (col h d) := by
  rw [weighted_sum hI hI', Finset.sum_range]
  exact Finset.sum_congr rfl fun j _ => by rw [keyRow_values, dif_pos j.isLt, hv]

include hb hq hk hv in
/-- A row of the first 2048. -/
theorem attnBlock_early (k1 : Fin k0_t1_loop.trips) (r : Fin 256) (d : Fin 128) (hr : 256 * k1.val + r.val < 2064) :
    tileOut bias i x3 (padded (k0_pay28 x4)) (padded (k0_pay29 x5)) k1 (ix2 r d) = attention Q K B V b h ⟨256 * k1.val + r.val, hr⟩ d := by
  rw [tileOut_at bias i x3 _ _ k1 r d (logits Q K B b h ⟨256 * k1.val + r.val, hr⟩) fun l _ => by
    rw [← block_logit hb hq hk, Finset.sum_congr rfl fun x _ => by rw [queryTile_at _ _ _ _ hr]]]
  exact block_values hv _ _ _ (by have := r.isLt; omega) (by omega) d

include hb hq hk hv in
/-- A row of the last 16. -/
theorem attnBlock_late (r : Fin 16) (d : Fin 128) :
    lastOut bias i x3 (padded (k0_pay28 x4)) (padded (k0_pay29 x5)) (ix2 r d) = attention Q K B V b h ⟨2048 + r.val, by omega⟩ d := by
  rw [lastOut_at bias i x3 _ _ r d (logits Q K B b h ⟨2048 + r.val, by omega⟩) fun l _ => by
    rw [← block_logit hb hq hk, Finset.sum_congr rfl fun x _ => by rw [lastQueries_at]]]
  exact block_values hv _ _ _ (by omega) (by omega) d

include hb hq hk hv in
/-- The result block. -/
theorem attnBlock_at (r : Fin 2064) (d : Fin 128) : attnBlock i bias x3 x4 x5 (ix2 r d) = attention Q K B V b h r d := by
  have hr := r.isLt
  unfold attnBlock outBlock
  by_cases h2 : r.val < 2048
  · have er : 256 * (r.val / 256) + r.val % 256 = r.val := by omega
    exact (dif_pos h2).trans ((attnBlock_early hb hq hk hv ⟨r.val / 256, by rw [trips_t1]; omega⟩ ⟨r.val % 256, Nat.mod_lt _ (by decide)⟩ d (by dsimp only; omega)).trans
      (congrArg (fun y => attention Q K B V b h y d) (Fin.ext er)))
  · have er : 2048 + (r.val - 2048) = r.val := by omega
    exact (dif_neg h2).trans ((attnBlock_late hb hq hk hv ⟨r.val - 2048, by omega⟩ d).trans
      (congrArg (fun y => attention Q K B V b h y d) (Fin.ext er)))

end

end Cert.Proof.KernelIdeal

end
-- ==== Proof.AttnArray.lean ====
/-
  The prompt attention call's result array, from the blocks its grid points write back.
-/
module

public import proofs.«01_k».proof.Proof.AttnBlock
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.Pipeline
open Idealize.SL Idealize.SL.Sem
open Cert.Proof.Stick Finset

variable (m : (ℓ : Loc nD τ sig) → Buf (Elt Ideal) ℓ) (ρ : Dev nD → PrngReg) (c : Dev nD)

/-- The argument arrays. -/
abbrev argQ : FVec Ideal S8256x4096 .bf16 := m ((c.tc : Thread nD τ).loc main_arg0)
abbrev argK : FVec Ideal S8256x4096 .f32 := m ((c.tc : Thread nD τ).loc main_arg1)
abbrev argV : FVec Ideal S8256x4096 .f32 := m ((c.tc : Thread nD τ).loc main_arg2)
abbrev argB : FVec Ideal S32 .f32 := m ((c.tc : Thread nD τ).loc main_arg3)

/-- Where the windows' blocks lie: point `t` is batch row `coords t 0` and head `coords t 1`. -/
theorem index1 : ∀ t : Fin cfg0.N, win0_1.index t = ![(grid0.coords t 0).val, (grid0.coords t 1).val] :=
  (by decide +kernel : ∀ t : Fin grid0.N, win0_1.index t = ![(grid0.coords t 0).val, (grid0.coords t 1).val])
theorem index2 : ∀ t : Fin cfg0.N, win0_2.index t = ![(grid0.coords t 0).val, (grid0.coords t 1).val] :=
  (by decide +kernel : ∀ t : Fin grid0.N, win0_2.index t = ![(grid0.coords t 0).val, (grid0.coords t 1).val])
theorem index3 : ∀ t : Fin cfg0.N, win0_3.index t = ![(grid0.coords t 0).val, (grid0.coords t 1).val] :=
  (by decide +kernel : ∀ t : Fin grid0.N, win0_3.index t = ![(grid0.coords t 0).val, (grid0.coords t 1).val])
theorem index4 : ∀ t : Fin cfg0.N, win0_4.index t = ![(grid0.coords t 0).val, (grid0.coords t 1).val] :=
  (by decide +kernel : ∀ t : Fin grid0.N, win0_4.index t = ![(grid0.coords t 0).val, (grid0.coords t 1).val])
theorem index0 : ∀ t : Fin cfg0.N, win0_0.index t = ![0] :=
  (by decide +kernel : ∀ t : Fin grid0.N, win0_0.index t = ![0])

variable {m c} {Q K : Fin 8256 → Fin 4096 → ℝ} {B : Fin 32 → ℝ}
  (hq : ∀ r s, argQ m c (ix2 r s) = (Q r s : EReal)) (hk : ∀ r s, argK m c (ix2 r s) = (K r s : EReal)) (hb : ∀ n, argB m c (ix1 n) = (B n : EReal))

/-- The query, key and value blocks of a point. -/
theorem block1 (t : Fin cfg0.N) (r : Fin 2064) (d : Fin 128) :
    (iblk m c 1 t : FVec Ideal S2064x128 .bf16) (ix2 r d) = argQ m c (ix2 (row (grid0.coords t 0) r) (col (grid0.coords t 1) d)) := by
  blk_simp [iblk]
  refine congrArg (argQ m c) ?_
  blk_ext [index1]
theorem block2 (t : Fin cfg0.N) (r : Fin 2064) (d : Fin 128) :
    (iblk m c 2 t : FVec Ideal S2064x128 .f32) (ix2 r d) = argK m c (ix2 (row (grid0.coords t 0) r) (col (grid0.coords t 1) d)) := by
  blk_simp [iblk]
  refine congrArg (argK m c) ?_
  blk_ext [index2]
theorem block3 (t : Fin cfg0.N) (r : Fin 2064) (d : Fin 128) :
    (iblk m c 3 t : FVec Ideal S2064x128 .f32) (ix2 r d) = argV m c (ix2 (row (grid0.coords t 0) r) (col (grid0.coords t 1) d)) := by
  blk_simp [iblk]
  refine congrArg (argV m c) ?_
  blk_ext [index3]

/-- The bias a point's head reads. -/
theorem headBias_at (b : FVec Ideal S32 .f32) (i : grid0.Coords) : headBias (F := Ideal) b i = b (ix1 (i 1)) := by
  unfold headBias
  refine congrArg b (funext fun a => Fin.ext ?_)
  fin_cases a
  have h1 : (Shape.Idx.first (show 0 < S1.numel from Nat.lt_of_lt_of_eq Nat.zero_lt_one numel1_S1.symm) (0 : Fin 1)).val < 1 :=
    (Shape.Idx.first (show 0 < S1.numel from Nat.lt_of_lt_of_eq Nat.zero_lt_one numel1_S1.symm) (0 : Fin 1)).isLt
  have h2 : k0_off1 i (0 : Fin 1) = (i 1).val := congrFun (k0_off1_eq i) (0 : Fin 1)
  show k0_off1 i (0 : Fin 1) + 1 * (Shape.Idx.first (show 0 < S1.numel from Nat.lt_of_lt_of_eq Nat.zero_lt_one numel1_S1.symm) (0 : Fin 1)).val = (i 1).val
  omega

/-- The bias block is the whole bias array. -/
theorem block0 (t : Fin cfg0.N) (n : Fin 32) : (iblk m c 0 t : FVec Ideal S32 .f32) (ix1 n) = argB m c (ix1 n) := by
  blk_simp [iblk]
  refine congrArg (argB m c) ?_
  blk_ext [index0]

include hq hk hb in
/-- The result array. -/
theorem final_out : (dats m 0 c).arrAt 4 cfg0.N
    = fun y => attentionAt Q K B (fun r s => argV m c (ix2 r s)) ((y : S8256x4096.Idx) (0 : Fin 2)) ((y : S8256x4096.Idx) (1 : Fin 2)) := by
  refine (dats m 0 c).arrAt_eq_of_covers 4 _ (by decide +kernel) fun t hf y => ?_
  blk_simp
  rw [dats_after4]
  idx_vars y
  refine (attnBlock_at (V := fun r s => argV m c (ix2 r s)) (B := B) (Q := Q) (K := K) (b := grid0.coords t 0) (h := grid0.coords t 1)
    ?_ (fun r d => (block1 t r d).trans (hq _ _)) (fun r d => (block2 t r d).trans (hk _ _)) (fun r d => block3 t r d) y0 y1).trans
    (attentionAt_eq _ _ _ _ ?_ ?_).symm
  · exact (headBias_at _ _).trans ((block0 t _).trans (hb _))
  · show (win0_4.index t) (0 : Fin 2) * 2064 + 1 * y0.val = _
    rw [index4, one_mul]; rfl
  · show (win0_4.index t) (1 : Fin 2) * 128 + 1 * y1.val = _
    rw [index4, one_mul]; rfl

include hq hk hb in
/-- What the launch's postcondition says of the result array. -/
theorem result_of {r : PUnit × MemSt nD τ sig (Elt Ideal)} (hr : Pipeline.FramePost cfgs (dats m) 0 (V m) r) :
    r.2.mem ((c.tc : Thread nD τ).loc main_v0)
      = fun y => attentionAt Q K B (fun r s => argV m c (ix2 r s)) ((y : S8256x4096.Idx) (0 : Fin 2)) ((y : S8256x4096.Idx) (1 : Fin 2)) :=
  ((hr c).1 (4 : Fin 5)).trans (final_out hq hk hb)

end Cert.Proof.KernelIdeal

end
-- ==== Proof.RefRead.lean ====
/-
  The reference attention's result, read at an index: the stick-breaking attention of the real queries, keys and
  biases, and of the values as they are.
-/
module

public import proofs.«01_k».proof.Proof.Gen.ReferenceIdeal.Run
public import proofs.«01_k».proof.Proof.StickMath
public import Idealize.ShloMosaic.Lib.IdealHost

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe
open Cert.Proof.Stick Finset

/-! ## A reversed running sum -/

/-- Adding along a list. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The one-row window of 2064 keys. -/
abbrev Win : Shape := ⟨4, ![1, 1, 1, 2064]⟩

/-- Its positions. -/
def winEquiv : Win.Idx ≃ Fin 2064 where
  toFun w := w (3 : Fin 4)
  invFun n := ix4 (0 : Fin 1) (0 : Fin 1) (0 : Fin 1) n
  left_inv w := by
    funext a
    have h0 : (w (0 : Fin 4)).val < 1 := (w (0 : Fin 4)).isLt
    have h1 : (w (1 : Fin 4)).val < 1 := (w (1 : Fin 4)).isLt
    have h2 : (w (2 : Fin 4)).val < 1 := (w (2 : Fin 4)).isLt
    fin_cases a
    · exact Fin.ext (Nat.lt_one_iff.mp h0).symm
    · exact Fin.ext (Nat.lt_one_iff.mp h1).symm
    · exact Fin.ext (Nat.lt_one_iff.mp h2).symm
    · rfl
  right_inv n := rfl

/-- The window sum padded high is the sum from the index on, of a row of reals. -/
theorem sum_from (x : FVec Ideal S4x32x2064x2064 .f32) (v : FVec Ideal S_ .f32) (hv : ∀ y, v y = (0 : EReal))
    (h : S4x32x2064x2064.ReduceWindows ![1, 1, 1, 2064] ![1, 1, 1, 1] ![0, 0, 0, 0] ![0, 0, 0, 2063] S4x32x2064x2064) (hu : 0 < S_.numel)
    (b : Fin 4) (n : Fin 32) (i j : Fin 2064) (f : ℕ → ℝ) (hx : ∀ l : Fin 2064, x (ix4 b n i l) = (f l.val : EReal)) :
    Host.reduceWindowAdd ![1, 1, 1, 2064] ![1, 1, 1, 1] ![0, 0, 0, 0] ![0, 0, 0, 2063] x v h hu (ix4 b n i j)
      = ((∑ l ∈ Ico j.val 2064, f l : ℝ) : EReal) := by
  have hj := j.isLt
  unfold Host.reduceWindowAdd
  rw [Ideal.hostReduceWindowAdd_def, hv]
  unfold Ideal.hostReduceWindowAdd Host.reduceWindow
  dsimp only
  rw [foldl_add, zero_add, ← Fin.sum_univ_def]
  refine (Finset.sum_congr rfl (g := fun m => ((if j.val + (winEquiv (Win.rowMajor.symm m)).val < 2064 then f (j.val + (winEquiv (Win.rowMajor.symm m)).val) else 0 : ℝ) : EReal))
    fun m _ => ?_).trans ?_
  · have e : (winEquiv (Win.rowMajor.symm m)).val = (Win.rowMajor.symm m (3 : Fin 4)).val := rfl
    have h0 : (Win.rowMajor.symm m (0 : Fin 4)).val < 1 := (Win.rowMajor.symm m (0 : Fin 4)).isLt
    have h1 : (Win.rowMajor.symm m (1 : Fin 4)).val < 1 := (Win.rowMajor.symm m (1 : Fin 4)).isLt
    have h2 : (Win.rowMajor.symm m (2 : Fin 4)).val < 1 := (Win.rowMajor.symm m (2 : Fin 4)).isLt
    have hb := b.isLt
    have hn := n.isLt
    have hi := i.isLt
    split
    · next hin =>
      have h3 : j.val * 1 + (Win.rowMajor.symm m (3 : Fin 4)).val - 0 < 2064 := (hin (3 : Fin 4)).2
      rw [if_pos (by omega), ← hx ⟨j.val + (winEquiv (Win.rowMajor.symm m)).val, by omega⟩]
      refine congrArg x (funext fun a => Fin.ext ?_)
      fin_cases a
      · show b.val * 1 + (Win.rowMajor.symm m (0 : Fin 4)).val - 0 = b.val; omega
      · show n.val * 1 + (Win.rowMajor.symm m (1 : Fin 4)).val - 0 = n.val; omega
      · show i.val * 1 + (Win.rowMajor.symm m (2 : Fin 4)).val - 0 = i.val; omega
      · show j.val * 1 + (Win.rowMajor.symm m (3 : Fin 4)).val - 0 = j.val + (Win.rowMajor.symm m (3 : Fin 4)).val; omega
    · next hin =>
      rw [if_neg fun hjw => hin fun a => ?_, EReal.coe_zero]
      fin_cases a
      · show 0 ≤ b.val * 1 + (Win.rowMajor.symm m (0 : Fin 4)).val ∧ b.val * 1 + (Win.rowMajor.symm m (0 : Fin 4)).val - 0 < 4; omega
      · show 0 ≤ n.val * 1 + (Win.rowMajor.symm m (1 : Fin 4)).val ∧ n.val * 1 + (Win.rowMajor.symm m (1 : Fin 4)).val - 0 < 32; omega
      · show 0 ≤ i.val * 1 + (Win.rowMajor.symm m (2 : Fin 4)).val ∧ i.val * 1 + (Win.rowMajor.symm m (2 : Fin 4)).val - 0 < 2064; omega
      · show 0 ≤ j.val * 1 + (Win.rowMajor.symm m (3 : Fin 4)).val ∧ j.val * 1 + (Win.rowMajor.symm m (3 : Fin 4)).val - 0 < 2064; omega
  rw [← coe_sum, Equiv.sum_comp Win.rowMajor.symm (fun w => if j.val + (winEquiv w).val < 2064 then f (j.val + (winEquiv w).val) else 0),
    Equiv.sum_comp winEquiv (fun l : Fin 2064 => if j.val + l.val < 2064 then f (j.val + l.val) else 0), sum_Ico_eq_sum_range,
    ← Finset.sum_range (fun l => if j.val + l < 2064 then f (j.val + l) else 0),
    ← sum_subset (s₁ := range (2064 - j.val)) (fun l hl => mem_range.mpr (by have := mem_range.mp hl; omega))
      (fun l _ hn => if_neg fun hl => hn (mem_range.mpr (by omega)))]
  rw [Finset.sum_congr rfl fun l hl => if_pos (show j.val + l < 2064 by have := mem_range.mp hl; omega)]

/-! ## The program's middle values -/

/-- All logits. -/
def logitArr (q : FVec Ideal S8256x4096 .bf16) (k : FVec Ideal S8256x4096 .f32) (bias : FVec Ideal S32 .f32) : FVec Ideal S4x32x2064x2064 .f32 :=
  addf (mulf (Host.dotGeneral dot_S4x2064x32x128_S4x2064x32x128_S4x32x2064x2064_3_3_1_1_02_02 none (extf .f32 (shapeCast _ q shapeCasts_S8256x4096_S4x2064x32x128) bitsLt_bf16_f32) (shapeCast _ k shapeCasts_S8256x4096_S4x2064x32x128)) (broadcastInDim S4x32x2064x2064 ![] bcast_S_S4x32x2064x2064 (constant S_ .f32 0x3DB504F3#32))) (broadcastInDim S4x32x2064x2064 ![0, 1, 2, 3] bcast_S1x32x1x1_S4x32x2064x2064_0_1_2_3 (broadcastInDim S1x32x1x1 ![1] bcast_S32_S1x32x1x1_1 bias))

/-- The causal mask. -/
def past : IVec S4x32x2064x2064 1 :=
  broadcastInDim S4x32x2064x2064 ![2, 3] bcast_S2064x2064_S4x32x2064x2064_2_3 (cmpi .slt (broadcastInDim S2064x2064 ![0, 1] bcast_S1x2064_S2064x2064_0_1 (broadcastInDim S1x2064 ![1] bcast_S2064_S1x2064_1 (iotaInDim S2064 32 0))) (broadcastInDim S2064x2064 ![0, 1] bcast_S2064x1_S2064x2064_0_1 (broadcastInDim S2064x1 ![0] bcast_S2064_S2064x1_0 (iotaInDim S2064 32 0))))

/-- The zero array. -/
def zeros : FVec Ideal S4x32x2064x2064 .f32 := broadcastInDim S4x32x2064x2064 ![] bcast_S_S4x32x2064x2064 (constant S_ .f32 0x00000000#32)

/-- Softplus of an array, with the test for what is no number. -/
def softplusArr (z : FVec Ideal S4x32x2064x2064 .f32) : FVec Ideal S4x32x2064x2064 .f32 :=
  select (cmpf .une (subf z zeros) (subf z zeros)) (addf z zeros) (addf (maximumf z zeros) (Host.log1p (Host.exp (Host.negf (Host.absf (subf z zeros))))))

/-- The masked costs. -/
def costArr (z : FVec Ideal S4x32x2064x2064 .f32) : FVec Ideal S4x32x2064x2064 .f32 := select past (softplusArr z) zeros

/-- What each key and the keys after it cost. -/
def costFrom (z : FVec Ideal S4x32x2064x2064 .f32) : FVec Ideal S4x32x2064x2064 .f32 :=
  Host.reduceWindowAdd ![1, 1, 1, 2064] ![1, 1, 1, 1] ![0, 0, 0, 0] ![0, 0, 0, 2063] (costArr z) (broadcastInDim S_ ![] bcast_S_S_ (constant S_ .f32 0x00000000#32)) reduceWindows_S4x32x2064x2064_S4x32x2064x2064_w1s1p0_0_w1s1p0_0_w1s1p0_0_w2064s1p0_2063 h_S_

/-- The weights. -/
def weightArr (z : FVec Ideal S4x32x2064x2064 .f32) : FVec Ideal S4x32x2064x2064 .f32 :=
  select past (Host.exp (subf (Host.negf (softplusArr (Host.negf z))) (subf (costFrom z) (costArr z)))) zeros

/-- The attention. -/
def attnArr (z : FVec Ideal S4x32x2064x2064 .f32) (v : FVec Ideal S8256x4096 .f32) : FVec Ideal S8256x4096 .bf16 :=
  shapeCast _ (truncf .bf16 (transpose S4x2064x32x128 [0, 3, 1, 2] (Host.dotGeneral dot_S4x2064x32x128_S4x32x2064x2064_S4x32x128x2064_1_3_3_2_02_01 none (shapeCast _ v shapeCasts_S8256x4096_S4x2064x32x128) (weightArr z)) transposes_S4x32x128x2064_S4x2064x32x128_0_3_1_2) bitsLt_bf16_f32) shapeCasts_S4x2064x32x128_S8256x4096

/-- The result is the attention of the logits. -/
theorem res_eq (m : (ℓ : Loc nD τ sig) → Buf (Elt Ideal) ℓ) (c : Dev nD) :
    res_out0 (F := Ideal) m c = attnArr (logitArr (m ((c.tc : Thread nD τ).loc main_arg0)) (m ((c.tc : Thread nD τ).loc main_arg1)) (m ((c.tc : Thread nD τ).loc main_arg3))) (m ((c.tc : Thread nD τ).loc main_arg2)) := rfl

/-! ## Read at an index -/

/-- The zero array's elements. -/
theorem zeros_at (y : S4x32x2064x2064.Idx) : zeros y = (0 : EReal) := by
  idx_vars y
  pointwise [zeros]

/-- The mask. -/
theorem past_at (b : Fin 4) (n : Fin 32) (i j : Fin 2064) : past (ix4 b n i j) = 1 ↔ j.val < i.val := by
  have hi := i.isLt
  have hj := j.isLt
  pointwise [past]
  exact WordCmp.cmpi_slt_ofNat_eq_one_iff (w := 32) (by omega) (by omega)

/-- Softplus of a real. -/
theorem softplus_at {z : FVec Ideal S4x32x2064x2064 .f32} {b : Fin 4} {n : Fin 32} {i j : Fin 2064} {x : ℝ} (h : z (ix4 b n i j) = (x : EReal)) :
    softplusArr z (ix4 b n i j) = (softplus x : EReal) := by
  rw [← softplus_coe, ← h]
  pointwise [softplusArr, zeros]
  rw [if_neg fun hne => hne rfl]
  rfl

section

variable {z : FVec Ideal S4x32x2064x2064 .f32} {b : Fin 4} {n : Fin 32} {i : Fin 2064} {f : ℕ → ℝ} (hz : ∀ j : Fin 2064, z (ix4 b n i j) = (f j.val : EReal))

include hz

/-- The masked costs of a row. -/
theorem costArr_at (j : Fin 2064) : costArr z (ix4 b n i j) = (cost f i.val j.val : EReal) := by
  refine (show _ = Scalar.select (past (ix4 b n i j)) (softplusArr z (ix4 b n i j)) (zeros (ix4 b n i j)) from by pointwise [costArr]).trans ?_
  rw [softplus_at (hz j), zeros_at]
  unfold Scalar.select cost
  by_cases h : j.val < i.val
  · rw [if_pos h]; exact if_pos ((past_at b n i j).mpr h)
  · rw [if_neg h]; exact (if_neg fun h' => h ((past_at b n i j).mp h')).trans EReal.coe_zero.symm

/-- The sums of the costs from a key on. -/
theorem costFrom_at (j : Fin 2064) : costFrom z (ix4 b n i j) = ((∑ l ∈ Ico j.val 2064, cost f i.val l : ℝ) : EReal) :=
  sum_from _ _ (fun y => by pointwise) _ _ b n i j _ (costArr_at hz)

/-- The weights of a row. -/
theorem weightArr_at (j : Fin 2064) : weightArr z (ix4 b n i j) = (weight f i.val 2064 j.val : EReal) := by
  refine (show _ = Scalar.select (past (ix4 b n i j))
    (Ideal.exp (-softplusArr (Host.negf z) (ix4 b n i j) - (costFrom z (ix4 b n i j) - costArr z (ix4 b n i j)))) 0 from by pointwise [weightArr, zeros]).trans ?_
  have hneg : Host.negf z (ix4 b n i j) = ((-(f j.val) : ℝ) : EReal) := by
    rw [EReal.coe_neg, ← hz j]
    pointwise
  rw [softplus_at hneg, costFrom_at hz, costArr_at hz, ← EReal.coe_neg, ← EReal.coe_sub, ← EReal.coe_sub, exp_coe]
  unfold Scalar.select weight
  by_cases h : j.val < i.val
  · rw [if_pos h]
    refine (if_pos ((past_at b n i j).mpr h)).trans ?_
    rw [softplus_neg, Finset.sum_eq_sum_Ico_succ_bot j.isLt]
    congr 2
    ring
  · rw [if_neg h]; exact (if_neg fun h' => h ((past_at b n i j).mp h')).trans EReal.coe_zero.symm

end

/-- The logits of real queries, keys and biases. -/
theorem logitArr_at {q : FVec Ideal S8256x4096 .bf16} {k : FVec Ideal S8256x4096 .f32} {bias : FVec Ideal S32 .f32} {Q K : Fin 8256 → Fin 4096 → ℝ} {B : Fin 32 → ℝ}
    (hq : ∀ r s, q (ix2 r s) = (Q r s : EReal)) (hk : ∀ r s, k (ix2 r s) = (K r s : EReal)) (hb : ∀ n, bias (ix1 n) = (B n : EReal))
    (b : Fin 4) (n : Fin 32) (i j : Fin 2064) : logitArr q k bias (ix4 b n i j) = (logits Q K B b n i j.val : EReal) := by
  refine (show _ = (∑ x : Fin 128, q (ix2 (row b i) (col n x)) * k (ix2 (row b j) (col n x))) * scale + bias (ix1 n) from by pointwise [logitArr]).trans ?_
  rw [logits_token, Finset.sum_congr rfl fun x _ => by rw [hq, hk, ← EReal.coe_mul], ← coe_sum, scale_eq, hb, ← EReal.coe_mul, ← EReal.coe_add]

/-- The attention array at a row and a column. -/
theorem attnArr_read (z : FVec Ideal S4x32x2064x2064 .f32) (v : FVec Ideal S8256x4096 .f32) (r : Fin 8256) (s : Fin 4096) :
    attnArr z v (ix2 r s) = ∑ x : Fin 2064, v (ix2 (row ⟨r.val / 2064, by omega⟩ x) s)
      * weightArr z (ix4 (⟨r.val / 2064, by omega⟩ : Fin 4) (⟨s.val / 128, by omega⟩ : Fin 32) (⟨r.val % 2064, by omega⟩ : Fin 2064) x) := by
  pointwise [attnArr]

/-- The reference's result. -/
theorem res_at {m : (ℓ : Loc nD τ sig) → Buf (Elt Ideal) ℓ} {c : Dev nD} {Q K : Fin 8256 → Fin 4096 → ℝ} {B : Fin 32 → ℝ}
    (hq : ∀ r s, (m ((c.tc : Thread nD τ).loc main_arg0) : FVec Ideal S8256x4096 .bf16) (ix2 r s) = (Q r s : EReal))
    (hk : ∀ r s, (m ((c.tc : Thread nD τ).loc main_arg1) : FVec Ideal S8256x4096 .f32) (ix2 r s) = (K r s : EReal))
    (hb : ∀ n, (m ((c.tc : Thread nD τ).loc main_arg3) : FVec Ideal S32 .f32) (ix1 n) = (B n : EReal))
    (b : Fin 4) (h : Fin 32) (i : Fin 2064) (d : Fin 128) :
    (res_out0 (F := Ideal) m c : FVec Ideal S8256x4096 .bf16) (ix2 (row b i) (col h d))
      = attention Q K B (fun r s => (m ((c.tc : Thread nD τ).loc main_arg2) : FVec Ideal S8256x4096 .f32) (ix2 r s)) b h i d := by
  rw [res_eq]
  have hz := logitArr_at hq hk hb b h i
  generalize logitArr _ _ _ = z at hz
  refine (attnArr_read z _ _ _).trans ?_
  have hi := i.isLt
  have hd := d.isLt
  have e1 : (⟨(row b i).val / 2064, by omega⟩ : Fin 4) = b := Fin.ext (by dsimp only; omega)
  have e2 : (⟨(row b i).val % 2064, by omega⟩ : Fin 2064) = i := Fin.ext (by dsimp only; omega)
  have e3 : (⟨(col h d).val / 128, by omega⟩ : Fin 32) = h := Fin.ext (by dsimp only; omega)
  rw [e1, e2, e3]
  exact Finset.sum_congr rfl fun j _ => by rw [weightArr_at hz, mul_comm]

end Cert.Proof.ReferenceIdeal

end
-- ==== Proof.AttnClaim.lean ====
/-
  The attention call against its reference: under finite queries, keys and biases both programs end with the same array.
-/
module

public import proofs.«01_k».proof.Defs
public import proofs.«01_k».proof.Proof.AttnArray
public import proofs.«01_k».proof.Proof.RefRead

@[expose] public section

noncomputable section

namespace Cert.Proof

open Idealize.ShloMosaic Idealize.ShloMosaic.TcCoe Idealize.ShloMosaic.Pipeline Idealize.SL Idealize.SL.Sem
open Cert.Proof.Stick

/-- The side conditions of the precondition's operations. -/
theorem pre_facts : Cert.Pre_finite_logits.Facts := ⟨by decide, by decide, by decide⟩

/-- The pattern of positive infinity. -/
theorem inf_top : (FloatOps.ofBits (F := Ideal) .f32 0x7F800000#32 : EReal) = ⊤ := by
  show Ideal.ofBits .f32 0x7F800000#32 = ⊤
  simp [Ideal.ofBits, Ideal.ieee]

/-- An extended real whose absolute value compares below infinity is a real. -/
theorem real_of_abs_lt (x : EReal) (h : Ideal.cmp .olt (max x (-x)) (FloatOps.ofBits (F := Ideal) .f32 0x7F800000#32 : EReal) = 1#1) :
    x = ((x.toReal : ℝ) : EReal) := by
  have h1 : max x (-x) < (FloatOps.ofBits (F := Ideal) .f32 0x7F800000#32 : EReal) := by
    by_contra hn
    have : Ideal.cmp .olt (max x (-x)) (FloatOps.ofBits (F := Ideal) .f32 0x7F800000#32 : EReal) = 0#1 := by
      show BitVec.ofBool (decide _) = 0#1
      rw [decide_eq_false hn]; rfl
    rw [this] at h
    exact absurd h (by decide)
  rw [inf_top] at h1
  have h2 : x < ⊤ := lt_of_le_of_lt (le_max_left _ _) h1
  have h3 : -x < ⊤ := lt_of_le_of_lt (le_max_right _ _) h1
  refine (EReal.coe_toReal h2.ne ?_).symm
  rintro rfl
  simp at h3

/-- Under the precondition every query, key and bias is a real. -/
theorem finite_args {q : FVec Ideal Cert.KernelIdeal.S8256x4096 .bf16} {k v : FVec Ideal Cert.KernelIdeal.S8256x4096 .f32}
    {b : FVec Ideal Cert.KernelIdeal.S32 .f32} [Cert.Pre_finite_logits.Facts]
    (h1 : (Cert.Pre_finite_logits.fn (F := Ideal) q k v b).1 = fun _ => 1#1)
    (h2 : (Cert.Pre_finite_logits.fn (F := Ideal) q k v b).2.1 = fun _ => 1#1)
    (h3 : (Cert.Pre_finite_logits.fn (F := Ideal) q k v b).2.2 = fun _ => 1#1) :
    (∀ i, q i = (((q i : EReal).toReal : ℝ) : EReal)) ∧ (∀ i, k i = (((k i : EReal).toReal : ℝ) : EReal))
      ∧ ∀ i, b i = (((b i : EReal).toReal : ℝ) : EReal) :=
  ⟨fun i => real_of_abs_lt _ (congrFun h1 i), fun i => real_of_abs_lt _ (congrFun h2 i), fun i => real_of_abs_lt _ (congrFun h3 i)⟩

/-- Every argument array of a reference run is left as it was, and every counter is zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems rfl r.2⟩) (Cert.ReferenceIdeal.Value.run (F := Ideal) m g)

/-- The reference's result array. -/
theorem ref_result {m : (ℓ : Loc Cert.ReferenceIdeal.nD Cert.ReferenceIdeal.τ Cert.ReferenceIdeal.sig) → Buf (Elt Ideal) ℓ}
    {c : Dev Cert.ReferenceIdeal.nD} {Q K : Fin 8256 → Fin 4096 → ℝ} {B : Fin 32 → ℝ}
    (hq : ∀ r s, (m ((c.tc : Thread Cert.ReferenceIdeal.nD Cert.ReferenceIdeal.τ).loc Cert.ReferenceIdeal.main_arg0) : FVec Ideal Cert.ReferenceIdeal.S8256x4096 .bf16) (ix2 r s) = (Q r s : EReal))
    (hk : ∀ r s, (m ((c.tc : Thread Cert.ReferenceIdeal.nD Cert.ReferenceIdeal.τ).loc Cert.ReferenceIdeal.main_arg1) : FVec Ideal Cert.ReferenceIdeal.S8256x4096 .f32) (ix2 r s) = (K r s : EReal))
    (hb : ∀ n, (m ((c.tc : Thread Cert.ReferenceIdeal.nD Cert.ReferenceIdeal.τ).loc Cert.ReferenceIdeal.main_arg3) : FVec Ideal Cert.ReferenceIdeal.S32 .f32) (ix1 n) = (B n : EReal)) :
    (Cert.ReferenceIdeal.Value.res_out0 (F := Ideal) m c : FVec Ideal Cert.ReferenceIdeal.S8256x4096 .bf16)
      = fun y => attentionAt Q K B (fun r s => (m ((c.tc : Thread Cert.ReferenceIdeal.nD Cert.ReferenceIdeal.τ).loc Cert.ReferenceIdeal.main_arg2) : FVec Ideal Cert.ReferenceIdeal.S8256x4096 .f32) (ix2 r s))
          ((y : Cert.ReferenceIdeal.S8256x4096.Idx) (0 : Fin 2)) ((y : Cert.ReferenceIdeal.S8256x4096.Idx) (1 : Fin 2)) := by
  funext y
  idx_vars y
  have e0 := y0.isLt
  have e1 := y1.isLt
  have hr : y0 = row ⟨y0.val / 2064, by omega⟩ ⟨y0.val % 2064, by omega⟩ := Fin.ext (by show y0.val = y0.val / 2064 * 2064 + y0.val % 2064; omega)
  have hs : y1 = col ⟨y1.val / 128, by omega⟩ ⟨y1.val % 128, by omega⟩ := Fin.ext (by show y1.val = y1.val / 128 * 128 + y1.val % 128; omega)
  have h := ReferenceIdeal.res_at hq hk hb ⟨y0.val / 2064, by omega⟩ ⟨y1.val / 128, by omega⟩ ⟨y0.val % 2064, by omega⟩ ⟨y1.val % 128, by omega⟩
  rw [← hr, ← hs] at h
  refine h.trans (attentionAt_eq _ _ _ _ ?_ ?_).symm
  · exact congrArg Fin.val hr
  · exact congrArg Fin.val hs

/-- Under finite queries, keys and biases the kernel and the reference, run from the same arguments, end with the same array. -/
theorem attn_algebraic [hPre : Cert.Pre_finite_logits.Facts] : Cert.algebraic_KernelIdeal_ReferenceIdeal_pre_finite_logits
    (hKernelIdeal := Cert.KernelIdeal.Gen.facts) (hReferenceIdeal := Cert.ReferenceIdeal.Gen.facts) := by
  intro m g m' g' hpre hargs
  have hf := fun c => finite_args (hpre c).1 (hpre c).2.1 (hpre c).2.2
  refine ⟨fun c => fun y => attentionAt (fun r s => (KernelIdeal.argQ m c (ix2 r s) : EReal).toReal) (fun r s => (KernelIdeal.argK m c (ix2 r s) : EReal).toReal)
    (fun n => (KernelIdeal.argB m c (ix1 n) : EReal).toReal) (fun r s => KernelIdeal.argV m c (ix2 r s))
    ((y : Cert.KernelIdeal.S8256x4096.Idx) (0 : Fin 2)) ((y : Cert.KernelIdeal.S8256x4096.Idx) (1 : Fin 2)), ?_, ?_⟩
  · refine (θ_run _ _ _).mono (fun r h c => ⟨?_, h.2.1 c⟩) (θ_run_and (KernelIdeal.launch_run m g) (KernelIdeal.frame m g))
    exact KernelIdeal.result_of (fun r s => (hf c).1 _) (fun r s => (hf c).2.1 _) (fun n => (hf c).2.2 _) h.1.1
  · refine (θ_run _ _ _).mono (fun r h c => ⟨(h c).1.trans ?_, (h c).2⟩) (Cert.ReferenceIdeal.Value.run (F := Ideal) m' g')
    obtain ⟨a0, a1, a2, a3⟩ := hargs c
    refine (ref_result (fun r s => (congrFun a0 (ix2 r s)).trans ((hf c).1 _)) (fun r s => (congrFun a1 (ix2 r s)).trans ((hf c).2.1 _))
      (fun n => (congrFun a3 (ix1 n)).trans ((hf c).2.2 _))).trans ?_
    rw [a2]; rfl

end Cert.Proof

end
-- ==== Proof.lean ====
/-
  The certificate: the attention call ends with its arguments unchanged at both readings, and at the ideal reading its
  result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.UpClaim
public import proofs.«01_k».proof.Proof.DownClaim
public import proofs.«01_k».proof.Proof.KProjClaim
public import proofs.«01_k».proof.Proof.VProjClaim
public import proofs.«01_k».proof.Proof.QProjClaim
public import proofs.«01_k».proof.Proof.OutProjClaim
public import proofs.«01_k».proof.Proof.InProjClaim
public import proofs.«01_k».proof.Proof.GluProjClaim
public import proofs.«01_k».proof.Proof.Gen.NormP
public import proofs.«01_k».proof.Proof.Gen.NormP.Skeleton
public import proofs.«01_k».proof.Proof.Gen.NormP.Launch
public import proofs.«01_k».proof.Proof.Gen.NormP.Points
public import proofs.«01_k».proof.Proof.Gen.NormP.Frame
public import proofs.«01_k».proof.Proof.Gen.NormPIdeal
public import proofs.«01_k».proof.Proof.Gen.NormPIdeal.Skeleton
public import proofs.«01_k».proof.Proof.Gen.NormPIdeal.Launch
public import proofs.«01_k».proof.Proof.Gen.NormPIdeal.Points
public import proofs.«01_k».proof.Proof.Gen.NormPIdeal.Frame
public import proofs.«01_k».proof.Proof.Gen.NormPIdeal.Value
public import proofs.«01_k».proof.Proof.Gen.NormPReferenceIdeal
public import proofs.«01_k».proof.Proof.Gen.NormPReferenceIdeal.Run
public import proofs.«01_k».proof.Proof.Gen.NormS
public import proofs.«01_k».proof.Proof.Gen.NormS.Skeleton
public import proofs.«01_k».proof.Proof.Gen.NormS.Launch
public import proofs.«01_k».proof.Proof.Gen.NormS.Points
public import proofs.«01_k».proof.Proof.Gen.NormS.Frame
public import proofs.«01_k».proof.Proof.Gen.NormSIdeal
public import proofs.«01_k».proof.Proof.Gen.NormSIdeal.Skeleton
public import proofs.«01_k».proof.Proof.Gen.NormSIdeal.Launch
public import proofs.«01_k».proof.Proof.Gen.NormSIdeal.Points
public import proofs.«01_k».proof.Proof.Gen.NormSIdeal.Frame
public import proofs.«01_k».proof.Proof.Gen.NormSIdeal.Value
public import proofs.«01_k».proof.Proof.Gen.NormSReferenceIdeal
public import proofs.«01_k».proof.Proof.Gen.NormSReferenceIdeal.Run
public import proofs.«01_k».proof.Proof.Gen.ResnormP
public import proofs.«01_k».proof.Proof.Gen.ResnormP.Skeleton
public import proofs.«01_k».proof.Proof.Gen.ResnormP.Launch
public import proofs.«01_k».proof.Proof.Gen.ResnormP.Points
public import proofs.«01_k».proof.Proof.Gen.ResnormP.Frame
public import proofs.«01_k».proof.Proof.Gen.ResnormPIdeal
public import proofs.«01_k».proof.Proof.Gen.ResnormPIdeal.Skeleton
public import proofs.«01_k».proof.Proof.Gen.ResnormPIdeal.Launch
public import proofs.«01_k».proof.Proof.Gen.ResnormPIdeal.Points
public import proofs.«01_k».proof.Proof.Gen.ResnormPIdeal.Frame
public import proofs.«01_k».proof.Proof.Gen.ResnormPIdeal.Value
public import proofs.«01_k».proof.Proof.Gen.ResnormPReferenceIdeal
public import proofs.«01_k».proof.Proof.Gen.ResnormPReferenceIdeal.Run
public import proofs.«01_k».proof.Proof.Gen.ResnormS
public import proofs.«01_k».proof.Proof.Gen.ResnormS.Skeleton
public import proofs.«01_k».proof.Proof.Gen.ResnormS.Launch
public import proofs.«01_k».proof.Proof.Gen.ResnormS.Points
public import proofs.«01_k».proof.Proof.Gen.ResnormS.Frame
public import proofs.«01_k».proof.Proof.Gen.ResnormSIdeal
public import proofs.«01_k».proof.Proof.Gen.ResnormSIdeal.Skeleton
public import proofs.«01_k».proof.Proof.Gen.ResnormSIdeal.Launch
public import proofs.«01_k».proof.Proof.Gen.ResnormSIdeal.Points
public import proofs.«01_k».proof.Proof.Gen.ResnormSIdeal.Frame
public import proofs.«01_k».proof.Proof.Gen.ResnormSIdeal.Value
public import proofs.«01_k».proof.Proof.Gen.ResnormSReferenceIdeal
public import proofs.«01_k».proof.Proof.Gen.ResnormSReferenceIdeal.Run
public import proofs.«01_k».proof.Proof.Gen.ResP
public import proofs.«01_k».proof.Proof.Gen.ResP.Skeleton
public import proofs.«01_k».proof.Proof.Gen.ResP.Launch
public import proofs.«01_k».proof.Proof.Gen.ResP.Points
public import proofs.«01_k».proof.Proof.Gen.ResP.Frame
public import proofs.«01_k».proof.Proof.Gen.ResPIdeal
public import proofs.«01_k».proof.Proof.Gen.ResPIdeal.Skeleton
public import proofs.«01_k».proof.Proof.Gen.ResPIdeal.Launch
public import proofs.«01_k».proof.Proof.Gen.ResPIdeal.Points
public import proofs.«01_k».proof.Proof.Gen.ResPIdeal.Frame
public import proofs.«01_k».proof.Proof.Gen.ResPIdeal.Value
public import proofs.«01_k».proof.Proof.Gen.ResPReferenceIdeal
public import proofs.«01_k».proof.Proof.Gen.ResPReferenceIdeal.Run
public import proofs.«01_k».proof.Proof.Gen.ResS
public import proofs.«01_k».proof.Proof.Gen.ResS.Skeleton
public import proofs.«01_k».proof.Proof.Gen.ResS.Launch
public import proofs.«01_k».proof.Proof.Gen.ResS.Points
public import proofs.«01_k».proof.Proof.Gen.ResS.Frame
public import proofs.«01_k».proof.Proof.Gen.ResSIdeal
public import proofs.«01_k».proof.Proof.Gen.ResSIdeal.Skeleton
public import proofs.«01_k».proof.Proof.Gen.ResSIdeal.Launch
public import proofs.«01_k».proof.Proof.Gen.ResSIdeal.Points
public import proofs.«01_k».proof.Proof.Gen.ResSIdeal.Frame
public import proofs.«01_k».proof.Proof.Gen.ResSIdeal.Value
public import proofs.«01_k».proof.Proof.Gen.ResSReferenceIdeal
public import proofs.«01_k».proof.Proof.Gen.ResSReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpReferenceIdeal
public import proofs.«01_k».proof.Proof.Gen.UpReferenceIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownReferenceIdeal
public import proofs.«01_k».proof.Proof.Gen.DownReferenceIdeal.Run
public import proofs.«01_k».proof.Proof.Gen.KProj
public import proofs.«01_k».proof.Proof.Gen.KProj.Skeleton
public import proofs.«01_k».proof.Proof.Gen.KProj.Launch
public import proofs.«01_k».proof.Proof.Gen.KProj.Points
public import proofs.«01_k».proof.Proof.Gen.KProj.Frame
public import proofs.«01_k».proof.Proof.Gen.KProjIdeal
public import proofs.«01_k».proof.Proof.Gen.KProjReferenceIdeal
public import proofs.«01_k».proof.Proof.Gen.KProjReferenceIdeal.Run
public import proofs.«01_k».proof.Proof.Gen.VProj
public import proofs.«01_k».proof.Proof.Gen.VProj.Skeleton
public import proofs.«01_k».proof.Proof.Gen.VProj.Launch
public import proofs.«01_k».proof.Proof.Gen.VProj.Points
public import proofs.«01_k».proof.Proof.Gen.VProj.Frame
public import proofs.«01_k».proof.Proof.Gen.VProjIdeal
public import proofs.«01_k».proof.Proof.Gen.VProjReferenceIdeal
public import proofs.«01_k».proof.Proof.Gen.VProjReferenceIdeal.Run
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjReferenceIdeal
public import proofs.«01_k».proof.Proof.Gen.QProjReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjReferenceIdeal
public import proofs.«01_k».proof.Proof.Gen.OutProjReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjReferenceIdeal
public import proofs.«01_k».proof.Proof.Gen.InProjReferenceIdeal.Run
public import proofs.«01_k».proof.Proof.Gen.GluProj
public import proofs.«01_k».proof.Proof.Gen.GluProj.Skeleton
public import proofs.«01_k».proof.Proof.Gen.GluProj.Launch
public import proofs.«01_k».proof.Proof.Gen.GluProj.Points
public import proofs.«01_k».proof.Proof.Gen.GluProj.Frame
public import proofs.«01_k».proof.Proof.Gen.GluProjIdeal
public import proofs.«01_k».proof.Proof.Gen.GluProjReferenceIdeal
public import proofs.«01_k».proof.Proof.Gen.GluProjReferenceIdeal.Run
public import proofs.«01_k».proof.Proof.Gen.ConvS
public import proofs.«01_k».proof.Proof.Gen.ConvS.Skeleton
public import proofs.«01_k».proof.Proof.Gen.ConvS.Launch
public import proofs.«01_k».proof.Proof.Gen.ConvS.Points
public import proofs.«01_k».proof.Proof.Gen.ConvS.Frame
public import proofs.«01_k».proof.Proof.Gen.ConvSIdeal
public import proofs.«01_k».proof.Proof.Gen.ConvSIdeal.Skeleton
public import proofs.«01_k».proof.Proof.Gen.ConvSIdeal.Launch
public import proofs.«01_k».proof.Proof.Gen.ConvSIdeal.Points
public import proofs.«01_k».proof.Proof.Gen.ConvSIdeal.Frame
public import proofs.«01_k».proof.Proof.Gen.ConvSIdeal.Value
public import proofs.«01_k».proof.Proof.Gen.ConvSReferenceIdeal
public import proofs.«01_k».proof.Proof.Gen.ConvSReferenceIdeal.Run
public import proofs.«01_k».proof.Proof.Gen.GlaS
public import proofs.«01_k».proof.Proof.Gen.GlaS.Skeleton
public import proofs.«01_k».proof.Proof.Gen.GlaS.Launch
public import proofs.«01_k».proof.Proof.Gen.GlaS.Points
public import proofs.«01_k».proof.Proof.Gen.GlaS.Frame
public import proofs.«01_k».proof.Proof.Gen.GlaSIdeal
public import proofs.«01_k».proof.Proof.Gen.GlaSIdeal.Skeleton
public import proofs.«01_k».proof.Proof.Gen.GlaSIdeal.Launch
public import proofs.«01_k».proof.Proof.Gen.GlaSIdeal.Points
public import proofs.«01_k».proof.Proof.Gen.GlaSIdeal.Frame
public import proofs.«01_k».proof.Proof.Gen.GlaSIdeal.Value
public import proofs.«01_k».proof.Proof.Gen.GlaSReferenceIdeal
public import proofs.«01_k».proof.Proof.Gen.GlaSReferenceIdeal.Run
public import proofs.«01_k».proof.Proof.Gen.ConvP
public import proofs.«01_k».proof.Proof.Gen.ConvP.Skeleton
public import proofs.«01_k».proof.Proof.Gen.ConvP.Launch
public import proofs.«01_k».proof.Proof.Gen.ConvP.Points
public import proofs.«01_k».proof.Proof.Gen.ConvP.Frame
public import proofs.«01_k».proof.Proof.Gen.ConvPIdeal
public import proofs.«01_k».proof.Proof.Gen.ConvPIdeal.Skeleton
public import proofs.«01_k».proof.Proof.Gen.ConvPIdeal.Launch
public import proofs.«01_k».proof.Proof.Gen.ConvPIdeal.Points
public import proofs.«01_k».proof.Proof.Gen.ConvPIdeal.Frame
public import proofs.«01_k».proof.Proof.Gen.ConvPIdeal.Value
public import proofs.«01_k».proof.Proof.Gen.ConvPReferenceIdeal
public import proofs.«01_k».proof.Proof.Gen.ConvPReferenceIdeal.Run
public import proofs.«01_k».proof.Proof.NormP
public import proofs.«01_k».proof.Proof.NormS
public import proofs.«01_k».proof.Proof.ResnormP
public import proofs.«01_k».proof.Proof.ResnormS
public import proofs.«01_k».proof.Proof.ResP
public import proofs.«01_k».proof.Proof.ResS
public import proofs.«01_k».proof.Proof.ConvS
public import proofs.«01_k».proof.Proof.GlaS
public import proofs.«01_k».proof.Proof.ConvP
public import proofs.«01_k».proof.Proof.AttnClaim
public import proofs.«01_k».proof.Proof.WordFrame

@[expose] public section

noncomputable section

namespace Cert.Proof

open Idealize.ShloMosaic Idealize.SL.Sem

/-- Everything the certificate states. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.KProj.Gen.facts, Cert.KProjIdeal.Gen.facts, Cert.KProjReferenceIdeal.Gen.facts,
  Cert.VProj.Gen.facts, Cert.VProjIdeal.Gen.facts, Cert.VProjReferenceIdeal.Gen.facts,
  Cert.QProj.Gen.facts, Cert.QProjIdeal.Gen.facts, Cert.QProjReferenceIdeal.Gen.facts,
  Cert.OutProj.Gen.facts, Cert.OutProjIdeal.Gen.facts, Cert.OutProjReferenceIdeal.Gen.facts,
  Cert.InProj.Gen.facts, Cert.InProjIdeal.Gen.facts, Cert.InProjReferenceIdeal.Gen.facts,
  Cert.GluProj.Gen.facts, Cert.GluProjIdeal.Gen.facts, Cert.GluProjReferenceIdeal.Gen.facts,
  Cert.NormP.Gen.facts, Cert.NormPIdeal.Gen.facts, Cert.NormPReferenceIdeal.Gen.facts,
  Cert.NormS.Gen.facts, Cert.NormSIdeal.Gen.facts, Cert.NormSReferenceIdeal.Gen.facts,
  Cert.ResnormP.Gen.facts, Cert.ResnormPIdeal.Gen.facts, Cert.ResnormPReferenceIdeal.Gen.facts,
  Cert.ResnormS.Gen.facts, Cert.ResnormSIdeal.Gen.facts, Cert.ResnormSReferenceIdeal.Gen.facts,
  Cert.ResP.Gen.facts, Cert.ResPIdeal.Gen.facts, Cert.ResPReferenceIdeal.Gen.facts,
  Cert.ResS.Gen.facts, Cert.ResSIdeal.Gen.facts, Cert.ResSReferenceIdeal.Gen.facts,
  Cert.ConvS.Gen.facts, Cert.ConvSIdeal.Gen.facts, Cert.ConvSReferenceIdeal.Gen.facts,
  Cert.GlaS.Gen.facts, Cert.GlaSIdeal.Gen.facts, Cert.GlaSReferenceIdeal.Gen.facts,
  Cert.ConvP.Gen.facts, Cert.ConvPIdeal.Gen.facts, Cert.ConvPReferenceIdeal.Gen.facts,
  pre_facts,
  fun m g _ => Kernel.frame m g, fun m g _ => KernelIdeal.frame m g, fun m g _ => KernelIdeal.frame m g,
  fun m g _ => ref_frame m g, fun m g _ => ref_frame m g,
  Up.quiescent, Up.quiescent_ideal, Up.quiescent_ref,
  Down.quiescent, Down.quiescent_ideal, Down.quiescent_ref,
  KProj.quiescent, KProj.quiescent_ideal, KProj.quiescent_ref,
  VProj.quiescent, VProj.quiescent_ideal, VProj.quiescent_ref,
  QProj.quiescent, QProj.quiescent_ideal, QProj.quiescent_ref,
  OutProj.quiescent, OutProj.quiescent_ideal, OutProj.quiescent_ref,
  InProj.quiescent, InProj.quiescent_ideal, InProj.quiescent_ref,
  GluProj.quiescent, GluProj.quiescent_ideal, GluProj.quiescent_ref,
  NormP.quiescent, NormP.quiescent_ideal, NormP.quiescent_ref,
  NormS.quiescent, NormS.quiescent_ideal, NormS.quiescent_ref,
  ResnormP.quiescent, ResnormP.quiescent_ideal, ResnormP.quiescent_ref,
  ResnormS.quiescent, ResnormS.quiescent_ideal, ResnormS.quiescent_ref,
  ResP.quiescent, ResP.quiescent_ideal, ResP.quiescent_ref,
  ResS.quiescent, ResS.quiescent_ideal, ResS.quiescent_ref,
  ConvS.quiescent, ConvS.quiescent_ideal, ConvS.quiescent_ref,
  GlaS.quiescent, GlaS.quiescent_ideal, GlaS.quiescent_ref,
  ConvP.quiescent, ConvP.quiescent_ideal, ConvP.quiescent_ref,
  trivial, attn_algebraic (hPre := pre_facts),
  trivial, Up.algebraic,
  trivial, Down.algebraic,
  trivial, KProj.algebraic,
  trivial, VProj.algebraic,
  trivial, QProj.algebraic,
  trivial, OutProj.algebraic,
  trivial, InProj.algebraic,
  trivial, GluProj.algebraic,
  trivial, NormP.algebraic,
  trivial, NormS.algebraic,
  trivial, ResnormP.algebraic,
  trivial, ResnormS.algebraic,
  trivial, ResP.algebraic,
  trivial, ResS.algebraic,
  trivial, ConvS.algebraic,
  trivial, GlaS.algebraic,
  trivial, ConvP.algebraic⟩

end Cert.Proof

end
